-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_KUp (m : (ℓ : Loc Cert.KUp.nD Cert.KUp.τ Cert.KUp.sig) → Buf (Elt Bits) ℓ) : Prop :=
  True

def Pre_KUpIdeal (m : (ℓ : Loc Cert.KUpIdeal.nD Cert.KUpIdeal.τ Cert.KUpIdeal.sig) → Buf (Elt Ideal) ℓ) : Prop :=
  True

def Pre_RUpIdeal (m : (ℓ : Loc Cert.RUpIdeal.nD Cert.RUpIdeal.τ Cert.RUpIdeal.sig) → Buf (Elt Ideal) ℓ) : Prop :=
  True

def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def Pre_KIn (m : (ℓ : Loc Cert.KIn.nD Cert.KIn.τ Cert.KIn.sig) → Buf (Elt Bits) ℓ) : Prop :=
  True

def Pre_KInIdeal (m : (ℓ : Loc Cert.KInIdeal.nD Cert.KInIdeal.τ Cert.KInIdeal.sig) → Buf (Elt Ideal) ℓ) : Prop :=
  True

def Pre_RInIdeal (m : (ℓ : Loc Cert.RInIdeal.nD Cert.RInIdeal.τ Cert.RInIdeal.sig) → Buf (Elt Ideal) ℓ) : Prop :=
  True

def Pre_KSgIn (m : (ℓ : Loc Cert.KSgIn.nD Cert.KSgIn.τ Cert.KSgIn.sig) → Buf (Elt Bits) ℓ) : Prop :=
  True

def Pre_KSgInIdeal (m : (ℓ : Loc Cert.KSgInIdeal.nD Cert.KSgInIdeal.τ Cert.KSgInIdeal.sig) → Buf (Elt Ideal) ℓ) : Prop :=
  True

def Pre_RSgInIdeal (m : (ℓ : Loc Cert.RSgInIdeal.nD Cert.RSgInIdeal.τ Cert.RSgInIdeal.sig) → Buf (Elt Ideal) ℓ) : Prop :=
  True

def Pre_KSgOut (m : (ℓ : Loc Cert.KSgOut.nD Cert.KSgOut.τ Cert.KSgOut.sig) → Buf (Elt Bits) ℓ) : Prop :=
  True

def Pre_KSgOutIdeal (m : (ℓ : Loc Cert.KSgOutIdeal.nD Cert.KSgOutIdeal.τ Cert.KSgOutIdeal.sig) → Buf (Elt Ideal) ℓ) : Prop :=
  True

def Pre_RSgOutIdeal (m : (ℓ : Loc Cert.RSgOutIdeal.nD Cert.RSgOutIdeal.τ Cert.RSgOutIdeal.sig) → Buf (Elt Ideal) ℓ) : Prop :=
  True

def Pre_KMix (m : (ℓ : Loc Cert.KMix.nD Cert.KMix.τ Cert.KMix.sig) → Buf (Elt Bits) ℓ) : Prop :=
  True

def Pre_KMixIdeal (m : (ℓ : Loc Cert.KMixIdeal.nD Cert.KMixIdeal.τ Cert.KMixIdeal.sig) → Buf (Elt Ideal) ℓ) : Prop :=
  True

def Pre_RMixIdeal (m : (ℓ : Loc Cert.RMixIdeal.nD Cert.RMixIdeal.τ Cert.RMixIdeal.sig) → Buf (Elt Ideal) ℓ) : Prop :=
  True

def Pre_KPle (m : (ℓ : Loc Cert.KPle.nD Cert.KPle.τ Cert.KPle.sig) → Buf (Elt Bits) ℓ) : Prop :=
  True

def Pre_KPleIdeal (m : (ℓ : Loc Cert.KPleIdeal.nD Cert.KPleIdeal.τ Cert.KPleIdeal.sig) → Buf (Elt Ideal) ℓ) : Prop :=
  True

def Pre_RPleIdeal (m : (ℓ : Loc Cert.RPleIdeal.nD Cert.RPleIdeal.τ Cert.RPleIdeal.sig) → Buf (Elt Ideal) ℓ) : Prop :=
  True

def Pre_KExperts [hPre_routed : Cert.Pre_routed.Facts] (m : (ℓ : Loc Cert.KExperts.nD Cert.KExperts.τ Cert.KExperts.sig) → Buf (Elt Bits) ℓ) : Prop :=
  ∀ c : Dev Cert.KExperts.nD,
    (Cert.Pre_routed.fn (F := Bits) (m ((c.tc : Thread Cert.KExperts.nD Cert.KExperts.τ).loc Cert.KExperts.main_arg0)) (m ((c.tc : Thread Cert.KExperts.nD Cert.KExperts.τ).loc Cert.KExperts.main_arg1)) (m ((c.tc : Thread Cert.KExperts.nD Cert.KExperts.τ).loc Cert.KExperts.main_arg2)) (m ((c.tc : Thread Cert.KExperts.nD Cert.KExperts.τ).loc Cert.KExperts.main_arg3))).1 = (fun _ => 1#1)
    ∧ (Cert.Pre_routed.fn (F := Bits) (m ((c.tc : Thread Cert.KExperts.nD Cert.KExperts.τ).loc Cert.KExperts.main_arg0)) (m ((c.tc : Thread Cert.KExperts.nD Cert.KExperts.τ).loc Cert.KExperts.main_arg1)) (m ((c.tc : Thread Cert.KExperts.nD Cert.KExperts.τ).loc Cert.KExperts.main_arg2)) (m ((c.tc : Thread Cert.KExperts.nD Cert.KExperts.τ).loc Cert.KExperts.main_arg3))).2 = (fun _ => 1#1)

def Pre_KExpertsIdeal [hPre_routed : Cert.Pre_routed.Facts] (m : (ℓ : Loc Cert.KExpertsIdeal.nD Cert.KExpertsIdeal.τ Cert.KExpertsIdeal.sig) → Buf (Elt Ideal) ℓ) : Prop :=
  ∀ c : Dev Cert.KExpertsIdeal.nD,
    (Cert.Pre_routed.fn (F := Ideal) (m ((c.tc : Thread Cert.KExpertsIdeal.nD Cert.KExpertsIdeal.τ).loc Cert.KExpertsIdeal.main_arg0)) (m ((c.tc : Thread Cert.KExpertsIdeal.nD Cert.KExpertsIdeal.τ).loc Cert.KExpertsIdeal.main_arg1)) (m ((c.tc : Thread Cert.KExpertsIdeal.nD Cert.KExpertsIdeal.τ).loc Cert.KExpertsIdeal.main_arg2)) (m ((c.tc : Thread Cert.KExpertsIdeal.nD Cert.KExpertsIdeal.τ).loc Cert.KExpertsIdeal.main_arg3))).1 = (fun _ => 1#1)
    ∧ (Cert.Pre_routed.fn (F := Ideal) (m ((c.tc : Thread Cert.KExpertsIdeal.nD Cert.KExpertsIdeal.τ).loc Cert.KExpertsIdeal.main_arg0)) (m ((c.tc : Thread Cert.KExpertsIdeal.nD Cert.KExpertsIdeal.τ).loc Cert.KExpertsIdeal.main_arg1)) (m ((c.tc : Thread Cert.KExpertsIdeal.nD Cert.KExpertsIdeal.τ).loc Cert.KExpertsIdeal.main_arg2)) (m ((c.tc : Thread Cert.KExpertsIdeal.nD Cert.KExpertsIdeal.τ).loc Cert.KExpertsIdeal.main_arg3))).2 = (fun _ => 1#1)

def Pre_RExpertsIdeal (m : (ℓ : Loc Cert.RExpertsIdeal.nD Cert.RExpertsIdeal.τ Cert.RExpertsIdeal.sig) → Buf (Elt Ideal) ℓ) : Prop :=
  True

def Pre_RExpertsIdeal_routed [hPre_routed : Cert.Pre_routed.Facts] (m : (ℓ : Loc Cert.RExpertsIdeal.nD Cert.RExpertsIdeal.τ Cert.RExpertsIdeal.sig) → Buf (Elt Ideal) ℓ) : Prop :=
  ∀ c : Dev Cert.RExpertsIdeal.nD,
    (Cert.Pre_routed.fn (F := Ideal) (m ((c.tc : Thread Cert.RExpertsIdeal.nD Cert.RExpertsIdeal.τ).loc Cert.RExpertsIdeal.main_arg0)) (m ((c.tc : Thread Cert.RExpertsIdeal.nD Cert.RExpertsIdeal.τ).loc Cert.RExpertsIdeal.main_arg1)) (m ((c.tc : Thread Cert.RExpertsIdeal.nD Cert.RExpertsIdeal.τ).loc Cert.RExpertsIdeal.main_arg2)) (m ((c.tc : Thread Cert.RExpertsIdeal.nD Cert.RExpertsIdeal.τ).loc Cert.RExpertsIdeal.main_arg3))).1 = (fun _ => 1#1)
    ∧ (Cert.Pre_routed.fn (F := Ideal) (m ((c.tc : Thread Cert.RExpertsIdeal.nD Cert.RExpertsIdeal.τ).loc Cert.RExpertsIdeal.main_arg0)) (m ((c.tc : Thread Cert.RExpertsIdeal.nD Cert.RExpertsIdeal.τ).loc Cert.RExpertsIdeal.main_arg1)) (m ((c.tc : Thread Cert.RExpertsIdeal.nD Cert.RExpertsIdeal.τ).loc Cert.RExpertsIdeal.main_arg2)) (m ((c.tc : Thread Cert.RExpertsIdeal.nD Cert.RExpertsIdeal.τ).loc Cert.RExpertsIdeal.main_arg3))).2 = (fun _ => 1#1)

def Pre_KQn (m : (ℓ : Loc Cert.KQn.nD Cert.KQn.τ Cert.KQn.sig) → Buf (Elt Bits) ℓ) : Prop :=
  True

def Pre_KQnIdeal (m : (ℓ : Loc Cert.KQnIdeal.nD Cert.KQnIdeal.τ Cert.KQnIdeal.sig) → Buf (Elt Ideal) ℓ) : Prop :=
  True

def Pre_RQnIdeal (m : (ℓ : Loc Cert.RQnIdeal.nD Cert.RQnIdeal.τ Cert.RQnIdeal.sig) → Buf (Elt Ideal) ℓ) : Prop :=
  True

def Pre_KKv (m : (ℓ : Loc Cert.KKv.nD Cert.KKv.τ Cert.KKv.sig) → Buf (Elt Bits) ℓ) : Prop :=
  True

def Pre_KKvIdeal (m : (ℓ : Loc Cert.KKvIdeal.nD Cert.KKvIdeal.τ Cert.KKvIdeal.sig) → Buf (Elt Ideal) ℓ) : Prop :=
  True

def Pre_RKvIdeal (m : (ℓ : Loc Cert.RKvIdeal.nD Cert.RKvIdeal.τ Cert.RKvIdeal.sig) → Buf (Elt Ideal) ℓ) : Prop :=
  True

def Pre_KSpatial (m : (ℓ : Loc Cert.KSpatial.nD Cert.KSpatial.τ Cert.KSpatial.sig) → Buf (Elt Bits) ℓ) : Prop :=
  True

def Pre_KSpatialIdeal (m : (ℓ : Loc Cert.KSpatialIdeal.nD Cert.KSpatialIdeal.τ Cert.KSpatialIdeal.sig) → Buf (Elt Ideal) ℓ) : Prop :=
  True

def Pre_RSpatialIdeal (m : (ℓ : Loc Cert.RSpatialIdeal.nD Cert.RSpatialIdeal.τ Cert.RSpatialIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KUp [hKUp : Cert.KUp.Facts] : Prop :=
  ∀ (m : (ℓ : Loc Cert.KUp.nD Cert.KUp.τ Cert.KUp.sig) → Buf (Elt Bits) ℓ) (g : Dev Cert.KUp.nD → PrngReg), Pre_KUp m →
    θ_run (Cert.KUp.defs (F := Bits)) (onTc (τ := Cert.KUp.τ) (Cert.KUp.main (F := Bits))) ⟨m, fun _ => 0, g⟩ (fun r => (∀ c : Dev Cert.KUp.nD,
      r.2.mem ((c.tc : Thread Cert.KUp.nD Cert.KUp.τ).loc Cert.KUp.main_arg0) = m ((c.tc : Thread Cert.KUp.nD Cert.KUp.τ).loc Cert.KUp.main_arg0)
      ∧ r.2.mem ((c.tc : Thread Cert.KUp.nD Cert.KUp.τ).loc Cert.KUp.main_arg1) = m ((c.tc : Thread Cert.KUp.nD Cert.KUp.τ).loc Cert.KUp.main_arg1)
      ∧ r.2.mem ((c.tc : Thread Cert.KUp.nD Cert.KUp.τ).loc Cert.KUp.main_arg2) = m ((c.tc : Thread Cert.KUp.nD Cert.KUp.τ).loc Cert.KUp.main_arg2))
      ∧ r.2.sem = fun _ => 0)

def quiescent_KUpIdeal [hKUpIdeal : Cert.KUpIdeal.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
      ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2))
      ∧ r.2.sem = fun _ => 0)

def quiescent_RUpIdeal [hRUpIdeal : Cert.RUpIdeal.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1)
      ∧ r.2.mem ((c.tc : Thread Cert.RUpIdeal.nD Cert.RUpIdeal.τ).loc Cert.RUpIdeal.main_arg2) = m ((c.tc : Thread Cert.RUpIdeal.nD Cert.RUpIdeal.τ).loc Cert.RUpIdeal.main_arg2))
      ∧ r.2.sem = fun _ => 0)

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2))
      ∧ r.2.sem = fun _ => 0)

def quiescent_KIn [hKIn : Cert.KIn.Facts] : Prop :=
  ∀ (m : (ℓ : Loc Cert.KIn.nD Cert.KIn.τ Cert.KIn.sig) → Buf (Elt Bits) ℓ) (g : Dev Cert.KIn.nD → PrngReg), Pre_KIn m →
    θ_run (Cert.KIn.defs (F := Bits)) (onTc (τ := Cert.KIn.τ) (Cert.KIn.main (F := Bits))) ⟨m, fun _ => 0, g⟩ (fun r => (∀ c : Dev Cert.KIn.nD,
      r.2.mem ((c.tc : Thread Cert.KIn.nD Cert.KIn.τ).loc Cert.KIn.main_arg0) = m ((c.tc : Thread Cert.KIn.nD Cert.KIn.τ).loc Cert.KIn.main_arg0)
      ∧ r.2.mem ((c.tc : Thread Cert.KIn.nD Cert.KIn.τ).loc Cert.KIn.main_arg1) = m ((c.tc : Thread Cert.KIn.nD Cert.KIn.τ).loc Cert.KIn.main_arg1))
      ∧ r.2.sem = fun _ => 0)

def quiescent_KInIdeal [hKInIdeal : Cert.KInIdeal.Facts] : Prop :=
  ∀ (m : (ℓ : Loc Cert.KInIdeal.nD Cert.KInIdeal.τ Cert.KInIdeal.sig) → Buf (Elt Ideal) ℓ) (g : Dev Cert.KInIdeal.nD → PrngReg), Pre_KInIdeal m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1))
      ∧ r.2.sem = fun _ => 0)

def quiescent_RInIdeal [hRInIdeal : Cert.RInIdeal.Facts] : Prop :=
  ∀ (m : (ℓ : Loc Cert.RInIdeal.nD Cert.RInIdeal.τ Cert.RInIdeal.sig) → Buf (Elt Ideal) ℓ) (g : Dev Cert.RInIdeal.nD → PrngReg), Pre_RInIdeal m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1))
      ∧ r.2.sem = fun _ => 0)

def quiescent_KSgIn [hKSgIn : Cert.KSgIn.Facts] : Prop :=
  ∀ (m : (ℓ : Loc Cert.KSgIn.nD Cert.KSgIn.τ Cert.KSgIn.sig) → Buf (Elt Bits) ℓ) (g : Dev Cert.KSgIn.nD → PrngReg), Pre_KSgIn m →
    θ_run (Cert.KSgIn.defs (F := Bits)) (onTc (τ := Cert.KSgIn.τ) (Cert.KSgIn.main (F := Bits))) ⟨m, fun _ => 0, g⟩ (fun r => (∀ c : Dev Cert.KSgIn.nD,
      r.2.mem ((c.tc : Thread Cert.KSgIn.nD Cert.KSgIn.τ).loc Cert.KSgIn.main_arg0) = m ((c.tc : Thread Cert.KSgIn.nD Cert.KSgIn.τ).loc Cert.KSgIn.main_arg0)
      ∧ r.2.mem ((c.tc : Thread Cert.KSgIn.nD Cert.KSgIn.τ).loc Cert.KSgIn.main_arg1) = m ((c.tc : Thread Cert.KSgIn.nD Cert.KSgIn.τ).loc Cert.KSgIn.main_arg1))
      ∧ r.2.sem = fun _ => 0)

def quiescent_KSgInIdeal [hKSgInIdeal : Cert.KSgInIdeal.Facts] : Prop :=
  ∀ (m : (ℓ : Loc Cert.KSgInIdeal.nD Cert.KSgInIdeal.τ Cert.KSgInIdeal.sig) → Buf (Elt Ideal) ℓ) (g : Dev Cert.KSgInIdeal.nD → PrngReg), Pre_KSgInIdeal m →
    θ_run (Cert.KSgInIdeal.defs (F := Ideal)) (onTc (τ := Cert.KSgInIdeal.τ) (Cert.KSgInIdeal.main (F := Ideal))) ⟨m, fun _ => 0, g⟩ (fun r => (∀ c : Dev Cert.KSgInIdeal.nD,
      r.2.mem ((c.tc : Thread Cert.KSgInIdeal.nD Cert.KSgInIdeal.τ).loc Cert.KSgInIdeal.main_arg0) = m ((c.tc : Thread Cert.KSgInIdeal.nD Cert.KSgInIdeal.τ).loc Cert.KSgInIdeal.main_arg0)
      ∧ r.2.mem ((c.tc : Thread Cert.KSgInIdeal.nD Cert.KSgInIdeal.τ).loc Cert.KSgInIdeal.main_arg1) = m ((c.tc : Thread Cert.KSgInIdeal.nD Cert.KSgInIdeal.τ).loc Cert.KSgInIdeal.main_arg1))
      ∧ r.2.sem = fun _ => 0)

def quiescent_RSgInIdeal [hRSgInIdeal : Cert.RSgInIdeal.Facts] : Prop :=
  ∀ (m : (ℓ : Loc Cert.RSgInIdeal.nD Cert.RSgInIdeal.τ Cert.RSgInIdeal.sig) → Buf (Elt Ideal) ℓ) (g : Dev Cert.RSgInIdeal.nD → PrngReg), Pre_RSgInIdeal m →
    θ_run (Cert.RSgInIdeal.defs (F := Ideal)) (onTc (τ := Cert.RSgInIdeal.τ) (Cert.RSgInIdeal.main (F := Ideal))) ⟨m, fun _ => 0, g⟩ (fun r => (∀ c : Dev Cert.RSgInIdeal.nD,
      r.2.mem ((c.tc : Thread Cert.RSgInIdeal.nD Cert.RSgInIdeal.τ).loc Cert.RSgInIdeal.main_arg0) = m ((c.tc : Thread Cert.RSgInIdeal.nD Cert.RSgInIdeal.τ).loc Cert.RSgInIdeal.main_arg0)
      ∧ r.2.mem ((c.tc : Thread Cert.RSgInIdeal.nD Cert.RSgInIdeal.τ).loc Cert.RSgInIdeal.main_arg1) = m ((c.tc : Thread Cert.RSgInIdeal.nD Cert.RSgInIdeal.τ).loc Cert.RSgInIdeal.main_arg1))
      ∧ r.2.sem = fun _ => 0)

def quiescent_KSgOut [hKSgOut : Cert.KSgOut.Facts] : Prop :=
  ∀ (m : (ℓ : Loc Cert.KSgOut.nD Cert.KSgOut.τ Cert.KSgOut.sig) → Buf (Elt Bits) ℓ) (g : Dev Cert.KSgOut.nD → PrngReg), Pre_KSgOut m →
    θ_run (Cert.KSgOut.defs (F := Bits)) (onTc (τ := Cert.KSgOut.τ) (Cert.KSgOut.main (F := Bits))) ⟨m, fun _ => 0, g⟩ (fun r => (∀ c : Dev Cert.KSgOut.nD,
      r.2.mem ((c.tc : Thread Cert.KSgOut.nD Cert.KSgOut.τ).loc Cert.KSgOut.main_arg0) = m ((c.tc : Thread Cert.KSgOut.nD Cert.KSgOut.τ).loc Cert.KSgOut.main_arg0)
      ∧ r.2.mem ((c.tc : Thread Cert.KSgOut.nD Cert.KSgOut.τ).loc Cert.KSgOut.main_arg1) = m ((c.tc : Thread Cert.KSgOut.nD Cert.KSgOut.τ).loc Cert.KSgOut.main_arg1)
      ∧ r.2.mem ((c.tc : Thread Cert.KSgOut.nD Cert.KSgOut.τ).loc Cert.KSgOut.main_arg2) = m ((c.tc : Thread Cert.KSgOut.nD Cert.KSgOut.τ).loc Cert.KSgOut.main_arg2))
      ∧ r.2.sem = fun _ => 0)

def quiescent_KSgOutIdeal [hKSgOutIdeal : Cert.KSgOutIdeal.Facts] : Prop :=
  ∀ (m : (ℓ : Loc Cert.KSgOutIdeal.nD Cert.KSgOutIdeal.τ Cert.KSgOutIdeal.sig) → Buf (Elt Ideal) ℓ) (g : Dev Cert.KSgOutIdeal.nD → PrngReg), Pre_KSgOutIdeal m →
    θ_run (Cert.KSgOutIdeal.defs (F := Ideal)) (onTc (τ := Cert.KSgOutIdeal.τ) (Cert.KSgOutIdeal.main (F := Ideal))) ⟨m, fun _ => 0, g⟩ (fun r => (∀ c : Dev Cert.KSgOutIdeal.nD,
      r.2.mem ((c.tc : Thread Cert.KSgOutIdeal.nD Cert.KSgOutIdeal.τ).loc Cert.KSgOutIdeal.main_arg0) = m ((c.tc : Thread Cert.KSgOutIdeal.nD Cert.KSgOutIdeal.τ).loc Cert.KSgOutIdeal.main_arg0)
      ∧ r.2.mem ((c.tc : Thread Cert.KSgOutIdeal.nD Cert.KSgOutIdeal.τ).loc Cert.KSgOutIdeal.main_arg1) = m ((c.tc : Thread Cert.KSgOutIdeal.nD Cert.KSgOutIdeal.τ).loc Cert.KSgOutIdeal.main_arg1)
      ∧ r.2.mem ((c.tc : Thread Cert.KSgOutIdeal.nD Cert.KSgOutIdeal.τ).loc Cert.KSgOutIdeal.main_arg2) = m ((c.tc : Thread Cert.KSgOutIdeal.nD Cert.KSgOutIdeal.τ).loc Cert.KSgOutIdeal.main_arg2))
      ∧ r.2.sem = fun _ => 0)

def quiescent_RSgOutIdeal [hRSgOutIdeal : Cert.RSgOutIdeal.Facts] : Prop :=
  ∀ (m : (ℓ : Loc Cert.RSgOutIdeal.nD Cert.RSgOutIdeal.τ Cert.RSgOutIdeal.sig) → Buf (Elt Ideal) ℓ) (g : Dev Cert.RSgOutIdeal.nD → PrngReg), Pre_RSgOutIdeal m →
    θ_run (Cert.RSgOutIdeal.defs (F := Ideal)) (onTc (τ := Cert.RSgOutIdeal.τ) (Cert.RSgOutIdeal.main (F := Ideal))) ⟨m, fun _ => 0, g⟩ (fun r => (∀ c : Dev Cert.RSgOutIdeal.nD,
      r.2.mem ((c.tc : Thread Cert.RSgOutIdeal.nD Cert.RSgOutIdeal.τ).loc Cert.RSgOutIdeal.main_arg0) = m ((c.tc : Thread Cert.RSgOutIdeal.nD Cert.RSgOutIdeal.τ).loc Cert.RSgOutIdeal.main_arg0)
      ∧ r.2.mem ((c.tc : Thread Cert.RSgOutIdeal.nD Cert.RSgOutIdeal.τ).loc Cert.RSgOutIdeal.main_arg1) = m ((c.tc : Thread Cert.RSgOutIdeal.nD Cert.RSgOutIdeal.τ).loc Cert.RSgOutIdeal.main_arg1)
      ∧ r.2.mem ((c.tc : Thread Cert.RSgOutIdeal.nD Cert.RSgOutIdeal.τ).loc Cert.RSgOutIdeal.main_arg2) = m ((c.tc : Thread Cert.RSgOutIdeal.nD Cert.RSgOutIdeal.τ).loc Cert.RSgOutIdeal.main_arg2))
      ∧ r.2.sem = fun _ => 0)

def quiescent_KMix [hKMix : Cert.KMix.Facts] : Prop :=
  ∀ (m : (ℓ : Loc Cert.KMix.nD Cert.KMix.τ Cert.KMix.sig) → Buf (Elt Bits) ℓ) (g : Dev Cert.KMix.nD → PrngReg), Pre_KMix m →
    θ_run (Cert.KMix.defs (F := Bits)) (onTc (τ := Cert.KMix.τ) (Cert.KMix.main (F := Bits))) ⟨m, fun _ => 0, g⟩ (fun r => (∀ c : Dev Cert.KMix.nD,
      r.2.mem ((c.tc : Thread Cert.KMix.nD Cert.KMix.τ).loc Cert.KMix.main_arg0) = m ((c.tc : Thread Cert.KMix.nD Cert.KMix.τ).loc Cert.KMix.main_arg0)
      ∧ r.2.mem ((c.tc : Thread Cert.KMix.nD Cert.KMix.τ).loc Cert.KMix.main_arg1) = m ((c.tc : Thread Cert.KMix.nD Cert.KMix.τ).loc Cert.KMix.main_arg1)
      ∧ r.2.mem ((c.tc : Thread Cert.KMix.nD Cert.KMix.τ).loc Cert.KMix.main_arg2) = m ((c.tc : Thread Cert.KMix.nD Cert.KMix.τ).loc Cert.KMix.main_arg2)
      ∧ r.2.mem ((c.tc : Thread Cert.KMix.nD Cert.KMix.τ).loc Cert.KMix.main_arg3) = m ((c.tc : Thread Cert.KMix.nD Cert.KMix.τ).loc Cert.KMix.main_arg3))
      ∧ r.2.sem = fun _ => 0)

def quiescent_KMixIdeal [hKMixIdeal : Cert.KMixIdeal.Facts] : Prop :=
  ∀ (m : (ℓ : Loc Cert.KMixIdeal.nD Cert.KMixIdeal.τ Cert.KMixIdeal.sig) → Buf (Elt Ideal) ℓ) (g : Dev Cert.KMixIdeal.nD → PrngReg), Pre_KMixIdeal m →
    θ_run (Cert.KMixIdeal.defs (F := Ideal)) (onTc (τ := Cert.KMixIdeal.τ) (Cert.KMixIdeal.main (F := Ideal))) ⟨m, fun _ => 0, g⟩ (fun r => (∀ c : Dev Cert.KMixIdeal.nD,
      r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
      ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
      ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2)
      ∧ r.2.mem ((c.tc : Thread Cert.KMixIdeal.nD Cert.KMixIdeal.τ).loc Cert.KMixIdeal.main_arg3) = m ((c.tc : Thread Cert.KMixIdeal.nD Cert.KMixIdeal.τ).loc Cert.KMixIdeal.main_arg3))
      ∧ r.2.sem = fun _ => 0)

def quiescent_RMixIdeal [hRMixIdeal : Cert.RMixIdeal.Facts] : Prop :=
  ∀ (m : (ℓ : Loc Cert.RMixIdeal.nD Cert.RMixIdeal.τ Cert.RMixIdeal.sig) → Buf (Elt Ideal) ℓ) (g : Dev Cert.RMixIdeal.nD → PrngReg), Pre_RMixIdeal m →
    θ_run (Cert.RMixIdeal.defs (F := Ideal)) (onTc (τ := Cert.RMixIdeal.τ) (Cert.RMixIdeal.main (F := Ideal))) ⟨m, fun _ => 0, g⟩ (fun r => (∀ c : Dev Cert.RMixIdeal.nD,
      r.2.mem ((c.tc : Thread Cert.RMixIdeal.nD Cert.RMixIdeal.τ).loc Cert.RMixIdeal.main_arg0) = m ((c.tc : Thread Cert.RMixIdeal.nD Cert.RMixIdeal.τ).loc Cert.RMixIdeal.main_arg0)
      ∧ r.2.mem ((c.tc : Thread Cert.RMixIdeal.nD Cert.RMixIdeal.τ).loc Cert.RMixIdeal.main_arg1) = m ((c.tc : Thread Cert.RMixIdeal.nD Cert.RMixIdeal.τ).loc Cert.RMixIdeal.main_arg1)
      ∧ r.2.mem ((c.tc : Thread Cert.RMixIdeal.nD Cert.RMixIdeal.τ).loc Cert.RMixIdeal.main_arg2) = m ((c.tc : Thread Cert.RMixIdeal.nD Cert.RMixIdeal.τ).loc Cert.RMixIdeal.main_arg2)
      ∧ r.2.mem ((c.tc : Thread Cert.RMixIdeal.nD Cert.RMixIdeal.τ).loc Cert.RMixIdeal.main_arg3) = m ((c.tc : Thread Cert.RMixIdeal.nD Cert.RMixIdeal.τ).loc Cert.RMixIdeal.main_arg3))
      ∧ r.2.sem = fun _ => 0)

def quiescent_KPle [hKPle : Cert.KPle.Facts] : Prop :=
  ∀ (m : (ℓ : Loc Cert.KPle.nD Cert.KPle.τ Cert.KPle.sig) → Buf (Elt Bits) ℓ) (g : Dev Cert.KPle.nD → PrngReg), Pre_KPle m →
    θ_run (Cert.KPle.defs (F := Bits)) (onTc (τ := Cert.KPle.τ) (Cert.KPle.main (F := Bits))) ⟨m, fun _ => 0, g⟩ (fun r => (∀ c : Dev Cert.KPle.nD,
      r.2.mem ((c.tc : Thread Cert.KPle.nD Cert.KPle.τ).loc Cert.KPle.main_arg0) = m ((c.tc : Thread Cert.KPle.nD Cert.KPle.τ).loc Cert.KPle.main_arg0)
      ∧ r.2.mem ((c.tc : Thread Cert.KPle.nD Cert.KPle.τ).loc Cert.KPle.main_arg1) = m ((c.tc : Thread Cert.KPle.nD Cert.KPle.τ).loc Cert.KPle.main_arg1)
      ∧ r.2.mem ((c.tc : Thread Cert.KPle.nD Cert.KPle.τ).loc Cert.KPle.main_arg2) = m ((c.tc : Thread Cert.KPle.nD Cert.KPle.τ).loc Cert.KPle.main_arg2)
      ∧ r.2.mem ((c.tc : Thread Cert.KPle.nD Cert.KPle.τ).loc Cert.KPle.main_arg3) = m ((c.tc : Thread Cert.KPle.nD Cert.KPle.τ).loc Cert.KPle.main_arg3)
      ∧ r.2.mem ((c.tc : Thread Cert.KPle.nD Cert.KPle.τ).loc Cert.KPle.main_arg4) = m ((c.tc : Thread Cert.KPle.nD Cert.KPle.τ).loc Cert.KPle.main_arg4))
      ∧ r.2.sem = fun _ => 0)

def quiescent_KPleIdeal [hKPleIdeal : Cert.KPleIdeal.Facts] : Prop :=
  ∀ (m : (ℓ : Loc Cert.KPleIdeal.nD Cert.KPleIdeal.τ Cert.KPleIdeal.sig) → Buf (Elt Ideal) ℓ) (g : Dev Cert.KPleIdeal.nD → PrngReg), Pre_KPleIdeal m →
    θ_run (Cert.KPleIdeal.defs (F := Ideal)) (onTc (τ := Cert.KPleIdeal.τ) (Cert.KPleIdeal.main (F := Ideal))) ⟨m, fun _ => 0, g⟩ (fun r => (∀ c : Dev Cert.KPleIdeal.nD,
      r.2.mem ((c.tc : Thread Cert.KPleIdeal.nD Cert.KPleIdeal.τ).loc Cert.KPleIdeal.main_arg0) = m ((c.tc : Thread Cert.KPleIdeal.nD Cert.KPleIdeal.τ).loc Cert.KPleIdeal.main_arg0)
      ∧ r.2.mem ((c.tc : Thread Cert.KPleIdeal.nD Cert.KPleIdeal.τ).loc Cert.KPleIdeal.main_arg1) = m ((c.tc : Thread Cert.KPleIdeal.nD Cert.KPleIdeal.τ).loc Cert.KPleIdeal.main_arg1)
      ∧ r.2.mem ((c.tc : Thread Cert.KPleIdeal.nD Cert.KPleIdeal.τ).loc Cert.KPleIdeal.main_arg2) = m ((c.tc : Thread Cert.KPleIdeal.nD Cert.KPleIdeal.τ).loc Cert.KPleIdeal.main_arg2)
      ∧ r.2.mem ((c.tc : Thread Cert.KPleIdeal.nD Cert.KPleIdeal.τ).loc Cert.KPleIdeal.main_arg3) = m ((c.tc : Thread Cert.KPleIdeal.nD Cert.KPleIdeal.τ).loc Cert.KPleIdeal.main_arg3)
      ∧ r.2.mem ((c.tc : Thread Cert.KPleIdeal.nD Cert.KPleIdeal.τ).loc Cert.KPleIdeal.main_arg4) = m ((c.tc : Thread Cert.KPleIdeal.nD Cert.KPleIdeal.τ).loc Cert.KPleIdeal.main_arg4))
      ∧ r.2.sem = fun _ => 0)

def quiescent_RPleIdeal [hRPleIdeal : Cert.RPleIdeal.Facts] : Prop :=
  ∀ (m : (ℓ : Loc Cert.RPleIdeal.nD Cert.RPleIdeal.τ Cert.RPleIdeal.sig) → Buf (Elt Ideal) ℓ) (g : Dev Cert.RPleIdeal.nD → PrngReg), Pre_RPleIdeal m →
    θ_run (Cert.RPleIdeal.defs (F := Ideal)) (onTc (τ := Cert.RPleIdeal.τ) (Cert.RPleIdeal.main (F := Ideal))) ⟨m, fun _ => 0, g⟩ (fun r => (∀ c : Dev Cert.RPleIdeal.nD,
      r.2.mem ((c.tc : Thread Cert.RPleIdeal.nD Cert.RPleIdeal.τ).loc Cert.RPleIdeal.main_arg0) = m ((c.tc : Thread Cert.RPleIdeal.nD Cert.RPleIdeal.τ).loc Cert.RPleIdeal.main_arg0)
      ∧ r.2.mem ((c.tc : Thread Cert.RPleIdeal.nD Cert.RPleIdeal.τ).loc Cert.RPleIdeal.main_arg1) = m ((c.tc : Thread Cert.RPleIdeal.nD Cert.RPleIdeal.τ).loc Cert.RPleIdeal.main_arg1)
      ∧ r.2.mem ((c.tc : Thread Cert.RPleIdeal.nD Cert.RPleIdeal.τ).loc Cert.RPleIdeal.main_arg2) = m ((c.tc : Thread Cert.RPleIdeal.nD Cert.RPleIdeal.τ).loc Cert.RPleIdeal.main_arg2)
      ∧ r.2.mem ((c.tc : Thread Cert.RPleIdeal.nD Cert.RPleIdeal.τ).loc Cert.RPleIdeal.main_arg3) = m ((c.tc : Thread Cert.RPleIdeal.nD Cert.RPleIdeal.τ).loc Cert.RPleIdeal.main_arg3)
      ∧ r.2.mem ((c.tc : Thread Cert.RPleIdeal.nD Cert.RPleIdeal.τ).loc Cert.RPleIdeal.main_arg4) = m ((c.tc : Thread Cert.RPleIdeal.nD Cert.RPleIdeal.τ).loc Cert.RPleIdeal.main_arg4))
      ∧ r.2.sem = fun _ => 0)

def quiescent_KExperts [hKExperts : Cert.KExperts.Facts] [hPre_routed : Cert.Pre_routed.Facts] : Prop :=
  ∀ (m : (ℓ : Loc Cert.KExperts.nD Cert.KExperts.τ Cert.KExperts.sig) → Buf (Elt Bits) ℓ) (g : Dev Cert.KExperts.nD → PrngReg), Pre_KExperts m →
    θ_run (Cert.KExperts.defs (F := Bits)) (onTc (τ := Cert.KExperts.τ) (Cert.KExperts.main (F := Bits))) ⟨m, fun _ => 0, g⟩ (fun r => (∀ c : Dev Cert.KExperts.nD,
      r.2.mem ((c.tc : Thread Cert.KExperts.nD Cert.KExperts.τ).loc Cert.KExperts.main_arg0) = m ((c.tc : Thread Cert.KExperts.nD Cert.KExperts.τ).loc Cert.KExperts.main_arg0)
      ∧ r.2.mem ((c.tc : Thread Cert.KExperts.nD Cert.KExperts.τ).loc Cert.KExperts.main_arg1) = m ((c.tc : Thread Cert.KExperts.nD Cert.KExperts.τ).loc Cert.KExperts.main_arg1)
      ∧ r.2.mem ((c.tc : Thread Cert.KExperts.nD Cert.KExperts.τ).loc Cert.KExperts.main_arg2) = m ((c.tc : Thread Cert.KExperts.nD Cert.KExperts.τ).loc Cert.KExperts.main_arg2)
      ∧ r.2.mem ((c.tc : Thread Cert.KExperts.nD Cert.KExperts.τ).loc Cert.KExperts.main_arg3) = m ((c.tc : Thread Cert.KExperts.nD Cert.KExperts.τ).loc Cert.KExperts.main_arg3))
      ∧ r.2.sem = fun _ => 0)

def quiescent_KExpertsIdeal [hKExpertsIdeal : Cert.KExpertsIdeal.Facts] [hPre_routed : Cert.Pre_routed.Facts] : Prop :=
  ∀ (m : (ℓ : Loc Cert.KExpertsIdeal.nD Cert.KExpertsIdeal.τ Cert.KExpertsIdeal.sig) → Buf (Elt Ideal) ℓ) (g : Dev Cert.KExpertsIdeal.nD → PrngReg), Pre_KExpertsIdeal m →
    θ_run (Cert.KExpertsIdeal.defs (F := Ideal)) (onTc (τ := Cert.KExpertsIdeal.τ) (Cert.KExpertsIdeal.main (F := Ideal))) ⟨m, fun _ => 0, g⟩ (fun r => (∀ c : Dev Cert.KExpertsIdeal.nD,
      r.2.mem ((c.tc : Thread Cert.KExpertsIdeal.nD Cert.KExpertsIdeal.τ).loc Cert.KExpertsIdeal.main_arg0) = m ((c.tc : Thread Cert.KExpertsIdeal.nD Cert.KExpertsIdeal.τ).loc Cert.KExpertsIdeal.main_arg0)
      ∧ r.2.mem ((c.tc : Thread Cert.KExpertsIdeal.nD Cert.KExpertsIdeal.τ).loc Cert.KExpertsIdeal.main_arg1) = m ((c.tc : Thread Cert.KExpertsIdeal.nD Cert.KExpertsIdeal.τ).loc Cert.KExpertsIdeal.main_arg1)
      ∧ r.2.mem ((c.tc : Thread Cert.KExpertsIdeal.nD Cert.KExpertsIdeal.τ).loc Cert.KExpertsIdeal.main_arg2) = m ((c.tc : Thread Cert.KExpertsIdeal.nD Cert.KExpertsIdeal.τ).loc Cert.KExpertsIdeal.main_arg2)
      ∧ r.2.mem ((c.tc : Thread Cert.KExpertsIdeal.nD Cert.KExpertsIdeal.τ).loc Cert.KExpertsIdeal.main_arg3) = m ((c.tc : Thread Cert.KExpertsIdeal.nD Cert.KExpertsIdeal.τ).loc Cert.KExpertsIdeal.main_arg3))
      ∧ r.2.sem = fun _ => 0)

def quiescent_RExpertsIdeal [hRExpertsIdeal : Cert.RExpertsIdeal.Facts] : Prop :=
  ∀ (m : (ℓ : Loc Cert.RExpertsIdeal.nD Cert.RExpertsIdeal.τ Cert.RExpertsIdeal.sig) → Buf (Elt Ideal) ℓ) (g : Dev Cert.RExpertsIdeal.nD → PrngReg), Pre_RExpertsIdeal m →
    θ_run (Cert.RExpertsIdeal.defs (F := Ideal)) (onTc (τ := Cert.RExpertsIdeal.τ) (Cert.RExpertsIdeal.main (F := Ideal))) ⟨m, fun _ => 0, g⟩ (fun r => (∀ c : Dev Cert.RExpertsIdeal.nD,
      r.2.mem ((c.tc : Thread Cert.RExpertsIdeal.nD Cert.RExpertsIdeal.τ).loc Cert.RExpertsIdeal.main_arg0) = m ((c.tc : Thread Cert.RExpertsIdeal.nD Cert.RExpertsIdeal.τ).loc Cert.RExpertsIdeal.main_arg0)
      ∧ r.2.mem ((c.tc : Thread Cert.RExpertsIdeal.nD Cert.RExpertsIdeal.τ).loc Cert.RExpertsIdeal.main_arg1) = m ((c.tc : Thread Cert.RExpertsIdeal.nD Cert.RExpertsIdeal.τ).loc Cert.RExpertsIdeal.main_arg1)
      ∧ r.2.mem ((c.tc : Thread Cert.RExpertsIdeal.nD Cert.RExpertsIdeal.τ).loc Cert.RExpertsIdeal.main_arg2) = m ((c.tc : Thread Cert.RExpertsIdeal.nD Cert.RExpertsIdeal.τ).loc Cert.RExpertsIdeal.main_arg2)
      ∧ r.2.mem ((c.tc : Thread Cert.RExpertsIdeal.nD Cert.RExpertsIdeal.τ).loc Cert.RExpertsIdeal.main_arg3) = m ((c.tc : Thread Cert.RExpertsIdeal.nD Cert.RExpertsIdeal.τ).loc Cert.RExpertsIdeal.main_arg3))
      ∧ r.2.sem = fun _ => 0)

def quiescent_RExpertsIdeal_pre_routed [hRExpertsIdeal : Cert.RExpertsIdeal.Facts] [hPre_routed : Cert.Pre_routed.Facts] : Prop :=
  ∀ (m : (ℓ : Loc Cert.RExpertsIdeal.nD Cert.RExpertsIdeal.τ Cert.RExpertsIdeal.sig) → Buf (Elt Ideal) ℓ) (g : Dev Cert.RExpertsIdeal.nD → PrngReg), Pre_RExpertsIdeal_routed m →
    θ_run (Cert.RExpertsIdeal.defs (F := Ideal)) (onTc (τ := Cert.RExpertsIdeal.τ) (Cert.RExpertsIdeal.main (F := Ideal))) ⟨m, fun _ => 0, g⟩ (fun r => (∀ c : Dev Cert.RExpertsIdeal.nD,
      r.2.mem ((c.tc : Thread Cert.RExpertsIdeal.nD Cert.RExpertsIdeal.τ).loc Cert.RExpertsIdeal.main_arg0) = m ((c.tc : Thread Cert.RExpertsIdeal.nD Cert.RExpertsIdeal.τ).loc Cert.RExpertsIdeal.main_arg0)
      ∧ r.2.mem ((c.tc : Thread Cert.RExpertsIdeal.nD Cert.RExpertsIdeal.τ).loc Cert.RExpertsIdeal.main_arg1) = m ((c.tc : Thread Cert.RExpertsIdeal.nD Cert.RExpertsIdeal.τ).loc Cert.RExpertsIdeal.main_arg1)
      ∧ r.2.mem ((c.tc : Thread Cert.RExpertsIdeal.nD Cert.RExpertsIdeal.τ).loc Cert.RExpertsIdeal.main_arg2) = m ((c.tc : Thread Cert.RExpertsIdeal.nD Cert.RExpertsIdeal.τ).loc Cert.RExpertsIdeal.main_arg2)
      ∧ r.2.mem ((c.tc : Thread Cert.RExpertsIdeal.nD Cert.RExpertsIdeal.τ).loc Cert.RExpertsIdeal.main_arg3) = m ((c.tc : Thread Cert.RExpertsIdeal.nD Cert.RExpertsIdeal.τ).loc Cert.RExpertsIdeal.main_arg3))
      ∧ r.2.sem = fun _ => 0)

def quiescent_KQn [hKQn : Cert.KQn.Facts] : Prop :=
  ∀ (m : (ℓ : Loc Cert.KQn.nD Cert.KQn.τ Cert.KQn.sig) → Buf (Elt Bits) ℓ) (g : Dev Cert.KQn.nD → PrngReg), Pre_KQn m →
    θ_run (Cert.KQn.defs (F := Bits)) (onTc (τ := Cert.KQn.τ) (Cert.KQn.main (F := Bits))) ⟨m, fun _ => 0, g⟩ (fun r => (∀ c : Dev Cert.KQn.nD,
      r.2.mem ((c.tc : Thread Cert.KQn.nD Cert.KQn.τ).loc Cert.KQn.main_arg0) = m ((c.tc : Thread Cert.KQn.nD Cert.KQn.τ).loc Cert.KQn.main_arg0)
      ∧ r.2.mem ((c.tc : Thread Cert.KQn.nD Cert.KQn.τ).loc Cert.KQn.main_arg1) = m ((c.tc : Thread Cert.KQn.nD Cert.KQn.τ).loc Cert.KQn.main_arg1))
      ∧ r.2.sem = fun _ => 0)

def quiescent_KQnIdeal [hKQnIdeal : Cert.KQnIdeal.Facts] : Prop :=
  ∀ (m : (ℓ : Loc Cert.KQnIdeal.nD Cert.KQnIdeal.τ Cert.KQnIdeal.sig) → Buf (Elt Ideal) ℓ) (g : Dev Cert.KQnIdeal.nD → PrngReg), Pre_KQnIdeal m →
    θ_run (Cert.KQnIdeal.defs (F := Ideal)) (onTc (τ := Cert.KQnIdeal.τ) (Cert.KQnIdeal.main (F := Ideal))) ⟨m, fun _ => 0, g⟩ (fun r => (∀ c : Dev Cert.KQnIdeal.nD,
      r.2.mem ((c.tc : Thread Cert.KQnIdeal.nD Cert.KQnIdeal.τ).loc Cert.KQnIdeal.main_arg0) = m ((c.tc : Thread Cert.KQnIdeal.nD Cert.KQnIdeal.τ).loc Cert.KQnIdeal.main_arg0)
      ∧ r.2.mem ((c.tc : Thread Cert.KQnIdeal.nD Cert.KQnIdeal.τ).loc Cert.KQnIdeal.main_arg1) = m ((c.tc : Thread Cert.KQnIdeal.nD Cert.KQnIdeal.τ).loc Cert.KQnIdeal.main_arg1))
      ∧ r.2.sem = fun _ => 0)

def quiescent_RQnIdeal [hRQnIdeal : Cert.RQnIdeal.Facts] : Prop :=
  ∀ (m : (ℓ : Loc Cert.RQnIdeal.nD Cert.RQnIdeal.τ Cert.RQnIdeal.sig) → Buf (Elt Ideal) ℓ) (g : Dev Cert.RQnIdeal.nD → PrngReg), Pre_RQnIdeal m →
    θ_run (Cert.RQnIdeal.defs (F := Ideal)) (onTc (τ := Cert.RQnIdeal.τ) (Cert.RQnIdeal.main (F := Ideal))) ⟨m, fun _ => 0, g⟩ (fun r => (∀ c : Dev Cert.RQnIdeal.nD,
      r.2.mem ((c.tc : Thread Cert.RQnIdeal.nD Cert.RQnIdeal.τ).loc Cert.RQnIdeal.main_arg0) = m ((c.tc : Thread Cert.RQnIdeal.nD Cert.RQnIdeal.τ).loc Cert.RQnIdeal.main_arg0)
      ∧ r.2.mem ((c.tc : Thread Cert.RQnIdeal.nD Cert.RQnIdeal.τ).loc Cert.RQnIdeal.main_arg1) = m ((c.tc : Thread Cert.RQnIdeal.nD Cert.RQnIdeal.τ).loc Cert.RQnIdeal.main_arg1))
      ∧ r.2.sem = fun _ => 0)

def quiescent_KKv [hKKv : Cert.KKv.Facts] : Prop :=
  ∀ (m : (ℓ : Loc Cert.KKv.nD Cert.KKv.τ Cert.KKv.sig) → Buf (Elt Bits) ℓ) (g : Dev Cert.KKv.nD → PrngReg), Pre_KKv m →
    θ_run (Cert.KKv.defs (F := Bits)) (onTc (τ := Cert.KKv.τ) (Cert.KKv.main (F := Bits))) ⟨m, fun _ => 0, g⟩ (fun r => (∀ c : Dev Cert.KKv.nD,
      r.2.mem ((c.tc : Thread Cert.KKv.nD Cert.KKv.τ).loc Cert.KKv.main_arg0) = m ((c.tc : Thread Cert.KKv.nD Cert.KKv.τ).loc Cert.KKv.main_arg0)
      ∧ r.2.mem ((c.tc : Thread Cert.KKv.nD Cert.KKv.τ).loc Cert.KKv.main_arg1) = m ((c.tc : Thread Cert.KKv.nD Cert.KKv.τ).loc Cert.KKv.main_arg1))
      ∧ r.2.sem = fun _ => 0)

def quiescent_KKvIdeal [hKKvIdeal : Cert.KKvIdeal.Facts] : Prop :=
  ∀ (m : (ℓ : Loc Cert.KKvIdeal.nD Cert.KKvIdeal.τ Cert.KKvIdeal.sig) → Buf (Elt Ideal) ℓ) (g : Dev Cert.KKvIdeal.nD → PrngReg), Pre_KKvIdeal m →
    θ_run (Cert.KKvIdeal.defs (F := Ideal)) (onTc (τ := Cert.KKvIdeal.τ) (Cert.KKvIdeal.main (F := Ideal))) ⟨m, fun _ => 0, g⟩ (fun r => (∀ c : Dev Cert.KKvIdeal.nD,
      r.2.mem ((c.tc : Thread Cert.KKvIdeal.nD Cert.KKvIdeal.τ).loc Cert.KKvIdeal.main_arg0) = m ((c.tc : Thread Cert.KKvIdeal.nD Cert.KKvIdeal.τ).loc Cert.KKvIdeal.main_arg0)
      ∧ r.2.mem ((c.tc : Thread Cert.KKvIdeal.nD Cert.KKvIdeal.τ).loc Cert.KKvIdeal.main_arg1) = m ((c.tc : Thread Cert.KKvIdeal.nD Cert.KKvIdeal.τ).loc Cert.KKvIdeal.main_arg1))
      ∧ r.2.sem = fun _ => 0)

def quiescent_RKvIdeal [hRKvIdeal : Cert.RKvIdeal.Facts] : Prop :=
  ∀ (m : (ℓ : Loc Cert.RKvIdeal.nD Cert.RKvIdeal.τ Cert.RKvIdeal.sig) → Buf (Elt Ideal) ℓ) (g : Dev Cert.RKvIdeal.nD → PrngReg), Pre_RKvIdeal m →
    θ_run (Cert.RKvIdeal.defs (F := Ideal)) (onTc (τ := Cert.RKvIdeal.τ) (Cert.RKvIdeal.main (F := Ideal))) ⟨m, fun _ => 0, g⟩ (fun r => (∀ c : Dev Cert.RKvIdeal.nD,
      r.2.mem ((c.tc : Thread Cert.RKvIdeal.nD Cert.RKvIdeal.τ).loc Cert.RKvIdeal.main_arg0) = m ((c.tc : Thread Cert.RKvIdeal.nD Cert.RKvIdeal.τ).loc Cert.RKvIdeal.main_arg0)
      ∧ r.2.mem ((c.tc : Thread Cert.RKvIdeal.nD Cert.RKvIdeal.τ).loc Cert.RKvIdeal.main_arg1) = m ((c.tc : Thread Cert.RKvIdeal.nD Cert.RKvIdeal.τ).loc Cert.RKvIdeal.main_arg1))
      ∧ r.2.sem = fun _ => 0)

def quiescent_KSpatial [hKSpatial : Cert.KSpatial.Facts] : Prop :=
  ∀ (m : (ℓ : Loc Cert.KSpatial.nD Cert.KSpatial.τ Cert.KSpatial.sig) → Buf (Elt Bits) ℓ) (g : Dev Cert.KSpatial.nD → PrngReg), Pre_KSpatial m →
    θ_run (Cert.KSpatial.defs (F := Bits)) (onTc (τ := Cert.KSpatial.τ) (Cert.KSpatial.main (F := Bits))) ⟨m, fun _ => 0, g⟩ (fun r => (∀ c : Dev Cert.KSpatial.nD,
      r.2.mem ((c.tc : Thread Cert.KSpatial.nD Cert.KSpatial.τ).loc Cert.KSpatial.main_arg0) = m ((c.tc : Thread Cert.KSpatial.nD Cert.KSpatial.τ).loc Cert.KSpatial.main_arg0)
      ∧ r.2.mem ((c.tc : Thread Cert.KSpatial.nD Cert.KSpatial.τ).loc Cert.KSpatial.main_arg1) = m ((c.tc : Thread Cert.KSpatial.nD Cert.KSpatial.τ).loc Cert.KSpatial.main_arg1)
      ∧ r.2.mem ((c.tc : Thread Cert.KSpatial.nD Cert.KSpatial.τ).loc Cert.KSpatial.main_arg2) = m ((c.tc : Thread Cert.KSpatial.nD Cert.KSpatial.τ).loc Cert.KSpatial.main_arg2)
      ∧ r.2.mem ((c.tc : Thread Cert.KSpatial.nD Cert.KSpatial.τ).loc Cert.KSpatial.main_arg3) = m ((c.tc : Thread Cert.KSpatial.nD Cert.KSpatial.τ).loc Cert.KSpatial.main_arg3))
      ∧ r.2.sem = fun _ => 0)

def quiescent_KSpatialIdeal [hKSpatialIdeal : Cert.KSpatialIdeal.Facts] : Prop :=
  ∀ (m : (ℓ : Loc Cert.KSpatialIdeal.nD Cert.KSpatialIdeal.τ Cert.KSpatialIdeal.sig) → Buf (Elt Ideal) ℓ) (g : Dev Cert.KSpatialIdeal.nD → PrngReg), Pre_KSpatialIdeal m →
    θ_run (Cert.KSpatialIdeal.defs (F := Ideal)) (onTc (τ := Cert.KSpatialIdeal.τ) (Cert.KSpatialIdeal.main (F := Ideal))) ⟨m, fun _ => 0, g⟩ (fun r => (∀ c : Dev Cert.KSpatialIdeal.nD,
      r.2.mem ((c.tc : Thread Cert.KSpatialIdeal.nD Cert.KSpatialIdeal.τ).loc Cert.KSpatialIdeal.main_arg0) = m ((c.tc : Thread Cert.KSpatialIdeal.nD Cert.KSpatialIdeal.τ).loc Cert.KSpatialIdeal.main_arg0)
      ∧ r.2.mem ((c.tc : Thread Cert.KSpatialIdeal.nD Cert.KSpatialIdeal.τ).loc Cert.KSpatialIdeal.main_arg1) = m ((c.tc : Thread Cert.KSpatialIdeal.nD Cert.KSpatialIdeal.τ).loc Cert.KSpatialIdeal.main_arg1)
      ∧ r.2.mem ((c.tc : Thread Cert.KSpatialIdeal.nD Cert.KSpatialIdeal.τ).loc Cert.KSpatialIdeal.main_arg2) = m ((c.tc : Thread Cert.KSpatialIdeal.nD Cert.KSpatialIdeal.τ).loc Cert.KSpatialIdeal.main_arg2)
      ∧ r.2.mem ((c.tc : Thread Cert.KSpatialIdeal.nD Cert.KSpatialIdeal.τ).loc Cert.KSpatialIdeal.main_arg3) = m ((c.tc : Thread Cert.KSpatialIdeal.nD Cert.KSpatialIdeal.τ).loc Cert.KSpatialIdeal.main_arg3))
      ∧ r.2.sem = fun _ => 0)

def quiescent_RSpatialIdeal [hRSpatialIdeal : Cert.RSpatialIdeal.Facts] : Prop :=
  ∀ (m : (ℓ : Loc Cert.RSpatialIdeal.nD Cert.RSpatialIdeal.τ Cert.RSpatialIdeal.sig) → Buf (Elt Ideal) ℓ) (g : Dev Cert.RSpatialIdeal.nD → PrngReg), Pre_RSpatialIdeal m →
    θ_run (Cert.RSpatialIdeal.defs (F := Ideal)) (onTc (τ := Cert.RSpatialIdeal.τ) (Cert.RSpatialIdeal.main (F := Ideal))) ⟨m, fun _ => 0, g⟩ (fun r => (∀ c : Dev Cert.RSpatialIdeal.nD,
      r.2.mem ((c.tc : Thread Cert.RSpatialIdeal.nD Cert.RSpatialIdeal.τ).loc Cert.RSpatialIdeal.main_arg0) = m ((c.tc : Thread Cert.RSpatialIdeal.nD Cert.RSpatialIdeal.τ).loc Cert.RSpatialIdeal.main_arg0)
      ∧ r.2.mem ((c.tc : Thread Cert.RSpatialIdeal.nD Cert.RSpatialIdeal.τ).loc Cert.RSpatialIdeal.main_arg1) = m ((c.tc : Thread Cert.RSpatialIdeal.nD Cert.RSpatialIdeal.τ).loc Cert.RSpatialIdeal.main_arg1)
      ∧ r.2.mem ((c.tc : Thread Cert.RSpatialIdeal.nD Cert.RSpatialIdeal.τ).loc Cert.RSpatialIdeal.main_arg2) = m ((c.tc : Thread Cert.RSpatialIdeal.nD Cert.RSpatialIdeal.τ).loc Cert.RSpatialIdeal.main_arg2)
      ∧ r.2.mem ((c.tc : Thread Cert.RSpatialIdeal.nD Cert.RSpatialIdeal.τ).loc Cert.RSpatialIdeal.main_arg3) = m ((c.tc : Thread Cert.RSpatialIdeal.nD Cert.RSpatialIdeal.τ).loc Cert.RSpatialIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KUp_KUpIdeal : Prop :=
  True

def algebraic_KUpIdeal_RUpIdeal [hKUpIdeal : Cert.KUpIdeal.Facts] [hRUpIdeal : Cert.RUpIdeal.Facts] : Prop :=
  ∀ (m : (ℓ : Loc Cert.KUpIdeal.nD Cert.KUpIdeal.τ Cert.KUpIdeal.sig) → Buf (Elt Ideal) ℓ) (g : Dev Cert.KUpIdeal.nD → PrngReg)
    (m' : (ℓ : Loc Cert.RUpIdeal.nD Cert.RUpIdeal.τ Cert.RUpIdeal.sig) → Buf (Elt Ideal) ℓ) (g' : Dev Cert.RUpIdeal.nD → PrngReg), Pre_KUpIdeal m →
    (∀ c : Dev Cert.KUpIdeal.nD,
      m' ((c.tc : Thread Cert.RUpIdeal.nD Cert.RUpIdeal.τ).loc Cert.RUpIdeal.main_arg0) = m ((c.tc : Thread Cert.KUpIdeal.nD Cert.KUpIdeal.τ).loc Cert.KUpIdeal.main_arg0)
      ∧ m' ((c.tc : Thread Cert.RUpIdeal.nD Cert.RUpIdeal.τ).loc Cert.RUpIdeal.main_arg1) = m ((c.tc : Thread Cert.KUpIdeal.nD Cert.KUpIdeal.τ).loc Cert.KUpIdeal.main_arg1)
      ∧ m' ((c.tc : Thread Cert.RUpIdeal.nD Cert.RUpIdeal.τ).loc Cert.RUpIdeal.main_arg2) = m ((c.tc : Thread Cert.KUpIdeal.nD Cert.KUpIdeal.τ).loc Cert.KUpIdeal.main_arg2)) →
    ∃ (v0 : (c : Dev Cert.KUpIdeal.nD) → Buf (Elt Ideal) ((c.tc : Thread Cert.KUpIdeal.nD Cert.KUpIdeal.τ).loc Cert.KUpIdeal.main_v0)),
      θ_run (Cert.KUpIdeal.defs (F := Ideal)) (onTc (τ := Cert.KUpIdeal.τ) (Cert.KUpIdeal.main (F := Ideal))) ⟨m, fun _ => 0, g⟩ (fun r => ∀ c : Dev Cert.KUpIdeal.nD,
          r.2.mem ((c.tc : Thread Cert.KUpIdeal.nD Cert.KUpIdeal.τ).loc Cert.KUpIdeal.main_v0) = v0 c
          ∧ r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
          ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
          ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2))
      ∧ θ_run (Cert.RUpIdeal.defs (F := Ideal)) (onTc (τ := Cert.RUpIdeal.τ) (Cert.RUpIdeal.main (F := Ideal))) ⟨m', fun _ => 0, g'⟩ (fun r => ∀ c : Dev Cert.RUpIdeal.nD,
          r.2.mem ((c.tc : Thread Cert.RUpIdeal.nD Cert.RUpIdeal.τ).loc Cert.RUpIdeal.main_v7) = v0 c
          ∧ r.2.mem ((c.tc : Thread Cert.RUpIdeal.nD Cert.RUpIdeal.τ).loc Cert.RUpIdeal.main_arg0) = m' ((c.tc : Thread Cert.RUpIdeal.nD Cert.RUpIdeal.τ).loc Cert.RUpIdeal.main_arg0)
          ∧ r.2.mem ((c.tc : Thread Cert.RUpIdeal.nD Cert.RUpIdeal.τ).loc Cert.RUpIdeal.main_arg1) = m' ((c.tc : Thread Cert.RUpIdeal.nD Cert.RUpIdeal.τ).loc Cert.RUpIdeal.main_arg1)
          ∧ r.2.mem ((c.tc : Thread Cert.RUpIdeal.nD Cert.RUpIdeal.τ).loc Cert.RUpIdeal.main_arg2) = m' ((c.tc : Thread Cert.RUpIdeal.nD Cert.RUpIdeal.τ).loc Cert.RUpIdeal.main_arg2))

def preserves_KDown_KDownIdeal : Prop :=
  True

def algebraic_KDownIdeal_RDownIdeal [hKDownIdeal : Cert.KDownIdeal.Facts] [hRDownIdeal : Cert.RDownIdeal.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)) →
    ∃ (v0 : (c : Dev Cert.KDownIdeal.nD) → Buf (Elt Ideal) ((c.tc : Thread Cert.KDownIdeal.nD Cert.KDownIdeal.τ).loc Cert.KDownIdeal.main_v0)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v0) = v0 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v3) = v0 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2))

def preserves_KIn_KInIdeal : Prop :=
  True

def algebraic_KInIdeal_RInIdeal [hKInIdeal : Cert.KInIdeal.Facts] [hRInIdeal : Cert.RInIdeal.Facts] : Prop :=
  ∀ (m : (ℓ : Loc Cert.KInIdeal.nD Cert.KInIdeal.τ Cert.KInIdeal.sig) → Buf (Elt Ideal) ℓ) (g : Dev Cert.KInIdeal.nD → PrngReg)
    (m' : (ℓ : Loc Cert.RInIdeal.nD Cert.RInIdeal.τ Cert.RInIdeal.sig) → Buf (Elt Ideal) ℓ) (g' : Dev Cert.RInIdeal.nD → PrngReg), Pre_KInIdeal m →
    (∀ c : Dev Cert.KInIdeal.nD,
      m' ((c.tc : Thread Cert.RInIdeal.nD Cert.RInIdeal.τ).loc Cert.RInIdeal.main_arg0) = m ((c.tc : Thread Cert.KInIdeal.nD Cert.KInIdeal.τ).loc Cert.KInIdeal.main_arg0)
      ∧ m' ((c.tc : Thread Cert.RInIdeal.nD Cert.RInIdeal.τ).loc Cert.RInIdeal.main_arg1) = m ((c.tc : Thread Cert.KInIdeal.nD Cert.KInIdeal.τ).loc Cert.KInIdeal.main_arg1)) →
    ∃ (v0 : (c : Dev Cert.KInIdeal.nD) → Buf (Elt Ideal) ((c.tc : Thread Cert.KInIdeal.nD Cert.KInIdeal.τ).loc Cert.KInIdeal.main_v0)),
      θ_run (Cert.KInIdeal.defs (F := Ideal)) (onTc (τ := Cert.KInIdeal.τ) (Cert.KInIdeal.main (F := Ideal))) ⟨m, fun _ => 0, g⟩ (fun r => ∀ c : Dev Cert.KInIdeal.nD,
          r.2.mem ((c.tc : Thread Cert.KInIdeal.nD Cert.KInIdeal.τ).loc Cert.KInIdeal.main_v0) = v0 c
          ∧ r.2.mem ((c.tc : Thread Cert.KInIdeal.nD Cert.KInIdeal.τ).loc Cert.KInIdeal.main_arg0) = m ((c.tc : Thread Cert.KInIdeal.nD Cert.KInIdeal.τ).loc Cert.KInIdeal.main_arg0)
          ∧ r.2.mem ((c.tc : Thread Cert.KInIdeal.nD Cert.KInIdeal.τ).loc Cert.KInIdeal.main_arg1) = m ((c.tc : Thread Cert.KInIdeal.nD Cert.KInIdeal.τ).loc Cert.KInIdeal.main_arg1))
      ∧ θ_run (Cert.RInIdeal.defs (F := Ideal)) (onTc (τ := Cert.RInIdeal.τ) (Cert.RInIdeal.main (F := Ideal))) ⟨m', fun _ => 0, g'⟩ (fun r => ∀ c : Dev Cert.RInIdeal.nD,
          r.2.mem ((c.tc : Thread Cert.RInIdeal.nD Cert.RInIdeal.τ).loc Cert.RInIdeal.main_v3) = v0 c
          ∧ r.2.mem ((c.tc : Thread Cert.RInIdeal.nD Cert.RInIdeal.τ).loc Cert.RInIdeal.main_arg0) = m' ((c.tc : Thread Cert.RInIdeal.nD Cert.RInIdeal.τ).loc Cert.RInIdeal.main_arg0)
          ∧ r.2.mem ((c.tc : Thread Cert.RInIdeal.nD Cert.RInIdeal.τ).loc Cert.RInIdeal.main_arg1) = m' ((c.tc : Thread Cert.RInIdeal.nD Cert.RInIdeal.τ).loc Cert.RInIdeal.main_arg1))

def preserves_KSgIn_KSgInIdeal : Prop :=
  True

def algebraic_KSgInIdeal_RSgInIdeal [hKSgInIdeal : Cert.KSgInIdeal.Facts] [hRSgInIdeal : Cert.RSgInIdeal.Facts] : Prop :=
  ∀ (m : (ℓ : Loc Cert.KSgInIdeal.nD Cert.KSgInIdeal.τ Cert.KSgInIdeal.sig) → Buf (Elt Ideal) ℓ) (g : Dev Cert.KSgInIdeal.nD → PrngReg)
    (m' : (ℓ : Loc Cert.RSgInIdeal.nD Cert.RSgInIdeal.τ Cert.RSgInIdeal.sig) → Buf (Elt Ideal) ℓ) (g' : Dev Cert.RSgInIdeal.nD → PrngReg), Pre_KSgInIdeal m →
    (∀ c : Dev Cert.KSgInIdeal.nD,
      m' ((c.tc : Thread Cert.RSgInIdeal.nD Cert.RSgInIdeal.τ).loc Cert.RSgInIdeal.main_arg0) = m ((c.tc : Thread Cert.KSgInIdeal.nD Cert.KSgInIdeal.τ).loc Cert.KSgInIdeal.main_arg0)
      ∧ m' ((c.tc : Thread Cert.RSgInIdeal.nD Cert.RSgInIdeal.τ).loc Cert.RSgInIdeal.main_arg1) = m ((c.tc : Thread Cert.KSgInIdeal.nD Cert.KSgInIdeal.τ).loc Cert.KSgInIdeal.main_arg1)) →
    ∃ (v0 : (c : Dev Cert.KSgInIdeal.nD) → Buf (Elt Ideal) ((c.tc : Thread Cert.KSgInIdeal.nD Cert.KSgInIdeal.τ).loc Cert.KSgInIdeal.main_v0)),
      θ_run (Cert.KSgInIdeal.defs (F := Ideal)) (onTc (τ := Cert.KSgInIdeal.τ) (Cert.KSgInIdeal.main (F := Ideal))) ⟨m, fun _ => 0, g⟩ (fun r => ∀ c : Dev Cert.KSgInIdeal.nD,
          r.2.mem ((c.tc : Thread Cert.KSgInIdeal.nD Cert.KSgInIdeal.τ).loc Cert.KSgInIdeal.main_v0) = v0 c
          ∧ r.2.mem ((c.tc : Thread Cert.KSgInIdeal.nD Cert.KSgInIdeal.τ).loc Cert.KSgInIdeal.main_arg0) = m ((c.tc : Thread Cert.KSgInIdeal.nD Cert.KSgInIdeal.τ).loc Cert.KSgInIdeal.main_arg0)
          ∧ r.2.mem ((c.tc : Thread Cert.KSgInIdeal.nD Cert.KSgInIdeal.τ).loc Cert.KSgInIdeal.main_arg1) = m ((c.tc : Thread Cert.KSgInIdeal.nD Cert.KSgInIdeal.τ).loc Cert.KSgInIdeal.main_arg1))
      ∧ θ_run (Cert.RSgInIdeal.defs (F := Ideal)) (onTc (τ := Cert.RSgInIdeal.τ) (Cert.RSgInIdeal.main (F := Ideal))) ⟨m', fun _ => 0, g'⟩ (fun r => ∀ c : Dev Cert.RSgInIdeal.nD,
          r.2.mem ((c.tc : Thread Cert.RSgInIdeal.nD Cert.RSgInIdeal.τ).loc Cert.RSgInIdeal.main_v10) = v0 c
          ∧ r.2.mem ((c.tc : Thread Cert.RSgInIdeal.nD Cert.RSgInIdeal.τ).loc Cert.RSgInIdeal.main_arg0) = m' ((c.tc : Thread Cert.RSgInIdeal.nD Cert.RSgInIdeal.τ).loc Cert.RSgInIdeal.main_arg0)
          ∧ r.2.mem ((c.tc : Thread Cert.RSgInIdeal.nD Cert.RSgInIdeal.τ).loc Cert.RSgInIdeal.main_arg1) = m' ((c.tc : Thread Cert.RSgInIdeal.nD Cert.RSgInIdeal.τ).loc Cert.RSgInIdeal.main_arg1))

def preserves_KSgOut_KSgOutIdeal : Prop :=
  True

def algebraic_KSgOutIdeal_RSgOutIdeal [hKSgOutIdeal : Cert.KSgOutIdeal.Facts] [hRSgOutIdeal : Cert.RSgOutIdeal.Facts] : Prop :=
  ∀ (m : (ℓ : Loc Cert.KSgOutIdeal.nD Cert.KSgOutIdeal.τ Cert.KSgOutIdeal.sig) → Buf (Elt Ideal) ℓ) (g : Dev Cert.KSgOutIdeal.nD → PrngReg)
    (m' : (ℓ : Loc Cert.RSgOutIdeal.nD Cert.RSgOutIdeal.τ Cert.RSgOutIdeal.sig) → Buf (Elt Ideal) ℓ) (g' : Dev Cert.RSgOutIdeal.nD → PrngReg), Pre_KSgOutIdeal m →
    (∀ c : Dev Cert.KSgOutIdeal.nD,
      m' ((c.tc : Thread Cert.RSgOutIdeal.nD Cert.RSgOutIdeal.τ).loc Cert.RSgOutIdeal.main_arg0) = m ((c.tc : Thread Cert.KSgOutIdeal.nD Cert.KSgOutIdeal.τ).loc Cert.KSgOutIdeal.main_arg0)
      ∧ m' ((c.tc : Thread Cert.RSgOutIdeal.nD Cert.RSgOutIdeal.τ).loc Cert.RSgOutIdeal.main_arg1) = m ((c.tc : Thread Cert.KSgOutIdeal.nD Cert.KSgOutIdeal.τ).loc Cert.KSgOutIdeal.main_arg1)
      ∧ m' ((c.tc : Thread Cert.RSgOutIdeal.nD Cert.RSgOutIdeal.τ).loc Cert.RSgOutIdeal.main_arg2) = m ((c.tc : Thread Cert.KSgOutIdeal.nD Cert.KSgOutIdeal.τ).loc Cert.KSgOutIdeal.main_arg2)) →
    ∃ (v0 : (c : Dev Cert.KSgOutIdeal.nD) → Buf (Elt Ideal) ((c.tc : Thread Cert.KSgOutIdeal.nD Cert.KSgOutIdeal.τ).loc Cert.KSgOutIdeal.main_v0)),
      θ_run (Cert.KSgOutIdeal.defs (F := Ideal)) (onTc (τ := Cert.KSgOutIdeal.τ) (Cert.KSgOutIdeal.main (F := Ideal))) ⟨m, fun _ => 0, g⟩ (fun r => ∀ c : Dev Cert.KSgOutIdeal.nD,
          r.2.mem ((c.tc : Thread Cert.KSgOutIdeal.nD Cert.KSgOutIdeal.τ).loc Cert.KSgOutIdeal.main_v0) = v0 c
          ∧ r.2.mem ((c.tc : Thread Cert.KSgOutIdeal.nD Cert.KSgOutIdeal.τ).loc Cert.KSgOutIdeal.main_arg0) = m ((c.tc : Thread Cert.KSgOutIdeal.nD Cert.KSgOutIdeal.τ).loc Cert.KSgOutIdeal.main_arg0)
          ∧ r.2.mem ((c.tc : Thread Cert.KSgOutIdeal.nD Cert.KSgOutIdeal.τ).loc Cert.KSgOutIdeal.main_arg1) = m ((c.tc : Thread Cert.KSgOutIdeal.nD Cert.KSgOutIdeal.τ).loc Cert.KSgOutIdeal.main_arg1)
          ∧ r.2.mem ((c.tc : Thread Cert.KSgOutIdeal.nD Cert.KSgOutIdeal.τ).loc Cert.KSgOutIdeal.main_arg2) = m ((c.tc : Thread Cert.KSgOutIdeal.nD Cert.KSgOutIdeal.τ).loc Cert.KSgOutIdeal.main_arg2))
      ∧ θ_run (Cert.RSgOutIdeal.defs (F := Ideal)) (onTc (τ := Cert.RSgOutIdeal.τ) (Cert.RSgOutIdeal.main (F := Ideal))) ⟨m', fun _ => 0, g'⟩ (fun r => ∀ c : Dev Cert.RSgOutIdeal.nD,
          r.2.mem ((c.tc : Thread Cert.RSgOutIdeal.nD Cert.RSgOutIdeal.τ).loc Cert.RSgOutIdeal.main_v3) = v0 c
          ∧ r.2.mem ((c.tc : Thread Cert.RSgOutIdeal.nD Cert.RSgOutIdeal.τ).loc Cert.RSgOutIdeal.main_arg0) = m' ((c.tc : Thread Cert.RSgOutIdeal.nD Cert.RSgOutIdeal.τ).loc Cert.RSgOutIdeal.main_arg0)
          ∧ r.2.mem ((c.tc : Thread Cert.RSgOutIdeal.nD Cert.RSgOutIdeal.τ).loc Cert.RSgOutIdeal.main_arg1) = m' ((c.tc : Thread Cert.RSgOutIdeal.nD Cert.RSgOutIdeal.τ).loc Cert.RSgOutIdeal.main_arg1)
          ∧ r.2.mem ((c.tc : Thread Cert.RSgOutIdeal.nD Cert.RSgOutIdeal.τ).loc Cert.RSgOutIdeal.main_arg2) = m' ((c.tc : Thread Cert.RSgOutIdeal.nD Cert.RSgOutIdeal.τ).loc Cert.RSgOutIdeal.main_arg2))

def preserves_KMix_KMixIdeal : Prop :=
  True

def algebraic_KMixIdeal_RMixIdeal [hKMixIdeal : Cert.KMixIdeal.Facts] [hRMixIdeal : Cert.RMixIdeal.Facts] : Prop :=
  ∀ (m : (ℓ : Loc Cert.KMixIdeal.nD Cert.KMixIdeal.τ Cert.KMixIdeal.sig) → Buf (Elt Ideal) ℓ) (g : Dev Cert.KMixIdeal.nD → PrngReg)
    (m' : (ℓ : Loc Cert.RMixIdeal.nD Cert.RMixIdeal.τ Cert.RMixIdeal.sig) → Buf (Elt Ideal) ℓ) (g' : Dev Cert.RMixIdeal.nD → PrngReg), Pre_KMixIdeal m →
    (∀ c : Dev Cert.KMixIdeal.nD,
      m' ((c.tc : Thread Cert.RMixIdeal.nD Cert.RMixIdeal.τ).loc Cert.RMixIdeal.main_arg0) = m ((c.tc : Thread Cert.KMixIdeal.nD Cert.KMixIdeal.τ).loc Cert.KMixIdeal.main_arg0)
      ∧ m' ((c.tc : Thread Cert.RMixIdeal.nD Cert.RMixIdeal.τ).loc Cert.RMixIdeal.main_arg1) = m ((c.tc : Thread Cert.KMixIdeal.nD Cert.KMixIdeal.τ).loc Cert.KMixIdeal.main_arg1)
      ∧ m' ((c.tc : Thread Cert.RMixIdeal.nD Cert.RMixIdeal.τ).loc Cert.RMixIdeal.main_arg2) = m ((c.tc : Thread Cert.KMixIdeal.nD Cert.KMixIdeal.τ).loc Cert.KMixIdeal.main_arg2)
      ∧ m' ((c.tc : Thread Cert.RMixIdeal.nD Cert.RMixIdeal.τ).loc Cert.RMixIdeal.main_arg3) = m ((c.tc : Thread Cert.KMixIdeal.nD Cert.KMixIdeal.τ).loc Cert.KMixIdeal.main_arg3)) →
    ∃ (v0 : (c : Dev Cert.KMixIdeal.nD) → Buf (Elt Ideal) ((c.tc : Thread Cert.KMixIdeal.nD Cert.KMixIdeal.τ).loc Cert.KMixIdeal.main_v0)),
      θ_run (Cert.KMixIdeal.defs (F := Ideal)) (onTc (τ := Cert.KMixIdeal.τ) (Cert.KMixIdeal.main (F := Ideal))) ⟨m, fun _ => 0, g⟩ (fun r => ∀ c : Dev Cert.KMixIdeal.nD,
          r.2.mem ((c.tc : Thread Cert.KMixIdeal.nD Cert.KMixIdeal.τ).loc Cert.KMixIdeal.main_v0) = v0 c
          ∧ r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
          ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
          ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2)
          ∧ r.2.mem ((c.tc : Thread Cert.KMixIdeal.nD Cert.KMixIdeal.τ).loc Cert.KMixIdeal.main_arg3) = m ((c.tc : Thread Cert.KMixIdeal.nD Cert.KMixIdeal.τ).loc Cert.KMixIdeal.main_arg3))
      ∧ θ_run (Cert.RMixIdeal.defs (F := Ideal)) (onTc (τ := Cert.RMixIdeal.τ) (Cert.RMixIdeal.main (F := Ideal))) ⟨m', fun _ => 0, g'⟩ (fun r => ∀ c : Dev Cert.RMixIdeal.nD,
          r.2.mem ((c.tc : Thread Cert.RMixIdeal.nD Cert.RMixIdeal.τ).loc Cert.RMixIdeal.main_v5) = v0 c
          ∧ r.2.mem ((c.tc : Thread Cert.RMixIdeal.nD Cert.RMixIdeal.τ).loc Cert.RMixIdeal.main_arg0) = m' ((c.tc : Thread Cert.RMixIdeal.nD Cert.RMixIdeal.τ).loc Cert.RMixIdeal.main_arg0)
          ∧ r.2.mem ((c.tc : Thread Cert.RMixIdeal.nD Cert.RMixIdeal.τ).loc Cert.RMixIdeal.main_arg1) = m' ((c.tc : Thread Cert.RMixIdeal.nD Cert.RMixIdeal.τ).loc Cert.RMixIdeal.main_arg1)
          ∧ r.2.mem ((c.tc : Thread Cert.RMixIdeal.nD Cert.RMixIdeal.τ).loc Cert.RMixIdeal.main_arg2) = m' ((c.tc : Thread Cert.RMixIdeal.nD Cert.RMixIdeal.τ).loc Cert.RMixIdeal.main_arg2)
          ∧ r.2.mem ((c.tc : Thread Cert.RMixIdeal.nD Cert.RMixIdeal.τ).loc Cert.RMixIdeal.main_arg3) = m' ((c.tc : Thread Cert.RMixIdeal.nD Cert.RMixIdeal.τ).loc Cert.RMixIdeal.main_arg3))

def preserves_KPle_KPleIdeal : Prop :=
  True

def algebraic_KPleIdeal_RPleIdeal [hKPleIdeal : Cert.KPleIdeal.Facts] [hRPleIdeal : Cert.RPleIdeal.Facts] : Prop :=
  ∀ (m : (ℓ : Loc Cert.KPleIdeal.nD Cert.KPleIdeal.τ Cert.KPleIdeal.sig) → Buf (Elt Ideal) ℓ) (g : Dev Cert.KPleIdeal.nD → PrngReg)
    (m' : (ℓ : Loc Cert.RPleIdeal.nD Cert.RPleIdeal.τ Cert.RPleIdeal.sig) → Buf (Elt Ideal) ℓ) (g' : Dev Cert.RPleIdeal.nD → PrngReg), Pre_KPleIdeal m →
    (∀ c : Dev Cert.KPleIdeal.nD,
      m' ((c.tc : Thread Cert.RPleIdeal.nD Cert.RPleIdeal.τ).loc Cert.RPleIdeal.main_arg0) = m ((c.tc : Thread Cert.KPleIdeal.nD Cert.KPleIdeal.τ).loc Cert.KPleIdeal.main_arg0)
      ∧ m' ((c.tc : Thread Cert.RPleIdeal.nD Cert.RPleIdeal.τ).loc Cert.RPleIdeal.main_arg1) = m ((c.tc : Thread Cert.KPleIdeal.nD Cert.KPleIdeal.τ).loc Cert.KPleIdeal.main_arg1)
      ∧ m' ((c.tc : Thread Cert.RPleIdeal.nD Cert.RPleIdeal.τ).loc Cert.RPleIdeal.main_arg2) = m ((c.tc : Thread Cert.KPleIdeal.nD Cert.KPleIdeal.τ).loc Cert.KPleIdeal.main_arg2)
      ∧ m' ((c.tc : Thread Cert.RPleIdeal.nD Cert.RPleIdeal.τ).loc Cert.RPleIdeal.main_arg3) = m ((c.tc : Thread Cert.KPleIdeal.nD Cert.KPleIdeal.τ).loc Cert.KPleIdeal.main_arg3)
      ∧ m' ((c.tc : Thread Cert.RPleIdeal.nD Cert.RPleIdeal.τ).loc Cert.RPleIdeal.main_arg4) = m ((c.tc : Thread Cert.KPleIdeal.nD Cert.KPleIdeal.τ).loc Cert.KPleIdeal.main_arg4)) →
    ∃ (v0 : (c : Dev Cert.KPleIdeal.nD) → Buf (Elt Ideal) ((c.tc : Thread Cert.KPleIdeal.nD Cert.KPleIdeal.τ).loc Cert.KPleIdeal.main_v0)),
      θ_run (Cert.KPleIdeal.defs (F := Ideal)) (onTc (τ := Cert.KPleIdeal.τ) (Cert.KPleIdeal.main (F := Ideal))) ⟨m, fun _ => 0, g⟩ (fun r => ∀ c : Dev Cert.KPleIdeal.nD,
          r.2.mem ((c.tc : Thread Cert.KPleIdeal.nD Cert.KPleIdeal.τ).loc Cert.KPleIdeal.main_v0) = v0 c
          ∧ r.2.mem ((c.tc : Thread Cert.KPleIdeal.nD Cert.KPleIdeal.τ).loc Cert.KPleIdeal.main_arg0) = m ((c.tc : Thread Cert.KPleIdeal.nD Cert.KPleIdeal.τ).loc Cert.KPleIdeal.main_arg0)
          ∧ r.2.mem ((c.tc : Thread Cert.KPleIdeal.nD Cert.KPleIdeal.τ).loc Cert.KPleIdeal.main_arg1) = m ((c.tc : Thread Cert.KPleIdeal.nD Cert.KPleIdeal.τ).loc Cert.KPleIdeal.main_arg1)
          ∧ r.2.mem ((c.tc : Thread Cert.KPleIdeal.nD Cert.KPleIdeal.τ).loc Cert.KPleIdeal.main_arg2) = m ((c.tc : Thread Cert.KPleIdeal.nD Cert.KPleIdeal.τ).loc Cert.KPleIdeal.main_arg2)
          ∧ r.2.mem ((c.tc : Thread Cert.KPleIdeal.nD Cert.KPleIdeal.τ).loc Cert.KPleIdeal.main_arg3) = m ((c.tc : Thread Cert.KPleIdeal.nD Cert.KPleIdeal.τ).loc Cert.KPleIdeal.main_arg3)
          ∧ r.2.mem ((c.tc : Thread Cert.KPleIdeal.nD Cert.KPleIdeal.τ).loc Cert.KPleIdeal.main_arg4) = m ((c.tc : Thread Cert.KPleIdeal.nD Cert.KPleIdeal.τ).loc Cert.KPleIdeal.main_arg4))
      ∧ θ_run (Cert.RPleIdeal.defs (F := Ideal)) (onTc (τ := Cert.RPleIdeal.τ) (Cert.RPleIdeal.main (F := Ideal))) ⟨m', fun _ => 0, g'⟩ (fun r => ∀ c : Dev Cert.RPleIdeal.nD,
          r.2.mem ((c.tc : Thread Cert.RPleIdeal.nD Cert.RPleIdeal.τ).loc Cert.RPleIdeal.main_v13) = v0 c
          ∧ r.2.mem ((c.tc : Thread Cert.RPleIdeal.nD Cert.RPleIdeal.τ).loc Cert.RPleIdeal.main_arg0) = m' ((c.tc : Thread Cert.RPleIdeal.nD Cert.RPleIdeal.τ).loc Cert.RPleIdeal.main_arg0)
          ∧ r.2.mem ((c.tc : Thread Cert.RPleIdeal.nD Cert.RPleIdeal.τ).loc Cert.RPleIdeal.main_arg1) = m' ((c.tc : Thread Cert.RPleIdeal.nD Cert.RPleIdeal.τ).loc Cert.RPleIdeal.main_arg1)
          ∧ r.2.mem ((c.tc : Thread Cert.RPleIdeal.nD Cert.RPleIdeal.τ).loc Cert.RPleIdeal.main_arg2) = m' ((c.tc : Thread Cert.RPleIdeal.nD Cert.RPleIdeal.τ).loc Cert.RPleIdeal.main_arg2)
          ∧ r.2.mem ((c.tc : Thread Cert.RPleIdeal.nD Cert.RPleIdeal.τ).loc Cert.RPleIdeal.main_arg3) = m' ((c.tc : Thread Cert.RPleIdeal.nD Cert.RPleIdeal.τ).loc Cert.RPleIdeal.main_arg3)
          ∧ r.2.mem ((c.tc : Thread Cert.RPleIdeal.nD Cert.RPleIdeal.τ).loc Cert.RPleIdeal.main_arg4) = m' ((c.tc : Thread Cert.RPleIdeal.nD Cert.RPleIdeal.τ).loc Cert.RPleIdeal.main_arg4))

def preserves_KExperts_KExpertsIdeal : Prop :=
  True

def algebraic_KExpertsIdeal_RExpertsIdeal [hKExpertsIdeal : Cert.KExpertsIdeal.Facts] [hRExpertsIdeal : Cert.RExpertsIdeal.Facts] [hPre_routed : Cert.Pre_routed.Facts] : Prop :=
  ∀ (m : (ℓ : Loc Cert.KExpertsIdeal.nD Cert.KExpertsIdeal.τ Cert.KExpertsIdeal.sig) → Buf (Elt Ideal) ℓ) (g : Dev Cert.KExpertsIdeal.nD → PrngReg)
    (m' : (ℓ : Loc Cert.RExpertsIdeal.nD Cert.RExpertsIdeal.τ Cert.RExpertsIdeal.sig) → Buf (Elt Ideal) ℓ) (g' : Dev Cert.RExpertsIdeal.nD → PrngReg), Pre_KExpertsIdeal m →
    (∀ c : Dev Cert.KExpertsIdeal.nD,
      m' ((c.tc : Thread Cert.RExpertsIdeal.nD Cert.RExpertsIdeal.τ).loc Cert.RExpertsIdeal.main_arg0) = m ((c.tc : Thread Cert.KExpertsIdeal.nD Cert.KExpertsIdeal.τ).loc Cert.KExpertsIdeal.main_arg0)
      ∧ m' ((c.tc : Thread Cert.RExpertsIdeal.nD Cert.RExpertsIdeal.τ).loc Cert.RExpertsIdeal.main_arg1) = m ((c.tc : Thread Cert.KExpertsIdeal.nD Cert.KExpertsIdeal.τ).loc Cert.KExpertsIdeal.main_arg1)
      ∧ m' ((c.tc : Thread Cert.RExpertsIdeal.nD Cert.RExpertsIdeal.τ).loc Cert.RExpertsIdeal.main_arg2) = m ((c.tc : Thread Cert.KExpertsIdeal.nD Cert.KExpertsIdeal.τ).loc Cert.KExpertsIdeal.main_arg2)
      ∧ m' ((c.tc : Thread Cert.RExpertsIdeal.nD Cert.RExpertsIdeal.τ).loc Cert.RExpertsIdeal.main_arg3) = m ((c.tc : Thread Cert.KExpertsIdeal.nD Cert.KExpertsIdeal.τ).loc Cert.KExpertsIdeal.main_arg3)) →
    ∃ (v0 : (c : Dev Cert.KExpertsIdeal.nD) → Buf (Elt Ideal) ((c.tc : Thread Cert.KExpertsIdeal.nD Cert.KExpertsIdeal.τ).loc Cert.KExpertsIdeal.main_v0)),
      θ_run (Cert.KExpertsIdeal.defs (F := Ideal)) (onTc (τ := Cert.KExpertsIdeal.τ) (Cert.KExpertsIdeal.main (F := Ideal))) ⟨m, fun _ => 0, g⟩ (fun r => ∀ c : Dev Cert.KExpertsIdeal.nD,
          r.2.mem ((c.tc : Thread Cert.KExpertsIdeal.nD Cert.KExpertsIdeal.τ).loc Cert.KExpertsIdeal.main_v0) = v0 c
          ∧ r.2.mem ((c.tc : Thread Cert.KExpertsIdeal.nD Cert.KExpertsIdeal.τ).loc Cert.KExpertsIdeal.main_arg0) = m ((c.tc : Thread Cert.KExpertsIdeal.nD Cert.KExpertsIdeal.τ).loc Cert.KExpertsIdeal.main_arg0)
          ∧ r.2.mem ((c.tc : Thread Cert.KExpertsIdeal.nD Cert.KExpertsIdeal.τ).loc Cert.KExpertsIdeal.main_arg1) = m ((c.tc : Thread Cert.KExpertsIdeal.nD Cert.KExpertsIdeal.τ).loc Cert.KExpertsIdeal.main_arg1)
          ∧ r.2.mem ((c.tc : Thread Cert.KExpertsIdeal.nD Cert.KExpertsIdeal.τ).loc Cert.KExpertsIdeal.main_arg2) = m ((c.tc : Thread Cert.KExpertsIdeal.nD Cert.KExpertsIdeal.τ).loc Cert.KExpertsIdeal.main_arg2)
          ∧ r.2.mem ((c.tc : Thread Cert.KExpertsIdeal.nD Cert.KExpertsIdeal.τ).loc Cert.KExpertsIdeal.main_arg3) = m ((c.tc : Thread Cert.KExpertsIdeal.nD Cert.KExpertsIdeal.τ).loc Cert.KExpertsIdeal.main_arg3))
      ∧ θ_run (Cert.RExpertsIdeal.defs (F := Ideal)) (onTc (τ := Cert.RExpertsIdeal.τ) (Cert.RExpertsIdeal.main (F := Ideal))) ⟨m', fun _ => 0, g'⟩ (fun r => ∀ c : Dev Cert.RExpertsIdeal.nD,
          r.2.mem ((c.tc : Thread Cert.RExpertsIdeal.nD Cert.RExpertsIdeal.τ).loc Cert.RExpertsIdeal.main_v78) = v0 c
          ∧ r.2.mem ((c.tc : Thread Cert.RExpertsIdeal.nD Cert.RExpertsIdeal.τ).loc Cert.RExpertsIdeal.main_arg0) = m' ((c.tc : Thread Cert.RExpertsIdeal.nD Cert.RExpertsIdeal.τ).loc Cert.RExpertsIdeal.main_arg0)
          ∧ r.2.mem ((c.tc : Thread Cert.RExpertsIdeal.nD Cert.RExpertsIdeal.τ).loc Cert.RExpertsIdeal.main_arg1) = m' ((c.tc : Thread Cert.RExpertsIdeal.nD Cert.RExpertsIdeal.τ).loc Cert.RExpertsIdeal.main_arg1)
          ∧ r.2.mem ((c.tc : Thread Cert.RExpertsIdeal.nD Cert.RExpertsIdeal.τ).loc Cert.RExpertsIdeal.main_arg2) = m' ((c.tc : Thread Cert.RExpertsIdeal.nD Cert.RExpertsIdeal.τ).loc Cert.RExpertsIdeal.main_arg2)
          ∧ r.2.mem ((c.tc : Thread Cert.RExpertsIdeal.nD Cert.RExpertsIdeal.τ).loc Cert.RExpertsIdeal.main_arg3) = m' ((c.tc : Thread Cert.RExpertsIdeal.nD Cert.RExpertsIdeal.τ).loc Cert.RExpertsIdeal.main_arg3))

def preserves_KQn_KQnIdeal : Prop :=
  True

def algebraic_KQnIdeal_RQnIdeal [hKQnIdeal : Cert.KQnIdeal.Facts] [hRQnIdeal : Cert.RQnIdeal.Facts] : Prop :=
  ∀ (m : (ℓ : Loc Cert.KQnIdeal.nD Cert.KQnIdeal.τ Cert.KQnIdeal.sig) → Buf (Elt Ideal) ℓ) (g : Dev Cert.KQnIdeal.nD → PrngReg)
    (m' : (ℓ : Loc Cert.RQnIdeal.nD Cert.RQnIdeal.τ Cert.RQnIdeal.sig) → Buf (Elt Ideal) ℓ) (g' : Dev Cert.RQnIdeal.nD → PrngReg), Pre_KQnIdeal m →
    (∀ c : Dev Cert.KQnIdeal.nD,
      m' ((c.tc : Thread Cert.RQnIdeal.nD Cert.RQnIdeal.τ).loc Cert.RQnIdeal.main_arg0) = m ((c.tc : Thread Cert.KQnIdeal.nD Cert.KQnIdeal.τ).loc Cert.KQnIdeal.main_arg0)
      ∧ m' ((c.tc : Thread Cert.RQnIdeal.nD Cert.RQnIdeal.τ).loc Cert.RQnIdeal.main_arg1) = m ((c.tc : Thread Cert.KQnIdeal.nD Cert.KQnIdeal.τ).loc Cert.KQnIdeal.main_arg1)) →
    ∃ (v0 : (c : Dev Cert.KQnIdeal.nD) → Buf (Elt Ideal) ((c.tc : Thread Cert.KQnIdeal.nD Cert.KQnIdeal.τ).loc Cert.KQnIdeal.main_v0)),
      θ_run (Cert.KQnIdeal.defs (F := Ideal)) (onTc (τ := Cert.KQnIdeal.τ) (Cert.KQnIdeal.main (F := Ideal))) ⟨m, fun _ => 0, g⟩ (fun r => ∀ c : Dev Cert.KQnIdeal.nD,
          r.2.mem ((c.tc : Thread Cert.KQnIdeal.nD Cert.KQnIdeal.τ).loc Cert.KQnIdeal.main_v0) = v0 c
          ∧ r.2.mem ((c.tc : Thread Cert.KQnIdeal.nD Cert.KQnIdeal.τ).loc Cert.KQnIdeal.main_arg0) = m ((c.tc : Thread Cert.KQnIdeal.nD Cert.KQnIdeal.τ).loc Cert.KQnIdeal.main_arg0)
          ∧ r.2.mem ((c.tc : Thread Cert.KQnIdeal.nD Cert.KQnIdeal.τ).loc Cert.KQnIdeal.main_arg1) = m ((c.tc : Thread Cert.KQnIdeal.nD Cert.KQnIdeal.τ).loc Cert.KQnIdeal.main_arg1))
      ∧ θ_run (Cert.RQnIdeal.defs (F := Ideal)) (onTc (τ := Cert.RQnIdeal.τ) (Cert.RQnIdeal.main (F := Ideal))) ⟨m', fun _ => 0, g'⟩ (fun r => ∀ c : Dev Cert.RQnIdeal.nD,
          r.2.mem ((c.tc : Thread Cert.RQnIdeal.nD Cert.RQnIdeal.τ).loc Cert.RQnIdeal.main_v5) = v0 c
          ∧ r.2.mem ((c.tc : Thread Cert.RQnIdeal.nD Cert.RQnIdeal.τ).loc Cert.RQnIdeal.main_arg0) = m' ((c.tc : Thread Cert.RQnIdeal.nD Cert.RQnIdeal.τ).loc Cert.RQnIdeal.main_arg0)
          ∧ r.2.mem ((c.tc : Thread Cert.RQnIdeal.nD Cert.RQnIdeal.τ).loc Cert.RQnIdeal.main_arg1) = m' ((c.tc : Thread Cert.RQnIdeal.nD Cert.RQnIdeal.τ).loc Cert.RQnIdeal.main_arg1))

def preserves_KKv_KKvIdeal : Prop :=
  True

def algebraic_KKvIdeal_RKvIdeal [hKKvIdeal : Cert.KKvIdeal.Facts] [hRKvIdeal : Cert.RKvIdeal.Facts] : Prop :=
  ∀ (m : (ℓ : Loc Cert.KKvIdeal.nD Cert.KKvIdeal.τ Cert.KKvIdeal.sig) → Buf (Elt Ideal) ℓ) (g : Dev Cert.KKvIdeal.nD → PrngReg)
    (m' : (ℓ : Loc Cert.RKvIdeal.nD Cert.RKvIdeal.τ Cert.RKvIdeal.sig) → Buf (Elt Ideal) ℓ) (g' : Dev Cert.RKvIdeal.nD → PrngReg), Pre_KKvIdeal m →
    (∀ c : Dev Cert.KKvIdeal.nD,
      m' ((c.tc : Thread Cert.RKvIdeal.nD Cert.RKvIdeal.τ).loc Cert.RKvIdeal.main_arg0) = m ((c.tc : Thread Cert.KKvIdeal.nD Cert.KKvIdeal.τ).loc Cert.KKvIdeal.main_arg0)
      ∧ m' ((c.tc : Thread Cert.RKvIdeal.nD Cert.RKvIdeal.τ).loc Cert.RKvIdeal.main_arg1) = m ((c.tc : Thread Cert.KKvIdeal.nD Cert.KKvIdeal.τ).loc Cert.KKvIdeal.main_arg1)) →
    ∃ (v0 : (c : Dev Cert.KKvIdeal.nD) → Buf (Elt Ideal) ((c.tc : Thread Cert.KKvIdeal.nD Cert.KKvIdeal.τ).loc Cert.KKvIdeal.main_v0)),
      θ_run (Cert.KKvIdeal.defs (F := Ideal)) (onTc (τ := Cert.KKvIdeal.τ) (Cert.KKvIdeal.main (F := Ideal))) ⟨m, fun _ => 0, g⟩ (fun r => ∀ c : Dev Cert.KKvIdeal.nD,
          r.2.mem ((c.tc : Thread Cert.KKvIdeal.nD Cert.KKvIdeal.τ).loc Cert.KKvIdeal.main_v0) = v0 c
          ∧ r.2.mem ((c.tc : Thread Cert.KKvIdeal.nD Cert.KKvIdeal.τ).loc Cert.KKvIdeal.main_arg0) = m ((c.tc : Thread Cert.KKvIdeal.nD Cert.KKvIdeal.τ).loc Cert.KKvIdeal.main_arg0)
          ∧ r.2.mem ((c.tc : Thread Cert.KKvIdeal.nD Cert.KKvIdeal.τ).loc Cert.KKvIdeal.main_arg1) = m ((c.tc : Thread Cert.KKvIdeal.nD Cert.KKvIdeal.τ).loc Cert.KKvIdeal.main_arg1))
      ∧ θ_run (Cert.RKvIdeal.defs (F := Ideal)) (onTc (τ := Cert.RKvIdeal.τ) (Cert.RKvIdeal.main (F := Ideal))) ⟨m', fun _ => 0, g'⟩ (fun r => ∀ c : Dev Cert.RKvIdeal.nD,
          r.2.mem ((c.tc : Thread Cert.RKvIdeal.nD Cert.RKvIdeal.τ).loc Cert.RKvIdeal.main_v3) = v0 c
          ∧ r.2.mem ((c.tc : Thread Cert.RKvIdeal.nD Cert.RKvIdeal.τ).loc Cert.RKvIdeal.main_arg0) = m' ((c.tc : Thread Cert.RKvIdeal.nD Cert.RKvIdeal.τ).loc Cert.RKvIdeal.main_arg0)
          ∧ r.2.mem ((c.tc : Thread Cert.RKvIdeal.nD Cert.RKvIdeal.τ).loc Cert.RKvIdeal.main_arg1) = m' ((c.tc : Thread Cert.RKvIdeal.nD Cert.RKvIdeal.τ).loc Cert.RKvIdeal.main_arg1))

def preserves_KSpatial_KSpatialIdeal : Prop :=
  True

def algebraic_KSpatialIdeal_RSpatialIdeal [hKSpatialIdeal : Cert.KSpatialIdeal.Facts] [hRSpatialIdeal : Cert.RSpatialIdeal.Facts] : Prop :=
  ∀ (m : (ℓ : Loc Cert.KSpatialIdeal.nD Cert.KSpatialIdeal.τ Cert.KSpatialIdeal.sig) → Buf (Elt Ideal) ℓ) (g : Dev Cert.KSpatialIdeal.nD → PrngReg)
    (m' : (ℓ : Loc Cert.RSpatialIdeal.nD Cert.RSpatialIdeal.τ Cert.RSpatialIdeal.sig) → Buf (Elt Ideal) ℓ) (g' : Dev Cert.RSpatialIdeal.nD → PrngReg), Pre_KSpatialIdeal m →
    (∀ c : Dev Cert.KSpatialIdeal.nD,
      m' ((c.tc : Thread Cert.RSpatialIdeal.nD Cert.RSpatialIdeal.τ).loc Cert.RSpatialIdeal.main_arg0) = m ((c.tc : Thread Cert.KSpatialIdeal.nD Cert.KSpatialIdeal.τ).loc Cert.KSpatialIdeal.main_arg0)
      ∧ m' ((c.tc : Thread Cert.RSpatialIdeal.nD Cert.RSpatialIdeal.τ).loc Cert.RSpatialIdeal.main_arg1) = m ((c.tc : Thread Cert.KSpatialIdeal.nD Cert.KSpatialIdeal.τ).loc Cert.KSpatialIdeal.main_arg1)
      ∧ m' ((c.tc : Thread Cert.RSpatialIdeal.nD Cert.RSpatialIdeal.τ).loc Cert.RSpatialIdeal.main_arg2) = m ((c.tc : Thread Cert.KSpatialIdeal.nD Cert.KSpatialIdeal.τ).loc Cert.KSpatialIdeal.main_arg2)
      ∧ m' ((c.tc : Thread Cert.RSpatialIdeal.nD Cert.RSpatialIdeal.τ).loc Cert.RSpatialIdeal.main_arg3) = m ((c.tc : Thread Cert.KSpatialIdeal.nD Cert.KSpatialIdeal.τ).loc Cert.KSpatialIdeal.main_arg3)) →
    ∃ (v0 : (c : Dev Cert.KSpatialIdeal.nD) → Buf (Elt Ideal) ((c.tc : Thread Cert.KSpatialIdeal.nD Cert.KSpatialIdeal.τ).loc Cert.KSpatialIdeal.main_v0)),
      θ_run (Cert.KSpatialIdeal.defs (F := Ideal)) (onTc (τ := Cert.KSpatialIdeal.τ) (Cert.KSpatialIdeal.main (F := Ideal))) ⟨m, fun _ => 0, g⟩ (fun r => ∀ c : Dev Cert.KSpatialIdeal.nD,
          r.2.mem ((c.tc : Thread Cert.KSpatialIdeal.nD Cert.KSpatialIdeal.τ).loc Cert.KSpatialIdeal.main_v0) = v0 c
          ∧ r.2.mem ((c.tc : Thread Cert.KSpatialIdeal.nD Cert.KSpatialIdeal.τ).loc Cert.KSpatialIdeal.main_arg0) = m ((c.tc : Thread Cert.KSpatialIdeal.nD Cert.KSpatialIdeal.τ).loc Cert.KSpatialIdeal.main_arg0)
          ∧ r.2.mem ((c.tc : Thread Cert.KSpatialIdeal.nD Cert.KSpatialIdeal.τ).loc Cert.KSpatialIdeal.main_arg1) = m ((c.tc : Thread Cert.KSpatialIdeal.nD Cert.KSpatialIdeal.τ).loc Cert.KSpatialIdeal.main_arg1)
          ∧ r.2.mem ((c.tc : Thread Cert.KSpatialIdeal.nD Cert.KSpatialIdeal.τ).loc Cert.KSpatialIdeal.main_arg2) = m ((c.tc : Thread Cert.KSpatialIdeal.nD Cert.KSpatialIdeal.τ).loc Cert.KSpatialIdeal.main_arg2)
          ∧ r.2.mem ((c.tc : Thread Cert.KSpatialIdeal.nD Cert.KSpatialIdeal.τ).loc Cert.KSpatialIdeal.main_arg3) = m ((c.tc : Thread Cert.KSpatialIdeal.nD Cert.KSpatialIdeal.τ).loc Cert.KSpatialIdeal.main_arg3))
      ∧ θ_run (Cert.RSpatialIdeal.defs (F := Ideal)) (onTc (τ := Cert.RSpatialIdeal.τ) (Cert.RSpatialIdeal.main (F := Ideal))) ⟨m', fun _ => 0, g'⟩ (fun r => ∀ c : Dev Cert.RSpatialIdeal.nD,
          r.2.mem ((c.tc : Thread Cert.RSpatialIdeal.nD Cert.RSpatialIdeal.τ).loc Cert.RSpatialIdeal.main_v19) = v0 c
          ∧ r.2.mem ((c.tc : Thread Cert.RSpatialIdeal.nD Cert.RSpatialIdeal.τ).loc Cert.RSpatialIdeal.main_arg0) = m' ((c.tc : Thread Cert.RSpatialIdeal.nD Cert.RSpatialIdeal.τ).loc Cert.RSpatialIdeal.main_arg0)
          ∧ r.2.mem ((c.tc : Thread Cert.RSpatialIdeal.nD Cert.RSpatialIdeal.τ).loc Cert.RSpatialIdeal.main_arg1) = m' ((c.tc : Thread Cert.RSpatialIdeal.nD Cert.RSpatialIdeal.τ).loc Cert.RSpatialIdeal.main_arg1)
          ∧ r.2.mem ((c.tc : Thread Cert.RSpatialIdeal.nD Cert.RSpatialIdeal.τ).loc Cert.RSpatialIdeal.main_arg2) = m' ((c.tc : Thread Cert.RSpatialIdeal.nD Cert.RSpatialIdeal.τ).loc Cert.RSpatialIdeal.main_arg2)
          ∧ r.2.mem ((c.tc : Thread Cert.RSpatialIdeal.nD Cert.RSpatialIdeal.τ).loc Cert.RSpatialIdeal.main_arg3) = m' ((c.tc : Thread Cert.RSpatialIdeal.nD Cert.RSpatialIdeal.τ).loc Cert.RSpatialIdeal.main_arg3))

def Claim : Prop :=
  ∃ (hKernel : Cert.Kernel.Facts) (hKernelIdeal : Cert.KernelIdeal.Facts) (hReferenceIdeal : Cert.ReferenceIdeal.Facts) (hKUp : Cert.KUp.Facts) (hKUpIdeal : Cert.KUpIdeal.Facts) (hRUpIdeal : Cert.RUpIdeal.Facts) (hKDown : Cert.KDown.Facts) (hKDownIdeal : Cert.KDownIdeal.Facts) (hRDownIdeal : Cert.RDownIdeal.Facts) (hKIn : Cert.KIn.Facts) (hKInIdeal : Cert.KInIdeal.Facts) (hRInIdeal : Cert.RInIdeal.Facts) (hKSgIn : Cert.KSgIn.Facts) (hKSgInIdeal : Cert.KSgInIdeal.Facts) (hRSgInIdeal : Cert.RSgInIdeal.Facts) (hKSgOut : Cert.KSgOut.Facts) (hKSgOutIdeal : Cert.KSgOutIdeal.Facts) (hRSgOutIdeal : Cert.RSgOutIdeal.Facts) (hKMix : Cert.KMix.Facts) (hKMixIdeal : Cert.KMixIdeal.Facts) (hRMixIdeal : Cert.RMixIdeal.Facts) (hKPle : Cert.KPle.Facts) (hKPleIdeal : Cert.KPleIdeal.Facts) (hRPleIdeal : Cert.RPleIdeal.Facts) (hKExperts : Cert.KExperts.Facts) (hKExpertsIdeal : Cert.KExpertsIdeal.Facts) (hRExpertsIdeal : Cert.RExpertsIdeal.Facts) (hKQn : Cert.KQn.Facts) (hKQnIdeal : Cert.KQnIdeal.Facts) (hRQnIdeal : Cert.RQnIdeal.Facts) (hKKv : Cert.KKv.Facts) (hKKvIdeal : Cert.KKvIdeal.Facts) (hRKvIdeal : Cert.RKvIdeal.Facts) (hKSpatial : Cert.KSpatial.Facts) (hKSpatialIdeal : Cert.KSpatialIdeal.Facts) (hRSpatialIdeal : Cert.RSpatialIdeal.Facts) (hPre_finite_scores : Cert.Pre_finite_scores.Facts) (hPre_routed : Cert.Pre_routed.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KUp (hKUp := hKUp)
    ∧ quiescent_KUpIdeal (hKUpIdeal := hKUpIdeal)
    ∧ quiescent_RUpIdeal (hRUpIdeal := hRUpIdeal)
    ∧ quiescent_KDown (hKDown := hKDown)
    ∧ quiescent_KDownIdeal (hKDownIdeal := hKDownIdeal)
    ∧ quiescent_RDownIdeal (hRDownIdeal := hRDownIdeal)
    ∧ quiescent_KIn (hKIn := hKIn)
    ∧ quiescent_KInIdeal (hKInIdeal := hKInIdeal)
    ∧ quiescent_RInIdeal (hRInIdeal := hRInIdeal)
    ∧ quiescent_KSgIn (hKSgIn := hKSgIn)
    ∧ quiescent_KSgInIdeal (hKSgInIdeal := hKSgInIdeal)
    ∧ quiescent_RSgInIdeal (hRSgInIdeal := hRSgInIdeal)
    ∧ quiescent_KSgOut (hKSgOut := hKSgOut)
    ∧ quiescent_KSgOutIdeal (hKSgOutIdeal := hKSgOutIdeal)
    ∧ quiescent_RSgOutIdeal (hRSgOutIdeal := hRSgOutIdeal)
    ∧ quiescent_KMix (hKMix := hKMix)
    ∧ quiescent_KMixIdeal (hKMixIdeal := hKMixIdeal)
    ∧ quiescent_RMixIdeal (hRMixIdeal := hRMixIdeal)
    ∧ quiescent_KPle (hKPle := hKPle)
    ∧ quiescent_KPleIdeal (hKPleIdeal := hKPleIdeal)
    ∧ quiescent_RPleIdeal (hRPleIdeal := hRPleIdeal)
    ∧ quiescent_KExperts (hKExperts := hKExperts) (hPre_routed := hPre_routed)
    ∧ quiescent_KExpertsIdeal (hKExpertsIdeal := hKExpertsIdeal) (hPre_routed := hPre_routed)
    ∧ quiescent_RExpertsIdeal (hRExpertsIdeal := hRExpertsIdeal)
    ∧ quiescent_RExpertsIdeal_pre_routed (hRExpertsIdeal := hRExpertsIdeal) (hPre_routed := hPre_routed)
    ∧ quiescent_KQn (hKQn := hKQn)
    ∧ quiescent_KQnIdeal (hKQnIdeal := hKQnIdeal)
    ∧ quiescent_RQnIdeal (hRQnIdeal := hRQnIdeal)
    ∧ quiescent_KKv (hKKv := hKKv)
    ∧ quiescent_KKvIdeal (hKKvIdeal := hKKvIdeal)
    ∧ quiescent_RKvIdeal (hRKvIdeal := hRKvIdeal)
    ∧ quiescent_KSpatial (hKSpatial := hKSpatial)
    ∧ quiescent_KSpatialIdeal (hKSpatialIdeal := hKSpatialIdeal)
    ∧ quiescent_RSpatialIdeal (hRSpatialIdeal := hRSpatialIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KUp_KUpIdeal
    ∧ algebraic_KUpIdeal_RUpIdeal (hKUpIdeal := hKUpIdeal) (hRUpIdeal := hRUpIdeal)
    ∧ preserves_KDown_KDownIdeal
    ∧ algebraic_KDownIdeal_RDownIdeal (hKDownIdeal := hKDownIdeal) (hRDownIdeal := hRDownIdeal)
    ∧ preserves_KIn_KInIdeal
    ∧ algebraic_KInIdeal_RInIdeal (hKInIdeal := hKInIdeal) (hRInIdeal := hRInIdeal)
    ∧ preserves_KSgIn_KSgInIdeal
    ∧ algebraic_KSgInIdeal_RSgInIdeal (hKSgInIdeal := hKSgInIdeal) (hRSgInIdeal := hRSgInIdeal)
    ∧ preserves_KSgOut_KSgOutIdeal
    ∧ algebraic_KSgOutIdeal_RSgOutIdeal (hKSgOutIdeal := hKSgOutIdeal) (hRSgOutIdeal := hRSgOutIdeal)
    ∧ preserves_KMix_KMixIdeal
    ∧ algebraic_KMixIdeal_RMixIdeal (hKMixIdeal := hKMixIdeal) (hRMixIdeal := hRMixIdeal)
    ∧ preserves_KPle_KPleIdeal
    ∧ algebraic_KPleIdeal_RPleIdeal (hKPleIdeal := hKPleIdeal) (hRPleIdeal := hRPleIdeal)
    ∧ preserves_KExperts_KExpertsIdeal
    ∧ algebraic_KExpertsIdeal_RExpertsIdeal (hKExpertsIdeal := hKExpertsIdeal) (hRExpertsIdeal := hRExpertsIdeal) (hPre_routed := hPre_routed)
    ∧ preserves_KQn_KQnIdeal
    ∧ algebraic_KQnIdeal_RQnIdeal (hKQnIdeal := hKQnIdeal) (hRQnIdeal := hRQnIdeal)
    ∧ preserves_KKv_KKvIdeal
    ∧ algebraic_KKvIdeal_RKvIdeal (hKKvIdeal := hKKvIdeal) (hRKvIdeal := hRKvIdeal)
    ∧ preserves_KSpatial_KSpatialIdeal
    ∧ algebraic_KSpatialIdeal_RSpatialIdeal (hKSpatialIdeal := hKSpatialIdeal) (hRSpatialIdeal := hRSpatialIdeal)
-- ==== Pre_finite_scores.lean ====
abbrev S16384x2048 : Shape := ⟨2, ![16384, 2048]⟩
abbrev S16384x4096 : Shape := ⟨2, ![16384, 4096]⟩
abbrev S16384x128 : Shape := ⟨2, ![16384, 128]⟩
abbrev S_ : Shape := ⟨0, ![]⟩

class Facts : Prop where
  slices_S16384x4096_S16384x2048_0_0 : S16384x4096.Slices ![0, 0] S16384x2048
  bitsLt_bf16_f32 : FTy.bits .bf16 < FTy.bits .f32
  bcast_S_S16384x2048 : S_.BroadcastsInDim S16384x2048 (![] : Fin 0 → Fin S16384x2048.rank)
  bcast_S_S16384x128 : S_.BroadcastsInDim S16384x128 (![] : Fin 0 → Fin S16384x128.rank)

variable [Facts]

def fn {F : FTy → Type} [FloatOps F] (main_arg0 : FVec F S16384x2048 .bf16) (main_arg1 : FVec F S16384x2048 .bf16) (main_arg2 : FVec F S16384x4096 .bf16) (main_arg3 : FVec F S16384x128 .bf16) : IVec S16384x2048 1 × IVec S16384x2048 1 × IVec S16384x2048 1 × IVec S16384x128 1 :=
  let main_v0 : FVec F S16384x2048 .bf16 := (extractStridedSlice S16384x2048 ![0, 0] · slices_S16384x4096_S16384x2048_0_0) main_arg2
  let main_v1 : FVec F S16384x2048 .f32 := (extf .f32 · bitsLt_bf16_f32) main_arg0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_v5 : FVec F S16384x2048 .f32 := (extf .f32 · bitsLt_bf16_f32) main_arg1
  let main_v6 : FVec F S16384x2048 .f32 := Host.absf main_v5
  let main_cst_0 : FVec F S_ .f32 := constant S_ .f32 0x7F800000#32
  let main_v7 : FVec F S16384x2048 .f32 := broadcastInDim S16384x2048 ![] bcast_S_S16384x2048 main_cst_0
  let main_v8 : IVec S16384x2048 1 := cmpf .olt main_v6 main_v7
  let main_v9 : FVec F S16384x2048 .f32 := (extf .f32 · bitsLt_bf16_f32) main_v0
  let main_v10 : FVec F S16384x2048 .f32 := Host.absf main_v9
  let main_cst_1 : FVec F S_ .f32 := constant S_ .f32 0x7F800000#32
  let main_v11 : FVec F S16384x2048 .f32 := broadcastInDim S16384x2048 ![] bcast_S_S16384x2048 main_cst_1
  let main_v12 : IVec S16384x2048 1 := cmpf .olt main_v10 main_v11
  let main_v13 : FVec F S16384x128 .f32 := (extf .f32 · bitsLt_bf16_f32) main_arg3
  let main_v14 : FVec F S16384x128 .f32 := Host.absf main_v13
  let main_cst_2 : FVec F S_ .f32 := constant S_ .f32 0x7F800000#32
  let main_v15 : FVec F S16384x128 .f32 := broadcastInDim S16384x128 ![] bcast_S_S16384x128 main_cst_2
  let main_v16 : IVec S16384x128 1 := cmpf .olt main_v14 main_v15
  (main_v4, main_v8, main_v12, main_v16)
-- ==== Pre_routed.lean ====
abbrev S72 : Shape := ⟨1, ![72]⟩
abbrev S36864x1536 : Shape := ⟨2, ![36864, 1536]⟩
abbrev S8x1536x4096 : Shape := ⟨3, ![8, 1536, 4096]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S72 32) (main_arg2 : FVec F S36864x1536 .bf16) (main_arg3 : FVec F S8x1536x4096 .bf16) : IVec S72 1 × IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 32 := constantI S_ 32 0#32
  let main_v5 : IVec S72 32 := broadcastInDim S72 ![] bcast_S_S72 main_c_1
  let main_v6 : IVec S72 1 := cmpi .sge main_arg1 main_v5
  let main_c_2 : IVec S_ 32 := constantI S_ 32 1#32
  let main_v7 : IVec S72 32 := broadcastInDim S72 ![] bcast_S_S72 main_c_2
  let main_v8 : IVec S72 1 := cmpi .sle main_arg1 main_v7
  let main_v9 : IVec S72 1 := andi main_v6 main_v8
  (main_v4, main_v9)
-- ==== Kernel.lean ====
abbrev S16384x2048 : Shape := ⟨2, ![16384, 2048]⟩
abbrev S16384x4096 : Shape := ⟨2, ![16384, 4096]⟩
abbrev S16384x128 : Shape := ⟨2, ![16384, 128]⟩
abbrev S1024x128 : Shape := ⟨2, ![1024, 128]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x4096, .bf16⟩
  | .hbm, ⟨3, _⟩ => ⟨S16384x128, .bf16⟩
  | .hbm, ⟨4, _⟩ => ⟨S16384x2048, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S16384x128, .bf16⟩
  | .local _ .vmem, ⟨9, _⟩ => ⟨S1024x128, .bf16⟩
  | .local _ .vmem, ⟨10, _⟩ => ⟨S1024x128, .bf16⟩
  | .local _ .vmem, ⟨11, _⟩ => ⟨S1024x256, .bf16⟩
  | .local _ .vmem, ⟨12, _⟩ => ⟨S1024x128, .f32⟩
  | .local _ .vmem, ⟨13, _⟩ => ⟨S1024x256, .f32⟩
  | .local _ .vmem, ⟨14, _⟩ => ⟨S1024x1024, .f32⟩
  | .local _ .vmem, ⟨15, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 16], ![false, false]⟩

def k0_mult1 : BitVec 32 :=
  let c0_i32 : BitVec 32 := 0#32
  c0_i32
@[reducible] def k0_t1_loop (i : grid0.Coords) : Scf.Loop 32 :=
  let c0_i32_24 : BitVec 32 := 0#32
  let arg1 : BitVec 32 := BitVec.ofNat 32 (i 1).val
  let c0_i32_18 : BitVec 32 := 0#32
  let v27 : BitVec 1 := Scalar.cmpi .sgt arg1 c0_i32_18
  let v28 : BitVec 32 := Scalar.extui v27
  let c0_i32_19 : BitVec 32 := 0#32
  let v29 : BitVec 1 := Scalar.cmpi .slt arg1 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi arg1 c2_i32
  let c0_i32_22 : BitVec 32 := 0#32
  let v39 : BitVec 1 := Scalar.cmpi .ne v38 c0_i32_22
  let v40 : BitVec 1 := Scalar.andi v37 v39
  let v26 : BitVec 32 := Scalar.divsi arg1 c2_i32
  let c1_i32 : BitVec 32 := 1#32
  let v41 : BitVec 32 := Scalar.subi v26 c1_i32
  let v42 : BitVec 32 := Scalar.select v40 v41 v26
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_26 : BitVec 32 := 1#32
  ⟨c0_i32_24, v47, c1_i32_26⟩
def k0_mult2 (i : grid0.Coords) (k0_t1 : Fin (k0_t1_loop i).trips) : BitVec 32 :=
  let c2_i32_49 : BitVec 32 := 2#32
  let c0_i32_24 : BitVec 32 := 0#32
  let c1_i32_26 : BitVec 32 := 1#32
  let arg13 : BitVec 32 := Scf.iv c0_i32_24 c1_i32_26 k0_t1
  let v79 : BitVec 32 := Scalar.muli c2_i32_49 arg13
  let c1_i32_50 : BitVec 32 := 1#32
  let v80 : BitVec 32 := Scalar.addi v79 c1_i32_50
  let c1024_i32 : BitVec 32 := 1024#32
  let v81 : BitVec 32 := Scalar.muli v80 c1024_i32
  v81
def k0_off1 (i : grid0.Coords) (k0_t1 : Fin (k0_t1_loop i).trips) : Fin 2 → Nat :=
  let c2_i32_49 : BitVec 32 := 2#32
  let c0_i32_24 : BitVec 32 := 0#32
  let c1_i32_26 : BitVec 32 := 1#32
  let arg13 : BitVec 32 := Scf.iv c0_i32_24 c1_i32_26 k0_t1
  let v79 : BitVec 32 := Scalar.muli c2_i32_49 arg13
  let c1_i32_50 : BitVec 32 := 1#32
  let v80 : BitVec 32 := Scalar.addi v79 c1_i32_50
  let c1024_i32 : BitVec 32 := 1024#32
  let v81 : BitVec 32 := Scalar.muli v80 c1024_i32
  let v82 : BitVec 32 := v81
  let v83 : Index := Scalar.indexCast v82
  let c0_51 : Index := 0#32
  ![v83.toNat, 0]
def k0_mult3 (i : grid0.Coords) (k0_t1 : Fin (k0_t1_loop i).trips) : BitVec 32 :=
  let c2_i32_49 : BitVec 32 := 2#32
  let c0_i32_24 : BitVec 32 := 0#32
  let c1_i32_26 : BitVec 32 := 1#32
  let arg13 : BitVec 32 := Scf.iv c0_i32_24 c1_i32_26 k0_t1
  let v79 : BitVec 32 := Scalar.muli c2_i32_49 arg13
  let c1024_i32_58 : BitVec 32 := 1024#32
  let v93 : BitVec 32 := Scalar.muli v79 c1024_i32_58
  v93
def k0_off2 (i : grid0.Coords) (k0_t1 : Fin (k0_t1_loop i).trips) : Fin 2 → Nat :=
  let c2_i32_49 : BitVec 32 := 2#32
  let c0_i32_24 : BitVec 32 := 0#32
  let c1_i32_26 : BitVec 32 := 1#32
  let arg13 : BitVec 32 := Scf.iv c0_i32_24 c1_i32_26 k0_t1
  let v79 : BitVec 32 := Scalar.muli c2_i32_49 arg13
  let c1024_i32_58 : BitVec 32 := 1024#32
  let v93 : BitVec 32 := Scalar.muli v79 c1024_i32_58
  let v94 : BitVec 32 := v93
  let v95 : Index := Scalar.indexCast v94
  let c0_59 : Index := 0#32
  ![v95.toNat, 0]
def k0_mult4 (i : grid0.Coords) (k0_t1 : Fin (k0_t1_loop i).trips) : BitVec 32 :=
  let c2_i32_80 : BitVec 32 := 2#32
  let c0_i32_24 : BitVec 32 := 0#32
  let c1_i32_26 : BitVec 32 := 1#32
  let arg13 : BitVec 32 := Scf.iv c0_i32_24 c1_i32_26 k0_t1
  let v156 : BitVec 32 := Scalar.muli c2_i32_80 arg13
  let c1_i32_81 : BitVec 32 := 1#32
  let v157 : BitVec 32 := Scalar.addi v156 c1_i32_81
  let c1_i32_82 : BitVec 32 := 1#32
  let v158 : BitVec 32 := Scalar.addi v157 c1_i32_82
  let c1024_i32_83 : BitVec 32 := 1024#32
  let v159 : BitVec 32 := Scalar.muli v158 c1024_i32_83
  v159
def k0_off3 (i : grid0.Coords) (k0_t1 : Fin (k0_t1_loop i).trips) : Fin 2 → Nat :=
  let c2_i32_80 : BitVec 32 := 2#32
  let c0_i32_24 : BitVec 32 := 0#32
  let c1_i32_26 : BitVec 32 := 1#32
  let arg13 : BitVec 32 := Scf.iv c0_i32_24 c1_i32_26 k0_t1
  let v156 : BitVec 32 := Scalar.muli c2_i32_80 arg13
  let c1_i32_81 : BitVec 32 := 1#32
  let v157 : BitVec 32 := Scalar.addi v156 c1_i32_81
  let c1_i32_82 : BitVec 32 := 1#32
  let v158 : BitVec 32 := Scalar.addi v157 c1_i32_82
  let c1024_i32_83 : BitVec 32 := 1024#32
  let v159 : BitVec 32 := Scalar.muli v158 c1024_i32_83
  let v160 : BitVec 32 := v159
  let v161 : Index := Scalar.indexCast v160
  let c0_84 : Index := 0#32
  ![v161.toNat, 0]
def k0_mult5 (i : grid0.Coords) (k0_t1 : Fin (k0_t1_loop i).trips) : BitVec 32 :=
  let c2_i32_80 : BitVec 32 := 2#32
  let c0_i32_24 : BitVec 32 := 0#32
  let c1_i32_26 : BitVec 32 := 1#32
  let arg13 : BitVec 32 := Scf.iv c0_i32_24 c1_i32_26 k0_t1
  let v156 : BitVec 32 := Scalar.muli c2_i32_80 arg13
  let c1_i32_81 : BitVec 32 := 1#32
  let v157 : BitVec 32 := Scalar.addi v156 c1_i32_81
  let c1024_i32_91 : BitVec 32 := 1024#32
  let v171 : BitVec 32 := Scalar.muli v157 c1024_i32_91
  v171
@[reducible] def k0_t2_loop (i : grid0.Coords) : Scf.Loop 32 :=
  let c0_i32_24 : BitVec 32 := 0#32
  let arg1 : BitVec 32 := BitVec.ofNat 32 (i 1).val
  let c0_i32_18 : BitVec 32 := 0#32
  let v27 : BitVec 1 := Scalar.cmpi .sgt arg1 c0_i32_18
  let v28 : BitVec 32 := Scalar.extui v27
  let c0_i32_19 : BitVec 32 := 0#32
  let v29 : BitVec 1 := Scalar.cmpi .slt arg1 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi arg1 c2_i32
  let c0_i32_22 : BitVec 32 := 0#32
  let v39 : BitVec 1 := Scalar.cmpi .ne v38 c0_i32_22
  let v40 : BitVec 1 := Scalar.andi v37 v39
  let v26 : BitVec 32 := Scalar.divsi arg1 c2_i32
  let c1_i32 : BitVec 32 := 1#32
  let v41 : BitVec 32 := Scalar.subi v26 c1_i32
  let v42 : BitVec 32 := Scalar.select v40 v41 v26
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let v44 : BitVec 32 := Scalar.addi c0_i32_24 v43
  let c1_i32_27 : BitVec 32 := 1#32
  ⟨v47, v44, c1_i32_27⟩
def k0_mult6 (i : grid0.Coords) (k0_t2 : Fin (k0_t2_loop i).trips) : BitVec 32 :=
  let c2_i32_49 : BitVec 32 := 2#32
  let c0_i32_24 : BitVec 32 := 0#32
  let arg1 : BitVec 32 := BitVec.ofNat 32 (i 1).val
  let c0_i32_18 : BitVec 32 := 0#32
  let v27 : BitVec 1 := Scalar.cmpi .sgt arg1 c0_i32_18
  let v28 : BitVec 32 := Scalar.extui v27
  let c0_i32_19 : BitVec 32 := 0#32
  let v29 : BitVec 1 := Scalar.cmpi .slt arg1 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi arg1 c2_i32
  let c0_i32_22 : BitVec 32 := 0#32
  let v39 : BitVec 1 := Scalar.cmpi .ne v38 c0_i32_22
  let v40 : BitVec 1 := Scalar.andi v37 v39
  let v26 : BitVec 32 := Scalar.divsi arg1 c2_i32
  let c1_i32 : BitVec 32 := 1#32
  let v41 : BitVec 32 := Scalar.subi v26 c1_i32
  let v42 : BitVec 32 := Scalar.select v40 v41 v26
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_27 : BitVec 32 := 1#32
  let arg13 : BitVec 32 := Scf.iv v47 c1_i32_27 k0_t2
  let v79 : BitVec 32 := Scalar.muli c2_i32_49 arg13
  let c1_i32_50 : BitVec 32 := 1#32
  let v80 : BitVec 32 := Scalar.addi v79 c1_i32_50
  let c1024_i32 : BitVec 32 := 1024#32
  let v81 : BitVec 32 := Scalar.muli v80 c1024_i32
  v81
def k0_off4 (i : grid0.Coords) (k0_t2 : Fin (k0_t2_loop i).trips) : Fin 2 → Nat :=
  let c2_i32_49 : BitVec 32 := 2#32
  let c0_i32_24 : BitVec 32 := 0#32
  let arg1 : BitVec 32 := BitVec.ofNat 32 (i 1).val
  let c0_i32_18 : BitVec 32 := 0#32
  let v27 : BitVec 1 := Scalar.cmpi .sgt arg1 c0_i32_18
  let v28 : BitVec 32 := Scalar.extui v27
  let c0_i32_19 : BitVec 32 := 0#32
  let v29 : BitVec 1 := Scalar.cmpi .slt arg1 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi arg1 c2_i32
  let c0_i32_22 : BitVec 32 := 0#32
  let v39 : BitVec 1 := Scalar.cmpi .ne v38 c0_i32_22
  let v40 : BitVec 1 := Scalar.andi v37 v39
  let v26 : BitVec 32 := Scalar.divsi arg1 c2_i32
  let c1_i32 : BitVec 32 := 1#32
  let v41 : BitVec 32 := Scalar.subi v26 c1_i32
  let v42 : BitVec 32 := Scalar.select v40 v41 v26
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_27 : BitVec 32 := 1#32
  let arg13 : BitVec 32 := Scf.iv v47 c1_i32_27 k0_t2
  let v79 : BitVec 32 := Scalar.muli c2_i32_49 arg13
  let c1_i32_50 : BitVec 32 := 1#32
  let v80 : BitVec 32 := Scalar.addi v79 c1_i32_50
  let c1024_i32 : BitVec 32 := 1024#32
  let v81 : BitVec 32 := Scalar.muli v80 c1024_i32
  let v82 : BitVec 32 := v81
  let v83 : Index := Scalar.indexCast v82
  let c0_51 : Index := 0#32
  ![v83.toNat, 0]
def k0_mult7 (i : grid0.Coords) (k0_t2 : Fin (k0_t2_loop i).trips) : BitVec 32 :=
  let c2_i32_49 : BitVec 32 := 2#32
  let c0_i32_24 : BitVec 32 := 0#32
  let arg1 : BitVec 32 := BitVec.ofNat 32 (i 1).val
  let c0_i32_18 : BitVec 32 := 0#32
  let v27 : BitVec 1 := Scalar.cmpi .sgt arg1 c0_i32_18
  let v28 : BitVec 32 := Scalar.extui v27
  let c0_i32_19 : BitVec 32 := 0#32
  let v29 : BitVec 1 := Scalar.cmpi .slt arg1 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi arg1 c2_i32
  let c0_i32_22 : BitVec 32 := 0#32
  let v39 : BitVec 1 := Scalar.cmpi .ne v38 c0_i32_22
  let v40 : BitVec 1 := Scalar.andi v37 v39
  let v26 : BitVec 32 := Scalar.divsi arg1 c2_i32
  let c1_i32 : BitVec 32 := 1#32
  let v41 : BitVec 32 := Scalar.subi v26 c1_i32
  let v42 : BitVec 32 := Scalar.select v40 v41 v26
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_27 : BitVec 32 := 1#32
  let arg13 : BitVec 32 := Scf.iv v47 c1_i32_27 k0_t2
  let v79 : BitVec 32 := Scalar.muli c2_i32_49 arg13
  let c1024_i32_58 : BitVec 32 := 1024#32
  let v93 : BitVec 32 := Scalar.muli v79 c1024_i32_58
  v93
def k0_off5 (i : grid0.Coords) (k0_t2 : Fin (k0_t2_loop i).trips) : Fin 2 → Nat :=
  let c2_i32_49 : BitVec 32 := 2#32
  let c0_i32_24 : BitVec 32 := 0#32
  let arg1 : BitVec 32 := BitVec.ofNat 32 (i 1).val
  let c0_i32_18 : BitVec 32 := 0#32
  let v27 : BitVec 1 := Scalar.cmpi .sgt arg1 c0_i32_18
  let v28 : BitVec 32 := Scalar.extui v27
  let c0_i32_19 : BitVec 32 := 0#32
  let v29 : BitVec 1 := Scalar.cmpi .slt arg1 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi arg1 c2_i32
  let c0_i32_22 : BitVec 32 := 0#32
  let v39 : BitVec 1 := Scalar.cmpi .ne v38 c0_i32_22
  let v40 : BitVec 1 := Scalar.andi v37 v39
  let v26 : BitVec 32 := Scalar.divsi arg1 c2_i32
  let c1_i32 : BitVec 32 := 1#32
  let v41 : BitVec 32 := Scalar.subi v26 c1_i32
  let v42 : BitVec 32 := Scalar.select v40 v41 v26
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_27 : BitVec 32 := 1#32
  let arg13 : BitVec 32 := Scf.iv v47 c1_i32_27 k0_t2
  let v79 : BitVec 32 := Scalar.muli c2_i32_49 arg13
  let c1024_i32_58 : BitVec 32 := 1024#32
  let v93 : BitVec 32 := Scalar.muli v79 c1024_i32_58
  let v94 : BitVec 32 := v93
  let v95 : Index := Scalar.indexCast v94
  let c0_59 : Index := 0#32
  ![v95.toNat, 0]
def k0_mult8 (i : grid0.Coords) (k0_t2 : Fin (k0_t2_loop i).trips) : BitVec 32 :=
  let c2_i32_80 : BitVec 32 := 2#32
  let c0_i32_24 : BitVec 32 := 0#32
  let arg1 : BitVec 32 := BitVec.ofNat 32 (i 1).val
  let c0_i32_18 : BitVec 32 := 0#32
  let v27 : BitVec 1 := Scalar.cmpi .sgt arg1 c0_i32_18
  let v28 : BitVec 32 := Scalar.extui v27
  let c0_i32_19 : BitVec 32 := 0#32
  let v29 : BitVec 1 := Scalar.cmpi .slt arg1 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi arg1 c2_i32
  let c0_i32_22 : BitVec 32 := 0#32
  let v39 : BitVec 1 := Scalar.cmpi .ne v38 c0_i32_22
  let v40 : BitVec 1 := Scalar.andi v37 v39
  let v26 : BitVec 32 := Scalar.divsi arg1 c2_i32
  let c1_i32 : BitVec 32 := 1#32
  let v41 : BitVec 32 := Scalar.subi v26 c1_i32
  let v42 : BitVec 32 := Scalar.select v40 v41 v26
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_27 : BitVec 32 := 1#32
  let arg13 : BitVec 32 := Scf.iv v47 c1_i32_27 k0_t2
  let v156 : BitVec 32 := Scalar.muli c2_i32_80 arg13
  let c1_i32_81 : BitVec 32 := 1#32
  let v157 : BitVec 32 := Scalar.addi v156 c1_i32_81
  let c1_i32_82 : BitVec 32 := 1#32
  let v158 : BitVec 32 := Scalar.addi v157 c1_i32_82
  let c1024_i32_83 : BitVec 32 := 1024#32
  let v159 : BitVec 32 := Scalar.muli v158 c1024_i32_83
  v159
def k0_off6 (i : grid0.Coords) (k0_t2 : Fin (k0_t2_loop i).trips) : Fin 2 → Nat :=
  let c2_i32_80 : BitVec 32 := 2#32
  let c0_i32_24 : BitVec 32 := 0#32
  let arg1 : BitVec 32 := BitVec.ofNat 32 (i 1).val
  let c0_i32_18 : BitVec 32 := 0#32
  let v27 : BitVec 1 := Scalar.cmpi .sgt arg1 c0_i32_18
  let v28 : BitVec 32 := Scalar.extui v27
  let c0_i32_19 : BitVec 32 := 0#32
  let v29 : BitVec 1 := Scalar.cmpi .slt arg1 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi arg1 c2_i32
  let c0_i32_22 : BitVec 32 := 0#32
  let v39 : BitVec 1 := Scalar.cmpi .ne v38 c0_i32_22
  let v40 : BitVec 1 := Scalar.andi v37 v39
  let v26 : BitVec 32 := Scalar.divsi arg1 c2_i32
  let c1_i32 : BitVec 32 := 1#32
  let v41 : BitVec 32 := Scalar.subi v26 c1_i32
  let v42 : BitVec 32 := Scalar.select v40 v41 v26
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_27 : BitVec 32 := 1#32
  let arg13 : BitVec 32 := Scf.iv v47 c1_i32_27 k0_t2
  let v156 : BitVec 32 := Scalar.muli c2_i32_80 arg13
  let c1_i32_81 : BitVec 32 := 1#32
  let v157 : BitVec 32 := Scalar.addi v156 c1_i32_81
  let c1_i32_82 : BitVec 32 := 1#32
  let v158 : BitVec 32 := Scalar.addi v157 c1_i32_82
  let c1024_i32_83 : BitVec 32 := 1024#32
  let v159 : BitVec 32 := Scalar.muli v158 c1024_i32_83
  let v160 : BitVec 32 := v159
  let v161 : Index := Scalar.indexCast v160
  let c0_84 : Index := 0#32
  ![v161.toNat, 0]
def k0_mult9 (i : grid0.Coords) (k0_t2 : Fin (k0_t2_loop i).trips) : BitVec 32 :=
  let c2_i32_80 : BitVec 32 := 2#32
  let c0_i32_24 : BitVec 32 := 0#32
  let arg1 : BitVec 32 := BitVec.ofNat 32 (i 1).val
  let c0_i32_18 : BitVec 32 := 0#32
  let v27 : BitVec 1 := Scalar.cmpi .sgt arg1 c0_i32_18
  let v28 : BitVec 32 := Scalar.extui v27
  let c0_i32_19 : BitVec 32 := 0#32
  let v29 : BitVec 1 := Scalar.cmpi .slt arg1 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi arg1 c2_i32
  let c0_i32_22 : BitVec 32 := 0#32
  let v39 : BitVec 1 := Scalar.cmpi .ne v38 c0_i32_22
  let v40 : BitVec 1 := Scalar.andi v37 v39
  let v26 : BitVec 32 := Scalar.divsi arg1 c2_i32
  let c1_i32 : BitVec 32 := 1#32
  let v41 : BitVec 32 := Scalar.subi v26 c1_i32
  let v42 : BitVec 32 := Scalar.select v40 v41 v26
  let v43 : BitVec 32 := Scalar.subi v42 c0_i32_24
  let c1_i32_25 : BitVec 32 := 1#32
  let v45 : BitVec 32 := Scalar.divsi v43 c1_i32_25
  let v46 : BitVec 32 := Scalar.muli v45 c1_i32_25
  let v47 : BitVec 32 := Scalar.addi c0_i32_24 v46
  let c1_i32_27 : BitVec 32 := 1#32
  let arg13 : BitVec 32 := Scf.iv v47 c1_i32_27 k0_t2
  let v156 : BitVec 32 := Scalar.muli c2_i32_80 arg13
  let c1_i32_81 : BitVec 32 := 1#32
  let v157 : BitVec 32 := Scalar.addi v156 c1_i32_81
  let c1024_i32_91 : BitVec 32 := 1024#32
  let v171 : BitVec 32 := Scalar.muli v157 c1024_i32_91
  v171
def k0_cond1 (i : grid0.Coords) : BitVec 1 :=
  let arg1 : BitVec 32 := BitVec.ofNat 32 (i 1).val
  let c2_i32_28 : BitVec 32 := 2#32
  let c0_i32_29 : BitVec 32 := 0#32
  let v48 : BitVec 1 := Scalar.cmpi .eq c2_i32_28 c0_i32_29
  let c1_i32_30 : BitVec 32 := 1#32
  let v49 : BitVec 32 := Scalar.select v48 c1_i32_30 c2_i32_28
  let v50 : BitVec 32 := Scalar.remsi arg1 v49
  let c0_i32_32 : BitVec 32 := 0#32
  let v52 : BitVec 1 := Scalar.cmpi .slt v50 c0_i32_32
  let c0_i32_33 : BitVec 32 := 0#32
  let v53 : BitVec 1 := Scalar.cmpi .slt v49 c0_i32_33
  let v54 : BitVec 1 := Scalar.xori v52 v53
  let c0_i32_31 : BitVec 32 := 0#32
  let v51 : BitVec 1 := Scalar.cmpi .ne v50 c0_i32_31
  let v55 : BitVec 1 := Scalar.andi v54 v51
  let v56 : BitVec 32 := Scalar.addi v50 v49
  let v57 : BitVec 32 := Scalar.select v55 v56 v50
  let c1_i32_34 : BitVec 32 := 1#32
  let v58 : BitVec 1 := Scalar.cmpi .eq v57 c1_i32_34
  let v59 : BitVec 32 := Scalar.extui v58
  let c0_i32_35 : BitVec 32 := 0#32
  let v60 : BitVec 1 := Scalar.cmpi .ne v59 c0_i32_35
  v60

def k0_mult10 (i : grid0.Coords) : BitVec 32 :=
  let arg1 : BitVec 32 := BitVec.ofNat 32 (i 1).val
  let c1_i32_49 : BitVec 32 := 1#32
  let v79 : BitVec 32 := Scalar.subi arg1 c1_i32_49
  let c1_i32_50 : BitVec 32 := 1#32
  let v80 : BitVec 32 := Scalar.addi v79 c1_i32_50
  let c1024_i32 : BitVec 32 := 1024#32
  let v81 : BitVec 32 := Scalar.muli v80 c1024_i32
  v81
def k0_off7 (i : grid0.Coords) : Fin 2 → Nat :=
  let arg1 : BitVec 32 := BitVec.ofNat 32 (i 1).val
  let c1_i32_49 : BitVec 32 := 1#32
  let v79 : BitVec 32 := Scalar.subi arg1 c1_i32_49
  let c1_i32_50 : BitVec 32 := 1#32
  let v80 : BitVec 32 := Scalar.addi v79 c1_i32_50
  let c1024_i32 : BitVec 32 := 1024#32
  let v81 : BitVec 32 := Scalar.muli v80 c1024_i32
  let v82 : BitVec 32 := v81
  let v83 : Index := Scalar.indexCast v82
  let c0_51 : Index := 0#32
  ![v83.toNat, 0]
def k0_mult11 (i : grid0.Coords) : BitVec 32 :=
  let arg1 : BitVec 32 := BitVec.ofNat 32 (i 1).val
  let c1_i32_49 : BitVec 32 := 1#32
  let v79 : BitVec 32 := Scalar.subi arg1 c1_i32_49
  let c1024_i32_58 : BitVec 32 := 1024#32
  let v93 : BitVec 32 := Scalar.muli v79 c1024_i32_58
  v93
def k0_off8 (i : grid0.Coords) : Fin 2 → Nat :=
  let arg1 : BitVec 32 := BitVec.ofNat 32 (i 1).val
  let c1_i32_49 : BitVec 32 := 1#32
  let v79 : BitVec 32 := Scalar.subi arg1 c1_i32_49
  let c1024_i32_58 : BitVec 32 := 1024#32
  let v93 : BitVec 32 := Scalar.muli v79 c1024_i32_58
  let v94 : BitVec 32 := v93
  let v95 : Index := Scalar.indexCast v94
  let c0_59 : Index := 0#32
  ![v95.toNat, 0]
def k0_mult12 (i : grid0.Coords) : BitVec 32 :=
  let arg1 : BitVec 32 := BitVec.ofNat 32 (i 1).val
  let c1024_i32_80 : BitVec 32 := 1024#32
  let v156 : BitVec 32 := Scalar.muli arg1 c1024_i32_80
  v156
def k0_off9 (i : grid0.Coords) : Fin 2 → Nat :=
  let arg1 : BitVec 32 := BitVec.ofNat 32 (i 1).val
  let c1024_i32_80 : BitVec 32 := 1024#32
  let v156 : BitVec 32 := Scalar.muli arg1 c1024_i32_80
  let v157 : BitVec 32 := v156
  let v158 : Index := Scalar.indexCast v157
  let c0_81 : Index := 0#32
  ![v158.toNat, 0]
def k0_cond2 (i : grid0.Coords) : BitVec 1 :=
  let arg1 : BitVec 32 := BitVec.ofNat 32 (i 1).val
  let c2_i32_36 : BitVec 32 := 2#32
  let c0_i32_37 : BitVec 32 := 0#32
  let v61 : BitVec 1 := Scalar.cmpi .eq c2_i32_36 c0_i32_37
  let c1_i32_38 : BitVec 32 := 1#32
  let v62 : BitVec 32 := Scalar.select v61 c1_i32_38 c2_i32_36
  let v63 : BitVec 32 := Scalar.remsi arg1 v62
  let c0_i32_40 : BitVec 32 := 0#32
  let v65 : BitVec 1 := Scalar.cmpi .slt v63 c0_i32_40
  let c0_i32_41 : BitVec 32 := 0#32
  let v66 : BitVec 1 := Scalar.cmpi .slt v62 c0_i32_41
  let v67 : BitVec 1 := Scalar.xori v65 v66
  let c0_i32_39 : BitVec 32 := 0#32
  let v64 : BitVec 1 := Scalar.cmpi .ne v63 c0_i32_39
  let v68 : BitVec 1 := Scalar.andi v67 v64
  let v69 : BitVec 32 := Scalar.addi v63 v62
  let v70 : BitVec 32 := Scalar.select v68 v69 v63
  let c0_i32_42 : BitVec 32 := 0#32
  let v71 : BitVec 1 := Scalar.cmpi .eq v70 c0_i32_42
  let v72 : BitVec 32 := Scalar.extui v71
  let c0_i32_43 : BitVec 32 := 0#32
  let v73 : BitVec 1 := Scalar.cmpi .ne v72 c0_i32_43
  v73

def k0_mult13 (i : grid0.Coords) : BitVec 32 :=
  let arg1 : BitVec 32 := BitVec.ofNat 32 (i 1).val
  let c1024_i32 : BitVec 32 := 1024#32
  let v79 : BitVec 32 := Scalar.muli arg1 c1024_i32
  v79
def k0_off10 (i : grid0.Coords) : Fin 2 → Nat :=
  let arg1 : BitVec 32 := BitVec.ofNat 32 (i 1).val
  let c1024_i32 : BitVec 32 := 1024#32
  let v79 : BitVec 32 := Scalar.muli arg1 c1024_i32
  let v80 : BitVec 32 := v79
  let v81 : Index := Scalar.indexCast v80
  let c0_49 : Index := 0#32
  ![v81.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x2048 : Shape := ⟨2, ![16384, 2048]⟩
abbrev S16384x4096 : Shape := ⟨2, ![16384, 4096]⟩
abbrev S16384x128 : Shape := ⟨2, ![16384, 128]⟩
abbrev S16384x16x128 : Shape := ⟨3, ![16384, 16, 128]⟩
abbrev S16384x16x256 : Shape := ⟨3, ![16384, 16, 256]⟩
abbrev S_ : Shape := ⟨0, ![]⟩
abbrev S16384x1x128 : Shape := ⟨3, ![16384, 1, 128]⟩
abbrev S16384 : Shape := ⟨1, ![16384]⟩
abbrev S16x16384x16384 : Shape := ⟨3, ![16, 16384, 16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S16x16384 : Shape := ⟨2, ![16, 16384]⟩
abbrev S16x16384x1 : Shape := ⟨3, ![16, 16384, 1]⟩
abbrev S16x128x16384 : Shape := ⟨3, ![16, 128, 16384]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x4096, .bf16⟩
  | .hbm, ⟨3, _⟩ => ⟨S16384x128, .bf16⟩
  | .hbm, ⟨4, _⟩ => ⟨S16384x2048, .f32⟩
  | .hbm, ⟨5, _⟩ => ⟨S16384x16x128, .f32⟩
  | .hbm, ⟨6, _⟩ => ⟨S16384x2048, .f32⟩
  | .hbm, ⟨7, _⟩ => ⟨S16384x16x128, .f32⟩
  | .hbm, ⟨8, _⟩ => ⟨S16384x16x256, .f32⟩
  | .hbm, ⟨9, _⟩ => ⟨S_, .f32⟩
  | .hbm, ⟨10, _⟩ => ⟨S_, .f32⟩
  | .hbm, ⟨11, _⟩ => ⟨S16384x16x256, .f32⟩
  | .hbm, ⟨12, _⟩ => ⟨S16384x16x256, .f32⟩
  | .hbm, ⟨13, _⟩ => ⟨S16384x2048, .bf16⟩
  | .hbm, ⟨14, _⟩ => ⟨S16384x2048, .f32⟩
  | .hbm, ⟨15, _⟩ => ⟨S16384x16x128, .f32⟩
  | .hbm, ⟨16, _⟩ => ⟨S16384x2048, .bf16⟩
  | .hbm, ⟨17, _⟩ => ⟨S16384x2048, .f32⟩
  | .hbm, ⟨18, _⟩ => ⟨S16384x16x128, .f32⟩
  | .hbm, ⟨19, _⟩ => ⟨S16384x128, .f32⟩
  | .hbm, ⟨20, _⟩ => ⟨S16384x1x128, .f32⟩
  | .hbm, ⟨21, _⟩ => ⟨S16384x16x128, .f32⟩
  | .hbm, ⟨22, _⟩ => ⟨S16384x16x256, .f32⟩
  | .hbm, ⟨23, _⟩ => ⟨S16384, .i32⟩
  | .hbm, ⟨24, _⟩ => ⟨S16x16384x16384, .f32⟩
  | .hbm, ⟨25, _⟩ => ⟨S1x1x16384, .i32⟩
  | .hbm, ⟨26, _⟩ => ⟨S1x16384x1, .i32⟩
  | .hbm, ⟨27, _⟩ => ⟨S1x16384x16384, .i32⟩
  | .hbm, ⟨28, _⟩ => ⟨S1x16384x16384, .i32⟩
  | .hbm, ⟨29, _⟩ => ⟨S1x16384x16384, .i1⟩
  | .hbm, ⟨30, _⟩ => ⟨S_, .f32⟩
  | .hbm, ⟨31, _⟩ => ⟨S_, .f32⟩
  | .hbm, ⟨32, _⟩ => ⟨S16x16384x16384, .i1⟩
  | .hbm, ⟨33, _⟩ => ⟨S16x16384x16384, .f32⟩
  | .hbm, ⟨34, _⟩ => ⟨S16x16384x16384, .f32⟩
  | .hbm, ⟨35, _⟩ => ⟨S_, .f32⟩
  | .hbm, ⟨36, _⟩ => ⟨S16x16384, .f32⟩
  | .hbm, ⟨37, _⟩ => ⟨S_, .f32⟩
  | .hbm, ⟨38, _⟩ => ⟨S16x16384, .f32⟩
  | .hbm, ⟨39, _⟩ => ⟨S16x16384, .f32⟩
  | .hbm, ⟨40, _⟩ => ⟨S16x16384x1, .f32⟩
  | .hbm, ⟨41, _⟩ => ⟨S16x16384x16384, .f32⟩
  | .hbm, ⟨42, _⟩ => ⟨S16x16384x16384, .f32⟩
  | .hbm, ⟨43, _⟩ => ⟨S16x16384x16384, .f32⟩
  | .hbm, ⟨44, _⟩ => ⟨S_, .f32⟩
  | .hbm, ⟨45, _⟩ => ⟨S16x16384, .f32⟩
  | .hbm, ⟨46, _⟩ => ⟨S16x16384x1, .f32⟩
  | .hbm, ⟨47, _⟩ => ⟨S16x16384x16384, .f32⟩
  | .hbm, ⟨48, _⟩ => ⟨S16x16384x16384, .f32⟩
  | .hbm, ⟨49, _⟩ => ⟨S16x128x16384, .f32⟩
  | .hbm, ⟨50, _⟩ => ⟨S16384x16x128, .f32⟩
  | .hbm, ⟨51, _⟩ => ⟨S16384x2048, .f32⟩
  | .hbm, ⟨52, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== KUp.lean ====
abbrev S16384x4096 : Shape := ⟨2, ![16384, 4096]⟩
abbrev S4096x11264 : Shape := ⟨2, ![4096, 11264]⟩
abbrev S16384x11264 : Shape := ⟨2, ![16384, 11264]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S4096x11264, .bf16⟩
  | .hbm, ⟨3, _⟩ => ⟨S16384x11264, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RUpIdeal.lean ====
abbrev S16384x4096 : Shape := ⟨2, ![16384, 4096]⟩
abbrev S4096x11264 : Shape := ⟨2, ![4096, 11264]⟩
abbrev S16384x11264 : Shape := ⟨2, ![16384, 11264]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S4096x11264, .bf16⟩
  | .hbm, ⟨3, _⟩ => ⟨S16384x4096, .f32⟩
  | .hbm, ⟨4, _⟩ => ⟨S4096x11264, .f32⟩
  | .hbm, ⟨5, _⟩ => ⟨S4096x11264, .f32⟩
  | .hbm, ⟨6, _⟩ => ⟨S16384x11264, .f32⟩
  | .hbm, ⟨7, _⟩ => ⟨S16384x11264, .f32⟩
  | .hbm, ⟨8, _⟩ => ⟨S16384x11264, .f32⟩
  | .hbm, ⟨9, _⟩ => ⟨S_, .f32⟩
  | .hbm, ⟨10, _⟩ => ⟨S16384x11264, .f32⟩
  | .hbm, ⟨11, _⟩ => ⟨S16384x11264, .f32⟩
  | .hbm, ⟨12, _⟩ => ⟨S_, .f32⟩
  | .hbm, ⟨13, _⟩ => ⟨S16384x11264, .f32⟩
  | .hbm, ⟨14, _⟩ => ⟨S16384x11264, .f32⟩
  | .hbm, ⟨15, _⟩ => ⟨S16384x11264, .f32⟩
  | .hbm, ⟨16, _⟩ => ⟨S16384x11264, .f32⟩
  | .hbm, ⟨17, _⟩ => ⟨S16384x11264, .f32⟩
  | .hbm, ⟨18, _⟩ => ⟨S16384x11264, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== KDown.lean ====
abbrev S16384x11264 : Shape := ⟨2, ![16384, 11264]⟩
abbrev S11264x4096 : Shape := ⟨2, ![11264, 4096]⟩
abbrev S16384x4096 : Shape := ⟨2, ![16384, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .f32⟩
  | .hbm, ⟨3, _⟩ => ⟨S16384x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RDownIdeal.lean ====
abbrev S16384x11264 : Shape := ⟨2, ![16384, 11264]⟩
abbrev S11264x4096 : Shape := ⟨2, ![11264, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .f32⟩
  | .hbm, ⟨3, _⟩ => ⟨S16384x11264, .f32⟩
  | .hbm, ⟨4, _⟩ => ⟨S11264x4096, .f32⟩
  | .hbm, ⟨5, _⟩ => ⟨S16384x4096, .f32⟩
  | .hbm, ⟨6, _⟩ => ⟨S16384x4096, .f32⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KIn.lean ====
abbrev S16384x4096 : Shape := ⟨2, ![16384, 4096]⟩
abbrev S4096x8704 : Shape := ⟨2, ![4096, 8704]⟩
abbrev S16384x8704 : Shape := ⟨2, ![16384, 8704]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x8704, .bf16⟩
  | .hbm, ⟨2, _⟩ => ⟨S16384x8704, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RInIdeal.lean ====
abbrev S16384x4096 : Shape := ⟨2, ![16384, 4096]⟩
abbrev S4096x8704 : Shape := ⟨2, ![4096, 8704]⟩
abbrev S16384x8704 : Shape := ⟨2, ![16384, 8704]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x8704, .bf16⟩
  | .hbm, ⟨2, _⟩ => ⟨S16384x4096, .f32⟩
  | .hbm, ⟨3, _⟩ => ⟨S4096x8704, .f32⟩
  | .hbm, ⟨4, _⟩ => ⟨S16384x8704, .f32⟩
  | .hbm, ⟨5, _⟩ => ⟨S16384x8704, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KSgIn.lean ====
abbrev S16384x4096 : Shape := ⟨2, ![16384, 4096]⟩
abbrev S4096x8192 : Shape := ⟨2, ![4096, 8192]⟩
abbrev S16384x8192 : Shape := ⟨2, ![16384, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x8192, .bf16⟩
  | .hbm, ⟨2, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RSgInIdeal.lean ====
abbrev S16384x4096 : Shape := ⟨2, ![16384, 4096]⟩
abbrev S4096x8192 : Shape := ⟨2, ![4096, 8192]⟩
abbrev S16384x8192 : Shape := ⟨2, ![16384, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x8192, .bf16⟩
  | .hbm, ⟨2, _⟩ => ⟨S16384x4096, .f32⟩
  | .hbm, ⟨3, _⟩ => ⟨S4096x8192, .f32⟩
  | .hbm, ⟨4, _⟩ => ⟨S16384x8192, .f32⟩
  | .hbm, ⟨5, _⟩ => ⟨S_, .f32⟩
  | .hbm, ⟨6, _⟩ => ⟨S16384x8192, .f32⟩
  | .hbm, ⟨7, _⟩ => ⟨S16384x8192, .f32⟩
  | .hbm, ⟨8, _⟩ => ⟨S16384x8192, .f32⟩
  | .hbm, ⟨9, _⟩ => ⟨S_, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S16384x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== KSgOut.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RSgOutIdeal.lean ====
abbrev S16384x4096 : Shape := ⟨2, ![16384, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KMix.lean ====
abbrev S16384x2048 : Shape := ⟨2, ![16384, 2048]⟩
abbrev S4096x4096 : Shape := ⟨2, ![4096, 4096]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RMixIdeal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S16384x2048, .f32⟩
  | .hbm, ⟨5, _⟩ => ⟨S16384x2048, .f32⟩
  | .hbm, ⟨6, _⟩ => ⟨S16384x4096, .f32⟩
  | .hbm, ⟨7, _⟩ => ⟨S4096x4096, .f32⟩
  | .hbm, ⟨8, _⟩ => ⟨S16384x4096, .f32⟩
  | .hbm, ⟨9, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KPle.lean ====
abbrev S16384x4096 : Shape := ⟨2, ![16384, 4096]⟩
abbrev S4096x4096 : Shape := ⟨2, ![4096, 4096]⟩
abbrev S16384x256 : Shape := ⟨2, ![16384, 256]⟩
abbrev S256x4096 : Shape := ⟨2, ![256, 4096]⟩
abbrev S1024x4096 : Shape := ⟨2, ![1024, 4096]⟩
abbrev S4096x512 : Shape := ⟨2, ![4096, 512]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x256, .bf16⟩
  | .hbm, ⟨3, _⟩ => ⟨S256x4096, .bf16⟩
  | .hbm, ⟨4, _⟩ => ⟨S16384x4096, .f32⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x256, .bf16⟩
  | .local _ .vmem, ⟨5, _⟩ => ⟨S1024x256, .bf16⟩
  | .local _ .vmem, ⟨6, _⟩ => ⟨S256x512, .bf16⟩
  | .local _ .vmem, ⟨7, _⟩ => ⟨S256x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RPleIdeal.lean ====
abbrev S16384x4096 : Shape := ⟨2, ![16384, 4096]⟩
abbrev S4096x4096 : Shape := ⟨2, ![4096, 4096]⟩
abbrev S16384x256 : Shape := ⟨2, ![16384, 256]⟩
abbrev S256x4096 : Shape := ⟨2, ![256, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x256, .bf16⟩
  | .hbm, ⟨3, _⟩ => ⟨S256x4096, .bf16⟩
  | .hbm, ⟨4, _⟩ => ⟨S16384x4096, .f32⟩
  | .hbm, ⟨5, _⟩ => ⟨S16384x4096, .f32⟩
  | .hbm, ⟨6, _⟩ => ⟨S4096x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x256, .f32⟩
  | .hbm, ⟨17, _⟩ => ⟨S256x4096, .f32⟩
  | .hbm, ⟨18, _⟩ => ⟨S16384x4096, .f32⟩
  | .hbm, ⟨19, _⟩ => ⟨S16384x4096, .f32⟩
  | .hbm, ⟨20, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== KExperts.lean ====
abbrev S72 : Shape := ⟨1, ![72]⟩
abbrev S36864x1536 : Shape := ⟨2, ![36864, 1536]⟩
abbrev S8x1536x4096 : Shape := ⟨3, ![8, 1536, 4096]⟩
abbrev S36864x4096 : Shape := ⟨2, ![36864, 4096]⟩
abbrev S512x1536 : Shape := ⟨2, ![512, 1536]⟩
abbrev S1x1536x1024 : Shape := ⟨3, ![1, 1536, 1024]⟩
abbrev S1 : Shape := ⟨1, ![1]⟩
abbrev S512x1024 : Shape := ⟨2, ![512, 1024]⟩
abbrev S1536x1024 : Shape := ⟨2, ![1536, 1024]⟩

abbrev nBuf : Space → Nat
  | .hbm => 3
  | .vmem => 6
  | .smem => 2
  | _ => 0

abbrev bufTy : (tb : Table) → Fin (tcTables nBuf tb) → BufTy
  | .hbm, ⟨0, _⟩ => ⟨S36864x1536, .bf16⟩
  | .hbm, ⟨1, _⟩ => ⟨S8x1536x4096, .bf16⟩
  | .hbm, ⟨2, _⟩ => ⟨S36864x4096, .f32⟩
  | .local _ .vmem, ⟨0, _⟩ => ⟨S512x1536, .bf16⟩
  | .local _ .vmem, ⟨1, _⟩ => ⟨S512x1536, .bf16⟩
  | .local _ .vmem, ⟨2, _⟩ => ⟨S1x1536x1024, .bf16⟩
  | .local _ .vmem, ⟨3, _⟩ => ⟨S1x1536x1024, .bf16⟩
  | .local _ .vmem, ⟨4, _⟩ => ⟨S512x1024, .f32⟩
  | .local _ .vmem, ⟨5, _⟩ => ⟨S512x1024, .f32⟩
  | .local _ .smem, ⟨0, _⟩ => ⟨S72, .i32⟩
  | .local _ .smem, ⟨1, _⟩ => ⟨S72, .i32⟩
  | _, _ => ⟨S36864x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![72, 4], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v6 : BitVec 32) : BitVec 1 :=
  let c0_i32_0 : BitVec 32 := 0#32
  let v7 : BitVec 1 := Scalar.cmpi .eq v6 c0_i32_0
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RExpertsIdeal.lean ====
abbrev S72 : Shape := ⟨1, ![72]⟩
abbrev S36864x1536 : Shape := ⟨2, ![36864, 1536]⟩
abbrev S8x1536x4096 : Shape := ⟨3, ![8, 1536, 4096]⟩
abbrev S_ : Shape := ⟨0, ![]⟩
abbrev S72x512 : Shape := ⟨2, ![72, 512]⟩
abbrev S36864 : Shape := ⟨1, ![36864]⟩
abbrev S36864x4096 : Shape := ⟨2, ![36864, 4096]⟩
abbrev S36864x1 : Shape := ⟨2, ![36864, 1]⟩
abbrev S1x1536x4096 : Shape := ⟨3, ![1, 1536, 4096]⟩
abbrev S1536x4096 : Shape := ⟨2, ![1536, 4096]⟩

abbrev nBuf : Space → Nat
  | .hbm => 128
  | .vmem => 0
  | .smem => 0
  | _ => 0

abbrev bufTy : (tb : Table) → Fin (tcTables nBuf tb) → BufTy
  | .hbm, ⟨0, _⟩ => ⟨S72, .i32⟩
  | .hbm, ⟨1, _⟩ => ⟨S72, .i32⟩
  | .hbm, ⟨2, _⟩ => ⟨S36864x1536, .bf16⟩
  | .hbm, ⟨3, _⟩ => ⟨S8x1536x4096, .bf16⟩
  | .hbm, ⟨4, _⟩ => ⟨S_, .i32⟩
  | .hbm, ⟨5, _⟩ => ⟨S72, .i32⟩
  | .hbm, ⟨6, _⟩ => ⟨S72, .i1⟩
  | .hbm, ⟨7, _⟩ => ⟨S_, .i32⟩
  | .hbm, ⟨8, _⟩ => ⟨S_, .i32⟩
  | .hbm, ⟨9, _⟩ => ⟨S72, .i32⟩
  | .hbm, ⟨10, _⟩ => ⟨S72, .i32⟩
  | .hbm, ⟨11, _⟩ => ⟨S72x512, .i32⟩
  | .hbm, ⟨12, _⟩ => ⟨S36864, .i32⟩
  | .hbm, ⟨13, _⟩ => ⟨S36864x1536, .f32⟩
  | .hbm, ⟨14, _⟩ => ⟨S_, .f32⟩
  | .hbm, ⟨15, _⟩ => ⟨S36864x4096, .f32⟩
  | .hbm, ⟨16, _⟩ => ⟨S_, .i32⟩
  | .hbm, ⟨17, _⟩ => ⟨S36864, .i32⟩
  | .hbm, ⟨18, _⟩ => ⟨S36864, .i1⟩
  | .hbm, ⟨19, _⟩ => ⟨S36864x1, .i1⟩
  | .hbm, ⟨20, _⟩ => ⟨S1x1536x4096, .bf16⟩
  | .hbm, ⟨21, _⟩ => ⟨S1536x4096, .bf16⟩
  | .hbm, ⟨22, _⟩ => ⟨S1536x4096, .f32⟩
  | .hbm, ⟨23, _⟩ => ⟨S36864x4096, .f32⟩
  | .hbm, ⟨24, _⟩ => ⟨S_, .f32⟩
  | .hbm, ⟨25, _⟩ => ⟨S_, .f32⟩
  | .hbm, ⟨26, _⟩ => ⟨S36864x4096, .i1⟩
  | .hbm, ⟨27, _⟩ => ⟨S36864x4096, .f32⟩
  | .hbm, ⟨28, _⟩ => ⟨S36864x4096, .f32⟩
  | .hbm, ⟨29, _⟩ => ⟨S36864x4096, .f32⟩
  | .hbm, ⟨30, _⟩ => ⟨S_, .i32⟩
  | .hbm, ⟨31, _⟩ => ⟨S36864, .i32⟩
  | .hbm, ⟨32, _⟩ => ⟨S36864, .i1⟩
  | .hbm, ⟨33, _⟩ => ⟨S36864x1, .i1⟩
  | .hbm, ⟨34, _⟩ => ⟨S1x1536x4096, .bf16⟩
  | .hbm, ⟨35, _⟩ => ⟨S1536x4096, .bf16⟩
  | .hbm, ⟨36, _⟩ => ⟨S1536x4096, .f32⟩
  | .hbm, ⟨37, _⟩ => ⟨S36864x4096, .f32⟩
  | .hbm, ⟨38, _⟩ => ⟨S_, .f32⟩
  | .hbm, ⟨39, _⟩ => ⟨S_, .f32⟩
  | .hbm, ⟨40, _⟩ => ⟨S36864x4096, .i1⟩
  | .hbm, ⟨41, _⟩ => ⟨S36864x4096, .f32⟩
  | .hbm, ⟨42, _⟩ => ⟨S36864x4096, .f32⟩
  | .hbm, ⟨43, _⟩ => ⟨S36864x4096, .f32⟩
  | .hbm, ⟨44, _⟩ => ⟨S_, .i32⟩
  | .hbm, ⟨45, _⟩ => ⟨S36864, .i32⟩
  | .hbm, ⟨46, _⟩ => ⟨S36864, .i1⟩
  | .hbm, ⟨47, _⟩ => ⟨S36864x1, .i1⟩
  | .hbm, ⟨48, _⟩ => ⟨S1x1536x4096, .bf16⟩
  | .hbm, ⟨49, _⟩ => ⟨S1536x4096, .bf16⟩
  | .hbm, ⟨50, _⟩ => ⟨S1536x4096, .f32⟩
  | .hbm, ⟨51, _⟩ => ⟨S36864x4096, .f32⟩
  | .hbm, ⟨52, _⟩ => ⟨S_, .f32⟩
  | .hbm, ⟨53, _⟩ => ⟨S_, .f32⟩
  | .hbm, ⟨54, _⟩ => ⟨S36864x4096, .i1⟩
  | .hbm, ⟨55, _⟩ => ⟨S36864x4096, .f32⟩
  | .hbm, ⟨56, _⟩ => ⟨S36864x4096, .f32⟩
  | .hbm, ⟨57, _⟩ => ⟨S36864x4096, .f32⟩
  | .hbm, ⟨58, _⟩ => ⟨S_, .i32⟩
  | .hbm, ⟨59, _⟩ => ⟨S36864, .i32⟩
  | .hbm, ⟨60, _⟩ => ⟨S36864, .i1⟩
  | .hbm, ⟨61, _⟩ => ⟨S36864x1, .i1⟩
  | .hbm, ⟨62, _⟩ => ⟨S1x1536x4096, .bf16⟩
  | .hbm, ⟨63, _⟩ => ⟨S1536x4096, .bf16⟩
  | .hbm, ⟨64, _⟩ => ⟨S1536x4096, .f32⟩
  | .hbm, ⟨65, _⟩ => ⟨S36864x4096, .f32⟩
  | .hbm, ⟨66, _⟩ => ⟨S_, .f32⟩
  | .hbm, ⟨67, _⟩ => ⟨S_, .f32⟩
  | .hbm, ⟨68, _⟩ => ⟨S36864x4096, .i1⟩
  | .hbm, ⟨69, _⟩ => ⟨S36864x4096, .f32⟩
  | .hbm, ⟨70, _⟩ => ⟨S36864x4096, .f32⟩
  | .hbm, ⟨71, _⟩ => ⟨S36864x4096, .f32⟩
  | .hbm, ⟨72, _⟩ => ⟨S_, .i32⟩
  | .hbm, ⟨73, _⟩ => ⟨S36864, .i32⟩
  | .hbm, ⟨74, _⟩ => ⟨S36864, .i1⟩
  | .hbm, ⟨75, _⟩ => ⟨S36864x1, .i1⟩
  | .hbm, ⟨76, _⟩ => ⟨S1x1536x4096, .bf16⟩
  | .hbm, ⟨77, _⟩ => ⟨S1536x4096, .bf16⟩
  | .hbm, ⟨78, _⟩ => ⟨S1536x4096, .f32⟩
  | .hbm, ⟨79, _⟩ => ⟨S36864x4096, .f32⟩
  | .hbm, ⟨80, _⟩ => ⟨S_, .f32⟩
  | .hbm, ⟨81, _⟩ => ⟨S_, .f32⟩
  | .hbm, ⟨82, _⟩ => ⟨S36864x4096, .i1⟩
  | .hbm, ⟨83, _⟩ => ⟨S36864x4096, .f32⟩
  | .hbm, ⟨84, _⟩ => ⟨S36864x4096, .f32⟩
  | .hbm, ⟨85, _⟩ => ⟨S36864x4096, .f32⟩
  | .hbm, ⟨86, _⟩ => ⟨S_, .i32⟩
  | .hbm, ⟨87, _⟩ => ⟨S36864, .i32⟩
  | .hbm, ⟨88, _⟩ => ⟨S36864, .i1⟩
  | .hbm, ⟨89, _⟩ => ⟨S36864x1, .i1⟩
  | .hbm, ⟨90, _⟩ => ⟨S1x1536x4096, .bf16⟩
  | .hbm, ⟨91, _⟩ => ⟨S1536x4096, .bf16⟩
  | .hbm, ⟨92, _⟩ => ⟨S1536x4096, .f32⟩
  | .hbm, ⟨93, _⟩ => ⟨S36864x4096, .f32⟩
  | .hbm, ⟨94, _⟩ => ⟨S_, .f32⟩
  | .hbm, ⟨95, _⟩ => ⟨S_, .f32⟩
  | .hbm, ⟨96, _⟩ => ⟨S36864x4096, .i1⟩
  | .hbm, ⟨97, _⟩ => ⟨S36864x4096, .f32⟩
  | .hbm, ⟨98, _⟩ => ⟨S36864x4096, .f32⟩
  | .hbm, ⟨99, _⟩ => ⟨S36864x4096, .f32⟩
  | .hbm, ⟨100, _⟩ => ⟨S_, .i32⟩
  | .hbm, ⟨101, _⟩ => ⟨S36864, .i32⟩
  | .hbm, ⟨102, _⟩ => ⟨S36864, .i1⟩
  | .hbm, ⟨103, _⟩ => ⟨S36864x1, .i1⟩
  | .hbm, ⟨104, _⟩ => ⟨S1x1536x4096, .bf16⟩
  | .hbm, ⟨105, _⟩ => ⟨S1536x4096, .bf16⟩
  | .hbm, ⟨106, _⟩ => ⟨S1536x4096, .f32⟩
  | .hbm, ⟨107, _⟩ => ⟨S36864x4096, .f32⟩
  | .hbm, ⟨108, _⟩ => ⟨S_, .f32⟩
  | .hbm, ⟨109, _⟩ => ⟨S_, .f32⟩
  | .hbm, ⟨110, _⟩ => ⟨S36864x4096, .i1⟩
  | .hbm, ⟨111, _⟩ => ⟨S36864x4096, .f32⟩
  | .hbm, ⟨112, _⟩ => ⟨S36864x4096, .f32⟩
  | .hbm, ⟨113, _⟩ => ⟨S36864x4096, .f32⟩
  | .hbm, ⟨114, _⟩ => ⟨S_, .i32⟩
  | .hbm, ⟨115, _⟩ => ⟨S36864, .i32⟩
  | .hbm, ⟨116, _⟩ => ⟨S36864, .i1⟩
  | .hbm, ⟨117, _⟩ => ⟨S36864x1, .i1⟩
  | .hbm, ⟨118, _⟩ => ⟨S1x1536x4096, .bf16⟩
  | .hbm, ⟨119, _⟩ => ⟨S1536x4096, .bf16⟩
  | .hbm, ⟨120, _⟩ => ⟨S1536x4096, .f32⟩
  | .hbm, ⟨121, _⟩ => ⟨S36864x4096, .f32⟩
  | .hbm, ⟨122, _⟩ => ⟨S_, .f32⟩
  | .hbm, ⟨123, _⟩ => ⟨S_, .f32⟩
  | .hbm, ⟨124, _⟩ => ⟨S36864x4096, .i1⟩
  | .hbm, ⟨125, _⟩ => ⟨S36864x4096, .f32⟩
  | .hbm, ⟨126, _⟩ => ⟨S36864x4096, .f32⟩
  | .hbm, ⟨127, _⟩ => ⟨S36864x4096, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v41 : Ref sig .tc := ⟨.hbm, 70, rfl⟩
abbrev main_v42 : Ref sig .tc := ⟨.hbm, 71, rfl⟩
abbrev main_c_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_v50 : Ref sig .tc := ⟨.hbm, 84, rfl⟩
abbrev main_v51 : Ref sig .tc := ⟨.hbm, 85, rfl⟩
abbrev main_c_11 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_12 : Ref sig .tc := ⟨.hbm, 94, rfl⟩
abbrev main_call6_v0 : Ref sig .tc := ⟨.hbm, 95, rfl⟩
abbrev main_call6_v1 : Ref sig .tc := ⟨.hbm, 96, rfl⟩
abbrev main_call6_v2 : Ref sig .tc := ⟨.hbm, 97, rfl⟩
abbrev main_v59 : Ref sig .tc := ⟨.hbm, 98, rfl⟩
abbrev main_v60 : Ref sig .tc := ⟨.hbm, 99, rfl⟩
abbrev main_c_13 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_14 : Ref sig .tc := ⟨.hbm, 108, rfl⟩
abbrev main_call7_v0 : Ref sig .tc := ⟨.hbm, 109, rfl⟩
abbrev main_call7_v1 : Ref sig .tc := ⟨.hbm, 110, rfl⟩
abbrev main_call7_v2 : Ref sig .tc := ⟨.hbm, 111, rfl⟩
abbrev main_v68 : Ref sig .tc := ⟨.hbm, 112, rfl⟩
abbrev main_v69 : Ref sig .tc := ⟨.hbm, 113, rfl⟩
abbrev main_c_15 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_16 : Ref sig .tc := ⟨.hbm, 122, rfl⟩
abbrev main_call8_v0 : Ref sig .tc := ⟨.hbm, 123, rfl⟩
abbrev main_call8_v1 : Ref sig .tc := ⟨.hbm, 124, rfl⟩
abbrev main_call8_v2 : Ref sig .tc := ⟨.hbm, 125, rfl⟩
abbrev main_v77 : Ref sig .tc := ⟨.hbm, 126, rfl⟩
abbrev main_v78 : Ref sig .tc := ⟨.hbm, 127, rfl⟩

abbrev nD : Nat := 1
abbrev τ : Topo := Topo.v7x

variable {F : FTy → Type} [FloatOps F]
-- ==== KQn.lean ====
abbrev S16384x1536 : Shape := ⟨2, ![16384, 1536]⟩
abbrev S1536x2048 : Shape := ⟨2, ![1536, 2048]⟩
abbrev S16384x2048 : Shape := ⟨2, ![16384, 2048]⟩
abbrev S1024x1536 : Shape := ⟨2, ![1024, 1536]⟩
abbrev S1536x512 : Shape := ⟨2, ![1536, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1536, .bf16⟩
  | .hbm, ⟨1, _⟩ => ⟨S1536x2048, .bf16⟩
  | .hbm, ⟨2, _⟩ => ⟨S16384x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1536x512, .bf16⟩
  | .local _ .vmem, ⟨3, _⟩ => ⟨S1536x512, .bf16⟩
  | .local _ .vmem, ⟨4, _⟩ => ⟨S1024x512, .bf16⟩
  | .local _ .vmem, ⟨5, _⟩ => ⟨S1024x512, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RQnIdeal.lean ====
abbrev S16384x1536 : Shape := ⟨2, ![16384, 1536]⟩
abbrev S1536x2048 : Shape := ⟨2, ![1536, 2048]⟩
abbrev S16384x2048 : Shape := ⟨2, ![16384, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S1536x2048, .bf16⟩
  | .hbm, ⟨2, _⟩ => ⟨S16384x1536, .f32⟩
  | .hbm, ⟨3, _⟩ => ⟨S1536x2048, .f32⟩
  | .hbm, ⟨4, _⟩ => ⟨S16384x2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KKv.lean ====
abbrev S16384x512 : Shape := ⟨2, ![16384, 512]⟩
abbrev S512x4096 : Shape := ⟨2, ![512, 4096]⟩
abbrev S16384x4096 : Shape := ⟨2, ![16384, 4096]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S512x4096, .bf16⟩
  | .hbm, ⟨2, _⟩ => ⟨S16384x4096, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RKvIdeal.lean ====
abbrev S16384x512 : Shape := ⟨2, ![16384, 512]⟩
abbrev S512x4096 : Shape := ⟨2, ![512, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x4096, .bf16⟩
  | .hbm, ⟨2, _⟩ => ⟨S16384x512, .f32⟩
  | .hbm, ⟨3, _⟩ => ⟨S512x4096, .f32⟩
  | .hbm, ⟨4, _⟩ => ⟨S16384x4096, .f32⟩
  | .hbm, ⟨5, _⟩ => ⟨S16384x4096, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KSpatial.lean ====
abbrev S32x128x128 : Shape := ⟨3, ![32, 128, 128]⟩
abbrev S16384x4096 : Shape := ⟨2, ![16384, 4096]⟩
abbrev S16384x8192 : Shape := ⟨2, ![16384, 8192]⟩
abbrev S1x128x128 : Shape := ⟨3, ![1, 128, 128]⟩
abbrev S2048x128 : Shape := ⟨2, ![2048, 128]⟩
abbrev S128x128 : Shape := ⟨2, ![128, 128]⟩

abbrev nBuf : Space → Nat
  | .hbm => 5
  | .vmem => 10
  | .smem => 0
  | _ => 0

abbrev bufTy : (tb : Table) → Fin (tcTables nBuf tb) → BufTy
  | .hbm, ⟨0, _⟩ => ⟨S32x128x128, .f32⟩
  | .hbm, ⟨1, _⟩ => ⟨S32x128x128, .f32⟩
  | .hbm, ⟨2, _⟩ => ⟨S16384x4096, .bf16⟩
  | .hbm, ⟨3, _⟩ => ⟨S16384x8192, .bf16⟩
  | .hbm, ⟨4, _⟩ => ⟨S16384x4096, .bf16⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | _, _ => ⟨S32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RSpatialIdeal.lean ====
abbrev S32x128x128 : Shape := ⟨3, ![32, 128, 128]⟩
abbrev S16384x4096 : Shape := ⟨2, ![16384, 4096]⟩
abbrev S16384x8192 : Shape := ⟨2, ![16384, 8192]⟩
abbrev S128 : Shape := ⟨1, ![128]⟩
abbrev S1x1x128 : Shape := ⟨3, ![1, 1, 128]⟩
abbrev S1x128x1 : Shape := ⟨3, ![1, 128, 1]⟩
abbrev S1x128x128 : Shape := ⟨3, ![1, 128, 128]⟩
abbrev S_ : Shape := ⟨0, ![]⟩
abbrev S128x128x32x128 : Shape := ⟨4, ![128, 128, 32, 128]⟩
abbrev S32x128x128x128 : Shape := ⟨4, ![32, 128, 128, 128]⟩
abbrev S128x32x128 : Shape := ⟨3, ![128, 32, 128]⟩
abbrev S1x128x32x128 : Shape := ⟨4, ![1, 128, 32, 128]⟩

abbrev nBuf : Space → Nat
  | .hbm => 28
  | .vmem => 0
  | .smem => 0
  | _ => 0

abbrev bufTy : (tb : Table) → Fin (tcTables nBuf tb) → BufTy
  | .hbm, ⟨0, _⟩ => ⟨S32x128x128, .f32⟩
  | .hbm, ⟨1, _⟩ => ⟨S32x128x128, .f32⟩
  | .hbm, ⟨2, _⟩ => ⟨S16384x4096, .bf16⟩
  | .hbm, ⟨3, _⟩ => ⟨S16384x8192, .bf16⟩
  | .hbm, ⟨4, _⟩ => ⟨S128, .i32⟩
  | .hbm, ⟨5, _⟩ => ⟨S1x1x128, .i32⟩
  | .hbm, ⟨6, _⟩ => ⟨S1x128x1, .i32⟩
  | .hbm, ⟨7, _⟩ => ⟨S1x128x128, .i32⟩
  | .hbm, ⟨8, _⟩ => ⟨S1x128x128, .i32⟩
  | .hbm, ⟨9, _⟩ => ⟨S1x128x128, .i1⟩
  | .hbm, ⟨10, _⟩ => ⟨S_, .f32⟩
  | .hbm, ⟨11, _⟩ => ⟨S_, .f32⟩
  | .hbm, ⟨12, _⟩ => ⟨S32x128x128, .i1⟩
  | .hbm, ⟨13, _⟩ => ⟨S32x128x128, .f32⟩
  | .hbm, ⟨14, _⟩ => ⟨S32x128x128, .f32⟩
  | .hbm, ⟨15, _⟩ => ⟨S16384x4096, .f32⟩
  | .hbm, ⟨16, _⟩ => ⟨S128x128x32x128, .f32⟩
  | .hbm, ⟨17, _⟩ => ⟨S32x128x128x128, .f32⟩
  | .hbm, ⟨18, _⟩ => ⟨S128x128x32x128, .f32⟩
  | .hbm, ⟨19, _⟩ => ⟨S128x32x128, .f32⟩
  | .hbm, ⟨20, _⟩ => ⟨S1x128x32x128, .f32⟩
  | .hbm, ⟨21, _⟩ => ⟨S128x128x32x128, .f32⟩
  | .hbm, ⟨22, _⟩ => ⟨S128x128x32x128, .f32⟩
  | .hbm, ⟨23, _⟩ => ⟨S16384x4096, .bf16⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x4096, .bf16⟩
  | _, _ => ⟨S32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Stage.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.VecWindow
public import Idealize.ShloMosaic.Lib.Pipeline.ValueKit.Basic
public import Idealize.ShloMosaic.Lib.Pipeline.Value

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The proof's resource algebra: the frame kit's. -/
local notation "𝕄" => MT nD τ sig Unit (Elt F) ℕ (UR sig nD τ) ℕ

/-- No variants are used. -/
abbrev 𝒱₀ : Variants := Variants.none

/-! ## The stages of one query block, as functions of the blocks they read -/

/-- Row block `b` of a `16384 × 128` array, `1024` rows long. -/
def blk (x : Vec F S16384x128 .bf16) (b : ℕ) : Vec F S1024x128 .bf16 := fun j =>
  x (fun a => match a with | 0 => (⟨(b * 1024 + (j 0).val) % 16384, Nat.mod_lt _ (by decide)⟩ : Fin 16384) | 1 => (j 1 : Fin 128))

/-- The scores of a query block against a key block: the two halves of the keys side by side, one product over both. -/
def scoreB (q : Vec F S1024x256 .bf16) (kn kp : Vec F S1024x128 .bf16) : Vec F S1024x1024 .f32 :=
  matmul dot_S1024x256_S1024x256_S1024x1024_1_1_0_0_n_n none q (concatenate S1024x256 1 [⟨S1024x128, kn⟩, ⟨S1024x128, kp⟩] concatenates_S1024x128_S1024x128_S1024x256_d1 : FVec F S1024x256 .bf16)
    (constant S1024x1024 .f32 0x00000000#32 : FVec F S1024x1024 .f32)

/-- Each strip of 128 columns lies within the block of scores. -/
theorem tile_inb : ∀ (o : Fin 8) a, ![0, 128 * o.val] a + S1024x128.size a ≤ S1024x1024.size a := by decide

/-- Column tile `o` of a score block, `128` columns wide. -/
def tile (s : Vec F S1024x1024 .f32) (o : Fin 8) : Vec F S1024x128 .f32 :=
  View.ld (Val := Elt F) (e' := .f32) s (Rect.unit (s := S1024x1024) ![0, 128 * o.val] S1024x128.size (tile_inb o))

/-- The mask of column tile `o` of the diagonal score block: an entry right of the diagonal is the mask's value. -/
def msk (o : Fin 8) (t : Vec F S1024x128 .f32) : Vec F S1024x128 .f32 :=
  select (cmpi .sle (addi (iota .tc S1024x128 32 [1] iota_S1024x128_d1_w32) (broadcast S1024x128 (BitVec.ofNat 32 (128 * o.val)))) (iota .tc S1024x128 32 [0] iota_S1024x128_d0_w32))
    t (broadcast S1024x128 (Named.named κ "mask" 0xF149F2CA#32 : F .f32) : FVec F S1024x128 .f32)

/-- Column tile `o` of the diagonal score block, masked. -/
def mtile (s : Vec F S1024x1024 .f32) (o : Fin 8) : Vec F S1024x128 .f32 := msk o (tile s o)

/-- The running row maximum after a block's eight tiles. -/
def mNext (t : Fin 8 → Vec F S1024x128 .f32) (m : Vec F S1024x128 .f32) : Vec F S1024x128 .f32 :=
  maximumf m (broadcastTo S1024x128 (shapeCast S1024x1 (multiReduction .maximumf [1] S1024
    (maximumf (maximumf (maximumf (maximumf (maximumf (maximumf (maximumf (t 0) (t 1)) (t 2)) (t 3)) (t 4)) (t 5)) (t 6)) (t 7))
    0xFF800000#32 reduces_S1024x128_S1024 (.inl rfl) rfl) shapeCasts_S1024_S1024x1) broadcasts_S1024x1_S1024x128)

/-- A tile's weights against the row maximum. -/
def wt (t m : Vec F S1024x128 .f32) : FVec F S1024x128 .bf16 := truncf .bf16 (exp2 (subf t m)) bitsLt_bf16_f32

/-- The weighted values and the weights' row sums after a block: the old ones scaled down, the block's added. -/
def aNext (t : Fin 8 → Vec F S1024x128 .f32) (m : Vec F S1024x128 .f32) (v : Vec F S1024x128 .bf16) (acc : Vec F S1024x256 .f32) : Vec F S1024x256 .f32 :=
  addf (mulf (concatenate S1024x256 1 [⟨S1024x128, exp2 (subf m (mNext t m))⟩, ⟨S1024x128, exp2 (subf m (mNext t m))⟩] concatenates_S1024x128_S1024x128_S1024x256_d1 : FVec F S1024x256 .f32) acc)
    (matmul dot_S1024x1024_S1024x256_S1024x256_1_0_0_1_n_n none
      (concatenate S1024x1024 1 [⟨S1024x128, wt (t 0) (mNext t m)⟩, ⟨S1024x128, wt (t 1) (mNext t m)⟩, ⟨S1024x128, wt (t 2) (mNext t m)⟩, ⟨S1024x128, wt (t 3) (mNext t m)⟩, ⟨S1024x128, wt (t 4) (mNext t m)⟩, ⟨S1024x128, wt (t 5) (mNext t m)⟩, ⟨S1024x128, wt (t 6) (mNext t m)⟩, ⟨S1024x128, wt (t 7) (mNext t m)⟩] concatenates_S1024x128_S1024x128_S1024x128_S1024x128_S1024x128_S1024x128_S1024x128_S1024x128_S1024x1024_d1 : FVec F S1024x1024 .bf16)
      (concatenate S1024x256 1 [⟨S1024x128, v⟩, ⟨S1024x128, (k0_pay70 (F := F))⟩] concatenates_S1024x128_S1024x128_S1024x256_d1 : FVec F S1024x256 .bf16)
      (constant S1024x256 .f32 0x00000000#32 : FVec F S1024x256 .f32))

/-! ## Reading the runs' values -/

/-- Reading 1024 rows from row `1024 b` on gives the `b`-th block. -/
theorem ld_blk (x : Vec F S16384x128 .bf16) (b : ℕ) (hb : b < 16) {off : Fin 2 → ℕ} (h : off = ![b * 1024, 0]) (inb : ∀ a, off a + S1024x128.size a ≤ S16384x128.size a) :
    View.ld (Val := Elt F) (e' := .bf16) x (Rect.unit (s := S16384x128) off S1024x128.size inb) = blk x b := by
  subst h
  funext j
  refine congrArg x (funext fun a => Fin.ext ?_)
  match a with
  | 0 =>
    show b * 1024 + 1 * (j 0).val = (b * 1024 + (j 0).val) % 16384
    have : (j 0).val < 1024 := (j 0).isLt
    omega
  | 1 => show 0 + 1 * (j 1).val = (j 1).val; omega

/-- A read from a buffer that was last stored as a whole is a read from the stored vector. -/
theorem readCov_whole_ld [∀ e, Nonempty (Elt F e)] {S : Shape} {e : EltTy} {sp : Space} (v : View sig .tc sp S e) {off : Fin S.rank → ℕ} (inb : ∀ a, off a + S.size a ≤ S.size a) (h : ∀ a, off a = 0)
    (w : S.Idx → Elt F e) (L : List (View.Piece (Elt F) S e)) (r : Rect S) :
    v.readCov ((⟨Rect.unit off (no_index S.size) inb, w⟩ : View.Piece (Elt F) S e) :: L) r.toLoadRect = View.ld w r := by
  rw [View.readCov_eq_canon', View.canon_cons_unit_lit inb w L h]

/-! ## Loads and stores of whole blocks -/

/-- The offset zero, axis by axis. -/
theorem z2 : ∀ a : Fin 2, (![0, 0] : Fin 2 → ℕ) a = 0 := by decide

section Reads
variable {e : EltTy} {S : Shape} {a : Memref sig .tc .vmem S e} (ha : a.IsWhole) (x : Vec F S e)

/-- A load of a whole block reads the block. -/
theorem rd_full {off : Fin S.rank → ℕ} (h : ∀ a, off a = 0) (inb : ∀ a, off a + S.size a ≤ S.size a) :
    View.readAt (Elt F) a.view (Rect.unit off S.size inb).toLoadRect (ha.unread x) = x :=
  (congrArg (fun y => View.ld y (Rect.unit off S.size inb)) (ha.read_unread x)).trans (View.ld_unit_lit inb x h)

/-- A load of a whole block after a store of a whole block reads what was stored. -/
theorem cov_full {off off' : Fin S.rank → ℕ} (h : ∀ a, off a = 0) (h' : ∀ a, off' a = 0) (inb : ∀ a, off a + S.size a ≤ S.size a) (inb' : ∀ a, off' a + S.size a ≤ S.size a)
    (w : Vec F S e) (L : List (View.Piece (Elt F) S e)) :
    a.view.readCov ((⟨Rect.unit off S.size inb, w⟩ : View.Piece (Elt F) S e) :: L) (Rect.unit off' S.size inb').toLoadRect = w :=
  (readCov_whole_ld a.view inb h w L _).trans (View.ld_unit_lit inb' w h')
end Reads

/-- A load of a row block reads the row block. -/
theorem rd_blk {a : Memref sig .tc .vmem S16384x128 .bf16} (ha : a.IsWhole) (x : Vec F S16384x128 .bf16) (b : ℕ) (hb : b < 16) {off : Fin 2 → ℕ} (h : off = ![b * 1024, 0]) (inb : ∀ a, off a + S1024x128.size a ≤ S16384x128.size a) :
    View.readAt (Elt F) a.view (Rect.unit (s := S16384x128) off S1024x128.size inb).toLoadRect (ha.unread x) = blk x b :=
  (congrArg (fun y => View.ld y (Rect.unit (s := S16384x128) off S1024x128.size inb)) (ha.read_unread x)).trans (ld_blk x b hb h inb)

/-- Loads of the eight column tiles read the tiles. -/
theorem rd_tile {a : Memref sig .tc .vmem S1024x1024 .f32} (ha : a.IsWhole) (x : Vec F S1024x1024 .f32) :
    (fun o : Fin 8 => (View.readAt (Elt F) a.view (Rect.unit (s := S1024x1024) ![0, 128 * o.val] S1024x128.size (tile_inb o)).toLoadRect (ha.unread x) : Vec F S1024x128 .f32)) = tile x :=
  funext fun o => congrArg (fun y => View.ld y (Rect.unit (s := S1024x1024) ![0, 128 * o.val] S1024x128.size (tile_inb o))) (ha.read_unread x)

/-- The same after a store of the whole block. -/
theorem cov_tile {a : Memref sig .tc .vmem S1024x1024 .f32} (w : Vec F S1024x1024 .f32) (inb : ∀ a, ![0, 0] a + S1024x1024.size a ≤ S1024x1024.size a) (L : List (View.Piece (Elt F) S1024x1024 .f32)) :
    (fun o : Fin 8 => (a.view.readCov ((⟨Rect.unit (s := S1024x1024) ![0, 0] S1024x1024.size inb, w⟩ : View.Piece (Elt F) S1024x1024 .f32) :: L) (Rect.unit (s := S1024x1024) ![0, 128 * o.val] S1024x128.size (tile_inb o)).toLoadRect : Vec F S1024x128 .f32)) = tile w :=
  funext fun o => readCov_whole_ld a.view inb z2 w L _

/-! ## The words the body computes: trip counts, branches, row offsets -/

/-- The grid point of head `0` and query block `n`: what the body's words depend on. -/
def pt (n : Fin 16) : grid0.Coords := fun a => match a with | 0 => (0 : Fin 16) | 1 => n

/-- The number of trips, half the row block's number, checked for each of the 16 row blocks. -/
theorem trips_pt : ∀ n : Fin 16, (k0_t1_loop (pt n)).trips = n.val / 2 := by decide +kernel
/-- The number of trips is half the row block's number. -/
theorem trips_eq (i : grid0.Coords) : (k0_t1_loop i).trips = (i 1).val / 2 := trips_pt (i 1)
/-- The first branch is taken at odd row blocks, checked for each of the 16. -/
theorem cond1_pt : ∀ n : Fin 16, k0_cond1 (pt n) = 1#1 ↔ n.val % 2 = 1 := by decide +kernel
/-- The first branch is taken exactly at odd row blocks. -/
theorem cond1_iff (i : grid0.Coords) : k0_cond1 i = 1#1 ↔ (i 1).val % 2 = 1 := cond1_pt (i 1)
/-- The second branch is taken at even row blocks, checked for each of the 16. -/
theorem cond2_pt : ∀ n : Fin 16, k0_cond2 (pt n) = 1#1 ↔ n.val % 2 = 0 := by decide +kernel
/-- The second branch is taken exactly at even row blocks. -/
theorem cond2_iff (i : grid0.Coords) : k0_cond2 i = 1#1 ↔ (i 1).val % 2 = 0 := cond2_pt (i 1)
/-- The row offset of a block of keys or values, as the body computes it, checked for each of the 16 row blocks. -/
theorem off7_pt : ∀ n : Fin 16, n.val % 2 = 1 → k0_off7 (pt n) = ![n.val * 1024, 0] := by decide +kernel
/-- The row offset of a block of keys or values, in terms of the row block's number. -/
theorem off7_eq (i : grid0.Coords) (h : (i 1).val % 2 = 1) : k0_off7 i = ![(i 1).val * 1024, 0] := off7_pt (i 1) h
/-- The row offset of a block of keys or values, as the body computes it, checked for each of the 16 row blocks. -/
theorem off8_pt : ∀ n : Fin 16, n.val % 2 = 1 → k0_off8 (pt n) = ![(n.val - 1) * 1024, 0] := by decide +kernel
/-- The row offset of a block of keys or values, in terms of the row block's number. -/
theorem off8_eq (i : grid0.Coords) (h : (i 1).val % 2 = 1) : k0_off8 i = ![((i 1).val - 1) * 1024, 0] := off8_pt (i 1) h
/-- The row offset of a block of keys or values, as the body computes it, checked for each of the 16 row blocks. -/
theorem off9_pt : ∀ n : Fin 16, k0_off9 (pt n) = ![n.val * 1024, 0] := by decide +kernel
/-- The row offset of a block of keys or values, in terms of the row block's number. -/
theorem off9_eq (i : grid0.Coords) : k0_off9 i = ![(i 1).val * 1024, 0] := off9_pt (i 1)
/-- The row offset of a block of keys or values, as the body computes it, checked for each of the 16 row blocks. -/
theorem off10_pt : ∀ n : Fin 16, k0_off10 (pt n) = ![n.val * 1024, 0] := by decide +kernel
/-- The row offset of a block of keys or values, in terms of the row block's number. -/
theorem off10_eq (i : grid0.Coords) : k0_off10 i = ![(i 1).val * 1024, 0] := off10_pt (i 1)

/-- A trip of the loop has a number below seven. -/
theorem k_lt (i : grid0.Coords) (k : Fin (k0_t1_loop i).trips) : k.val < 7 := by
  have h := k.isLt
  have : (i 1).val < 16 := (i 1).isLt
  have e := trips_eq i; omega

/-- The row offset of the odd key block of a trip, as the body computes it in words. -/
def w1 (k : ℕ) : ℕ := (Scalar.indexCast (Scalar.muli (Scalar.addi (Scalar.muli 2#32 (Scf.iv 0#32 1#32 k)) 1#32) 1024#32)).toNat
/-- The row offset of the even key block of a trip, as the body computes it in words. -/
def w2 (k : ℕ) : ℕ := (Scalar.indexCast (Scalar.muli (Scalar.muli 2#32 (Scf.iv 0#32 1#32 k)) 1024#32)).toNat
/-- The row offset of the next even key block, as the body computes it in words. -/
def w3 (k : ℕ) : ℕ := (Scalar.indexCast (Scalar.muli (Scalar.addi (Scalar.addi (Scalar.muli 2#32 (Scf.iv 0#32 1#32 k)) 1#32) 1#32) 1024#32)).toNat
/-- The word arithmetic of the odd block's offset does not wrap. -/
theorem w1_eq : ∀ k : Fin 7, w1 k.val = (2 * k.val + 1) * 1024 := by decide +kernel
/-- The word arithmetic of the even block's offset does not wrap. -/
theorem w2_eq : ∀ k : Fin 7, w2 k.val = (2 * k.val) * 1024 := by decide +kernel
/-- The word arithmetic of the next block's offset does not wrap. -/
theorem w3_eq : ∀ k : Fin 7, w3 k.val = (2 * k.val + 2) * 1024 := by decide +kernel
/-- The row offset of the odd key block of a trip. -/
theorem off1_eq (i : grid0.Coords) (k : Fin (k0_t1_loop i).trips) : k0_off1 i k = ![(2 * k.val + 1) * 1024, 0] :=
  (show k0_off1 i k = ![w1 k.val, 0] from rfl).trans (by rw [w1_eq ⟨k.val, k_lt i k⟩])
/-- The row offset of the even block of a trip. -/
theorem off2_eq (i : grid0.Coords) (k : Fin (k0_t1_loop i).trips) : k0_off2 i k = ![(2 * k.val) * 1024, 0] :=
  (show k0_off2 i k = ![w2 k.val, 0] from rfl).trans (by rw [w2_eq ⟨k.val, k_lt i k⟩])
/-- The row offset of the next even key block of a trip. -/
theorem off3_eq (i : grid0.Coords) (k : Fin (k0_t1_loop i).trips) : k0_off3 i k = ![(2 * k.val + 2) * 1024, 0] :=
  (show k0_off3 i k = ![w3 k.val, 0] from rfl).trans (by rw [w3_eq ⟨k.val, k_lt i k⟩])

/-! ## The recursion over the key blocks -/

/-- The state after the key blocks before `b`: running maximum, weighted values beside weights' sums. -/
def st (q : Vec F S1024x256 .bf16) (kn kp v : Vec F S16384x128 .bf16) : ℕ → Vec F S1024x128 .f32 × Vec F S1024x256 .f32
  | 0 => (k0_pay68, k0_pay69)
  | b + 1 => (mNext (tile (scoreB q (blk kn b) (blk kp b))) (st q kn kp v b).1,
      aNext (tile (scoreB q (blk kn b) (blk kp b))) (st q kn kp v b).1 (blk v b) (st q kn kp v b).2)

/-- The weighted values beside the weights' sums after the diagonal block `b`. -/
def accD (q : Vec F S1024x256 .bf16) (kn kp v : Vec F S16384x128 .bf16) (b : ℕ) : Vec F S1024x256 .f32 :=
  aNext (mtile (scoreB q (blk kn b) (blk kp b))) (st q kn kp v b).1 (blk v b) (st q kn kp v b).2

/-- The left half of the joined queries lies within their buffer. -/
theorem half_inb0 : ∀ a, ![0, 0] a + S1024x128.size a ≤ S1024x256.size a := by decide
/-- The right half of the joined queries lies within their buffer. -/
theorem half_inb1 : ∀ a, ![0, 128] a + S1024x128.size a ≤ S1024x256.size a := by decide

/-- What a grid point writes: the weighted values over the weights' sums. -/
def outB (qn qp : Vec F S1024x128 .bf16) (kn kp v : Vec F S16384x128 .bf16) (b : ℕ) : Vec F S1024x128 .bf16 :=
  k0_pay3 (View.ld (Val := Elt F) (e' := .f32) (accD (k0_pay67 qn qp) kn kp v b) (Rect.unit (s := S1024x256) ![0, 0] S1024x128.size half_inb0))
    (View.ld (Val := Elt F) (e' := .f32) (accD (k0_pay67 qn qp) kn kp v b) (Rect.unit (s := S1024x256) ![0, 128] S1024x128.size half_inb1))

end Cert.KernelIdeal.Flash

end
-- ==== Proof.Trip.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.Stage
public import Idealize.ShloMosaic.Lib.VecWindow
public import Idealize.ShloMosaic.Lib.Pipeline.ValueKit.Basic
public import Idealize.ShloMosaic.Lib.Pipeline.Value

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The proof's resource algebra: the frame kit's. -/
local notation "𝕄" => MT nD τ sig Unit (Elt F) ℕ (UR sig nD τ) ℕ

/-- One trip of the loop: two stages, each of which computes the next scores and folds in the current ones. -/
def tripRun (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole)
    (arg1 : BitVec 32) (v14 : FVec F S1024x128 .bf16) (c2_i32 : BitVec 32) (v26 : BitVec 32) (v28 : BitVec 32) (v29 : BitVec 1)
    (k : Fin (k0_t1_loop i).trips)
    (x4 x5 x6 : Vec F S16384x128 .bf16) (x8 : Vec F S1024x256 .bf16) (x9 : Vec F S1024x128 .f32) (x10 : Vec F S1024x256 .f32) (x11 : Vec F S1024x1024 .f32) :
    Σ' (y9 : Vec F S1024x128 .f32) (y10 : Vec F S1024x256 .f32), { y11 : Vec F S1024x1024 .f32 //
      ∀ (E : Set ℕ) (K : Unit → sProp 𝕄),
        iprop(owns (c : Thread nD τ) arg4 fullShare x4 ∗ owns (c : Thread nD τ) arg5 fullShare x5 ∗ owns (c : Thread nD τ) arg6 fullShare x6 ∗ owns (c : Thread nD τ) arg8 fullShare x8
            ∗ owns (c : Thread nD τ) arg9 fullShare x9 ∗ owns (c : Thread nD τ) arg10 fullShare x10 ∗ owns (c : Thread nD τ) arg11 fullShare x11 ∗ (∃ d, owns (c : Thread nD τ) arg12 fullShare d)
            ∗ (iprop(owns (c : Thread nD τ) arg4 fullShare x4 ∗ owns (c : Thread nD τ) arg5 fullShare x5 ∗ owns (c : Thread nD τ) arg6 fullShare x6 ∗ owns (c : Thread nD τ) arg8 fullShare x8
            ∗ owns (c : Thread nD τ) arg9 fullShare y9 ∗ owns (c : Thread nD τ) arg10 fullShare y10 ∗ owns (c : Thread nD τ) arg11 fullShare y11 ∗ (∃ d, owns (c : Thread nD τ) arg12 fullShare d)) -∗ K ⟨⟩))
          ⊢ wp frame (wpE (defs₀ (F := F)) 𝒱₀ c none) E (k0_t1_body (F := F) i arg2 harg2 arg3 harg3 arg4 harg4 arg5 harg5 arg6 harg6 arg7 harg7 arg8 harg8 arg9 harg9 arg10 harg10 arg11 harg11 arg12 harg12 arg1 v14 c2_i32 v26 v28 v29 k PUnit.unit) K } := by
  refine ⟨?_, ?_, ?_, fun E K => ?run⟩
  case run =>
    unfold owns
    iintro ⟨⟨%f4, %hf4, H4⟩, ⟨%f5, %hf5, H5⟩, ⟨%f6, %hf6, H6⟩, ⟨%f8, %hf8, H8⟩, ⟨%f9, %hf9, H9⟩, ⟨%f10, %hf10, H10⟩, ⟨%f11, %hf11, H11⟩, ⟨%d12, %f12, -, H12⟩, Hk⟩
    obtain rfl := harg4.eq_unread hf4; obtain rfl := harg5.eq_unread hf5; obtain rfl := harg6.eq_unread hf6; obtain rfl := harg8.eq_unread hf8
    obtain rfl := harg9.eq_unread hf9; obtain rfl := harg10.eq_unread hf10; obtain rfl := harg11.eq_unread hf11
    sl_unfold [k0_t1_body]
    sl_exec!
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]
    · iexists _; isplitr; · ipureintro; exact harg8.read_unread _
      iexact H8
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    iexists _, _; isplitr; swap; · iexact H12
    ipureintro; rfl

end Cert.KernelIdeal.Flash

end
-- ==== Proof.TripV.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.Trip
public import Idealize.ShloMosaic.Lib.VecWindow
public import Idealize.ShloMosaic.Lib.Pipeline.ValueKit.Basic
public import Idealize.ShloMosaic.Lib.Pipeline.Value

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The proof's resource algebra: the frame kit's. -/
local notation "𝕄" => MT nD τ sig Unit (Elt F) ℕ (UR sig nD τ) ℕ

section Values
variable (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole)
    (arg1 : BitVec 32) (c2_i32 : BitVec 32) (v26 : BitVec 32) (v28 : BitVec 32) (v29 : BitVec 1)
    (k : Fin (k0_t1_loop i).trips)
    (x4 x5 x6 : Vec F S16384x128 .bf16) (x8 : Vec F S1024x256 .bf16) (x9 : Vec F S1024x128 .f32) (x10 : Vec F S1024x256 .f32) (x11 : Vec F S1024x1024 .f32)

/-- The score block the trip forms first. -/
theorem v92_eq : tripRun.sl.v92 c i arg4 harg4 arg5 harg5 arg8 harg8 k x4 x5 x8 = (scoreB x8 (blk x4 (2 * k.val + 1)) (blk x5 (2 * k.val + 1))) := by
  have e1 : 2 * k.val + 1 < 16 := by have := k_lt i k; omega
  have e2 : 2 * k.val < 16 := by have := k_lt i k; omega
  have e3 : 2 * k.val + 2 < 16 := by have := k_lt i k; omega
  refine (show _ = shapeCast S1024x1024 (scoreB (View.readAt (Elt F) arg8.view (Rect.unit (s := S1024x256) ![0, 0] S1024x256.size (by decide)).toLoadRect (harg8.unread x8) : Vec F S1024x256 _) (View.readAt (Elt F) arg4.view (Rect.unit (s := S16384x128) (k0_off1 i k) S1024x128.size (k0_off1_inb i k)).toLoadRect (harg4.unread x4) : Vec F S1024x128 _) (View.readAt (Elt F) arg5.view (Rect.unit (s := S16384x128) (k0_off1 i k) S1024x128.size (k0_off1_inb i k)).toLoadRect (harg5.unread x5) : Vec F S1024x128 _)) shapeCasts_S1024x1024_S1024x1024 from rfl).trans ?_
  rw [shapeCast_self, rd_full harg8 x8 z2, rd_blk harg4 x4 _ e1 (off1_eq i k), rd_blk harg5 x5 _ e1 (off1_eq i k)]

/-- The score block the trip leaves for the next. -/
theorem v170_eq : tripRun.sl.v170 c i arg4 harg4 arg5 harg5 arg8 harg8 k x4 x5 x8 = (scoreB x8 (blk x4 (2 * k.val + 2)) (blk x5 (2 * k.val + 2))) := by
  have e1 : 2 * k.val + 1 < 16 := by have := k_lt i k; omega
  have e2 : 2 * k.val < 16 := by have := k_lt i k; omega
  have e3 : 2 * k.val + 2 < 16 := by have := k_lt i k; omega
  refine (show _ = shapeCast S1024x1024 (scoreB (View.readAt (Elt F) arg8.view (Rect.unit (s := S1024x256) ![0, 0] S1024x256.size (by decide)).toLoadRect (harg8.unread x8) : Vec F S1024x256 _) (View.readAt (Elt F) arg4.view (Rect.unit (s := S16384x128) (k0_off3 i k) S1024x128.size (k0_off3_inb i k)).toLoadRect (harg4.unread x4) : Vec F S1024x128 _) (View.readAt (Elt F) arg5.view (Rect.unit (s := S16384x128) (k0_off3 i k) S1024x128.size (k0_off3_inb i k)).toLoadRect (harg5.unread x5) : Vec F S1024x128 _)) shapeCasts_S1024x1024_S1024x1024 from rfl).trans ?_
  rw [shapeCast_self, rd_full harg8 x8 z2, rd_blk harg4 x4 _ e3 (off3_eq i k), rd_blk harg5 x5 _ e3 (off3_eq i k)]

/-- The row maximum after the trip's first stage. -/
theorem v155_eq : tripRun.sl.v155 c arg9 harg9 arg11 harg11 x9 x11 = mNext (tile x11) x9 := by
  refine (show _ = shapeCast S1024x128 (mNext (fun o : Fin 8 => (View.readAt (Elt F) arg11.view (Rect.unit (s := S1024x1024) ![0, 128 * o.val] S1024x128.size (tile_inb o)).toLoadRect (harg11.unread x11) : Vec F S1024x128 .f32)) (View.readAt (Elt F) arg9.view (Rect.unit (s := S1024x128) ![0, 0] S1024x128.size (by decide)).toLoadRect (harg9.unread x9) : Vec F S1024x128 _)) shapeCasts_S1024x128_S1024x128 from rfl).trans ?_
  rw [shapeCast_self, rd_full harg9 x9 z2, rd_tile harg11 x11]

/-- The weighted values after the trip's first stage. -/
theorem v152_eq : tripRun.sl.v152 c i arg6 harg6 arg9 harg9 arg10 harg10 arg11 harg11 (k0_pay70 (F := F)) k x6 x9 x10 x11 = aNext (tile x11) x9 (blk x6 (2 * k.val)) x10 := by
  have e1 : 2 * k.val + 1 < 16 := by have := k_lt i k; omega
  have e2 : 2 * k.val < 16 := by have := k_lt i k; omega
  have e3 : 2 * k.val + 2 < 16 := by have := k_lt i k; omega
  refine (show _ = shapeCast S1024x256 (aNext (fun o : Fin 8 => (View.readAt (Elt F) arg11.view (Rect.unit (s := S1024x1024) ![0, 128 * o.val] S1024x128.size (tile_inb o)).toLoadRect (harg11.unread x11) : Vec F S1024x128 .f32)) (View.readAt (Elt F) arg9.view (Rect.unit (s := S1024x128) ![0, 0] S1024x128.size (by decide)).toLoadRect (harg9.unread x9) : Vec F S1024x128 _) (View.readAt (Elt F) arg6.view (Rect.unit (s := S16384x128) (k0_off2 i k) S1024x128.size (k0_off2_inb i k)).toLoadRect (harg6.unread x6) : Vec F S1024x128 _) (View.readAt (Elt F) arg10.view (Rect.unit (s := S1024x256) ![0, 0] S1024x256.size (by decide)).toLoadRect (harg10.unread x10) : Vec F S1024x256 _)) shapeCasts_S1024x256_S1024x256 from rfl).trans ?_
  rw [shapeCast_self, rd_full harg9 x9 z2, rd_full harg10 x10 z2, rd_tile harg11 x11, rd_blk harg6 x6 _ e2 (off2_eq i k)]

/-- The strips that a trip's second stage reads are those of the odd key block's scores. -/
theorem T12_eq : (fun o : Fin 8 => (arg12.view.readCov (tripRun.sl.H12_1 c i arg4 harg4 arg5 harg5 arg8 harg8 k x4 x5 x8) (Rect.unit (s := S1024x1024) ![0, 128 * o.val] S1024x128.size (tile_inb o)).toLoadRect  : Vec F S1024x128 .f32)) = tile (scoreB x8 (blk x4 (2 * k.val + 1)) (blk x5 (2 * k.val + 1))) := by
  refine (cov_tile (a := arg12) _ _ []).trans ?_
  rw [v92_eq]

/-- The running maximum after the trip's first stage, as the second stage reads it. -/
theorem v191_eq : (tripRun.sl.v191 c arg9 harg9 arg11 harg11 x9 x11) = mNext (tile x11) x9 :=
  (cov_full (a := arg9) z2 z2 _ _ _ []).trans (v155_eq ..)

/-- The weighted values after the trip's first stage, as the second stage reads them. -/
theorem v225_eq : (tripRun.sl.v225 c i arg6 harg6 arg9 harg9 arg10 harg10 arg11 harg11 (k0_pay70 (F := F)) k x6 x9 x10 x11) = aNext (tile x11) x9 (blk x6 (2 * k.val)) x10 :=
  (cov_full (a := arg10) z2 z2 _ _ _ []).trans (v152_eq ..)

/-- The row maximum after the trip's second stage. -/
theorem v195_eq : (tripRun.sl.v195 c i arg4 harg4 arg5 harg5 arg8 harg8 arg9 harg9 arg11 harg11 arg12 k x4 x5 x8 x9 x11) = mNext (tile (scoreB x8 (blk x4 (2 * k.val + 1)) (blk x5 (2 * k.val + 1)))) (mNext (tile x11) x9) := by
  refine (show _ = mNext (fun o : Fin 8 => (arg12.view.readCov (tripRun.sl.H12_1 c i arg4 harg4 arg5 harg5 arg8 harg8 k x4 x5 x8) (Rect.unit (s := S1024x1024) ![0, 128 * o.val] S1024x128.size (tile_inb o)).toLoadRect  : Vec F S1024x128 .f32)) (tripRun.sl.v191 c arg9 harg9 arg11 harg11 x9 x11) from rfl).trans ?_
  rw [v191_eq, T12_eq]

/-- The weighted values after the trip's second stage. -/
theorem v230_eq : (tripRun.sl.v230 c i arg4 harg4 arg5 harg5 arg6 harg6 arg8 harg8 arg9 harg9 arg10 harg10 arg11 harg11 arg12 (k0_pay70 (F := F)) k x4 x5 x6 x8 x9 x10 x11) = aNext (tile (scoreB x8 (blk x4 (2 * k.val + 1)) (blk x5 (2 * k.val + 1)))) (mNext (tile x11) x9) (blk x6 (2 * k.val + 1)) (aNext (tile x11) x9 (blk x6 (2 * k.val)) x10) := by
  have e1 : 2 * k.val + 1 < 16 := by have := k_lt i k; omega
  have e2 : 2 * k.val < 16 := by have := k_lt i k; omega
  have e3 : 2 * k.val + 2 < 16 := by have := k_lt i k; omega
  refine (show _ = shapeCast S1024x256 (aNext (fun o : Fin 8 => (arg12.view.readCov (tripRun.sl.H12_1 c i arg4 harg4 arg5 harg5 arg8 harg8 k x4 x5 x8) (Rect.unit (s := S1024x1024) ![0, 128 * o.val] S1024x128.size (tile_inb o)).toLoadRect  : Vec F S1024x128 .f32)) (tripRun.sl.v191 c arg9 harg9 arg11 harg11 x9 x11) (View.readAt (Elt F) arg6.view (Rect.unit (s := S16384x128) (k0_off1 i k) S1024x128.size (k0_off1_inb i k)).toLoadRect (harg6.unread x6) : Vec F S1024x128 _) (tripRun.sl.v225 c i arg6 harg6 arg9 harg9 arg10 harg10 arg11 harg11 (k0_pay70 (F := F)) k x6 x9 x10 x11)) shapeCasts_S1024x256_S1024x256 from rfl).trans ?_
  rw [shapeCast_self, v191_eq, v225_eq, T12_eq, rd_blk harg6 x6 _ e1 (off1_eq i k)]

/-- The row maximum a trip leaves. -/
theorem trip_max : (tripRun c i arg2 harg2 arg3 harg3 arg4 harg4 arg5 harg5 arg6 harg6 arg7 harg7 arg8 harg8 arg9 harg9 arg10 harg10 arg11 harg11 arg12 harg12 arg1 (k0_pay70 (F := F)) c2_i32 v26 v28 v29 k x4 x5 x6 x8 x9 x10 x11).1 = mNext (tile (scoreB x8 (blk x4 (2 * k.val + 1)) (blk x5 (2 * k.val + 1)))) (mNext (tile x11) x9) := by
  refine (View.read_writes_full _ _ _ _ _).trans ?_
  exact (shapeCast_self _ _).trans (v195_eq ..)

/-- The weighted values a trip leaves. -/
theorem trip_acc : (tripRun c i arg2 harg2 arg3 harg3 arg4 harg4 arg5 harg5 arg6 harg6 arg7 harg7 arg8 harg8 arg9 harg9 arg10 harg10 arg11 harg11 arg12 harg12 arg1 (k0_pay70 (F := F)) c2_i32 v26 v28 v29 k x4 x5 x6 x8 x9 x10 x11).2.1 = aNext (tile (scoreB x8 (blk x4 (2 * k.val + 1)) (blk x5 (2 * k.val + 1)))) (mNext (tile x11) x9) (blk x6 (2 * k.val + 1)) (aNext (tile x11) x9 (blk x6 (2 * k.val)) x10) :=
  (View.read_writes_full _ _ _ _ _).trans (v230_eq ..)

/-- The score block a trip leaves. -/
theorem trip_score : (tripRun c i arg2 harg2 arg3 harg3 arg4 harg4 arg5 harg5 arg6 harg6 arg7 harg7 arg8 harg8 arg9 harg9 arg10 harg10 arg11 harg11 arg12 harg12 arg1 (k0_pay70 (F := F)) c2_i32 v26 v28 v29 k x4 x5 x6 x8 x9 x10 x11).2.2.1 = (scoreB x8 (blk x4 (2 * k.val + 2)) (blk x5 (2 * k.val + 2))) :=
  (View.read_writes_full _ _ _ _ _).trans (v170_eq ..)

end Values

end Cert.KernelIdeal.Flash

end
-- ==== Proof.LoopT.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.TripV
public import Idealize.ShloMosaic.Lib.VecWindow
public import Idealize.ShloMosaic.Lib.Pipeline.ValueKit.Basic
public import Idealize.ShloMosaic.Lib.Pipeline.Value

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The proof's resource algebra: the frame kit's. -/
local notation "𝕄" => MT nD τ sig Unit (Elt F) ℕ (UR sig nD τ) ℕ

/-- The three scratch blocks before trip `k`, read: row maximum, weighted values, scores. -/
def ms (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole)
    (arg1 : BitVec 32) (v14 : FVec F S1024x128 .bf16) (c2_i32 : BitVec 32) (v26 : BitVec 32) (v28 : BitVec 32) (v29 : BitVec 1) (x4 x5 x6 : Vec F S16384x128 .bf16) (x8 : Vec F S1024x256 .bf16) (x9 : Vec F S1024x128 .f32) (x10 : Vec F S1024x256 .f32) (x11 : Vec F S1024x1024 .f32) : ℕ → Vec F S1024x128 .f32 × Vec F S1024x256 .f32 × Vec F S1024x1024 .f32
  | 0 => (x9, x10, x11)
  | k + 1 =>
    let p := ms c i arg2 harg2 arg3 harg3 arg4 harg4 arg5 harg5 arg6 harg6 arg7 harg7 arg8 harg8 arg9 harg9 arg10 harg10 arg11 harg11 arg12 harg12 arg1 v14 c2_i32 v26 v28 v29 x4 x5 x6 x8 x9 x10 x11 k
    if h : k < (k0_t1_loop i).trips then
      let r := tripRun c i arg2 harg2 arg3 harg3 arg4 harg4 arg5 harg5 arg6 harg6 arg7 harg7 arg8 harg8 arg9 harg9 arg10 harg10 arg11 harg11 arg12 harg12 arg1 v14 c2_i32 v26 v28 v29 ⟨k, h⟩ x4 x5 x6 x8 p.1 p.2.1 p.2.2
      (r.1, r.2.1, r.2.2.1)
    else p

/-- A whole block's contents that start at `G` and read `y` afterwards. -/
def cst {S : Shape} {e : EltTy} {a : Memref sig .tc .vmem S e} (ha : a.IsWhole) (G : BufTy.Contents (Elt F) a.view.ty) (y : ℕ → Vec F S e) : ℕ → BufTy.Contents (Elt F) a.view.ty
  | 0 => G
  | k + 1 => ha.unread (y (k + 1))

/-- Reading a whole buffer that was filled with given contents gives these contents. -/
theorem read_cst {S : Shape} {e : EltTy} {a : Memref sig .tc .vmem S e} (ha : a.IsWhole) (G : BufTy.Contents (Elt F) a.view.ty) (y : ℕ → Vec F S e) (h : a.view.read (Elt F) G = y 0) (k : ℕ) :
    a.view.read (Elt F) (cst ha G y k) = y k := by
  cases k with
  | zero => exact h
  | succ k => exact ha.read_unread _

set_option warn.classDefReducibility false in
/-- The invariant of the loop over pairs of key blocks. -/
@[sl_loop] def loopPairs (E : Set ℕ) (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole)
    (arg1 : BitVec 32) (v14 : FVec F S1024x128 .bf16) (c2_i32 : BitVec 32) (v26 : BitVec 32) (v28 : BitVec 32) (v29 : BitVec 1) (X4 : BufTy.Contents (Elt F) arg4.view.ty) (X5 : BufTy.Contents (Elt F) arg5.view.ty) (X6 : BufTy.Contents (Elt F) arg6.view.ty) (X8 : BufTy.Contents (Elt F) arg8.view.ty) (G9 : BufTy.Contents (Elt F) arg9.view.ty) (G10 : BufTy.Contents (Elt F) arg10.view.ty) (G11 : BufTy.Contents (Elt F) arg11.view.ty) :
    LoopInvTy_k0_t1 (F := F) Unit ℕ (UR sig nD τ) ℕ 𝒱₀ c none E i arg2 harg2 arg3 harg3 arg4 harg4 arg5 harg5 arg6 harg6 arg7 harg7 arg8 harg8 arg9 harg9 arg10 harg10 arg11 harg11 arg12 harg12 arg1 v14 c2_i32 v26 v28 v29 where
  inv k _ := iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8)
    ∗ (∃ f, (arg9.view.loc (c : Thread nD τ) ↦[arg9.view.set]{fullShare} f) ∗ ⌜f = cst harg9 G9 (fun k => (ms c i arg2 harg2 arg3 harg3 arg4 harg4 arg5 harg5 arg6 harg6 arg7 harg7 arg8 harg8 arg9 harg9 arg10 harg10 arg11 harg11 arg12 harg12 arg1 v14 c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) k).1) k⌝)
    ∗ (∃ f, (arg10.view.loc (c : Thread nD τ) ↦[arg10.view.set]{fullShare} f) ∗ ⌜f = cst harg10 G10 (fun k => (ms c i arg2 harg2 arg3 harg3 arg4 harg4 arg5 harg5 arg6 harg6 arg7 harg7 arg8 harg8 arg9 harg9 arg10 harg10 arg11 harg11 arg12 harg12 arg1 v14 c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) k).2.1) k⌝)
    ∗ (∃ f, (arg11.view.loc (c : Thread nD τ) ↦[arg11.view.set]{fullShare} f) ∗ ⌜f = cst harg11 G11 (fun k => (ms c i arg2 harg2 arg3 harg3 arg4 harg4 arg5 harg5 arg6 harg6 arg7 harg7 arg8 harg8 arg9 harg9 arg10 harg10 arg11 harg11 arg12 harg12 arg1 v14 c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) k).2.2) k⌝)
    ∗ (∃ f, (arg12.view.loc (c : Thread nD τ) ↦[arg12.view.set]{fullShare} f)))
  step k acc := by
    obtain ⟨⟩ := acc
    have hm : ms c i arg2 harg2 arg3 harg3 arg4 harg4 arg5 harg5 arg6 harg6 arg7 harg7 arg8 harg8 arg9 harg9 arg10 harg10 arg11 harg11 arg12 harg12 arg1 v14 c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) (k.val + 1) = _ := (show ms c i arg2 harg2 arg3 harg3 arg4 harg4 arg5 harg5 arg6 harg6 arg7 harg7 arg8 harg8 arg9 harg9 arg10 harg10 arg11 harg11 arg12 harg12 arg1 v14 c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) (k.val + 1) = _ from rfl).trans (dif_pos k.isLt)
    have h9 := read_cst harg9 G9 (fun k => (ms c i arg2 harg2 arg3 harg3 arg4 harg4 arg5 harg5 arg6 harg6 arg7 harg7 arg8 harg8 arg9 harg9 arg10 harg10 arg11 harg11 arg12 harg12 arg1 v14 c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) k).1) rfl k.val
    have h10 := read_cst harg10 G10 (fun k => (ms c i arg2 harg2 arg3 harg3 arg4 harg4 arg5 harg5 arg6 harg6 arg7 harg7 arg8 harg8 arg9 harg9 arg10 harg10 arg11 harg11 arg12 harg12 arg1 v14 c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) k).2.1) rfl k.val
    have h11 := read_cst harg11 G11 (fun k => (ms c i arg2 harg2 arg3 harg3 arg4 harg4 arg5 harg5 arg6 harg6 arg7 harg7 arg8 harg8 arg9 harg9 arg10 harg10 arg11 harg11 arg12 harg12 arg1 v14 c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) k).2.2) rfl k.val
    iintro ⟨H4, H5, H6, H8, ⟨%f9, H9, %e9⟩, ⟨%f10, H10, %e10⟩, ⟨%f11, H11, %e11⟩, ⟨%f12, H12⟩⟩
    subst e9 e10 e11
    iapply ((tripRun c i arg2 harg2 arg3 harg3 arg4 harg4 arg5 harg5 arg6 harg6 arg7 harg7 arg8 harg8 arg9 harg9 arg10 harg10 arg11 harg11 arg12 harg12 arg1 v14 c2_i32 v26 v28 v29 k (arg4.view.read (Elt F) X4) (arg5.view.read (Elt F) X5) (arg6.view.read (Elt F) X6) (arg8.view.read (Elt F) X8) (ms c i arg2 harg2 arg3 harg3 arg4 harg4 arg5 harg5 arg6 harg6 arg7 harg7 arg8 harg8 arg9 harg9 arg10 harg10 arg11 harg11 arg12 harg12 arg1 v14 c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) k.val).1 (ms c i arg2 harg2 arg3 harg3 arg4 harg4 arg5 harg5 arg6 harg6 arg7 harg7 arg8 harg8 arg9 harg9 arg10 harg10 arg11 harg11 arg12 harg12 arg1 v14 c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) k.val).2.1 (ms c i arg2 harg2 arg3 harg3 arg4 harg4 arg5 harg5 arg6 harg6 arg7 harg7 arg8 harg8 arg9 harg9 arg10 harg10 arg11 harg11 arg12 harg12 arg1 v14 c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) k.val).2.2).2.2.2 E _)
    unfold owns
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H8]
    · iexists _; isplitr; swap; · iexact H8
      ipureintro; rfl
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; iexists _; isplitr; swap; · iexact H12
      ipureintro; rfl
    iintro ⟨⟨%g4, %k4, H4⟩, ⟨%g5, %k5, H5⟩, ⟨%g6, %k6, H6⟩, ⟨%g8, %k8, H8⟩, ⟨%g9, %k9, H9⟩, ⟨%g10, %k10, H10⟩, ⟨%g11, %k11, H11⟩, ⟨%d12, %g12, -, H12⟩⟩
    obtain rfl := (harg4.eq_unread k4).trans (harg4.eq_unread rfl).symm
    obtain rfl := (harg5.eq_unread k5).trans (harg5.eq_unread rfl).symm
    obtain rfl := (harg6.eq_unread k6).trans (harg6.eq_unread rfl).symm
    obtain rfl := (harg8.eq_unread k8).trans (harg8.eq_unread rfl).symm
    isplitl [H4]; · iexact H4
    isplitl [H5]; · iexact H5
    isplitl [H6]; · iexact H6
    isplitl [H8]; · iexact H8
    isplitl [H9]
    · iexists _; isplitl; · iexact H9
      ipureintro; exact (harg9.eq_unread k9).trans (congrArg harg9.unread (congrArg (fun p => p.1) hm).symm)
    isplitl [H10]
    · iexists _; isplitl; · iexact H10
      ipureintro; exact (harg10.eq_unread k10).trans (congrArg harg10.unread (congrArg (fun p => p.2.1) hm).symm)
    isplitl [H11]
    · iexists _; isplitl; · iexact H11
      ipureintro; exact (harg11.eq_unread k11).trans (congrArg harg11.unread (congrArg (fun p => p.2.2) hm).symm)
    iexists _; iexact H12

/-- The second loop makes no trips. -/
theorem trips2_eq (i : grid0.Coords) : (k0_t2_loop i).trips = 0 := Nat.le_zero.mp (k0_t2_abs i).2.1

set_option warn.classDefReducibility false in
/-- The remainder loop makes no trip. -/
@[sl_loop] def loopRest (E : Set ℕ) (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole)
    (arg1 : BitVec 32) (v14 : FVec F S1024x128 .bf16) (c2_i32 : BitVec 32) (v26 : BitVec 32) (v28 : BitVec 32) (v29 : BitVec 1) (v47 : BitVec 32) :
    LoopInvTy_k0_t2 (F := F) Unit ℕ (UR sig nD τ) ℕ 𝒱₀ c none E i arg2 harg2 arg3 harg3 arg4 harg4 arg5 harg5 arg6 harg6 arg7 harg7 arg8 harg8 arg9 harg9 arg10 harg10 arg11 harg11 arg12 harg12 arg1 v14 c2_i32 v26 v28 v29 v47 where
  inv _ _ := iprop(emp)
  step k _ := (Nat.not_lt_zero _ (Nat.lt_of_lt_of_eq k.isLt (trips2_eq i))).elim

end Cert.KernelIdeal.Flash

end
-- ==== Proof.LoopV.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.LoopT
public import Idealize.ShloMosaic.Lib.VecWindow
public import Idealize.ShloMosaic.Lib.Pipeline.ValueKit.Basic
public import Idealize.ShloMosaic.Lib.Pipeline.Value

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The proof's resource algebra: the frame kit's. -/
local notation "𝕄" => MT nD τ sig Unit (Elt F) ℕ (UR sig nD τ) ℕ

/-- The scratch before trip `k` holds the state after the first `2 k` key blocks and the scores against key block `2 k`. -/
theorem ms_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole)
    (arg1 : BitVec 32) (c2_i32 : BitVec 32) (v26 : BitVec 32) (v28 : BitVec 32) (v29 : BitVec 1) (x4 x5 x6 : Vec F S16384x128 .bf16) (x8 : Vec F S1024x256 .bf16) (k : ℕ) (hk : k ≤ (k0_t1_loop i).trips) :
    ms c i arg2 harg2 arg3 harg3 arg4 harg4 arg5 harg5 arg6 harg6 arg7 harg7 arg8 harg8 arg9 harg9 arg10 harg10 arg11 harg11 arg12 harg12 arg1 (k0_pay70 (F := F)) c2_i32 v26 v28 v29 x4 x5 x6 x8 k0_pay68 k0_pay69 (scoreB x8 (blk x4 0) (blk x5 0)) k
      = ((st x8 x4 x5 x6 (2 * k)).1, (st x8 x4 x5 x6 (2 * k)).2, scoreB x8 (blk x4 (2 * k)) (blk x5 (2 * k))) := by
  induction k with
  | zero => rfl
  | succ k ih =>
    have h : k < (k0_t1_loop i).trips := hk
    refine (show _ = if h : k < (k0_t1_loop i).trips then _ else _ from rfl).trans ((dif_pos h).trans ?_)
    rw [ih h.le]
    refine Prod.ext ?_ (Prod.ext ?_ ?_)
    · exact trip_max c i arg2 harg2 arg3 harg3 arg4 harg4 arg5 harg5 arg6 harg6 arg7 harg7 arg8 harg8 arg9 harg9 arg10 harg10 arg11 harg11 arg12 harg12 arg1 c2_i32 v26 v28 v29 ⟨k, h⟩ x4 x5 x6 x8 (st x8 x4 x5 x6 (2 * k)).1 (st x8 x4 x5 x6 (2 * k)).2 (scoreB x8 (blk x4 (2 * k)) (blk x5 (2 * k)))
    · exact trip_acc c i arg2 harg2 arg3 harg3 arg4 harg4 arg5 harg5 arg6 harg6 arg7 harg7 arg8 harg8 arg9 harg9 arg10 harg10 arg11 harg11 arg12 harg12 arg1 c2_i32 v26 v28 v29 ⟨k, h⟩ x4 x5 x6 x8 (st x8 x4 x5 x6 (2 * k)).1 (st x8 x4 x5 x6 (2 * k)).2 (scoreB x8 (blk x4 (2 * k)) (blk x5 (2 * k)))
    · exact trip_score c i arg2 harg2 arg3 harg3 arg4 harg4 arg5 harg5 arg6 harg6 arg7 harg7 arg8 harg8 arg9 harg9 arg10 harg10 arg11 harg11 arg12 harg12 arg1 c2_i32 v26 v28 v29 ⟨k, h⟩ x4 x5 x6 x8 (st x8 x4 x5 x6 (2 * k)).1 (st x8 x4 x5 x6 (2 * k)).2 (scoreB x8 (blk x4 (2 * k)) (blk x5 (2 * k)))

/-! ## The scratch after the loop over pairs -/

/-- The running maximum after the loop, from its step equations. -/
theorem after9 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole)
    (arg1 : BitVec 32) (c2_i32 : BitVec 32) (v26 : BitVec 32) (v28 : BitVec 32) (v29 : BitVec 1) (X4 : BufTy.Contents (Elt F) arg4.view.ty) (X5 : BufTy.Contents (Elt F) arg5.view.ty) (X6 : BufTy.Contents (Elt F) arg6.view.ty) (X8 : BufTy.Contents (Elt F) arg8.view.ty) (G9 : BufTy.Contents (Elt F) arg9.view.ty) (G10 : BufTy.Contents (Elt F) arg10.view.ty) (G11 : BufTy.Contents (Elt F) arg11.view.ty) (x4 x5 x6 : Vec F S16384x128 .bf16) (x8 : Vec F S1024x256 .bf16) (h4 : (arg4.view.read (Elt F) X4) = x4) (h5 : (arg5.view.read (Elt F) X5) = x5) (h6 : (arg6.view.read (Elt F) X6) = x6) (h8 : (arg8.view.read (Elt F) X8) = x8) (h9 : (arg9.view.read (Elt F) G9) = k0_pay68) (h10 : (arg10.view.read (Elt F) G10) = k0_pay69) (h11 : (arg11.view.read (Elt F) G11) = scoreB x8 (blk x4 0) (blk x5 0)) (b : ℕ) (hb : 2 * (k0_t1_loop i).trips = b) :
    (arg9.view.read (Elt F) (cst harg9 G9 (fun k => (ms c i arg2 harg2 arg3 harg3 arg4 harg4 arg5 harg5 arg6 harg6 arg7 harg7 arg8 harg8 arg9 harg9 arg10 harg10 arg11 harg11 arg12 harg12 arg1 (k0_pay70 (F := F)) c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) k).1) (k0_t1_loop i).trips)) = (st x8 x4 x5 x6 b).1 := by
  subst h4 h5 h6 h8 hb
  refine (read_cst harg9 G9 _ rfl _).trans ?_
  show (ms c i arg2 harg2 arg3 harg3 arg4 harg4 arg5 harg5 arg6 harg6 arg7 harg7 arg8 harg8 arg9 harg9 arg10 harg10 arg11 harg11 arg12 harg12 arg1 (k0_pay70 (F := F)) c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) (k0_t1_loop i).trips).1 = _
  rw [h9, h10, h11, ms_eq]
  exact le_rfl

/-- The weighted values after the loop, from their step equations. -/
theorem after10 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole)
    (arg1 : BitVec 32) (c2_i32 : BitVec 32) (v26 : BitVec 32) (v28 : BitVec 32) (v29 : BitVec 1) (X4 : BufTy.Contents (Elt F) arg4.view.ty) (X5 : BufTy.Contents (Elt F) arg5.view.ty) (X6 : BufTy.Contents (Elt F) arg6.view.ty) (X8 : BufTy.Contents (Elt F) arg8.view.ty) (G9 : BufTy.Contents (Elt F) arg9.view.ty) (G10 : BufTy.Contents (Elt F) arg10.view.ty) (G11 : BufTy.Contents (Elt F) arg11.view.ty) (x4 x5 x6 : Vec F S16384x128 .bf16) (x8 : Vec F S1024x256 .bf16) (h4 : (arg4.view.read (Elt F) X4) = x4) (h5 : (arg5.view.read (Elt F) X5) = x5) (h6 : (arg6.view.read (Elt F) X6) = x6) (h8 : (arg8.view.read (Elt F) X8) = x8) (h9 : (arg9.view.read (Elt F) G9) = k0_pay68) (h10 : (arg10.view.read (Elt F) G10) = k0_pay69) (h11 : (arg11.view.read (Elt F) G11) = scoreB x8 (blk x4 0) (blk x5 0)) (b : ℕ) (hb : 2 * (k0_t1_loop i).trips = b) :
    (arg10.view.read (Elt F) (cst harg10 G10 (fun k => (ms c i arg2 harg2 arg3 harg3 arg4 harg4 arg5 harg5 arg6 harg6 arg7 harg7 arg8 harg8 arg9 harg9 arg10 harg10 arg11 harg11 arg12 harg12 arg1 (k0_pay70 (F := F)) c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) k).2.1) (k0_t1_loop i).trips)) = (st x8 x4 x5 x6 b).2 := by
  subst h4 h5 h6 h8 hb
  refine (read_cst harg10 G10 _ rfl _).trans ?_
  show (ms c i arg2 harg2 arg3 harg3 arg4 harg4 arg5 harg5 arg6 harg6 arg7 harg7 arg8 harg8 arg9 harg9 arg10 harg10 arg11 harg11 arg12 harg12 arg1 (k0_pay70 (F := F)) c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) (k0_t1_loop i).trips).2.1 = _
  rw [h9, h10, h11, ms_eq]
  exact le_rfl

/-- The first score buffer after the loop, from its step equations. -/
theorem after11 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole)
    (arg1 : BitVec 32) (c2_i32 : BitVec 32) (v26 : BitVec 32) (v28 : BitVec 32) (v29 : BitVec 1) (X4 : BufTy.Contents (Elt F) arg4.view.ty) (X5 : BufTy.Contents (Elt F) arg5.view.ty) (X6 : BufTy.Contents (Elt F) arg6.view.ty) (X8 : BufTy.Contents (Elt F) arg8.view.ty) (G9 : BufTy.Contents (Elt F) arg9.view.ty) (G10 : BufTy.Contents (Elt F) arg10.view.ty) (G11 : BufTy.Contents (Elt F) arg11.view.ty) (x4 x5 x6 : Vec F S16384x128 .bf16) (x8 : Vec F S1024x256 .bf16) (h4 : (arg4.view.read (Elt F) X4) = x4) (h5 : (arg5.view.read (Elt F) X5) = x5) (h6 : (arg6.view.read (Elt F) X6) = x6) (h8 : (arg8.view.read (Elt F) X8) = x8) (h9 : (arg9.view.read (Elt F) G9) = k0_pay68) (h10 : (arg10.view.read (Elt F) G10) = k0_pay69) (h11 : (arg11.view.read (Elt F) G11) = scoreB x8 (blk x4 0) (blk x5 0)) (b : ℕ) (hb : 2 * (k0_t1_loop i).trips = b) :
    (arg11.view.read (Elt F) (cst harg11 G11 (fun k => (ms c i arg2 harg2 arg3 harg3 arg4 harg4 arg5 harg5 arg6 harg6 arg7 harg7 arg8 harg8 arg9 harg9 arg10 harg10 arg11 harg11 arg12 harg12 arg1 (k0_pay70 (F := F)) c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) k).2.2) (k0_t1_loop i).trips)) = scoreB x8 (blk x4 b) (blk x5 b) := by
  subst h4 h5 h6 h8 hb
  refine (read_cst harg11 G11 _ rfl _).trans ?_
  show (ms c i arg2 harg2 arg3 harg3 arg4 harg4 arg5 harg5 arg6 harg6 arg7 harg7 arg8 harg8 arg9 harg9 arg10 harg10 arg11 harg11 arg12 harg12 arg1 (k0_pay70 (F := F)) c2_i32 v26 v28 v29 (arg4.view.read (Elt F) X4) (arg5.view.read (Elt F) X5) (arg6.view.read (Elt F) X6) (arg8.view.read (Elt F) X8) (arg9.view.read (Elt F) G9) (arg10.view.read (Elt F) G10) (arg11.view.read (Elt F) G11) (k0_t1_loop i).trips).2.2 = _
  rw [h9, h10, h11, ms_eq]
  exact le_rfl

end Cert.KernelIdeal.Flash

end
-- ==== Proof.Even.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.LoopT
public import Idealize.ShloMosaic.Lib.VecWindow
public import Idealize.ShloMosaic.Lib.Pipeline.ValueKit.Basic
public import Idealize.ShloMosaic.Lib.Pipeline.Value

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The proof's resource algebra: the frame kit's. -/
local notation "𝕄" => MT nD τ sig Unit (Elt F) ℕ (UR sig nD τ) ℕ

/-- One grid point at a query block whose number is even: run from its inputs, with the output's and the scratch's earlier contents whatever they were. -/
def bodyEven (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole) (hi : (i 1).val % 2 = 0)
    (x2 x3 : Vec F S1024x128 .bf16) (x4 x5 x6 : Vec F S16384x128 .bf16) :
    { y7 : Vec F S1024x128 .bf16 //
      ∀ (E : Set ℕ) (K : Unit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare y7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) 𝒱₀ c none) E (cc0_mla_flash_attention (F := F) i arg2 harg2 arg3 harg3 arg4 harg4 arg5 harg5 arg6 harg6 arg7 harg7 arg8 harg8 arg9 harg9 arg10 harg10 arg11 harg11 arg12 harg12) K } := by
  have hc1 : ¬ k0_cond1 i = 1#1 := fun h => by have := (cond1_iff i).mp h; omega
  have hc2 : k0_cond2 i = 1#1 := (cond2_iff i).mpr hi
  have htr := trips2_eq i
  refine ⟨?_, fun E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf2; obtain rfl := harg3.eq_unread hf3
    obtain rfl := harg4.eq_unread hf4; obtain rfl := harg5.eq_unread hf5; obtain rfl := harg6.eq_unread hf6
    sl_unfold [cc0_mla_flash_attention]
    sl_exec!
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    iexists _, _; isplitr; swap; · iexact H12
    ipureintro; rfl

end Cert.KernelIdeal.Flash

end
-- ==== Proof.EvenV.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.LoopV
public import proofs.«01_k».proof.Proof.Even
public import Idealize.ShloMosaic.Lib.VecWindow
public import Idealize.ShloMosaic.Lib.Pipeline.ValueKit.Basic
public import Idealize.ShloMosaic.Lib.Pipeline.Value

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The proof's resource algebra: the frame kit's. -/
local notation "𝕄" => MT nD τ sig Unit (Elt F) ℕ (UR sig nD τ) ℕ

section Values
variable (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole)
    (x2 x3 : Vec F S1024x128 .bf16) (x4 x5 x6 : Vec F S16384x128 .bf16)

/-- The query block the scratch holds. -/
theorem Even_q : arg8.view.read (Elt F) (arg8.view.writes (Elt F) arg8.view.junk (bodyEven.sl.H8_1 c arg2 harg2 arg3 harg3 x2 x3)) = (k0_pay67 x2 x3) :=
  (View.read_writes_full _ _ _ _ _).trans (congrArg₂ k0_pay67 (rd_full harg2 x2 z2 _) (rd_full harg3 x3 z2 _))

/-- The first block of scores, before the loop. -/
theorem Even_v21 : bodyEven.sl.v21 c arg2 harg2 arg3 harg3 arg8 x2 x3 = (k0_pay67 x2 x3) :=
  (cov_full (a := arg8) z2 z2 _ _ _ []).trans (congrArg₂ k0_pay67 (rd_full harg2 x2 z2 _) (rd_full harg3 x3 z2 _))

/-- The scores against key block `0`, as the first store leaves them. -/
theorem Even_s0 (L : List (View.Piece (Elt F) S1024x1024 .f32)) (f : BufTy.Contents (Elt F) arg11.view.ty) :
    arg11.view.read (Elt F) (arg11.view.writes (Elt F) f (⟨Rect.unit (s := S1024x1024) ![0, 0] S1024x1024.size inb_S1024x1024_S1024x1024_0_0,
      k0_pay71 (View.readAt (Elt F) arg4.view (Rect.unit (s := S16384x128) ![0, 0] S1024x128.size inb_S16384x128_S1024x128_0_0).toLoadRect (harg4.unread x4))
        (View.readAt (Elt F) arg5.view (Rect.unit (s := S16384x128) ![0, 0] S1024x128.size inb_S16384x128_S1024x128_0_0).toLoadRect (harg5.unread x5)) (bodyEven.sl.v21 c arg2 harg2 arg3 harg3 arg8 x2 x3)⟩ :: L))
      = scoreB (k0_pay67 x2 x3) (blk x4 0) (blk x5 0) := by
  refine (View.read_writes_full _ _ _ _ _).trans ?_
  rw [Even_v21, rd_blk harg4 x4 0 (by decide) rfl, rd_blk harg5 x5 0 (by decide) rfl]
  exact shapeCast_self _ _

/-- In an even row block the loop goes over all key blocks below the diagonal. -/
theorem Even_trips (hi : (i 1).val % 2 = 0) : 2 * (k0_t1_loop i).trips = (i 1).val := by
  have := trips_eq i
  omega

variable (hi : (i 1).val % 2 = 0)
include hi

/-- The row maximum after the loop over pairs. -/
theorem Even_m : bodyEven.sl.v141 c i arg2 harg2 arg3 harg3 arg4 harg4 arg5 harg5 arg6 harg6 arg7 harg7 arg8 harg8 arg9 harg9 arg10 harg10 arg11 harg11 arg12 harg12 x2 x3 x4 x5 x6 = (st (k0_pay67 x2 x3) x4 x5 x6 (i 1).val).1 :=
  (congrArg (fun y => View.ld y (Rect.unit (s := S1024x128) ![0, 0] S1024x128.size (by decide))) (after9 (h4 := harg4.read_unread x4) (h5 := harg5.read_unread x5) (h6 := harg6.read_unread x6)
    (h8 := Even_q c arg2 harg2 arg3 harg3 arg8 x2 x3) (h9 := View.read_writes_full _ _ _ _ _) (h10 := View.read_writes_full _ _ _ _ _) (h11 := Even_s0 c arg2 harg2 arg3 harg3 arg4 harg4 arg5 harg5 arg8 arg11 x2 x3 x4 x5 _ _) (hb := Even_trips i hi) ..)).trans (View.ld_unit_lit _ _ z2)

/-- The weighted values after the loop over pairs. -/
theorem Even_a : bodyEven.sl.v175 c i arg2 harg2 arg3 harg3 arg4 harg4 arg5 harg5 arg6 harg6 arg7 harg7 arg8 harg8 arg9 harg9 arg10 harg10 arg11 harg11 arg12 harg12 x2 x3 x4 x5 x6 = (st (k0_pay67 x2 x3) x4 x5 x6 (i 1).val).2 :=
  (congrArg (fun y => View.ld y (Rect.unit (s := S1024x256) ![0, 0] S1024x256.size (by decide))) (after10 (h4 := harg4.read_unread x4) (h5 := harg5.read_unread x5) (h6 := harg6.read_unread x6)
    (h8 := Even_q c arg2 harg2 arg3 harg3 arg8 x2 x3) (h9 := View.read_writes_full _ _ _ _ _) (h10 := View.read_writes_full _ _ _ _ _) (h11 := Even_s0 c arg2 harg2 arg3 harg3 arg4 harg4 arg5 harg5 arg8 arg11 x2 x3 x4 x5 _ _) (hb := Even_trips i hi) ..)).trans (View.ld_unit_lit _ _ z2)

/-- The scores after the loop over pairs, tile by tile. -/
theorem Even_t : (![bodyEven.sl.v84 c i arg2 harg2 arg3 harg3 arg4 harg4 arg5 harg5 arg6 harg6 arg7 harg7 arg8 harg8 arg9 harg9 arg10 harg10 arg11 harg11 arg12 harg12 x2 x3 x4 x5 x6, bodyEven.sl.v85 c i arg2 harg2 arg3 harg3 arg4 harg4 arg5 harg5 arg6 harg6 arg7 harg7 arg8 harg8 arg9 harg9 arg10 harg10 arg11 harg11 arg12 harg12 x2 x3 x4 x5 x6, bodyEven.sl.v86 c i arg2 harg2 arg3 harg3 arg4 harg4 arg5 harg5 arg6 harg6 arg7 harg7 arg8 harg8 arg9 harg9 arg10 harg10 arg11 harg11 arg12 harg12 x2 x3 x4 x5 x6, bodyEven.sl.v87 c i arg2 harg2 arg3 harg3 arg4 harg4 arg5 harg5 arg6 harg6 arg7 harg7 arg8 harg8 arg9 harg9 arg10 harg10 arg11 harg11 arg12 harg12 x2 x3 x4 x5 x6, bodyEven.sl.v88 c i arg2 harg2 arg3 harg3 arg4 harg4 arg5 harg5 arg6 harg6 arg7 harg7 arg8 harg8 arg9 harg9 arg10 harg10 arg11 harg11 arg12 harg12 x2 x3 x4 x5 x6, bodyEven.sl.v89 c i arg2 harg2 arg3 harg3 arg4 harg4 arg5 harg5 arg6 harg6 arg7 harg7 arg8 harg8 arg9 harg9 arg10 harg10 arg11 harg11 arg12 harg12 x2 x3 x4 x5 x6, bodyEven.sl.v90 c i arg2 harg2 arg3 harg3 arg4 harg4 arg5 harg5 arg6 harg6 arg7 harg7 arg8 harg8 arg9 harg9 arg10 harg10 arg11 harg11 arg12 harg12 x2 x3 x4 x5 x6, bodyEven.sl.v91 c i arg2 harg2 arg3 harg3 arg4 harg4 arg5 harg5 arg6 harg6 arg7 harg7 arg8 harg8 arg9 harg9 arg10 harg10 arg11 harg11 arg12 harg12 x2 x3 x4 x5 x6] : Fin 8 → Vec F S1024x128 .f32) = tile (scoreB (k0_pay67 x2 x3) (blk x4 (i 1).val) (blk x5 (i 1).val)) := by
  funext o
  match o with
  | 0 => exact congrArg (fun y => View.ld y (Rect.unit (s := S1024x1024) ![0, 0] S1024x128.size (by decide))) (after11 (h4 := harg4.read_unread x4) (h5 := harg5.read_unread x5) (h6 := harg6.read_unread x6)
    (h8 := Even_q c arg2 harg2 arg3 harg3 arg8 x2 x3) (h9 := View.read_writes_full _ _ _ _ _) (h10 := View.read_writes_full _ _ _ _ _) (h11 := Even_s0 c arg2 harg2 arg3 harg3 arg4 harg4 arg5 harg5 arg8 arg11 x2 x3 x4 x5 _ _) (hb := Even_trips i hi) ..)
  | 1 => exact congrArg (fun y => View.ld y (Rect.unit (s := S1024x1024) ![0, 128] S1024x128.size (by decide))) (after11 (h4 := harg4.read_unread x4) (h5 := harg5.read_unread x5) (h6 := harg6.read_unread x6)
    (h8 := Even_q c arg2 harg2 arg3 harg3 arg8 x2 x3) (h9 := View.read_writes_full _ _ _ _ _) (h10 := View.read_writes_full _ _ _ _ _) (h11 := Even_s0 c arg2 harg2 arg3 harg3 arg4 harg4 arg5 harg5 arg8 arg11 x2 x3 x4 x5 _ _) (hb := Even_trips i hi) ..)
  | 2 => exact congrArg (fun y => View.ld y (Rect.unit (s := S1024x1024) ![0, 256] S1024x128.size (by decide))) (after11 (h4 := harg4.read_unread x4) (h5 := harg5.read_unread x5) (h6 := harg6.read_unread x6)
    (h8 := Even_q c arg2 harg2 arg3 harg3 arg8 x2 x3) (h9 := View.read_writes_full _ _ _ _ _) (h10 := View.read_writes_full _ _ _ _ _) (h11 := Even_s0 c arg2 harg2 arg3 harg3 arg4 harg4 arg5 harg5 arg8 arg11 x2 x3 x4 x5 _ _) (hb := Even_trips i hi) ..)
  | 3 => exact congrArg (fun y => View.ld y (Rect.unit (s := S1024x1024) ![0, 384] S1024x128.size (by decide))) (after11 (h4 := harg4.read_unread x4) (h5 := harg5.read_unread x5) (h6 := harg6.read_unread x6)
    (h8 := Even_q c arg2 harg2 arg3 harg3 arg8 x2 x3) (h9 := View.read_writes_full _ _ _ _ _) (h10 := View.read_writes_full _ _ _ _ _) (h11 := Even_s0 c arg2 harg2 arg3 harg3 arg4 harg4 arg5 harg5 arg8 arg11 x2 x3 x4 x5 _ _) (hb := Even_trips i hi) ..)
  | 4 => exact congrArg (fun y => View.ld y (Rect.unit (s := S1024x1024) ![0, 512] S1024x128.size (by decide))) (after11 (h4 := harg4.read_unread x4) (h5 := harg5.read_unread x5) (h6 := harg6.read_unread x6)
    (h8 := Even_q c arg2 harg2 arg3 harg3 arg8 x2 x3) (h9 := View.read_writes_full _ _ _ _ _) (h10 := View.read_writes_full _ _ _ _ _) (h11 := Even_s0 c arg2 harg2 arg3 harg3 arg4 harg4 arg5 harg5 arg8 arg11 x2 x3 x4 x5 _ _) (hb := Even_trips i hi) ..)
  | 5 => exact congrArg (fun y => View.ld y (Rect.unit (s := S1024x1024) ![0, 640] S1024x128.size (by decide))) (after11 (h4 := harg4.read_unread x4) (h5 := harg5.read_unread x5) (h6 := harg6.read_unread x6)
    (h8 := Even_q c arg2 harg2 arg3 harg3 arg8 x2 x3) (h9 := View.read_writes_full _ _ _ _ _) (h10 := View.read_writes_full _ _ _ _ _) (h11 := Even_s0 c arg2 harg2 arg3 harg3 arg4 harg4 arg5 harg5 arg8 arg11 x2 x3 x4 x5 _ _) (hb := Even_trips i hi) ..)
  | 6 => exact congrArg (fun y => View.ld y (Rect.unit (s := S1024x1024) ![0, 768] S1024x128.size (by decide))) (after11 (h4 := harg4.read_unread x4) (h5 := harg5.read_unread x5) (h6 := harg6.read_unread x6)
    (h8 := Even_q c arg2 harg2 arg3 harg3 arg8 x2 x3) (h9 := View.read_writes_full _ _ _ _ _) (h10 := View.read_writes_full _ _ _ _ _) (h11 := Even_s0 c arg2 harg2 arg3 harg3 arg4 harg4 arg5 harg5 arg8 arg11 x2 x3 x4 x5 _ _) (hb := Even_trips i hi) ..)
  | 7 => exact congrArg (fun y => View.ld y (Rect.unit (s := S1024x1024) ![0, 896] S1024x128.size (by decide))) (after11 (h4 := harg4.read_unread x4) (h5 := harg5.read_unread x5) (h6 := harg6.read_unread x6)
    (h8 := Even_q c arg2 harg2 arg3 harg3 arg8 x2 x3) (h9 := View.read_writes_full _ _ _ _ _) (h10 := View.read_writes_full _ _ _ _ _) (h11 := Even_s0 c arg2 harg2 arg3 harg3 arg4 harg4 arg5 harg5 arg8 arg11 x2 x3 x4 x5 _ _) (hb := Even_trips i hi) ..)

/-- The weighted values after the diagonal block. -/
theorem Even_acc (hc2 : k0_cond2 i = 1#1) : k0_pay1 (bodyEven.sl.r i arg6 harg6 x6 hc2) (bodyEven.sl.r_4 c i arg2 harg2 arg3 harg3 arg4 harg4 arg5 harg5 arg6 harg6 arg7 harg7 arg8 harg8 arg9 harg9 arg10 harg10 arg11 harg11 arg12 harg12 x2 x3 x4 x5 x6) (bodyEven.sl.r_5 c i arg2 harg2 arg3 harg3 arg4 harg4 arg5 harg5 arg6 harg6 arg7 harg7 arg8 harg8 arg9 harg9 arg10 harg10 arg11 harg11 arg12 harg12 x2 x3 x4 x5 x6) (bodyEven.sl.r_6 c i arg2 harg2 arg3 harg3 arg4 harg4 arg5 harg5 arg6 harg6 arg7 harg7 arg8 harg8 arg9 harg9 arg10 harg10 arg11 harg11 arg12 harg12 x2 x3 x4 x5 x6) (bodyEven.sl.r_7 c i arg2 harg2 arg3 harg3 arg4 harg4 arg5 harg5 arg6 harg6 arg7 harg7 arg8 harg8 arg9 harg9 arg10 harg10 arg11 harg11 arg12 harg12 x2 x3 x4 x5 x6) (bodyEven.sl.r_8 c i arg2 harg2 arg3 harg3 arg4 harg4 arg5 harg5 arg6 harg6 arg7 harg7 arg8 harg8 arg9 harg9 arg10 harg10 arg11 harg11 arg12 harg12 x2 x3 x4 x5 x6) (bodyEven.sl.r_9 c i arg2 harg2 arg3 harg3 arg4 harg4 arg5 harg5 arg6 harg6 arg7 harg7 arg8 harg8 arg9 harg9 arg10 harg10 arg11 harg11 arg12 harg12 x2 x3 x4 x5 x6) (bodyEven.sl.r_10 c i arg2 harg2 arg3 harg3 arg4 harg4 arg5 harg5 arg6 harg6 arg7 harg7 arg8 harg8 arg9 harg9 arg10 harg10 arg11 harg11 arg12 harg12 x2 x3 x4 x5 x6) (bodyEven.sl.r_11 c i arg2 harg2 arg3 harg3 arg4 harg4 arg5 harg5 arg6 harg6 arg7 harg7 arg8 harg8 arg9 harg9 arg10 harg10 arg11 harg11 arg12 harg12 x2 x3 x4 x5 x6) (bodyEven.sl.r_12 c i arg2 harg2 arg3 harg3 arg4 harg4 arg5 harg5 arg6 harg6 arg7 harg7 arg8 harg8 arg9 harg9 arg10 harg10 arg11 harg11 arg12 harg12 x2 x3 x4 x5 x6) (bodyEven.sl.r_13 c i arg2 harg2 arg3 harg3 arg4 harg4 arg5 harg5 arg6 harg6 arg7 harg7 arg8 harg8 arg9 harg9 arg10 harg10 arg11 harg11 arg12 harg12 x2 x3 x4 x5 x6) (bodyEven.sl.v175 c i arg2 harg2 arg3 harg3 arg4 harg4 arg5 harg5 arg6 harg6 arg7 harg7 arg8 harg8 arg9 harg9 arg10 harg10 arg11 harg11 arg12 harg12 x2 x3 x4 x5 x6) = accD (k0_pay67 x2 x3) x4 x5 x6 (i 1).val := by
  refine (show _ = shapeCast S1024x256 (aNext (fun o => msk o ((![bodyEven.sl.v84 c i arg2 harg2 arg3 harg3 arg4 harg4 arg5 harg5 arg6 harg6 arg7 harg7 arg8 harg8 arg9 harg9 arg10 harg10 arg11 harg11 arg12 harg12 x2 x3 x4 x5 x6, bodyEven.sl.v85 c i arg2 harg2 arg3 harg3 arg4 harg4 arg5 harg5 arg6 harg6 arg7 harg7 arg8 harg8 arg9 harg9 arg10 harg10 arg11 harg11 arg12 harg12 x2 x3 x4 x5 x6, bodyEven.sl.v86 c i arg2 harg2 arg3 harg3 arg4 harg4 arg5 harg5 arg6 harg6 arg7 harg7 arg8 harg8 arg9 harg9 arg10 harg10 arg11 harg11 arg12 harg12 x2 x3 x4 x5 x6, bodyEven.sl.v87 c i arg2 harg2 arg3 harg3 arg4 harg4 arg5 harg5 arg6 harg6 arg7 harg7 arg8 harg8 arg9 harg9 arg10 harg10 arg11 harg11 arg12 harg12 x2 x3 x4 x5 x6, bodyEven.sl.v88 c i arg2 harg2 arg3 harg3 arg4 harg4 arg5 harg5 arg6 harg6 arg7 harg7 arg8 harg8 arg9 harg9 arg10 harg10 arg11 harg11 arg12 harg12 x2 x3 x4 x5 x6, bodyEven.sl.v89 c i arg2 harg2 arg3 harg3 arg4 harg4 arg5 harg5 arg6 harg6 arg7 harg7 arg8 harg8 arg9 harg9 arg10 harg10 arg11 harg11 arg12 harg12 x2 x3 x4 x5 x6, bodyEven.sl.v90 c i arg2 harg2 arg3 harg3 arg4 harg4 arg5 harg5 arg6 harg6 arg7 harg7 arg8 harg8 arg9 harg9 arg10 harg10 arg11 harg11 arg12 harg12 x2 x3 x4 x5 x6, bodyEven.sl.v91 c i arg2 harg2 arg3 harg3 arg4 harg4 arg5 harg5 arg6 harg6 arg7 harg7 arg8 harg8 arg9 harg9 arg10 harg10 arg11 harg11 arg12 harg12 x2 x3 x4 x5 x6] : Fin 8 → Vec F S1024x128 .f32) o)) (bodyEven.sl.v141 c i arg2 harg2 arg3 harg3 arg4 harg4 arg5 harg5 arg6 harg6 arg7 harg7 arg8 harg8 arg9 harg9 arg10 harg10 arg11 harg11 arg12 harg12 x2 x3 x4 x5 x6) (View.readAt (Elt F) arg6.view (Rect.unit (s := S16384x128) (k0_off10 i) S1024x128.size (k0_off10_inb i hc2)).toLoadRect (harg6.unread x6) : Vec F S1024x128 _) (bodyEven.sl.v175 c i arg2 harg2 arg3 harg3 arg4 harg4 arg5 harg5 arg6 harg6 arg7 harg7 arg8 harg8 arg9 harg9 arg10 harg10 arg11 harg11 arg12 harg12 x2 x3 x4 x5 x6)) shapeCasts_S1024x256_S1024x256 from rfl).trans ?_
  rw [shapeCast_self, Even_t (hi := hi), Even_m (hi := hi), Even_a (hi := hi), rd_blk harg6 x6 (i 1).val (i 1).isLt (off10_eq i)]
  rfl

/-- What the grid point writes. -/
theorem Even_out : (bodyEven c i arg2 harg2 arg3 harg3 arg4 harg4 arg5 harg5 arg6 harg6 arg7 harg7 arg8 harg8 arg9 harg9 arg10 harg10 arg11 harg11 arg12 harg12 hi x2 x3 x4 x5 x6).1 = outB x2 x3 x4 x5 x6 (i 1).val := by
  refine (View.read_writes_full _ _ _ _ _).trans ?_
  refine congrArg₂ k0_pay3 ?_ ?_
  · refine (readCov_whole_ld arg10.view _ z2 _ [] _).trans ?_
    rw [Even_acc (hi := hi)]
  · refine (readCov_whole_ld arg10.view _ z2 _ [] _).trans ?_
    rw [Even_acc (hi := hi)]

end Values

end Cert.KernelIdeal.Flash

end
-- ==== Proof.Odd.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.LoopT
public import Idealize.ShloMosaic.Lib.VecWindow
public import Idealize.ShloMosaic.Lib.Pipeline.ValueKit.Basic
public import Idealize.ShloMosaic.Lib.Pipeline.Value

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The proof's resource algebra: the frame kit's. -/
local notation "𝕄" => MT nD τ sig Unit (Elt F) ℕ (UR sig nD τ) ℕ

/-- One grid point at a query block whose number is odd: run from its inputs, with the output's and the scratch's earlier contents whatever they were. -/
def bodyOdd (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole) (hi : (i 1).val % 2 = 1)
    (x2 x3 : Vec F S1024x128 .bf16) (x4 x5 x6 : Vec F S16384x128 .bf16) :
    { y7 : Vec F S1024x128 .bf16 //
      ∀ (E : Set ℕ) (K : Unit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare y7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) 𝒱₀ c none) E (cc0_mla_flash_attention (F := F) i arg2 harg2 arg3 harg3 arg4 harg4 arg5 harg5 arg6 harg6 arg7 harg7 arg8 harg8 arg9 harg9 arg10 harg10 arg11 harg11 arg12 harg12) K } := by
  have hc1 : k0_cond1 i = 1#1 := (cond1_iff i).mpr hi
  have hc2 : ¬ k0_cond2 i = 1#1 := fun h => by have := (cond2_iff i).mp h; omega
  have htr := trips2_eq i
  refine ⟨?_, fun E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf2; obtain rfl := harg3.eq_unread hf3
    obtain rfl := harg4.eq_unread hf4; obtain rfl := harg5.eq_unread hf5; obtain rfl := harg6.eq_unread hf6
    sl_unfold [cc0_mla_flash_attention]
    sl_exec!
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    iexists _, _; isplitr; swap; · iexact H12
    ipureintro; rfl

end Cert.KernelIdeal.Flash

end
-- ==== Proof.OddV.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.LoopV
public import proofs.«01_k».proof.Proof.Odd
public import Idealize.ShloMosaic.Lib.VecWindow
public import Idealize.ShloMosaic.Lib.Pipeline.ValueKit.Basic
public import Idealize.ShloMosaic.Lib.Pipeline.Value

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The proof's resource algebra: the frame kit's. -/
local notation "𝕄" => MT nD τ sig Unit (Elt F) ℕ (UR sig nD τ) ℕ

section Values
variable (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole)
    (x2 x3 : Vec F S1024x128 .bf16) (x4 x5 x6 : Vec F S16384x128 .bf16)

/-- The query block the scratch holds. -/
theorem Odd_q : arg8.view.read (Elt F) (arg8.view.writes (Elt F) arg8.view.junk (bodyOdd.sl.H8_1 c arg2 harg2 arg3 harg3 x2 x3)) = (k0_pay67 x2 x3) :=
  (View.read_writes_full _ _ _ _ _).trans (congrArg₂ k0_pay67 (rd_full harg2 x2 z2 _) (rd_full harg3 x3 z2 _))

/-- The first block of scores, before the loop. -/
theorem Odd_v21 : bodyOdd.sl.v21 c arg2 harg2 arg3 harg3 arg8 x2 x3 = (k0_pay67 x2 x3) :=
  (cov_full (a := arg8) z2 z2 _ _ _ []).trans (congrArg₂ k0_pay67 (rd_full harg2 x2 z2 _) (rd_full harg3 x3 z2 _))

/-- The scores against key block `0`, as the first store leaves them. -/
theorem Odd_s0 (L : List (View.Piece (Elt F) S1024x1024 .f32)) (f : BufTy.Contents (Elt F) arg11.view.ty) :
    arg11.view.read (Elt F) (arg11.view.writes (Elt F) f (⟨Rect.unit (s := S1024x1024) ![0, 0] S1024x1024.size inb_S1024x1024_S1024x1024_0_0,
      k0_pay71 (View.readAt (Elt F) arg4.view (Rect.unit (s := S16384x128) ![0, 0] S1024x128.size inb_S16384x128_S1024x128_0_0).toLoadRect (harg4.unread x4))
        (View.readAt (Elt F) arg5.view (Rect.unit (s := S16384x128) ![0, 0] S1024x128.size inb_S16384x128_S1024x128_0_0).toLoadRect (harg5.unread x5)) (bodyOdd.sl.v21 c arg2 harg2 arg3 harg3 arg8 x2 x3)⟩ :: L))
      = scoreB (k0_pay67 x2 x3) (blk x4 0) (blk x5 0) := by
  refine (View.read_writes_full _ _ _ _ _).trans ?_
  rw [Odd_v21, rd_blk harg4 x4 0 (by decide) rfl, rd_blk harg5 x5 0 (by decide) rfl]
  exact shapeCast_self _ _

/-- In an odd row block the loop goes over all key blocks below the diagonal but one. -/
theorem Odd_trips (hi : (i 1).val % 2 = 1) : 2 * (k0_t1_loop i).trips = ((i 1).val - 1) := by
  have := trips_eq i
  omega

variable (hi : (i 1).val % 2 = 1)
include hi

/-- The row maximum after the loop over pairs. -/
theorem Odd_m : bodyOdd.sl.v113 c i arg2 harg2 arg3 harg3 arg4 harg4 arg5 harg5 arg6 harg6 arg7 harg7 arg8 harg8 arg9 harg9 arg10 harg10 arg11 harg11 arg12 harg12 x2 x3 x4 x5 x6 = (st (k0_pay67 x2 x3) x4 x5 x6 ((i 1).val - 1)).1 :=
  (congrArg (fun y => View.ld y (Rect.unit (s := S1024x128) ![0, 0] S1024x128.size (by decide))) (after9 (h4 := harg4.read_unread x4) (h5 := harg5.read_unread x5) (h6 := harg6.read_unread x6)
    (h8 := Odd_q c arg2 harg2 arg3 harg3 arg8 x2 x3) (h9 := View.read_writes_full _ _ _ _ _) (h10 := View.read_writes_full _ _ _ _ _) (h11 := Odd_s0 c arg2 harg2 arg3 harg3 arg4 harg4 arg5 harg5 arg8 arg11 x2 x3 x4 x5 _ _) (hb := Odd_trips i hi) ..)).trans (View.ld_unit_lit _ _ z2)

/-- The weighted values after the loop over pairs. -/
theorem Odd_a : bodyOdd.sl.v147 c i arg2 harg2 arg3 harg3 arg4 harg4 arg5 harg5 arg6 harg6 arg7 harg7 arg8 harg8 arg9 harg9 arg10 harg10 arg11 harg11 arg12 harg12 x2 x3 x4 x5 x6 = (st (k0_pay67 x2 x3) x4 x5 x6 ((i 1).val - 1)).2 :=
  (congrArg (fun y => View.ld y (Rect.unit (s := S1024x256) ![0, 0] S1024x256.size (by decide))) (after10 (h4 := harg4.read_unread x4) (h5 := harg5.read_unread x5) (h6 := harg6.read_unread x6)
    (h8 := Odd_q c arg2 harg2 arg3 harg3 arg8 x2 x3) (h9 := View.read_writes_full _ _ _ _ _) (h10 := View.read_writes_full _ _ _ _ _) (h11 := Odd_s0 c arg2 harg2 arg3 harg3 arg4 harg4 arg5 harg5 arg8 arg11 x2 x3 x4 x5 _ _) (hb := Odd_trips i hi) ..)).trans (View.ld_unit_lit _ _ z2)

/-- The scores after the loop over pairs, tile by tile. -/
theorem Odd_t : (![bodyOdd.sl.v98 c i arg2 harg2 arg3 harg3 arg4 harg4 arg5 harg5 arg6 harg6 arg7 harg7 arg8 harg8 arg9 harg9 arg10 harg10 arg11 harg11 arg12 harg12 x2 x3 x4 x5 x6, bodyOdd.sl.v99 c i arg2 harg2 arg3 harg3 arg4 harg4 arg5 harg5 arg6 harg6 arg7 harg7 arg8 harg8 arg9 harg9 arg10 harg10 arg11 harg11 arg12 harg12 x2 x3 x4 x5 x6, bodyOdd.sl.v100 c i arg2 harg2 arg3 harg3 arg4 harg4 arg5 harg5 arg6 harg6 arg7 harg7 arg8 harg8 arg9 harg9 arg10 harg10 arg11 harg11 arg12 harg12 x2 x3 x4 x5 x6, bodyOdd.sl.v101 c i arg2 harg2 arg3 harg3 arg4 harg4 arg5 harg5 arg6 harg6 arg7 harg7 arg8 harg8 arg9 harg9 arg10 harg10 arg11 harg11 arg12 harg12 x2 x3 x4 x5 x6, bodyOdd.sl.v102 c i arg2 harg2 arg3 harg3 arg4 harg4 arg5 harg5 arg6 harg6 arg7 harg7 arg8 harg8 arg9 harg9 arg10 harg10 arg11 harg11 arg12 harg12 x2 x3 x4 x5 x6, bodyOdd.sl.v103 c i arg2 harg2 arg3 harg3 arg4 harg4 arg5 harg5 arg6 harg6 arg7 harg7 arg8 harg8 arg9 harg9 arg10 harg10 arg11 harg11 arg12 harg12 x2 x3 x4 x5 x6, bodyOdd.sl.v104 c i arg2 harg2 arg3 harg3 arg4 harg4 arg5 harg5 arg6 harg6 arg7 harg7 arg8 harg8 arg9 harg9 arg10 harg10 arg11 harg11 arg12 harg12 x2 x3 x4 x5 x6, bodyOdd.sl.v105 c i arg2 harg2 arg3 harg3 arg4 harg4 arg5 harg5 arg6 harg6 arg7 harg7 arg8 harg8 arg9 harg9 arg10 harg10 arg11 harg11 arg12 harg12 x2 x3 x4 x5 x6] : Fin 8 → Vec F S1024x128 .f32) = tile (scoreB (k0_pay67 x2 x3) (blk x4 ((i 1).val - 1)) (blk x5 ((i 1).val - 1))) := by
  funext o
  match o with
  | 0 => exact congrArg (fun y => View.ld y (Rect.unit (s := S1024x1024) ![0, 0] S1024x128.size (by decide))) (after11 (h4 := harg4.read_unread x4) (h5 := harg5.read_unread x5) (h6 := harg6.read_unread x6)
    (h8 := Odd_q c arg2 harg2 arg3 harg3 arg8 x2 x3) (h9 := View.read_writes_full _ _ _ _ _) (h10 := View.read_writes_full _ _ _ _ _) (h11 := Odd_s0 c arg2 harg2 arg3 harg3 arg4 harg4 arg5 harg5 arg8 arg11 x2 x3 x4 x5 _ _) (hb := Odd_trips i hi) ..)
  | 1 => exact congrArg (fun y => View.ld y (Rect.unit (s := S1024x1024) ![0, 128] S1024x128.size (by decide))) (after11 (h4 := harg4.read_unread x4) (h5 := harg5.read_unread x5) (h6 := harg6.read_unread x6)
    (h8 := Odd_q c arg2 harg2 arg3 harg3 arg8 x2 x3) (h9 := View.read_writes_full _ _ _ _ _) (h10 := View.read_writes_full _ _ _ _ _) (h11 := Odd_s0 c arg2 harg2 arg3 harg3 arg4 harg4 arg5 harg5 arg8 arg11 x2 x3 x4 x5 _ _) (hb := Odd_trips i hi) ..)
  | 2 => exact congrArg (fun y => View.ld y (Rect.unit (s := S1024x1024) ![0, 256] S1024x128.size (by decide))) (after11 (h4 := harg4.read_unread x4) (h5 := harg5.read_unread x5) (h6 := harg6.read_unread x6)
    (h8 := Odd_q c arg2 harg2 arg3 harg3 arg8 x2 x3) (h9 := View.read_writes_full _ _ _ _ _) (h10 := View.read_writes_full _ _ _ _ _) (h11 := Odd_s0 c arg2 harg2 arg3 harg3 arg4 harg4 arg5 harg5 arg8 arg11 x2 x3 x4 x5 _ _) (hb := Odd_trips i hi) ..)
  | 3 => exact congrArg (fun y => View.ld y (Rect.unit (s := S1024x1024) ![0, 384] S1024x128.size (by decide))) (after11 (h4 := harg4.read_unread x4) (h5 := harg5.read_unread x5) (h6 := harg6.read_unread x6)
    (h8 := Odd_q c arg2 harg2 arg3 harg3 arg8 x2 x3) (h9 := View.read_writes_full _ _ _ _ _) (h10 := View.read_writes_full _ _ _ _ _) (h11 := Odd_s0 c arg2 harg2 arg3 harg3 arg4 harg4 arg5 harg5 arg8 arg11 x2 x3 x4 x5 _ _) (hb := Odd_trips i hi) ..)
  | 4 => exact congrArg (fun y => View.ld y (Rect.unit (s := S1024x1024) ![0, 512] S1024x128.size (by decide))) (after11 (h4 := harg4.read_unread x4) (h5 := harg5.read_unread x5) (h6 := harg6.read_unread x6)
    (h8 := Odd_q c arg2 harg2 arg3 harg3 arg8 x2 x3) (h9 := View.read_writes_full _ _ _ _ _) (h10 := View.read_writes_full _ _ _ _ _) (h11 := Odd_s0 c arg2 harg2 arg3 harg3 arg4 harg4 arg5 harg5 arg8 arg11 x2 x3 x4 x5 _ _) (hb := Odd_trips i hi) ..)
  | 5 => exact congrArg (fun y => View.ld y (Rect.unit (s := S1024x1024) ![0, 640] S1024x128.size (by decide))) (after11 (h4 := harg4.read_unread x4) (h5 := harg5.read_unread x5) (h6 := harg6.read_unread x6)
    (h8 := Odd_q c arg2 harg2 arg3 harg3 arg8 x2 x3) (h9 := View.read_writes_full _ _ _ _ _) (h10 := View.read_writes_full _ _ _ _ _) (h11 := Odd_s0 c arg2 harg2 arg3 harg3 arg4 harg4 arg5 harg5 arg8 arg11 x2 x3 x4 x5 _ _) (hb := Odd_trips i hi) ..)
  | 6 => exact congrArg (fun y => View.ld y (Rect.unit (s := S1024x1024) ![0, 768] S1024x128.size (by decide))) (after11 (h4 := harg4.read_unread x4) (h5 := harg5.read_unread x5) (h6 := harg6.read_unread x6)
    (h8 := Odd_q c arg2 harg2 arg3 harg3 arg8 x2 x3) (h9 := View.read_writes_full _ _ _ _ _) (h10 := View.read_writes_full _ _ _ _ _) (h11 := Odd_s0 c arg2 harg2 arg3 harg3 arg4 harg4 arg5 harg5 arg8 arg11 x2 x3 x4 x5 _ _) (hb := Odd_trips i hi) ..)
  | 7 => exact congrArg (fun y => View.ld y (Rect.unit (s := S1024x1024) ![0, 896] S1024x128.size (by decide))) (after11 (h4 := harg4.read_unread x4) (h5 := harg5.read_unread x5) (h6 := harg6.read_unread x6)
    (h8 := Odd_q c arg2 harg2 arg3 harg3 arg8 x2 x3) (h9 := View.read_writes_full _ _ _ _ _) (h10 := View.read_writes_full _ _ _ _ _) (h11 := Odd_s0 c arg2 harg2 arg3 harg3 arg4 harg4 arg5 harg5 arg8 arg11 x2 x3 x4 x5 _ _) (hb := Odd_trips i hi) ..)

/-- The diagonal block's scores. -/
theorem Odd_v92 (hc1 : k0_cond1 i = 1#1) : bodyOdd.sl.v92 c i arg2 harg2 arg3 harg3 arg4 harg4 arg5 harg5 arg8 x2 x3 x4 x5 hc1 = (scoreB (k0_pay67 x2 x3) (blk x4 (i 1).val) (blk x5 (i 1).val)) := by
  refine (show _ = shapeCast S1024x1024 (scoreB (bodyOdd.sl.v88 c arg2 harg2 arg3 harg3 arg8 x2 x3) (View.readAt (Elt F) arg4.view (Rect.unit (s := S16384x128) (k0_off7 i) S1024x128.size (k0_off7_inb i hc1)).toLoadRect (harg4.unread x4) : Vec F S1024x128 _) (View.readAt (Elt F) arg5.view (Rect.unit (s := S16384x128) (k0_off7 i) S1024x128.size (k0_off7_inb i hc1)).toLoadRect (harg5.unread x5) : Vec F S1024x128 _)) shapeCasts_S1024x1024_S1024x1024 from rfl).trans ?_
  rw [shapeCast_self, rd_blk harg4 x4 (i 1).val (i 1).isLt (off7_eq i hi), rd_blk harg5 x5 (i 1).val (i 1).isLt (off7_eq i hi)]
  exact congrArg (fun y => scoreB y _ _) (Odd_v21 ..)

/-- The strips that the diagonal stage of an odd row block reads. -/
theorem Odd_t12 (hc1 : k0_cond1 i = 1#1) : (![bodyOdd.sl.v161 c i arg2 harg2 arg3 harg3 arg4 harg4 arg5 harg5 arg8 arg12 x2 x3 x4 x5 hc1, bodyOdd.sl.v162 c i arg2 harg2 arg3 harg3 arg4 harg4 arg5 harg5 arg8 arg12 x2 x3 x4 x5 hc1, bodyOdd.sl.v163 c i arg2 harg2 arg3 harg3 arg4 harg4 arg5 harg5 arg8 arg12 x2 x3 x4 x5 hc1, bodyOdd.sl.v164 c i arg2 harg2 arg3 harg3 arg4 harg4 arg5 harg5 arg8 arg12 x2 x3 x4 x5 hc1, bodyOdd.sl.v165 c i arg2 harg2 arg3 harg3 arg4 harg4 arg5 harg5 arg8 arg12 x2 x3 x4 x5 hc1, bodyOdd.sl.v166 c i arg2 harg2 arg3 harg3 arg4 harg4 arg5 harg5 arg8 arg12 x2 x3 x4 x5 hc1, bodyOdd.sl.v167 c i arg2 harg2 arg3 harg3 arg4 harg4 arg5 harg5 arg8 arg12 x2 x3 x4 x5 hc1, bodyOdd.sl.v168 c i arg2 harg2 arg3 harg3 arg4 harg4 arg5 harg5 arg8 arg12 x2 x3 x4 x5 hc1] : Fin 8 → Vec F S1024x128 .f32) = tile (scoreB (k0_pay67 x2 x3) (blk x4 (i 1).val) (blk x5 (i 1).val)) := by
  rw [← Odd_v92 (hi := hi) (hc1 := hc1)]
  funext o
  match o with
  | 0 => exact readCov_whole_ld (F := F) arg12.view (by decide) z2 (bodyOdd.sl.v92 c i arg2 harg2 arg3 harg3 arg4 harg4 arg5 harg5 arg8 x2 x3 x4 x5 hc1) [] (Rect.unit (s := S1024x1024) ![0, 0] S1024x128.size (by decide))
  | 1 => exact readCov_whole_ld (F := F) arg12.view (by decide) z2 (bodyOdd.sl.v92 c i arg2 harg2 arg3 harg3 arg4 harg4 arg5 harg5 arg8 x2 x3 x4 x5 hc1) [] (Rect.unit (s := S1024x1024) ![0, 128] S1024x128.size (by decide))
  | 2 => exact readCov_whole_ld (F := F) arg12.view (by decide) z2 (bodyOdd.sl.v92 c i arg2 harg2 arg3 harg3 arg4 harg4 arg5 harg5 arg8 x2 x3 x4 x5 hc1) [] (Rect.unit (s := S1024x1024) ![0, 256] S1024x128.size (by decide))
  | 3 => exact readCov_whole_ld (F := F) arg12.view (by decide) z2 (bodyOdd.sl.v92 c i arg2 harg2 arg3 harg3 arg4 harg4 arg5 harg5 arg8 x2 x3 x4 x5 hc1) [] (Rect.unit (s := S1024x1024) ![0, 384] S1024x128.size (by decide))
  | 4 => exact readCov_whole_ld (F := F) arg12.view (by decide) z2 (bodyOdd.sl.v92 c i arg2 harg2 arg3 harg3 arg4 harg4 arg5 harg5 arg8 x2 x3 x4 x5 hc1) [] (Rect.unit (s := S1024x1024) ![0, 512] S1024x128.size (by decide))
  | 5 => exact readCov_whole_ld (F := F) arg12.view (by decide) z2 (bodyOdd.sl.v92 c i arg2 harg2 arg3 harg3 arg4 harg4 arg5 harg5 arg8 x2 x3 x4 x5 hc1) [] (Rect.unit (s := S1024x1024) ![0, 640] S1024x128.size (by decide))
  | 6 => exact readCov_whole_ld (F := F) arg12.view (by decide) z2 (bodyOdd.sl.v92 c i arg2 harg2 arg3 harg3 arg4 harg4 arg5 harg5 arg8 x2 x3 x4 x5 hc1) [] (Rect.unit (s := S1024x1024) ![0, 768] S1024x128.size (by decide))
  | 7 => exact readCov_whole_ld (F := F) arg12.view (by decide) z2 (bodyOdd.sl.v92 c i arg2 harg2 arg3 harg3 arg4 harg4 arg5 harg5 arg8 x2 x3 x4 x5 hc1) [] (Rect.unit (s := S1024x1024) ![0, 896] S1024x128.size (by decide))

/-- The running maximum that the last unmasked stage of an odd row block stores. -/
theorem Odd_v155 : bodyOdd.sl.v155 c i arg2 harg2 arg3 harg3 arg4 harg4 arg5 harg5 arg6 harg6 arg7 harg7 arg8 harg8 arg9 harg9 arg10 harg10 arg11 harg11 arg12 harg12 x2 x3 x4 x5 x6 = (st (k0_pay67 x2 x3) x4 x5 x6 (i 1).val).1 := by
  refine (show _ = shapeCast S1024x128 (mNext (![bodyOdd.sl.v98 c i arg2 harg2 arg3 harg3 arg4 harg4 arg5 harg5 arg6 harg6 arg7 harg7 arg8 harg8 arg9 harg9 arg10 harg10 arg11 harg11 arg12 harg12 x2 x3 x4 x5 x6, bodyOdd.sl.v99 c i arg2 harg2 arg3 harg3 arg4 harg4 arg5 harg5 arg6 harg6 arg7 harg7 arg8 harg8 arg9 harg9 arg10 harg10 arg11 harg11 arg12 harg12 x2 x3 x4 x5 x6, bodyOdd.sl.v100 c i arg2 harg2 arg3 harg3 arg4 harg4 arg5 harg5 arg6 harg6 arg7 harg7 arg8 harg8 arg9 harg9 arg10 harg10 arg11 harg11 arg12 harg12 x2 x3 x4 x5 x6, bodyOdd.sl.v101 c i arg2 harg2 arg3 harg3 arg4 harg4 arg5 harg5 arg6 harg6 arg7 harg7 arg8 harg8 arg9 harg9 arg10 harg10 arg11 harg11 arg12 harg12 x2 x3 x4 x5 x6, bodyOdd.sl.v102 c i arg2 harg2 arg3 harg3 arg4 harg4 arg5 harg5 arg6 harg6 arg7 harg7 arg8 harg8 arg9 harg9 arg10 harg10 arg11 harg11 arg12 harg12 x2 x3 x4 x5 x6, bodyOdd.sl.v103 c i arg2 harg2 arg3 harg3 arg4 harg4 arg5 harg5 arg6 harg6 arg7 harg7 arg8 harg8 arg9 harg9 arg10 harg10 arg11 harg11 arg12 harg12 x2 x3 x4 x5 x6, bodyOdd.sl.v104 c i arg2 harg2 arg3 harg3 arg4 harg4 arg5 harg5 arg6 harg6 arg7 harg7 arg8 harg8 arg9 harg9 arg10 harg10 arg11 harg11 arg12 harg12 x2 x3 x4 x5 x6, bodyOdd.sl.v105 c i arg2 harg2 arg3 harg3 arg4 harg4 arg5 harg5 arg6 harg6 arg7 harg7 arg8 harg8 arg9 harg9 arg10 harg10 arg11 harg11 arg12 harg12 x2 x3 x4 x5 x6] : Fin 8 → Vec F S1024x128 .f32) (bodyOdd.sl.v113 c i arg2 harg2 arg3 harg3 arg4 harg4 arg5 harg5 arg6 harg6 arg7 harg7 arg8 harg8 arg9 harg9 arg10 harg10 arg11 harg11 arg12 harg12 x2 x3 x4 x5 x6)) shapeCasts_S1024x128_S1024x128 from rfl).trans ?_
  rw [shapeCast_self, Odd_t (hi := hi), Odd_m (hi := hi)]
  conv_rhs => rw [show (i 1).val = (i 1).val - 1 + 1 by omega]
  rfl

/-- The weighted values that the last unmasked stage of an odd row block stores. -/
theorem Odd_v152 (hc1 : k0_cond1 i = 1#1) : bodyOdd.sl.v152 c i arg2 harg2 arg3 harg3 arg4 harg4 arg5 harg5 arg6 harg6 arg7 harg7 arg8 harg8 arg9 harg9 arg10 harg10 arg11 harg11 arg12 harg12 x2 x3 x4 x5 x6 hc1 = (st (k0_pay67 x2 x3) x4 x5 x6 (i 1).val).2 := by
  refine (show _ = shapeCast S1024x256 (aNext (![bodyOdd.sl.v98 c i arg2 harg2 arg3 harg3 arg4 harg4 arg5 harg5 arg6 harg6 arg7 harg7 arg8 harg8 arg9 harg9 arg10 harg10 arg11 harg11 arg12 harg12 x2 x3 x4 x5 x6, bodyOdd.sl.v99 c i arg2 harg2 arg3 harg3 arg4 harg4 arg5 harg5 arg6 harg6 arg7 harg7 arg8 harg8 arg9 harg9 arg10 harg10 arg11 harg11 arg12 harg12 x2 x3 x4 x5 x6, bodyOdd.sl.v100 c i arg2 harg2 arg3 harg3 arg4 harg4 arg5 harg5 arg6 harg6 arg7 harg7 arg8 harg8 arg9 harg9 arg10 harg10 arg11 harg11 arg12 harg12 x2 x3 x4 x5 x6, bodyOdd.sl.v101 c i arg2 harg2 arg3 harg3 arg4 harg4 arg5 harg5 arg6 harg6 arg7 harg7 arg8 harg8 arg9 harg9 arg10 harg10 arg11 harg11 arg12 harg12 x2 x3 x4 x5 x6, bodyOdd.sl.v102 c i arg2 harg2 arg3 harg3 arg4 harg4 arg5 harg5 arg6 harg6 arg7 harg7 arg8 harg8 arg9 harg9 arg10 harg10 arg11 harg11 arg12 harg12 x2 x3 x4 x5 x6, bodyOdd.sl.v103 c i arg2 harg2 arg3 harg3 arg4 harg4 arg5 harg5 arg6 harg6 arg7 harg7 arg8 harg8 arg9 harg9 arg10 harg10 arg11 harg11 arg12 harg12 x2 x3 x4 x5 x6, bodyOdd.sl.v104 c i arg2 harg2 arg3 harg3 arg4 harg4 arg5 harg5 arg6 harg6 arg7 harg7 arg8 harg8 arg9 harg9 arg10 harg10 arg11 harg11 arg12 harg12 x2 x3 x4 x5 x6, bodyOdd.sl.v105 c i arg2 harg2 arg3 harg3 arg4 harg4 arg5 harg5 arg6 harg6 arg7 harg7 arg8 harg8 arg9 harg9 arg10 harg10 arg11 harg11 arg12 harg12 x2 x3 x4 x5 x6] : Fin 8 → Vec F S1024x128 .f32) (bodyOdd.sl.v113 c i arg2 harg2 arg3 harg3 arg4 harg4 arg5 harg5 arg6 harg6 arg7 harg7 arg8 harg8 arg9 harg9 arg10 harg10 arg11 harg11 arg12 harg12 x2 x3 x4 x5 x6) (View.readAt (Elt F) arg6.view (Rect.unit (s := S16384x128) (k0_off8 i) S1024x128.size (k0_off8_inb i hc1)).toLoadRect (harg6.unread x6) : Vec F S1024x128 _) (bodyOdd.sl.v147 c i arg2 harg2 arg3 harg3 arg4 harg4 arg5 harg5 arg6 harg6 arg7 harg7 arg8 harg8 arg9 harg9 arg10 harg10 arg11 harg11 arg12 harg12 x2 x3 x4 x5 x6)) shapeCasts_S1024x256_S1024x256 from rfl).trans ?_
  rw [shapeCast_self, Odd_t (hi := hi), Odd_m (hi := hi), Odd_a (hi := hi), rd_blk harg6 x6 ((i 1).val - 1) (by have h16 : (i 1).val < 16 := (i 1).isLt; omega) (off8_eq i hi)]
  conv_rhs => rw [show (i 1).val = (i 1).val - 1 + 1 by omega]
  rfl

/-- The running maximum, as the diagonal stage of an odd row block reads it. -/
theorem Odd_v218 : bodyOdd.sl.v218 c i arg2 harg2 arg3 harg3 arg4 harg4 arg5 harg5 arg6 harg6 arg7 harg7 arg8 harg8 arg9 harg9 arg10 harg10 arg11 harg11 arg12 harg12 x2 x3 x4 x5 x6 = (st (k0_pay67 x2 x3) x4 x5 x6 (i 1).val).1 :=
  (cov_full (a := arg9) z2 z2 _ _ _ []).trans (Odd_v155 (hi := hi) ..)

/-- The weighted values, as the diagonal stage of an odd row block reads them. -/
theorem Odd_v252 (hc1 : k0_cond1 i = 1#1) : bodyOdd.sl.v252 c i arg2 harg2 arg3 harg3 arg4 harg4 arg5 harg5 arg6 harg6 arg7 harg7 arg8 harg8 arg9 harg9 arg10 harg10 arg11 harg11 arg12 harg12 x2 x3 x4 x5 x6 hc1 = (st (k0_pay67 x2 x3) x4 x5 x6 (i 1).val).2 :=
  (cov_full (a := arg10) z2 z2 _ _ _ []).trans (Odd_v152 (hi := hi) (hc1 := hc1) ..)

/-- The weighted values after the diagonal block. -/
theorem Odd_acc (hc1 : k0_cond1 i = 1#1) : k0_pay74 (bodyOdd.sl.r i arg6 harg6 x6 hc1) (bodyOdd.sl.r_5 c i arg2 harg2 arg3 harg3 arg4 harg4 arg5 harg5 arg8 arg12 x2 x3 x4 x5 hc1) (bodyOdd.sl.r_6 c i arg2 harg2 arg3 harg3 arg4 harg4 arg5 harg5 arg8 arg12 x2 x3 x4 x5 hc1) (bodyOdd.sl.r_7 c i arg2 harg2 arg3 harg3 arg4 harg4 arg5 harg5 arg6 harg6 arg7 harg7 arg8 harg8 arg9 harg9 arg10 harg10 arg11 harg11 arg12 harg12 x2 x3 x4 x5 x6 hc1) (bodyOdd.sl.r_8 c i arg2 harg2 arg3 harg3 arg4 harg4 arg5 harg5 arg6 harg6 arg7 harg7 arg8 harg8 arg9 harg9 arg10 harg10 arg11 harg11 arg12 harg12 x2 x3 x4 x5 x6 hc1) (bodyOdd.sl.r_9 c i arg2 harg2 arg3 harg3 arg4 harg4 arg5 harg5 arg6 harg6 arg7 harg7 arg8 harg8 arg9 harg9 arg10 harg10 arg11 harg11 arg12 harg12 x2 x3 x4 x5 x6 hc1) (bodyOdd.sl.r_10 c i arg2 harg2 arg3 harg3 arg4 harg4 arg5 harg5 arg6 harg6 arg7 harg7 arg8 harg8 arg9 harg9 arg10 harg10 arg11 harg11 arg12 harg12 x2 x3 x4 x5 x6 hc1) (bodyOdd.sl.r_11 c i arg2 harg2 arg3 harg3 arg4 harg4 arg5 harg5 arg6 harg6 arg7 harg7 arg8 harg8 arg9 harg9 arg10 harg10 arg11 harg11 arg12 harg12 x2 x3 x4 x5 x6 hc1) (bodyOdd.sl.r_12 c i arg2 harg2 arg3 harg3 arg4 harg4 arg5 harg5 arg6 harg6 arg7 harg7 arg8 harg8 arg9 harg9 arg10 harg10 arg11 harg11 arg12 harg12 x2 x3 x4 x5 x6 hc1) (bodyOdd.sl.r_13 c i arg2 harg2 arg3 harg3 arg4 harg4 arg5 harg5 arg6 harg6 arg7 harg7 arg8 harg8 arg9 harg9 arg10 harg10 arg11 harg11 arg12 harg12 x2 x3 x4 x5 x6 hc1) (bodyOdd.sl.r_14 c i arg2 harg2 arg3 harg3 arg4 harg4 arg5 harg5 arg6 harg6 arg7 harg7 arg8 harg8 arg9 harg9 arg10 harg10 arg11 harg11 arg12 harg12 x2 x3 x4 x5 x6 hc1) (bodyOdd.sl.v252 c i arg2 harg2 arg3 harg3 arg4 harg4 arg5 harg5 arg6 harg6 arg7 harg7 arg8 harg8 arg9 harg9 arg10 harg10 arg11 harg11 arg12 harg12 x2 x3 x4 x5 x6 hc1) = accD (k0_pay67 x2 x3) x4 x5 x6 (i 1).val := by
  refine (show _ = shapeCast S1024x256 (aNext (fun o => msk o ((![bodyOdd.sl.v161 c i arg2 harg2 arg3 harg3 arg4 harg4 arg5 harg5 arg8 arg12 x2 x3 x4 x5 hc1, bodyOdd.sl.v162 c i arg2 harg2 arg3 harg3 arg4 harg4 arg5 harg5 arg8 arg12 x2 x3 x4 x5 hc1, bodyOdd.sl.v163 c i arg2 harg2 arg3 harg3 arg4 harg4 arg5 harg5 arg8 arg12 x2 x3 x4 x5 hc1, bodyOdd.sl.v164 c i arg2 harg2 arg3 harg3 arg4 harg4 arg5 harg5 arg8 arg12 x2 x3 x4 x5 hc1, bodyOdd.sl.v165 c i arg2 harg2 arg3 harg3 arg4 harg4 arg5 harg5 arg8 arg12 x2 x3 x4 x5 hc1, bodyOdd.sl.v166 c i arg2 harg2 arg3 harg3 arg4 harg4 arg5 harg5 arg8 arg12 x2 x3 x4 x5 hc1, bodyOdd.sl.v167 c i arg2 harg2 arg3 harg3 arg4 harg4 arg5 harg5 arg8 arg12 x2 x3 x4 x5 hc1, bodyOdd.sl.v168 c i arg2 harg2 arg3 harg3 arg4 harg4 arg5 harg5 arg8 arg12 x2 x3 x4 x5 hc1] : Fin 8 → Vec F S1024x128 .f32) o)) (bodyOdd.sl.v218 c i arg2 harg2 arg3 harg3 arg4 harg4 arg5 harg5 arg6 harg6 arg7 harg7 arg8 harg8 arg9 harg9 arg10 harg10 arg11 harg11 arg12 harg12 x2 x3 x4 x5 x6) (View.readAt (Elt F) arg6.view (Rect.unit (s := S16384x128) (k0_off9 i) S1024x128.size (k0_off9_inb i hc1)).toLoadRect (harg6.unread x6) : Vec F S1024x128 _) (bodyOdd.sl.v252 c i arg2 harg2 arg3 harg3 arg4 harg4 arg5 harg5 arg6 harg6 arg7 harg7 arg8 harg8 arg9 harg9 arg10 harg10 arg11 harg11 arg12 harg12 x2 x3 x4 x5 x6 hc1)) shapeCasts_S1024x256_S1024x256 from rfl).trans ?_
  rw [shapeCast_self, Odd_t12 (hi := hi), Odd_v218 (hi := hi), Odd_v252 (hi := hi), rd_blk harg6 x6 (i 1).val (i 1).isLt (off9_eq i)]
  rfl

/-- What the grid point writes. -/
theorem Odd_out : (bodyOdd c i arg2 harg2 arg3 harg3 arg4 harg4 arg5 harg5 arg6 harg6 arg7 harg7 arg8 harg8 arg9 harg9 arg10 harg10 arg11 harg11 arg12 harg12 hi x2 x3 x4 x5 x6).1 = outB x2 x3 x4 x5 x6 (i 1).val := by
  refine (View.read_writes_full _ _ _ _ _).trans ?_
  refine congrArg₂ k0_pay3 ?_ ?_
  · refine (readCov_whole_ld arg10.view _ z2 _ _ _).trans ?_
    rw [Odd_acc (hi := hi)]
  · refine (readCov_whole_ld arg10.view _ z2 _ _ _).trans ?_
    rw [Odd_acc (hi := hi)]

end Values

end Cert.KernelIdeal.Flash

end
-- ==== Proof.Run.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.EvenV
public import proofs.«01_k».proof.Proof.OddV
public import Idealize.ShloMosaic.Lib.VecWindow
public import Idealize.ShloMosaic.Lib.Pipeline.ValueKit.Basic
public import Idealize.ShloMosaic.Lib.Pipeline.Value

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The proof's resource algebra: the frame kit's. -/
local notation "𝕄" => MT nD τ sig Unit (Elt F) ℕ (UR sig nD τ) ℕ

/-- One grid point, run from its inputs: the output block at its closed form, everything else as it was found. -/
theorem bodyRun (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole)
    (x2 x3 : Vec F S1024x128 .bf16) (x4 x5 x6 : Vec F S16384x128 .bf16) (E : Set ℕ) (K : Unit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outB x2 x3 x4 x5 x6 (i 1).val) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) 𝒱₀ c none) E (cc0_mla_flash_attention (F := F) i arg2 harg2 arg3 harg3 arg4 harg4 arg5 harg5 arg6 harg6 arg7 harg7 arg8 harg8 arg9 harg9 arg10 harg10 arg11 harg11 arg12 harg12) K := by
  rcases Nat.mod_two_eq_zero_or_one (i 1).val with hi | hi
  · have h := (bodyEven c i arg2 harg2 arg3 harg3 arg4 harg4 arg5 harg5 arg6 harg6 arg7 harg7 arg8 harg8 arg9 harg9 arg10 harg10 arg11 harg11 arg12 harg12 hi x2 x3 x4 x5 x6).2 E K
    rw [Even_out (hi := hi)] at h
    exact h
  · have h := (bodyOdd c i arg2 harg2 arg3 harg3 arg4 harg4 arg5 harg5 arg6 harg6 arg7 harg7 arg8 harg8 arg9 harg9 arg10 harg10 arg11 harg11 arg12 harg12 hi x2 x3 x4 x5 x6).2 E K
    rw [Odd_out (hi := hi)] at h
    exact h

variable (m : (ℓ : Loc nD τ sig) → Buf (Elt F) ℓ) (ρ : Dev nD → PrngReg)

/-- The block the kernel leaves in the output's buffer at a grid point. -/
def outsAt (c : Dev nD) (t : Fin cfg0.N) : Vec F S1024x128 .bf16 :=
  outB (iblk m c 0 t) (iblk m c 1 t) (iblk m c 2 t) (iblk m c 3 t) (iblk m c 4 t) (grid0.coords t 1).val

/-- The pipeline's proof data: inputs at their blocks, the output at `outsAt`, the share each window holds of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t
  Φ _ := Pipeline.ΦA spec0 c
  q w := Pipeline.shareOf spec0 w
  owed _ := 0

/-- Each window's array before the launch holds the argument's contents. -/
theorem A_eq (c : Dev nD) (w : Fin cfg0.W) : (dats m 0 c).A w = V m c (Pipeline.arrRef spec0 w) := rfl
/-- Window 0's block after a grid step: unchanged. -/
theorem after0_0 (c : Dev nD) (t : Fin cfg0.N) : (dats m 0 c).after 0 t = iblk m c 0 t := by dsimp only [dats]
/-- Window 1's block after a grid step: unchanged. -/
theorem after0_1 (c : Dev nD) (t : Fin cfg0.N) : (dats m 0 c).after 1 t = iblk m c 1 t := by dsimp only [dats]
/-- Window 2's block after a grid step: unchanged. -/
theorem after0_2 (c : Dev nD) (t : Fin cfg0.N) : (dats m 0 c).after 2 t = iblk m c 2 t := by dsimp only [dats]
/-- Window 3's block after a grid step: unchanged. -/
theorem after0_3 (c : Dev nD) (t : Fin cfg0.N) : (dats m 0 c).after 3 t = iblk m c 3 t := by dsimp only [dats]
/-- Window 4's block after a grid step: unchanged. -/
theorem after0_4 (c : Dev nD) (t : Fin cfg0.N) : (dats m 0 c).after 4 t = iblk m c 4 t := by dsimp only [dats]
/-- Window 5's block after a grid step: the result's block. -/
theorem after0_5 (c : Dev nD) (t : Fin cfg0.N) : (dats m 0 c).after 5 t = outsAt m c t := by dsimp only [dats]
/-- Window 0's block before a grid step: the argument's block. -/
theorem before0_0 (c : Dev nD) (t : Fin cfg0.N) (d) : (dats m 0 c).before 0 t d = iblk m c 0 t :=
  before0_0_of m (dats m 0 c) (A_eq m c 0) (after0_0 m c) t d
/-- Window 1's block before a grid step: the argument's block. -/
theorem before0_1 (c : Dev nD) (t : Fin cfg0.N) (d) : (dats m 0 c).before 1 t d = iblk m c 1 t :=
  before0_1_of m (dats m 0 c) (A_eq m c 1) (after0_1 m c) t d
/-- Window 2's block before a grid step: the argument's block. -/
theorem before0_2 (c : Dev nD) (t : Fin cfg0.N) (d) : (dats m 0 c).before 2 t d = iblk m c 2 t :=
  before0_2_of m (dats m 0 c) (A_eq m c 2) (after0_2 m c) t d
/-- Window 3's block before a grid step: the argument's block. -/
theorem before0_3 (c : Dev nD) (t : Fin cfg0.N) (d) : (dats m 0 c).before 3 t d = iblk m c 3 t :=
  before0_3_of m (dats m 0 c) (A_eq m c 3) (after0_3 m c) t d
/-- Window 4's block before a grid step: the argument's block. -/
theorem before0_4 (c : Dev nD) (t : Fin cfg0.N) (d) : (dats m 0 c).before 4 t d = iblk m c 4 t :=
  before0_4_of m (dats m 0 c) (A_eq m c 4) (after0_4 m c) t d

/-- A scratch buffer held at some contents, by its points-to and as a memref. -/
theorem scr_eq (c : Dev nD) (r : Ref sig .tc) : (iprop(∃ d, owns (c : Thread nD τ) (Memref.whole r) fullShare d) : sProp 𝕄)
    = iprop(∃ f : Buf (Elt F) ((c : Thread nD τ).loc r), ((c : Thread nD τ).loc r) ↦{fullShare} f) := by
  simp only [owns_whole]

/-- The body at a grid point meets the pipeline's obligation. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4, after0_5]
  rw [show (dats m 0 c).Φ t.castSucc = iprop(Pipeline.scopedRest spec0 c ∗ ∃ r, prngReg c r) from rfl, scopedRest0_eq]
  rw [← scr_eq, ← scr_eq, ← scr_eq, ← scr_eq, ← scr_eq]
  unfold outsAt
  iintro ⟨⟨⟨S0, S1, S2, S3, S4⟩, Hp⟩, Ho, ⟨%d0, H0⟩, ⟨%d1, H1⟩, ⟨%d2, H2⟩, ⟨%d3, H3⟩, ⟨%d4, H4⟩, ⟨%d5, H5⟩⟩
  iapply (bodyRun c _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  iintro ⟨H0, H1, H2, H3, H4, H5, S0, S1, S2, S3, S4⟩
  isplitl [S0 S1 S2 S3 S4 Hp]
  · isplitr [Hp]
    · isplitl [S0]; · iexact S0
      isplitl [S1]; · iexact S1
      isplitl [S2]; · iexact S2
      isplitl [S3]; · iexact S3
      iexact S4
    · iexact Hp
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- Every weakly fair run of the program ends, with every array at what the proof data says and every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hΦ := fun _ _ => rfl)

end Cert.KernelIdeal.Flash

end
-- ==== Proof.Word.Run.lean ====
module

public import proofs.«01_k».proof.Proof.Gen.Kernel.Frame
public import proofs.«01_k».proof.Proof.Gen.Kernel.Skeleton
public import proofs.«01_k».proof.Proof.Gen.Kernel.Loops
public import Idealize.ShloMosaic.Lib.Tactic
public import proofs.«01_k».proof.Proof.Word.Even
public import proofs.«01_k».proof.Proof.Word.Odd
public import Idealize.ShloMosaic.Lib.VecWindow
public import Idealize.ShloMosaic.Lib.Pipeline.ValueKit.Basic
public import Idealize.ShloMosaic.Lib.Pipeline.Value

@[expose] public section

set_option maxRecDepth 16384

noncomputable section

namespace Cert.Kernel.Flash

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's resource algebra: the frame kit's. -/
local notation "𝕄" => MT nD τ sig Unit (Elt F) ℕ (UR sig nD τ) ℕ

/-- What a grid point leaves in the output's buffer. -/
def outV (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole)
    (x2 x3 : Vec F S1024x128 .bf16) (x4 x5 x6 : Vec F S16384x128 .bf16) : Vec F S1024x128 .bf16 :=
  if hi : (i 1).val % 2 = 0 then (bodyEven c i arg2 harg2 arg3 harg3 arg4 harg4 arg5 harg5 arg6 harg6 arg7 harg7 arg8 harg8 arg9 harg9 arg10 harg10 arg11 harg11 arg12 harg12 hi x2 x3 x4 x5 x6).1
  else (bodyOdd c i arg2 harg2 arg3 harg3 arg4 harg4 arg5 harg5 arg6 harg6 arg7 harg7 arg8 harg8 arg9 harg9 arg10 harg10 arg11 harg11 arg12 harg12 (Nat.mod_two_ne_zero.mp hi) x2 x3 x4 x5 x6).1

/-- One grid point, run from its inputs: the output block at `outV`, everything else as it was found. -/
theorem bodyRun (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x1024 .f32) (harg11 : arg11.IsWhole) (arg12 : Memref sig .tc .vmem S1024x1024 .f32) (harg12 : arg12.IsWhole)
    (x2 x3 : Vec F S1024x128 .bf16) (x4 x5 x6 : Vec F S16384x128 .bf16) (E : Set ℕ) (K : Unit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outV c i arg2 harg2 arg3 harg3 arg4 harg4 arg5 harg5 arg6 harg6 arg7 harg7 arg8 harg8 arg9 harg9 arg10 harg10 arg11 harg11 arg12 harg12 x2 x3 x4 x5 x6) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) 𝒱₀ c none) E (cc0_mla_flash_attention (F := F) i arg2 harg2 arg3 harg3 arg4 harg4 arg5 harg5 arg6 harg6 arg7 harg7 arg8 harg8 arg9 harg9 arg10 harg10 arg11 harg11 arg12 harg12) K := by
  unfold outV
  split
  · exact (bodyEven c i arg2 harg2 arg3 harg3 arg4 harg4 arg5 harg5 arg6 harg6 arg7 harg7 arg8 harg8 arg9 harg9 arg10 harg10 arg11 harg11 arg12 harg12 _ x2 x3 x4 x5 x6).2 E K
  · exact (bodyOdd c i arg2 harg2 arg3 harg3 arg4 harg4 arg5 harg5 arg6 harg6 arg7 harg7 arg8 harg8 arg9 harg9 arg10 harg10 arg11 harg11 arg12 harg12 _ x2 x3 x4 x5 x6).2 E K

variable (m : (ℓ : Loc nD τ sig) → Buf (Elt F) ℓ) (ρ : Dev nD → PrngReg)

/-- The block the kernel leaves in the output's buffer at a grid point. -/
def outsAt (c : Dev nD) (t : Fin cfg0.N) : Vec F S1024x128 .bf16 :=
  outV c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (iblk m c 0 t) (iblk m c 1 t) (iblk m c 2 t) (iblk m c 3 t) (iblk m c 4 t)

/-- The pipeline's proof data: inputs at their blocks, the output at `outsAt`, the share each window holds of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t
  Φ _ := Pipeline.ΦA spec0 c
  q w := Pipeline.shareOf spec0 w
  owed _ := 0

/-- Each window's array before the launch holds the argument's contents. -/
theorem A_eq (c : Dev nD) (w : Fin cfg0.W) : (dats m 0 c).A w = V m c (Pipeline.arrRef spec0 w) := rfl
/-- Window 0's block after a grid step: unchanged. -/
theorem after0_0 (c : Dev nD) (t : Fin cfg0.N) : (dats m 0 c).after 0 t = iblk m c 0 t := by dsimp only [dats]
/-- Window 1's block after a grid step: unchanged. -/
theorem after0_1 (c : Dev nD) (t : Fin cfg0.N) : (dats m 0 c).after 1 t = iblk m c 1 t := by dsimp only [dats]
/-- Window 2's block after a grid step: unchanged. -/
theorem after0_2 (c : Dev nD) (t : Fin cfg0.N) : (dats m 0 c).after 2 t = iblk m c 2 t := by dsimp only [dats]
/-- Window 3's block after a grid step: unchanged. -/
theorem after0_3 (c : Dev nD) (t : Fin cfg0.N) : (dats m 0 c).after 3 t = iblk m c 3 t := by dsimp only [dats]
/-- Window 4's block after a grid step: unchanged. -/
theorem after0_4 (c : Dev nD) (t : Fin cfg0.N) : (dats m 0 c).after 4 t = iblk m c 4 t := by dsimp only [dats]
/-- Window 5's block after a grid step: the result's block. -/
theorem after0_5 (c : Dev nD) (t : Fin cfg0.N) : (dats m 0 c).after 5 t = outsAt m c t := by dsimp only [dats]
/-- Window 0's block before a grid step: the argument's block. -/
theorem before0_0 (c : Dev nD) (t : Fin cfg0.N) (d) : (dats m 0 c).before 0 t d = iblk m c 0 t :=
  before0_0_of m (dats m 0 c) (A_eq m c 0) (after0_0 m c) t d
/-- Window 1's block before a grid step: the argument's block. -/
theorem before0_1 (c : Dev nD) (t : Fin cfg0.N) (d) : (dats m 0 c).before 1 t d = iblk m c 1 t :=
  before0_1_of m (dats m 0 c) (A_eq m c 1) (after0_1 m c) t d
/-- Window 2's block before a grid step: the argument's block. -/
theorem before0_2 (c : Dev nD) (t : Fin cfg0.N) (d) : (dats m 0 c).before 2 t d = iblk m c 2 t :=
  before0_2_of m (dats m 0 c) (A_eq m c 2) (after0_2 m c) t d
/-- Window 3's block before a grid step: the argument's block. -/
theorem before0_3 (c : Dev nD) (t : Fin cfg0.N) (d) : (dats m 0 c).before 3 t d = iblk m c 3 t :=
  before0_3_of m (dats m 0 c) (A_eq m c 3) (after0_3 m c) t d
/-- Window 4's block before a grid step: the argument's block. -/
theorem before0_4 (c : Dev nD) (t : Fin cfg0.N) (d) : (dats m 0 c).before 4 t d = iblk m c 4 t :=
  before0_4_of m (dats m 0 c) (A_eq m c 4) (after0_4 m c) t d

/-- A scratch buffer held at some contents, by its points-to and as a memref. -/
theorem scr_eq (c : Dev nD) (r : Ref sig .tc) : (iprop(∃ d, owns (c : Thread nD τ) (Memref.whole r) fullShare d) : sProp 𝕄)
    = iprop(∃ f : Buf (Elt F) ((c : Thread nD τ).loc r), ((c : Thread nD τ).loc r) ↦{fullShare} f) := by
  simp only [owns_whole]

/-- The body at a grid point meets the pipeline's obligation. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4, after0_5]
  rw [show (dats m 0 c).Φ t.castSucc = iprop(Pipeline.scopedRest spec0 c ∗ ∃ r, prngReg c r) from rfl, scopedRest0_eq]
  rw [← scr_eq, ← scr_eq, ← scr_eq, ← scr_eq, ← scr_eq]
  unfold outsAt
  iintro ⟨⟨⟨S0, S1, S2, S3, S4⟩, Hp⟩, Ho, ⟨%d0, H0⟩, ⟨%d1, H1⟩, ⟨%d2, H2⟩, ⟨%d3, H3⟩, ⟨%d4, H4⟩, ⟨%d5, H5⟩⟩
  iapply (bodyRun c _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  iintro ⟨H0, H1, H2, H3, H4, H5, S0, S1, S2, S3, S4⟩
  isplitl [S0 S1 S2 S3 S4 Hp]
  · isplitr [Hp]
    · isplitl [S0]; · iexact S0
      isplitl [S1]; · iexact S1
      isplitl [S2]; · iexact S2
      isplitl [S3]; · iexact S3
      iexact S4
    · iexact Hp
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- Every weakly fair run of the program ends, with every array at what the proof data says and every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hΦ := fun _ _ => rfl)

end Cert.Kernel.Flash

end
-- ==== Proof.Math.lean ====
module

public import Idealize.ShloMosaic.PureOps.Ideal
public import Idealize.ShloMosaic.PureOps.Ideal.Laws

@[expose] public section

noncomputable section

namespace Cert.Flash

open Idealize.ShloMosaic

/-! ## The online softmax of one row over the extended reals -/

/-- The running maximum of a row of scores after `b` blocks of 1024. -/
def rowM (t : ℕ → EReal) : ℕ → EReal
  | 0 => ⊥
  | b + 1 => max (rowM t b) (Finset.univ.sup fun j : Fin 1024 => t (b * 1024 + j.val))

/-- The running weighted sum of the values `v` after `b` blocks of 1024. -/
def rowA (t v : ℕ → EReal) : ℕ → EReal
  | 0 => 0
  | b + 1 => Ideal.exp2 (rowM t b - rowM t (b + 1)) * rowA t v b
      + ∑ j : Fin 1024, Ideal.exp2 (t (b * 1024 + j.val) - rowM t (b + 1)) * v (b * 1024 + j.val)

/-- Base-two exponentials of a score against a real maximum are nonnegative reals. -/
theorem exp2_sub_real (x : EReal) (hx : x ≠ ⊤) (M : ℝ) : ∃ r : ℝ, 0 ≤ r ∧ Ideal.exp2 (x - (M : EReal)) = (r : EReal) := by
  induction x using EReal.rec with
  | bot => exact ⟨0, le_refl _, by rw [EReal.bot_sub]; rfl⟩
  | coe x => exact ⟨Real.rpow 2 (x - M), Real.rpow_nonneg (by norm_num) _, by rw [← EReal.coe_sub]; rfl⟩
  | top => exact absurd rfl hx

/-- The same, positive for a real score. -/
theorem exp2_coe_pos (x : ℝ) : Ideal.exp2 (x : EReal) = ((Real.rpow 2 x : ℝ) : EReal) ∧ 0 < Real.rpow 2 x :=
  ⟨rfl, Real.rpow_pos_of_pos (by norm_num) _⟩

/-- Changing the maximum scales a weight. -/
theorem exp2_rescale (x : EReal) (hx : x ≠ ⊤) (M N : ℝ) :
    Ideal.exp2 ((M : EReal) - (N : EReal)) * Ideal.exp2 (x - (M : EReal)) = Ideal.exp2 (x - (N : EReal)) := by
  induction x using EReal.rec with
  | bot => rw [EReal.bot_sub, EReal.bot_sub]; exact mul_zero _
  | coe x =>
    rw [← EReal.coe_sub, ← EReal.coe_sub, ← EReal.coe_sub]
    show ((Real.rpow 2 (M - N) : ℝ) : EReal) * ((Real.rpow 2 (x - M) : ℝ) : EReal) = ((Real.rpow 2 (x - N) : ℝ) : EReal)
    rw [← EReal.coe_mul]
    refine congrArg _ ?_
    show (2 : ℝ) ^ (M - N) * (2 : ℝ) ^ (x - M) = (2 : ℝ) ^ (x - N)
    rw [← Real.rpow_add (by norm_num)]
    congr 1; ring
  | top => exact absurd rfl hx

/-- A nonnegative real factor distributes over a sum of extended reals. -/
theorem mul_sum {ι : Type} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- The supremum of finitely many scores, none infinite above, is not infinite above. -/
theorem sup_ne_top {n : ℕ} (f : Fin n → EReal) (h : ∀ j, f j ≠ ⊤) : Finset.univ.sup f ≠ ⊤ :=
  ne_of_lt ((Finset.sup_lt_iff (bot_lt_top)).2 fun j _ => lt_top_iff_ne_top.2 (h j))

/-- The running maximum is never infinite above. -/
theorem rowM_ne_top (t : ℕ → EReal) (ht : ∀ k, t k ≠ ⊤) : ∀ b, rowM t b ≠ ⊤
  | 0 => bot_ne_top
  | b + 1 => by
    rw [rowM]
    exact ne_of_lt (max_lt (lt_top_iff_ne_top.2 (rowM_ne_top t ht b)) (lt_top_iff_ne_top.2 (sup_ne_top _ fun j => ht _)))

/-- After a first block the running maximum is a real, the first score being one. -/
theorem rowM_real (t : ℕ → EReal) (ht : ∀ k, t k ≠ ⊤) (h0 : t 0 ≠ ⊥) : ∀ b, ∃ M : ℝ, rowM t (b + 1) = (M : EReal) := by
  have hb : ∀ b, rowM t (b + 1) ≠ ⊥ := by
    intro b
    induction b with
    | zero =>
      rw [rowM]
      refine ne_of_gt (lt_of_lt_of_le (bot_lt_iff_ne_bot.2 h0) (le_trans ?_ (le_max_right _ _)))
      have := Finset.le_sup (f := fun j : Fin 1024 => t (0 * 1024 + j.val)) (Finset.mem_univ (0 : Fin 1024))
      simpa using this
    | succ b ih =>
      rw [rowM]
      exact ne_of_gt (lt_of_lt_of_le (bot_lt_iff_ne_bot.2 ih) (le_max_left _ _))
  intro b
  exact ⟨(rowM t (b + 1)).toReal, (EReal.coe_toReal (rowM_ne_top t ht _) (hb b)).symm⟩

/-- A sum over the next block continues a sum over the blocks before it. -/
theorem sum_block (f : ℕ → EReal) (b : ℕ) :
    ∑ k ∈ Finset.range ((b + 1) * 1024), f k = ∑ k ∈ Finset.range (b * 1024), f k + ∑ j : Fin 1024, f (b * 1024 + j.val) := by
  rw [show (b + 1) * 1024 = b * 1024 + 1024 by ring, Finset.sum_range_add, Fin.sum_univ_eq_sum_range (fun j => f (b * 1024 + j))]

/-- The running sum is the sum of all weights so far against the present maximum, each times its value. -/
theorem rowA_eq (t v : ℕ → EReal) (ht : ∀ k, t k ≠ ⊤) (h0 : t 0 ≠ ⊥) (b : ℕ) :
    rowA t v (b + 1) = ∑ k ∈ Finset.range ((b + 1) * 1024), Ideal.exp2 (t k - rowM t (b + 1)) * v k := by
  induction b with
  | zero =>
    rw [sum_block, rowA]
    simp only [rowA, mul_zero, zero_mul, Finset.range_zero, Finset.sum_empty]
  | succ b ih =>
    rw [sum_block, rowA, ih]
    refine congrArg₂ (· + ·) ?_ rfl
    obtain ⟨M, hM⟩ := rowM_real t ht h0 b
    obtain ⟨N, hN⟩ := rowM_real t ht h0 (b + 1)
    rw [hM, hN, show ((M : EReal) - (N : EReal)) = ((M - N : ℝ) : EReal) from (EReal.coe_sub M N).symm,
      (exp2_coe_pos (M - N)).1, mul_sum _ (exp2_coe_pos (M - N)).2.le]
    refine Finset.sum_congr rfl fun k _ => ?_
    rw [← mul_assoc, ← (exp2_coe_pos (M - N)).1, EReal.coe_sub, exp2_rescale _ (ht k)]

/-- The exponential to the base e of a score times the logarithm of two, against a maximum, is the base-two one. -/
theorem exp_scaled (x : EReal) (hx : x ≠ ⊤) (M : ℝ) :
    Ideal.exp (((Real.log 2 : ℝ) : EReal) * x - (M : EReal)) = Ideal.exp2 (x - ((M / Real.log 2 : ℝ) : EReal)) := by
  have hl : 0 < Real.log 2 := Real.log_pos (by norm_num)
  induction x using EReal.rec with
  | bot => rw [EReal.coe_mul_bot_of_pos hl, EReal.bot_sub, EReal.bot_sub]; rfl
  | coe x =>
    rw [← EReal.coe_mul, ← EReal.coe_sub, ← EReal.coe_sub]
    show ((Real.exp _ : ℝ) : EReal) = ((Real.rpow 2 _ : ℝ) : EReal)
    refine congrArg _ ?_
    show _ = (2 : ℝ) ^ (x - M / Real.log 2)
    rw [Real.rpow_def_of_pos (by norm_num)]
    congr 1; field_simp
  | top => exact absurd rfl hx

/-- Normalising the weighted sum is weighting by the normalised exponentials: the row's attention, both ways.
    `n` is the number of keys that the blocks reach; the keys from there on are hidden. -/
theorem attention_row (t v : ℕ → EReal) (ht : ∀ k, t k ≠ ⊤) (h0 : t 0 ≠ ⊥) (b N : ℕ) (hN : (b + 1) * 1024 ≤ N)
    (hid : ∀ k, (b + 1) * 1024 ≤ k → t k = ⊥) (M' : ℝ) :
    Ideal.div (rowA t v (b + 1)) (rowA t (fun _ => 1) (b + 1))
      = ∑ k ∈ Finset.range N, Ideal.div (Ideal.exp (((Real.log 2 : ℝ) : EReal) * t k - (M' : EReal)))
          (∑ k' ∈ Finset.range N, Ideal.exp (((Real.log 2 : ℝ) : EReal) * t k' - (M' : EReal))) * v k := by
  obtain ⟨M, hM⟩ := rowM_real t ht h0 b
  rw [rowA_eq t v ht h0, rowA_eq t _ ht h0, hM]
  -- the weights as reals
  have hw := fun k => exp2_sub_real (t k) (ht k) M
  choose w hw0 hw using hw
  have hsub : Finset.range ((b + 1) * 1024) ⊆ Finset.range N := Finset.range_subset_range.2 hN
  have hz : ∀ k, k ∉ Finset.range ((b + 1) * 1024) → w k = 0 := by
    intro k hk
    have hk' := hid k (by simpa using hk)
    have := hw k
    rw [hk', EReal.bot_sub] at this
    exact (EReal.coe_eq_zero.1 this.symm)
  have hpos : 0 < w 0 := by
    have h := hw 0
    obtain ⟨x, hx⟩ : ∃ x : ℝ, t 0 = (x : EReal) := ⟨(t 0).toReal, (EReal.coe_toReal (ht 0) h0).symm⟩
    rw [hx, ← EReal.coe_sub, (exp2_coe_pos _).1] at h
    have := (exp2_coe_pos (x - M)).2
    rw [EReal.coe_eq_coe_iff] at h
    rwa [← h]
  set β : ℝ := Real.rpow 2 (M - M' / Real.log 2) with hβ
  have hβ0 : 0 < β := (exp2_coe_pos _).2
  have hE : ∀ k, Ideal.exp (((Real.log 2 : ℝ) : EReal) * t k - (M' : EReal)) = ((β * w k : ℝ) : EReal) := by
    intro k
    rw [exp_scaled _ (ht k), ← exp2_rescale _ (ht k) M, hw k, ← EReal.coe_sub, (exp2_coe_pos _).1, EReal.coe_mul]
  have cs : ∀ (s : Finset ℕ) (f : ℕ → ℝ), ∑ k ∈ s, ((f k : ℝ) : EReal) = ((∑ k ∈ s, f k : ℝ) : EReal) := by
    intro s f
    induction s using Finset.induction_on with
    | empty => simp
    | insert a s ha ih => rw [Finset.sum_insert ha, Finset.sum_insert ha, ih, EReal.coe_add]
  set W : ℝ := ∑ k ∈ Finset.range ((b + 1) * 1024), w k with hWd
  have hW : 0 < W := lt_of_lt_of_le hpos (Finset.single_le_sum (f := w) (fun k _ => hw0 k) (Finset.mem_range.2 (by positivity)))
  have hWN : ∑ k ∈ Finset.range N, β * w k = β * W := by
    rw [← Finset.mul_sum, hWd]
    exact congrArg _ (Finset.sum_subset hsub fun k _ hk => hz k hk).symm
  simp only [hE, hw, mul_one, cs]
  rw [← hWd, hWN, Ideal.div_coe hW.ne', mul_comm, mul_sum _ (by positivity)]
  simp only [Ideal.div_coe (mul_pos hβ0 hW).ne']
  refine (Finset.sum_subset hsub fun k _ hk => ?_).trans (Finset.sum_congr rfl fun k _ => ?_)
  · rw [hz k hk, EReal.coe_zero, zero_mul, mul_zero]
  · rw [← mul_assoc, ← EReal.coe_mul, ← EReal.coe_mul]
    refine congrArg (fun x : ℝ => (x : EReal) * v k) ?_
    field_simp

end Cert.Flash

end
-- ==== Proof.Elem.lean ====
module

public import proofs.«01_k».proof.Proof.Stage
public import proofs.«01_k».proof.Proof.Math
public import Idealize.ShloMosaic.PureOps.Ideal.Laws
public import Idealize.ShloMosaic.Lib.MatmulPlain
public import Idealize.ShloMosaic.Lib.ValueIdx
public import Idealize.ShloMosaic.Lib.IdealHost
public import Idealize.ShloMosaic.Lib.Pointwise
public import Idealize.ShloMosaic.Lib.WordCmp

@[expose] public section

set_option maxRecDepth 16384

noncomputable section

namespace Cert.KernelIdeal.Flash

open Cert.KernelIdeal Cert.KernelIdeal.Gen Cert.Flash
open Idealize.ShloMosaic hiding ix0 ix1 ix2 ix3 ix4 ix5 maximumf_apply addf_apply mulf_apply subf_apply divf_apply
open Idealize.ShloMosaic.ValueIdx

/-! ## The stages' elements over the extended reals -/

/-- Two blocks of 128 columns side by side: an element of the left one. -/
theorem cat2_left {R : ℕ} {α : Type} (x y : (⟨2, ![R, 128]⟩ : Shape).Idx → α)
    (h : Shape.Concatenates [⟨2, ![R, 128]⟩, ⟨2, ![R, 128]⟩] ⟨2, ![R, 256]⟩ (1 : Fin 2)) (r : Fin R) (c : Fin 256) (hc : c.val < 128) :
    concatenate (⟨2, ![R, 256]⟩ : Shape) (1 : Fin 2) [⟨⟨2, ![R, 128]⟩, x⟩, ⟨⟨2, ![R, 128]⟩, y⟩] h (ix2 r c) = x (ix2 r ⟨c.val, hc⟩) :=
  concatenate_pair_apply_left (s₁ := ⟨2, ![R, 128]⟩) (s₂ := ⟨2, ![R, 128]⟩) (t := ⟨2, ![R, 256]⟩) 1 x y h (ix2 r c) rfl (ix2 r ⟨c.val, hc⟩)
    fun b => match b with | ⟨0, _⟩ => rfl | ⟨1, _⟩ => rfl

/-- Two blocks of 128 columns side by side: an element of the right one. -/
theorem cat2_right {R : ℕ} {α : Type} (x y : (⟨2, ![R, 128]⟩ : Shape).Idx → α)
    (h : Shape.Concatenates [⟨2, ![R, 128]⟩, ⟨2, ![R, 128]⟩] ⟨2, ![R, 256]⟩ (1 : Fin 2)) (r : Fin R) (c : Fin 256) (hc : ¬ c.val < 128) :
    concatenate (⟨2, ![R, 256]⟩ : Shape) (1 : Fin 2) [⟨⟨2, ![R, 128]⟩, x⟩, ⟨⟨2, ![R, 128]⟩, y⟩] h (ix2 r c) = y (ix2 r ⟨c.val - 128, by omega⟩) :=
  concatenate_pair_apply_right (s₁ := ⟨2, ![R, 128]⟩) (s₂ := ⟨2, ![R, 128]⟩) (t := ⟨2, ![R, 256]⟩) 1 x y h (ix2 r c) rfl rfl (ix2 r ⟨c.val - 128, by omega⟩)
    (fun b => match b with | ⟨0, _⟩ => fun _ => rfl | ⟨1, _⟩ => fun h => absurd rfl h) (by show c.val - 128 + 128 = c.val; omega)

/-- Eight blocks of 128 columns side by side. -/
theorem cat8 {α : Type} (f : Fin 8 → (S1024x128.Idx → α)) (h : Shape.Concatenates [S1024x128, S1024x128, S1024x128, S1024x128, S1024x128, S1024x128, S1024x128, S1024x128] S1024x1024 (1 : Fin 2))
    (r : Fin 1024) (j : Fin 1024) :
    concatenate S1024x1024 (1 : Fin 2) [⟨S1024x128, f 0⟩, ⟨S1024x128, f 1⟩, ⟨S1024x128, f 2⟩, ⟨S1024x128, f 3⟩, ⟨S1024x128, f 4⟩, ⟨S1024x128, f 5⟩, ⟨S1024x128, f 6⟩, ⟨S1024x128, f 7⟩] h (ix2 r j)
      = f ⟨j.val / 128, by omega⟩ (ix2 r (⟨j.val % 128, Nat.mod_lt _ (by decide)⟩ : Fin 128)) :=
  concatenate_ofFn_apply (t := S1024x1024) (s₁ := S1024x128) (1 : Fin 2) f h rfl 128 rfl (ix2 r j) ⟨j.val / 128, by omega⟩ rfl
    (ix2 r (⟨j.val % 128, Nat.mod_lt _ (by decide)⟩ : Fin 128)) rfl (fun b => match b with | ⟨0, _⟩ => fun _ => rfl | ⟨1, _⟩ => fun h => absurd rfl h)

/-- Key `n`: the head's part and the shared part, one after the other. -/
def kcat (kn kp : Vec Ideal S16384x128 .bf16) (n : ℕ) (d : Fin 256) : EReal :=
  if h : d.val < 128 then kn (ix2 (⟨n % 16384, Nat.mod_lt _ (by decide)⟩ : Fin 16384) (⟨d.val, h⟩ : Fin 128))
  else kp (ix2 (⟨n % 16384, Nat.mod_lt _ (by decide)⟩ : Fin 16384) (⟨d.val - 128, by omega⟩ : Fin 128))

/-- The score of query row `r` against key `n`. -/
def rscore (q : Vec Ideal S1024x256 .bf16) (kn kp : Vec Ideal S16384x128 .bf16) (r : Fin 1024) (n : ℕ) : EReal :=
  ∑ d : Fin 256, q (ix2 r d) * kcat kn kp n d

/-- One entry of a block of scores: the row of the joined queries against the row of the joined keys. -/
theorem scoreB_apply (q : Vec Ideal S1024x256 .bf16) (kn kp : Vec Ideal S16384x128 .bf16) (b : ℕ) (r j : Fin 1024) :
    scoreB q (blk kn b) (blk kp b) (ix2 r j) = rscore q kn kp r (b * 1024 + j.val) := by
  refine (Ideal.matmul_transposedRhs_apply (M := 1024) (K := 256) (N := 1024) none q _ _ r j).trans ?_
  rw [show (constant S1024x1024 .f32 0x00000000#32 : FVec Ideal S1024x1024 .f32) (ix2 r j) = 0 from Ideal.ofBits_zero_f32, zero_add]
  refine Finset.sum_congr rfl fun d _ => congrArg (q (ix2 r d) * ·) ?_
  unfold kcat
  by_cases hd : d.val < 128
  · rw [dif_pos hd]
    refine (cat2_left _ _ _ j d hd).trans ?_
    exact congrArg kn (funext fun a => Fin.ext (match a with | ⟨0, _⟩ => rfl | ⟨1, _⟩ => rfl))
  · rw [dif_neg hd]
    refine (cat2_right _ _ _ j d hd).trans ?_
    exact congrArg kp (funext fun a => Fin.ext (match a with | ⟨0, _⟩ => rfl | ⟨1, _⟩ => rfl))

/-- One entry of the `o`-th strip of 128 columns of a block of scores. -/
theorem tile_apply (s : Vec Ideal S1024x1024 .f32) (o : Fin 8) (r : Fin 1024) (c : Fin 128) :
    tile s o (ix2 r c) = s (ix2 r (⟨128 * o.val + c.val, by omega⟩ : Fin 1024)) := by
  refine congrArg s (funext fun a => Fin.ext ?_)
  match a with
  | ⟨0, _⟩ => show 0 + 1 * r.val = r.val; omega
  | ⟨1, _⟩ => show 128 * o.val + 1 * c.val = 128 * o.val + c.val; omega

/-- The comparison of column and row words below 1024 is the comparison of the numbers. -/
theorem mask_word : ∀ (a b : ℕ), a < 1024 → b < 1024 →
    IntOp.cmpi .sle (BitVec.ofNat 32 a) (BitVec.ofNat 32 b) = if a ≤ b then 1#1 else 0#1 := by
  intro a b ha hb
  have e : (BitVec.ofNat 32 a).sle (BitVec.ofNat 32 b) = decide (a ≤ b) := by
    rw [BitVec.sle_eq_decide, BitVec.toInt_eq_toNat_of_lt, BitVec.toInt_eq_toNat_of_lt]
    · simp only [BitVec.toNat_ofNat]
      rw [Nat.mod_eq_of_lt (by omega), Nat.mod_eq_of_lt (by omega)]
      simp
    · simp only [BitVec.toNat_ofNat]; rw [Nat.mod_eq_of_lt (by omega)]; omega
    · simp only [BitVec.toNat_ofNat]; rw [Nat.mod_eq_of_lt (by omega)]; omega
  simp only [IntOp.cmpi, e]
  by_cases h : a ≤ b <;> simp [h]

/-- The named mask constant is minus infinity over the extended reals. -/
theorem mask_named : (Named.named (F := Ideal) κ "mask" 0xF149F2CA#32 : Ideal .f32) = (⊥ : EReal) :=
  IdealRules.named_const.ideal_named_scalar _ _ _ _ rfl

/-- One entry of a masked strip: the score where the column is not past the row, else minus infinity. -/
theorem msk_apply (o : Fin 8) (t : Vec Ideal S1024x128 .f32) (r : Fin 1024) (c : Fin 128) :
    msk o t (ix2 r c) = if 128 * o.val + c.val ≤ r.val then t (ix2 r c) else ⊥ := by
  have e : cmpi .sle (addi (iota .tc S1024x128 32 [1] iota_S1024x128_d1_w32) (broadcast S1024x128 (BitVec.ofNat 32 (128 * o.val)))) (iota .tc S1024x128 32 [0] iota_S1024x128_d0_w32) (ix2 r c)
      = if 128 * o.val + c.val ≤ r.val then 1#1 else 0#1 := by
    rw [← mask_word _ _ (by omega) r.isLt, Nat.add_comm, BitVec.ofNat_add]
    show IntOp.cmpi .sle (IntOp.addi (iota .tc S1024x128 32 [1] iota_S1024x128_d1_w32 (ix2 r c)) (BitVec.ofNat 32 (128 * o.val))) (iota .tc S1024x128 32 [0] iota_S1024x128_d0_w32 (ix2 r c)) = _
    rw [Idealize.ShloMosaic.WordCmp.iota_at, Idealize.ShloMosaic.WordCmp.iota_at]
    simp only [List.foldl_cons, List.foldl_nil, Nat.zero_mul, Nat.zero_add]
    rfl
  unfold msk
  rw [select_apply, e, broadcast_apply, mask_named]
  split <;> rfl

/-- The row maximum after a block, at any lane. -/
theorem mNext_apply (t : Fin 8 → Vec Ideal S1024x128 .f32) (m : Vec Ideal S1024x128 .f32) (r : Fin 1024) (T : ℕ → EReal) (M : EReal)
    (hT : ∀ (o : Fin 8) (c : Fin 128), t o (ix2 r c) = T (128 * o.val + c.val)) (hM : ∀ c : Fin 128, m (ix2 r c) = M) (c : Fin 128) :
    mNext t m (ix2 r c) = max M (Finset.univ.sup fun j : Fin 1024 => T j.val) := by
  unfold mNext
  rw [maximumf_apply, hM]
  refine congrArg (max M) ?_
  refine Eq.trans (b := multiReduction (F := Ideal) .maximumf [1] S1024
    (maximumf (maximumf (maximumf (maximumf (maximumf (maximumf (maximumf (t 0) (t 1)) (t 2)) (t 3)) (t 4)) (t 5)) (t 6)) (t 7))
    0xFF800000#32 reduces_S1024x128_S1024 (.inl rfl) rfl (ix1 r)) ?_ ?_
  · pointwise
  · refine (Ideal.multiReduction_maximumf_single _ _ _ _ _ _).trans ?_
    have hb : (FloatOps.ofBits .f32 0xFF800000#32 : Ideal .f32) = (⊥ : EReal) := by
      show Ideal.ofBits .f32 0xFF800000#32 = ⊥
      simp [Ideal.ofBits, Ideal.ieee]
    rw [hb]
    refine Eq.trans (b := Finset.univ.sup fun c : Fin 128 => T (0 + c.val) ⊔ T (128 + c.val) ⊔ T (256 + c.val) ⊔ T (384 + c.val) ⊔ T (512 + c.val) ⊔ T (640 + c.val) ⊔ T (768 + c.val) ⊔ T (896 + c.val)) ?_ ?_
    · have hl : ∀ c : Fin 128, (reduces_S1024x128_S1024.lift (ix1 r) c : S1024x128.Idx) = ix2 r c := fun c =>
        funext fun a => Fin.ext (match a with | ⟨0, _⟩ => rfl | ⟨1, _⟩ => rfl)
      have key : ∀ c : Fin 128, (maximumf (maximumf (maximumf (maximumf (maximumf (maximumf (maximumf (t 0) (t 1)) (t 2)) (t 3)) (t 4)) (t 5)) (t 6)) (t 7) : FVec Ideal S1024x128 .f32) (reduces_S1024x128_S1024.lift (ix1 r) c)
          = T (0 + c.val) ⊔ T (128 + c.val) ⊔ T (256 + c.val) ⊔ T (384 + c.val) ⊔ T (512 + c.val) ⊔ T (640 + c.val) ⊔ T (768 + c.val) ⊔ T (896 + c.val) := by
        intro c
        rw [hl c]
        rw [maximumf_apply, maximumf_apply, maximumf_apply, maximumf_apply, maximumf_apply, maximumf_apply, maximumf_apply, hT, hT, hT, hT, hT, hT, hT, hT]
        rfl
      exact Finset.fold_congr fun c _ => key c
    · refine le_antisymm (Finset.sup_le fun c _ => ?_) (Finset.sup_le fun j _ => ?_)
      · have hc := c.isLt
        have le : ∀ n (h : n < 1024), T n ≤ Finset.univ.sup fun j : Fin 1024 => T j.val := fun n h =>
          Finset.le_sup (f := fun j : Fin 1024 => T j.val) (Finset.mem_univ (⟨n, h⟩ : Fin 1024))
        refine sup_le (sup_le (sup_le (sup_le (sup_le (sup_le (sup_le ?_ ?_) ?_) ?_) ?_) ?_) ?_) ?_ <;> exact le _ (by omega)
      · have hj := j.isLt
        have hle := Finset.le_sup (f := fun c : Fin 128 => T (0 + c.val) ⊔ T (128 + c.val) ⊔ T (256 + c.val) ⊔ T (384 + c.val) ⊔ T (512 + c.val) ⊔ T (640 + c.val) ⊔ T (768 + c.val) ⊔ T (896 + c.val))
          (Finset.mem_univ (⟨j.val % 128, Nat.mod_lt _ (by decide)⟩ : Fin 128))
        refine le_trans ?_ hle
        have e : j.val = 128 * (j.val / 128) + j.val % 128 := by omega
        have hd : j.val / 128 < 8 := by omega
        show T j.val ≤ T (0 + j.val % 128) ⊔ T (128 + j.val % 128) ⊔ T (256 + j.val % 128) ⊔ T (384 + j.val % 128) ⊔ T (512 + j.val % 128) ⊔ T (640 + j.val % 128) ⊔ T (768 + j.val % 128) ⊔ T (896 + j.val % 128)
        clear hle
        rw [congrArg T e]
        generalize j.val / 128 = q at hd
        generalize j.val % 128 = p
        interval_cases q <;> simp

/-- The weighted values and weights' sums after a block: a running sum's step, at any column. -/
theorem aNext_apply (t : Fin 8 → Vec Ideal S1024x128 .f32) (m : Vec Ideal S1024x128 .f32) (v : Vec Ideal S1024x128 .bf16) (acc : Vec Ideal S1024x256 .f32)
    (r : Fin 1024) (T : ℕ → EReal) (M : EReal)
    (hT : ∀ (o : Fin 8) (c : Fin 128), t o (ix2 r c) = T (128 * o.val + c.val)) (hM : ∀ c : Fin 128, m (ix2 r c) = M) (c : Fin 256) :
    aNext t m v acc (ix2 r c) = Ideal.exp2 (M - max M (Finset.univ.sup fun j : Fin 1024 => T j.val)) * acc (ix2 r c)
      + ∑ j : Fin 1024, Ideal.exp2 (T j.val - max M (Finset.univ.sup fun j : Fin 1024 => T j.val)) * (if h : c.val < 128 then v (ix2 j (⟨c.val, h⟩ : Fin 128)) else 1) := by
  have hm := mNext_apply t m r T M hT hM
  have hα : ∀ d : Fin 128, (exp2 (subf m (mNext t m)) : FVec Ideal S1024x128 .f32) (ix2 r d) = Ideal.exp2 (M - max M (Finset.univ.sup fun j : Fin 1024 => T j.val)) := by
    intro d
    show Ideal.exp2 (m (ix2 r d) - mNext t m (ix2 r d)) = _
    rw [hm d, hM d]
  unfold aNext
  refine congrArg₂ (· + ·) (congrArg (· * acc (ix2 r c)) ?_) ?_
  · by_cases hc : c.val < 128
    · exact (cat2_left _ _ _ r c hc).trans (hα _)
    · exact (cat2_right _ _ _ r c hc).trans (hα _)
  · refine (Ideal.matmul_plain_apply (M := 1024) (K := 1024) (N := 256) none _ _ _ r c).trans ?_
    rw [show (constant S1024x256 .f32 0x00000000#32 : FVec Ideal S1024x256 .f32) (ix2 r c) = 0 from Ideal.ofBits_zero_f32, zero_add]
    refine Finset.sum_congr rfl fun j _ => congrArg₂ (· * ·) ?_ ?_
    · refine (cat8 (fun o => wt (t o) (mNext t m)) _ r j).trans ?_
      show Ideal.exp2 (t ⟨j.val / 128, _⟩ (ix2 r _) - mNext t m (ix2 r _)) = _
      rw [hm, hT]
      refine congrArg (fun x => Ideal.exp2 (T x - _)) ?_
      show 128 * (j.val / 128) + j.val % 128 = j.val
      omega
    · by_cases hc : c.val < 128
      · rw [dif_pos hc]; exact cat2_left _ _ _ j c hc
      · rw [dif_neg hc]; exact (cat2_right _ _ _ j c hc).trans Ideal.ofBits_one_bf16

/-- The values a column of the accumulator weighs: a column of the values, or ones. -/
def vcol (v : Vec Ideal S16384x128 .bf16) (c : Fin 256) (n : ℕ) : EReal :=
  if h : c.val < 128 then v (ix2 (⟨n % 16384, Nat.mod_lt _ (by decide)⟩ : Fin 16384) (⟨c.val, h⟩ : Fin 128)) else 1

/-- One entry of a block of the values joined with ones. -/
theorem blk_vcol (v : Vec Ideal S16384x128 .bf16) (b : ℕ) (j : Fin 1024) (c : Fin 256) :
    (if h : c.val < 128 then blk v b (ix2 j (⟨c.val, h⟩ : Fin 128)) else (1 : EReal)) = vcol v c (b * 1024 + j.val) := by
  unfold vcol
  by_cases hc : c.val < 128
  · rw [dif_pos hc, dif_pos hc]
    exact congrArg v (funext fun a => Fin.ext (match a with | ⟨0, _⟩ => rfl | ⟨1, _⟩ => rfl))
  · rw [dif_neg hc, dif_neg hc]

/-- The scores of query row `r` of block `b`, those right of the diagonal hidden. -/
def hidden (q : Vec Ideal S1024x256 .bf16) (kn kp : Vec Ideal S16384x128 .bf16) (b : ℕ) (r : Fin 1024) (n : ℕ) : EReal :=
  if n ≤ b * 1024 + r.val then rscore q kn kp r n else ⊥

/-- After the key blocks before the query block `B`, the state holds the row's running maximum and sums. -/
theorem st_apply (q : Vec Ideal S1024x256 .bf16) (kn kp v : Vec Ideal S16384x128 .bf16) (B : ℕ) (r : Fin 1024) :
    ∀ b, b ≤ B → (∀ c : Fin 128, (st q kn kp v b).1 (ix2 r c) = rowM (hidden q kn kp B r) b)
      ∧ ∀ c : Fin 256, (st q kn kp v b).2 (ix2 r c) = rowA (hidden q kn kp B r) (vcol v c) b := by
  intro b
  induction b with
  | zero =>
    refine fun _ => ⟨fun c => ?_, fun c => ?_⟩
    · show k0_pay68 (F := Ideal) (ix2 r c) = ⊥
      unfold k0_pay68
      pointwise
      exact mask_named
    · show k0_pay69 (F := Ideal) (ix2 r c) = 0
      unfold k0_pay69
      pointwise
  | succ b ih =>
    intro hb
    obtain ⟨h1, h2⟩ := ih (by omega)
    have hT : ∀ (o : Fin 8) (c : Fin 128), tile (scoreB q (blk kn b) (blk kp b)) o (ix2 r c) = hidden q kn kp B r (b * 1024 + (128 * o.val + c.val)) := by
      intro o c
      have : o.val < 8 := o.isLt
      have := c.isLt
      rw [tile_apply, scoreB_apply, hidden, if_pos]
      have : (b + 1) * 1024 ≤ B * 1024 := Nat.mul_le_mul_right _ hb
      show b * 1024 + (128 * o.val + c.val) ≤ _
      omega
    refine ⟨fun c => ?_, fun c => ?_⟩
    · exact mNext_apply _ _ r (fun j => hidden q kn kp B r (b * 1024 + j)) _ hT h1 c
    · refine (aNext_apply _ _ _ _ r (fun j => hidden q kn kp B r (b * 1024 + j)) _ hT h1 c).trans ?_
      rw [h2 c]
      exact congrArg₂ (· + ·) rfl (Finset.sum_congr rfl fun j _ => congrArg₂ (· * ·) rfl (blk_vcol v b j c))

/-- After the diagonal block too. -/
theorem accD_apply (q : Vec Ideal S1024x256 .bf16) (kn kp v : Vec Ideal S16384x128 .bf16) (B : ℕ) (r : Fin 1024) (c : Fin 256) :
    accD q kn kp v B (ix2 r c) = rowA (hidden q kn kp B r) (vcol v c) (B + 1) := by
  obtain ⟨h1, h2⟩ := st_apply q kn kp v B r B le_rfl
  have hT : ∀ (o : Fin 8) (c : Fin 128), mtile (scoreB q (blk kn B) (blk kp B)) o (ix2 r c) = hidden q kn kp B r (B * 1024 + (128 * o.val + c.val)) := by
    intro o c
    unfold mtile
    rw [msk_apply, tile_apply, scoreB_apply, hidden]
    exact if_congr (by omega) rfl rfl
  refine (aNext_apply _ _ _ _ r (fun j => hidden q kn kp B r (B * 1024 + j)) _ hT h1 c).trans ?_
  rw [h2 c]
  exact congrArg₂ (· + ·) rfl (Finset.sum_congr rfl fun j _ => congrArg₂ (· * ·) rfl (blk_vcol v B j c))

/-- The query row: the head's part and the positional part, one after the other. -/
theorem pay67_apply (qn qp : Vec Ideal S1024x128 .bf16) (r : Fin 1024) (d : Fin 256) :
    k0_pay67 (F := Ideal) qn qp (ix2 r d) = if h : d.val < 128 then qn (ix2 r (⟨d.val, h⟩ : Fin 128)) else qp (ix2 r (⟨d.val - 128, by omega⟩ : Fin 128)) := by
  have e : k0_pay67 (F := Ideal) qn qp (ix2 r d) = (concatenate S1024x256 1 [⟨S1024x128, qn⟩, ⟨S1024x128, qp⟩] concatenates_S1024x128_S1024x128_S1024x256_d1 : FVec Ideal S1024x256 .bf16) (ix2 r d) := by
    unfold k0_pay67
    rw [shapeCast_self]
  rw [e]
  by_cases hd : d.val < 128
  · rw [dif_pos hd]; exact cat2_left _ _ _ r d hd
  · rw [dif_neg hd]; exact cat2_right _ _ _ r d hd

/-- What a grid point writes: the row's weighted values over its weights' sum. -/
theorem outB_apply (qn qp : Vec Ideal S1024x128 .bf16) (kn kp v : Vec Ideal S16384x128 .bf16) (B : ℕ) (r : Fin 1024) (c : Fin 128) :
    outB qn qp kn kp v B (ix2 r c)
      = Ideal.div (rowA (hidden (k0_pay67 qn qp) kn kp B r) (vcol v ⟨c.val, by omega⟩) (B + 1))
          (rowA (hidden (k0_pay67 qn qp) kn kp B r) (fun _ => 1) (B + 1)) := by
  have h0 : View.ld (Val := Elt Ideal) (e' := .f32) (accD (k0_pay67 qn qp) kn kp v B) (Rect.unit (s := S1024x256) ![0, 0] S1024x128.size half_inb0) (ix2 r c)
      = accD (k0_pay67 qn qp) kn kp v B (ix2 r (⟨c.val, by omega⟩ : Fin 256)) := by
    refine congrArg (accD (k0_pay67 qn qp) kn kp v B) (funext fun a => Fin.ext ?_)
    match a with
    | ⟨0, _⟩ => show 0 + 1 * r.val = r.val; omega
    | ⟨1, _⟩ => show 0 + 1 * c.val = c.val; omega
  have h1 : View.ld (Val := Elt Ideal) (e' := .f32) (accD (k0_pay67 qn qp) kn kp v B) (Rect.unit (s := S1024x256) ![0, 128] S1024x128.size half_inb1) (ix2 r c)
      = accD (k0_pay67 qn qp) kn kp v B (ix2 r (⟨c.val + 128, by omega⟩ : Fin 256)) := by
    refine congrArg (accD (k0_pay67 qn qp) kn kp v B) (funext fun a => Fin.ext ?_)
    match a with
    | ⟨0, _⟩ => show 0 + 1 * r.val = r.val; omega
    | ⟨1, _⟩ => show 128 + 1 * c.val = c.val + 128; omega
  have hv : vcol v (⟨c.val + 128, by omega⟩ : Fin 256) = fun _ => 1 := funext fun n => dif_neg (by show ¬ c.val + 128 < 128; omega)
  refine (congrArg₂ Ideal.div (h0.trans (accD_apply _ _ _ _ _ _ _)) (h1.trans (accD_apply _ _ _ _ _ _ _))).trans ?_
  rw [hv]

end Cert.KernelIdeal.Flash

end
-- ==== Proof.Spec.lean ====
module

public import proofs.«01_k».proof.Proof.Math
public import Idealize.ShloMosaic.PureOps.Ideal.Laws
public import Idealize.ShloMosaic.Lib.MatmulPlain
public import Idealize.ShloMosaic.Lib.ValueIdx
public import Idealize.ShloMosaic.Lib.IdealHost

@[expose] public section

noncomputable section

namespace Cert.Flash

open Idealize.ShloMosaic
open Idealize.ShloMosaic.ValueIdx

/-! ## Causal attention of the whole arrays, element by element

`a0`, `a1` are the two parts of the queries (16 heads of 128 columns side by side), `a2` the keys' first parts and then
the values (16 heads of 128 columns each), `a3` the keys' second part, which all heads share. -/

/-- The shape of the query arrays and of the result. -/
abbrev SQ : Shape := ⟨2, ![16384, 2048]⟩
/-- The shape of the array of keys and values. -/
abbrev SKV : Shape := ⟨2, ![16384, 4096]⟩
/-- The shape of the shared key array. -/
abbrev SKP : Shape := ⟨2, ![16384, 128]⟩

/-- The query of row `g` and head `h`, its two parts one after the other. -/
def qe (a0 a1 : SQ.Idx → EReal) (g : Fin 16384) (h : Fin 16) (d : Fin 256) : EReal :=
  if hd : d.val < 128 then a0 (ix2 g (⟨h.val * 128 + d.val, by omega⟩ : Fin 2048))
  else a1 (ix2 g (⟨h.val * 128 + (d.val - 128), by omega⟩ : Fin 2048))

/-- The key of row `n` and head `h`, its two parts one after the other. -/
def ke (a2 : SKV.Idx → EReal) (a3 : SKP.Idx → EReal) (h : Fin 16) (n : ℕ) (d : Fin 256) : EReal :=
  if hd : d.val < 128 then a2 (ix2 (⟨n % 16384, Nat.mod_lt _ (by decide)⟩ : Fin 16384) (⟨h.val * 128 + d.val, by omega⟩ : Fin 4096))
  else a3 (ix2 (⟨n % 16384, Nat.mod_lt _ (by decide)⟩ : Fin 16384) (⟨d.val - 128, by omega⟩ : Fin 128))

/-- Column `c` of the value of row `n` and head `h`. -/
def ve (a2 : SKV.Idx → EReal) (h : Fin 16) (c : Fin 128) (n : ℕ) : EReal :=
  a2 (ix2 (⟨n % 16384, Nat.mod_lt _ (by decide)⟩ : Fin 16384) (⟨2048 + h.val * 128 + c.val, by omega⟩ : Fin 4096))

/-- The score of query row `g` against key `n`, minus infinity after the causal diagonal. -/
def te (a0 a1 : SQ.Idx → EReal) (a2 : SKV.Idx → EReal) (a3 : SKP.Idx → EReal) (h : Fin 16) (g : Fin 16384) (n : ℕ) : EReal :=
  if n ≤ g.val then ∑ d : Fin 256, qe a0 a1 g h d * ke a2 a3 h n d else ⊥

/-- One element of the result, as running sums over the key blocks up to the diagonal's: row `g`, head `h`, column `c`. -/
def attnAt (a0 a1 : SQ.Idx → EReal) (a2 : SKV.Idx → EReal) (a3 : SKP.Idx → EReal) (g : Fin 16384) (h : Fin 16) (c : Fin 128) : EReal :=
  Ideal.div (rowA (te a0 a1 a2 a3 h g) (ve a2 h c) (g.val / 1024 + 1)) (rowA (te a0 a1 a2 a3 h g) (fun _ => 1) (g.val / 1024 + 1))

/-- The whole result. -/
def attn (a0 a1 : SQ.Idx → EReal) (a2 : SKV.Idx → EReal) (a3 : SKP.Idx → EReal) (j : SQ.Idx) : EReal :=
  attnAt a0 a1 a2 a3 ⟨(j (0 : Fin 2)).val, (j (0 : Fin 2)).isLt⟩
    ⟨(j (1 : Fin 2)).val / 128, by have h : (j (1 : Fin 2)).val < 2048 := (j (1 : Fin 2)).isLt; omega⟩
    ⟨(j (1 : Fin 2)).val % 128, Nat.mod_lt _ (by decide)⟩

/-- The whole result's element in head `h`'s column `c`. -/
theorem attn_apply (a0 a1 : SQ.Idx → EReal) (a2 : SKV.Idx → EReal) (a3 : SKP.Idx → EReal) (g : Fin 16384) (h : Fin 16) (c : Fin 128) :
    attn a0 a1 a2 a3 (ix2 g (⟨h.val * 128 + c.val, by omega⟩ : Fin 2048)) = attnAt a0 a1 a2 a3 g h c := by
  have e1 : (⟨(h.val * 128 + c.val) / 128, by omega⟩ : Fin 16) = h := Fin.ext (by show (h.val * 128 + c.val) / 128 = h.val; omega)
  have e2 : (⟨(h.val * 128 + c.val) % 128, by omega⟩ : Fin 128) = c := Fin.ext (by show (h.val * 128 + c.val) % 128 = c.val; omega)
  show attnAt a0 a1 a2 a3 g (⟨(h.val * 128 + c.val) / 128, _⟩ : Fin 16) (⟨(h.val * 128 + c.val) % 128, _⟩ : Fin 128) = _
  rw [e1, e2]

/-- A score times the natural logarithm of two: the sum of the products, each query scaled. -/
theorem log2_te (a0 a1 : SQ.Idx → EReal) (a2 : SKV.Idx → EReal) (a3 : SKP.Idx → EReal) (h : Fin 16) (g : Fin 16384) (n : ℕ) :
    ((Real.log 2 : ℝ) : EReal) * te a0 a1 a2 a3 h g n
      = if n ≤ g.val then ∑ d : Fin 256, (qe a0 a1 g h d * ((Real.log 2 : ℝ) : EReal)) * ke a2 a3 h n d else ⊥ := by
  have hl : (0 : ℝ) < Real.log 2 := Real.log_pos (by norm_num)
  unfold te
  by_cases hn : n ≤ g.val
  · rw [if_pos hn, if_pos hn, mul_sum _ hl.le]
    refine Finset.sum_congr rfl fun d _ => ?_
    rw [mul_comm (qe a0 a1 g h d) ((Real.log 2 : ℝ) : EReal), mul_assoc]
  · rw [if_neg hn, if_neg hn, EReal.coe_mul_bot_of_pos hl]

/-- The product of two rows of reals is real. -/
theorem dot_real (q k : Fin 256 → EReal) (hq : ∀ d, ∃ r : ℝ, q d = (r : EReal)) (hk : ∀ d, ∃ r : ℝ, k d = (r : EReal)) :
    ∃ r : ℝ, ∑ d : Fin 256, q d * k d = (r : EReal) := by
  choose a ha using hq
  choose b hb using hk
  refine ⟨∑ d : Fin 256, a d * b d, ?_⟩
  refine (Finset.sum_congr rfl fun d _ => (show q d * k d = ((a d * b d : ℝ) : EReal) by rw [ha, hb, EReal.coe_mul])).trans ?_
  exact (map_sum (⟨⟨((↑) : ℝ → EReal), EReal.coe_zero⟩, EReal.coe_add⟩ : ℝ →+ EReal) (fun d => a d * b d) Finset.univ).symm

/-- The softmax of the scores, weighing the values, is the running sums' quotient. -/
theorem softmax_te (a0 a1 : SQ.Idx → EReal) (a2 : SKV.Idx → EReal) (a3 : SKP.Idx → EReal)
    (hq : ∀ g h d, ∃ r : ℝ, qe a0 a1 g h d = (r : EReal)) (hk : ∀ h n d, ∃ r : ℝ, ke a2 a3 h n d = (r : EReal))
    (g : Fin 16384) (h : Fin 16) (c : Fin 128) :
    ∑ k : Fin 16384, ve a2 h c k.val * Ideal.div
        (Ideal.exp (((Real.log 2 : ℝ) : EReal) * te a0 a1 a2 a3 h g k.val - Finset.univ.fold max (⊥ : EReal) fun k' : Fin 16384 => ((Real.log 2 : ℝ) : EReal) * te a0 a1 a2 a3 h g k'.val))
        (∑ k'' : Fin 16384, Ideal.exp (((Real.log 2 : ℝ) : EReal) * te a0 a1 a2 a3 h g k''.val - Finset.univ.fold max (⊥ : EReal) fun k' : Fin 16384 => ((Real.log 2 : ℝ) : EReal) * te a0 a1 a2 a3 h g k'.val))
      = attnAt a0 a1 a2 a3 g h c := by
  have hs : ∀ n, ∃ r : ℝ, ∑ d : Fin 256, qe a0 a1 g h d * ke a2 a3 h n d = (r : EReal) := fun n => dot_real _ _ (hq g h) (hk h n)
  have hl : (0 : ℝ) < Real.log 2 := Real.log_pos (by norm_num)
  have hL : ∀ n, ((Real.log 2 : ℝ) : EReal) * te a0 a1 a2 a3 h g n ≠ ⊤ := by
    intro n
    unfold te
    by_cases hn : n ≤ g.val
    · obtain ⟨r, hr⟩ := hs n
      rw [if_pos hn, hr, ← EReal.coe_mul]; exact EReal.coe_ne_top _
    · rw [if_neg hn, EReal.coe_mul_bot_of_pos hl]; exact bot_ne_top
  have ht : ∀ n, te a0 a1 a2 a3 h g n ≠ ⊤ := by
    intro n
    unfold te
    by_cases hn : n ≤ g.val
    · obtain ⟨r, hr⟩ := hs n
      rw [if_pos hn, hr]; exact EReal.coe_ne_top _
    · rw [if_neg hn]; exact bot_ne_top
  obtain ⟨r0, hr0⟩ := hs 0
  have h0 : te a0 a1 a2 a3 h g 0 = (r0 : EReal) := by
    unfold te; rw [if_pos (Nat.zero_le _), hr0]
  obtain ⟨M, hM⟩ : ∃ M : ℝ, (Finset.univ.fold max (⊥ : EReal) fun k' : Fin 16384 => ((Real.log 2 : ℝ) : EReal) * te a0 a1 a2 a3 h g k'.val) = (M : EReal) := by
    have e : (Finset.univ.fold max (⊥ : EReal) fun k' : Fin 16384 => ((Real.log 2 : ℝ) : EReal) * te a0 a1 a2 a3 h g k'.val)
        = Finset.univ.sup fun k' : Fin 16384 => ((Real.log 2 : ℝ) : EReal) * te a0 a1 a2 a3 h g k'.val := rfl
    rw [e]
    have hlt : (Finset.univ.sup fun k' : Fin 16384 => ((Real.log 2 : ℝ) : EReal) * te a0 a1 a2 a3 h g k'.val) < ⊤ :=
      (Finset.sup_lt_iff bot_lt_top).2 fun k _ => lt_top_iff_ne_top.2 (hL k.val)
    have hge : (((Real.log 2 * r0 : ℝ)) : EReal) ≤ Finset.univ.sup fun k' : Fin 16384 => ((Real.log 2 : ℝ) : EReal) * te a0 a1 a2 a3 h g k'.val := by
      rw [EReal.coe_mul, ← h0]
      exact Finset.le_sup (f := fun k' : Fin 16384 => ((Real.log 2 : ℝ) : EReal) * te a0 a1 a2 a3 h g k'.val) (Finset.mem_univ (⟨0, by decide⟩ : Fin 16384))
    exact ⟨_, (EReal.coe_toReal hlt.ne (fun hb => EReal.coe_ne_bot _ (le_bot_iff.1 (hb ▸ hge)))).symm⟩
  rw [hM]
  have hg := g.isLt
  have key := attention_row (te a0 a1 a2 a3 h g) (ve a2 h c) ht (by rw [h0]; exact EReal.coe_ne_bot _) (g.val / 1024) 16384 (by omega)
    (fun k hk => by unfold te; exact if_neg (by omega)) M
  unfold attnAt
  rw [key, ← Fin.sum_univ_eq_sum_range (fun k => Ideal.div (Ideal.exp (((Real.log 2 : ℝ) : EReal) * te a0 a1 a2 a3 h g k - (M : EReal)))
    (∑ k' ∈ Finset.range 16384, Ideal.exp (((Real.log 2 : ℝ) : EReal) * te a0 a1 a2 a3 h g k' - (M : EReal))) * ve a2 h c k) 16384,
    ← Fin.sum_univ_eq_sum_range (fun k' => Ideal.exp (((Real.log 2 : ℝ) : EReal) * te a0 a1 a2 a3 h g k' - (M : EReal))) 16384]
  exact Finset.sum_congr rfl fun k _ => mul_comm _ _

end Cert.Flash
-- ==== Proof.KVal.lean ====
module

public import proofs.«01_k».proof.Proof.Run
public import proofs.«01_k».proof.Proof.Elem
public import proofs.«01_k».proof.Proof.Spec
public import Idealize.ShloMosaic.Lib.Pipeline.ValueKit

@[expose] public section

set_option maxRecDepth 16384

noncomputable section

namespace Cert.KernelIdeal.Flash

open Cert.KernelIdeal Cert.KernelIdeal.Gen Cert.Flash
open Idealize.ShloMosaic hiding ix0 ix1 ix2 ix3 ix4 ix5 maximumf_apply addf_apply mulf_apply subf_apply divf_apply
open Idealize.ShloMosaic.ValueIdx
open Idealize.ShloMosaic.TcCoe Idealize.ShloMosaic.Tactic

variable (m : (ℓ : Loc nD τ sig) → Buf (Elt Ideal) ℓ)

/-! ## The output array from its blocks -/

/-- Where each window's block lies at a grid point. -/
theorem idx0 : ∀ t : Fin cfg0.N, win0_0.index t = ![(grid0.coords t 1).val, (grid0.coords t 0).val] := (by decide +kernel : ∀ t : Fin grid0.N, _)
/-- The block of the position queries at a grid step. -/
theorem idx1 : ∀ t : Fin cfg0.N, win0_1.index t = ![(grid0.coords t 1).val, (grid0.coords t 0).val] := (by decide +kernel : ∀ t : Fin grid0.N, _)
/-- The block of the keys at a grid step. -/
theorem idx2 : ∀ t : Fin cfg0.N, win0_2.index t = ![0, (grid0.coords t 0).val] := (by decide +kernel : ∀ t : Fin grid0.N, _)
/-- The block of the shared position keys at a grid step. -/
theorem idx3 : ∀ t : Fin cfg0.N, win0_3.index t = ![0, 0] := (by decide +kernel : ∀ t : Fin grid0.N, _)
/-- The block of the values at a grid step. -/
theorem idx4 : ∀ t : Fin cfg0.N, win0_4.index t = ![0, 16 + (grid0.coords t 0).val] := (by decide +kernel : ∀ t : Fin grid0.N, _)
/-- The block of the result at a grid step. -/
theorem idx5 : ∀ t : Fin cfg0.N, win0_5.index t = ![(grid0.coords t 1).val, (grid0.coords t 0).val] := (by decide +kernel : ∀ t : Fin grid0.N, _)

/-- The arguments' arrays, as this kernel finds them. -/
abbrev A0 (c : Dev nD) : SQ.Idx → EReal := m ((c : Thread nD τ).loc main_arg0)
/-- The second part of the queries. -/
abbrev A1 (c : Dev nD) : SQ.Idx → EReal := m ((c : Thread nD τ).loc main_arg1)
/-- The keys' first part and the values. -/
abbrev A2 (c : Dev nD) : SKV.Idx → EReal := m ((c : Thread nD τ).loc main_arg2)
/-- The shared part of the keys. -/
abbrev A3 (c : Dev nD) : SKP.Idx → EReal := m ((c : Thread nD τ).loc main_arg3)

/-- A query block's element in its array (window 0). -/
theorem iblk0 (c : Dev nD) (t : Fin cfg0.N) (r : Fin 1024) (d : Fin 128) (hb : (grid0.coords t 1).val < 16) (hh : (grid0.coords t 0).val < 16) :
    (iblk m c 0 t : Vec Ideal S1024x128 .bf16) (ix2 r d) = A0 m c (ix2 (⟨(grid0.coords t 1).val * 1024 + r.val, by omega⟩ : Fin 16384) (⟨(grid0.coords t 0).val * 128 + d.val, by omega⟩ : Fin 2048)) := by
  show A0 m c ((win0_0.blk t).view.emb (ix2 r d)) = _
  refine congrArg (A0 m c) ?_
  blk_ext [idx0]

/-- A query block's element in its array (window 1). -/
theorem iblk1 (c : Dev nD) (t : Fin cfg0.N) (r : Fin 1024) (d : Fin 128) (hb : (grid0.coords t 1).val < 16) (hh : (grid0.coords t 0).val < 16) :
    (iblk m c 1 t : Vec Ideal S1024x128 .bf16) (ix2 r d) = A1 m c (ix2 (⟨(grid0.coords t 1).val * 1024 + r.val, by omega⟩ : Fin 16384) (⟨(grid0.coords t 0).val * 128 + d.val, by omega⟩ : Fin 2048)) := by
  show A1 m c ((win0_1.blk t).view.emb (ix2 r d)) = _
  refine congrArg (A1 m c) ?_
  blk_ext [idx1]

/-- The first key part block's element in its array. -/
theorem iblk2 (c : Dev nD) (t : Fin cfg0.N) (n : Fin 16384) (d : Fin 128) (hh : (grid0.coords t 0).val < 16) :
    (iblk m c 2 t : Vec Ideal S16384x128 .bf16) (ix2 n d) = A2 m c (ix2 n (⟨(grid0.coords t 0).val * 128 + d.val, by omega⟩ : Fin 4096)) := by
  show A2 m c ((win0_2.blk t).view.emb (ix2 n d)) = _
  refine congrArg (A2 m c) ?_
  blk_ext [idx2]

/-- The shared key part block's element in its array. -/
theorem iblk3 (c : Dev nD) (t : Fin cfg0.N) (n : Fin 16384) (d : Fin 128) (hh : (grid0.coords t 0).val < 16) :
    (iblk m c 3 t : Vec Ideal S16384x128 .bf16) (ix2 n d) = A3 m c (ix2 n (⟨d.val, by omega⟩ : Fin 128)) := by
  show A3 m c ((win0_3.blk t).view.emb (ix2 n d)) = _
  refine congrArg (A3 m c) ?_
  blk_ext [idx3]

/-- The value block's element in its array. -/
theorem iblk4 (c : Dev nD) (t : Fin cfg0.N) (n : Fin 16384) (d : Fin 128) (hh : (grid0.coords t 0).val < 16) :
    (iblk m c 4 t : Vec Ideal S16384x128 .bf16) (ix2 n d) = A2 m c (ix2 n (⟨2048 + (grid0.coords t 0).val * 128 + d.val, by omega⟩ : Fin 4096)) := by
  show A2 m c ((win0_4.blk t).view.emb (ix2 n d)) = _
  refine congrArg (A2 m c) ?_
  blk_ext [idx4]
  show (16 + (grid0.coords t 0).val) * 128 + d.val = 2048 + (grid0.coords t 0).val * 128 + d.val
  omega

/-- The output array after the run is attention of the arguments. -/
theorem out_eq (c : Dev nD) : (dats m 0 c).arrAt 5 cfg0.N = attn (A0 m c) (A1 m c) (A2 m c) (A3 m c) := by
  refine (dats m 0 c).arrAt_eq_of_covers 5 _ (by decide +kernel) fun t hf y => ?_
  blk_simp
  rw [after0_5]
  unfold outsAt
  obtain ⟨r, d, rfl⟩ : ∃ (r : Fin 1024) (d : Fin 128), y = ix2 r d := ⟨y (0 : Fin 2), y (1 : Fin 2), ValueIdx.eq_ix2 y⟩
  refine (outB_apply _ _ _ _ _ _ r d).trans ?_
  have hb : (grid0.coords t 1).val < 16 := (grid0.coords t 1).isLt
  have hh : (grid0.coords t 0).val < 16 := (grid0.coords t 0).isLt
  have he : (win0_5.blk t).view.emb (ix2 r d)
      = ix2 (⟨(grid0.coords t 1).val * 1024 + r.val, by omega⟩ : Fin 16384) (⟨(grid0.coords t 0).val * 128 + d.val, by omega⟩ : Fin 2048) := by
    blk_ext [idx5]
  refine Eq.trans ?_ (congrArg (attn (A0 m c) (A1 m c) (A2 m c) (A3 m c)) he).symm
  refine Eq.trans ?_ (attn_apply (A0 m c) (A1 m c) (A2 m c) (A3 m c) ⟨(grid0.coords t 1).val * 1024 + r.val, by omega⟩ ⟨(grid0.coords t 0).val, hh⟩ d).symm
  unfold attnAt
  have ht : hidden (k0_pay67 (iblk m c 0 t) (iblk m c 1 t)) (iblk m c 2 t) (iblk m c 3 t) (grid0.coords t 1).val r
      = te (A0 m c) (A1 m c) (A2 m c) (A3 m c) ⟨(grid0.coords t 0).val, hh⟩ ⟨(grid0.coords t 1).val * 1024 + r.val, by omega⟩ := by
    funext n
    unfold hidden te rscore
    refine if_congr Iff.rfl (Finset.sum_congr rfl fun d _ => congrArg₂ (· * ·) ?_ ?_) rfl
    · refine (pay67_apply _ _ r d).trans ?_
      unfold qe
      exact dite_congr rfl (fun _ => iblk0 m c t r _ hb hh) (fun _ => iblk1 m c t r _ hb hh)
    · unfold kcat ke
      exact dite_congr rfl (fun _ => iblk2 m c t _ _ hh) (fun _ => iblk3 m c t _ _ hh)
  have hv : vcol (iblk m c 4 t) ⟨d.val, by omega⟩ = ve (A2 m c) ⟨(grid0.coords t 0).val, hh⟩ d := by
    funext n
    unfold vcol ve
    exact (dif_pos d.isLt).trans (iblk4 m c t _ _ hh)
  have hB : ((grid0.coords t 1).val * 1024 + r.val) / 1024 = (grid0.coords t 1).val := by have := r.isLt; omega
  rw [ht, hv]
  show _ = Ideal.div (rowA _ _ (((grid0.coords t 1).val * 1024 + r.val) / 1024 + 1)) (rowA _ _ (((grid0.coords t 1).val * 1024 + r.val) / 1024 + 1))
  rw [hB]

end Cert.KernelIdeal.Flash
-- ==== Proof.Experts.Frame.lean ====
/-
  THE LAUNCH OF THE EXPERTS' SECOND PRODUCT, at any values of the floats.

  The kernel is handed two tables of words: the expert of each tile of rows, and whether the tile is in use. The
  pipeline fetches the weights of the tile's expert; the body stores the product of the tile's rows with those
  weights when the tile is in use, and zeros when it is not. Under the two conditions `Ok` (every table word names a
  block of the weights) and `Used` (every word of the second table is one or zero) the run ends, with the arguments
  unchanged and the result's array as the pipeline's data say.
-/
module

public import proofs.«01_k».proof.Proof.Gen.KExpertsIdeal.Launch
public import proofs.«01_k».proof.Proof.Gen.KExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KExpertsIdeal.Launched

open Cert.KExpertsIdeal Cert.KExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- A core's buffers at the call: the call is the whole program, so they are as launched. -/
abbrev V (c : Dev nD) (b : Ref sig .tc) : Buf (Elt F) ((c : Thread nD τ).loc b) := m ((c : Thread nD τ).loc b)

/-- The two tables' contents. -/
def tbl : pre0.Contents (Elt F) := fun j => V m (0 : Dev nD) (pre0.ref j)

/-- There is one device, and its tables are these. -/
theorem V_pre (c : Dev nD) (j : Fin 2) : V m c (pre0.ref j) = tbl m j := by
  obtain rfl : c = 0 := Subsingleton.elim _ _
  rfl

/-- Every word of the first table names a block inside the weights. -/
abbrev Ok : Prop := ok0 (F := F) (tbl m)

/-- The pipeline at the tables' contents. -/
abbrev adm (hO : Ok m) : (pcfg0 (F := F)).Adm := ⟨tbl m, hO⟩
/-- The configuration at the tables' contents. -/
abbrev cfgM (hO : Ok m) : Pipeline.Cfg sig Λ₀ := cfg0 (adm m hO)

/-- The first table as the body is handed it. -/
abbrev T0 : Memref sig .tc .smem S72 .i32 := Memref.whole main_arg0
/-- The second table as the body is handed it. -/
abbrev T1 : Memref sig .tc .smem S72 .i32 := Memref.whole main_arg1

/-- The contents of a table's buffer. -/
abbrev Words (c : Dev nD) (M : Memref sig .tc .smem S72 .i32) : Type := Buf (Elt F) (M.view.loc (c : Thread nD τ))
/-- A table held for reading. -/
abbrev held (c : Dev nD) (M : Memref sig .tc .smem S72 .i32) (f : Words (F := F) c M) : sProp 𝕄 :=
  M.view.loc (c : Thread nD τ) ↦{fullShare.right} f

/-- The tables the pipeline hands the body are the two. -/
theorem tables_eq (c : Dev nD) : (Pipeline.ΦT pre0 (tbl m) c : sProp 𝕄) = iprop(held c T0 (tbl m 0) ∗ held c T1 (tbl m 1)) := by
  unfold Pipeline.ΦT Pipeline.prefHeld
  rw [show (Finset.univ : Finset (Fin 2)) = insert (0 : Fin 2) {(1 : Fin 2)} from by decide, bigSep_insert (by decide), bigSep_singleton]
  rfl

/-- The word of the second table that the body reads at a grid step. -/
def word {c : Dev nD} (f : Words (F := F) c T1) (i : grid0.Coords) : BitVec 32 :=
  View.readAt (Elt F) T1.view (Rect.unit (s := S72) (k0_off1 i) S1.size (k0_off1_inb i)).toLoadRect f (Shape.Idx.first (numel1_S1.symm ▸ Nat.one_pos))

/-- Every word of the second table is one or zero. -/
abbrev Used : Prop := ∀ i : grid0.Coords, word (c := (0 : Dev nD)) (tbl m 1) i = 1#32 ∨ word (c := (0 : Dev nD)) (tbl m 1) i = 0#32

/-! ## The body -/

/-- The body, on whole staging buffers holding the rows `x0` and the weights `x1`, leaves them and the tables as they
    were and the pieces `L` written to the result's buffer. -/
def Leaves (c : Dev nD) (i : grid0.Coords) (a0 : Memref sig .tc .vmem S512x1536 .bf16) (h0 : a0.IsWhole) (a1 : Memref sig .tc .vmem S1x1536x1024 .bf16)
    (h1 : a1.IsWhole) (a2 : Memref sig .tc .vmem S512x1024 .f32) (h2 : a2.IsWhole) (x0 : Vec F S512x1536 .bf16) (x1 : Vec F S1x1536x1024 .bf16)
    (f0 : Words (F := F) c T0) (f1 : Words (F := F) c T1) (L : List (View.Piece (Elt F) S512x1024 .f32)) : Prop :=
  ∀ (E : Set ℕ) (K : PUnit → sProp 𝕄),
    iprop(owns (c : Thread nD τ) a0 fullShare x0 ∗ owns (c : Thread nD τ) a1 fullShare x1 ∗ (∃ d, owns (c : Thread nD τ) a2 fullShare d)
        ∗ held c T0 f0 ∗ held c T1 f1
        ∗ (iprop(owns (c : Thread nD τ) a0 fullShare x0 ∗ owns (c : Thread nD τ) a1 fullShare x1
            ∗ (∃ f, a2.view.loc (c : Thread nD τ) ↦[a2.view.set]{fullShare} a2.view.writes (Elt F) f L) ∗ held c T0 f0 ∗ held c T1 f1) -∗ K ⟨⟩))
      ⊢ wp frame (wpE (defs₀ (F := F)) Variants.none c none) E
          (cc0_moe_down i T0 (Memref.isWhole_whole _) T1 (Memref.isWhole_whole _) a0 h0 a1 h1 a2 h2) K

set_option maxHeartbeats 1000000 in
/-- When the tile is in use the body stores the product: the pieces it writes, with the run. -/
def runUsed (c : Dev nD) (i : grid0.Coords) (a0 : Memref sig .tc .vmem S512x1536 .bf16) (h0 : a0.IsWhole) (a1 : Memref sig .tc .vmem S1x1536x1024 .bf16)
    (h1 : a1.IsWhole) (a2 : Memref sig .tc .vmem S512x1024 .f32) (h2 : a2.IsWhole) (x0 : Vec F S512x1536 .bf16) (x1 : Vec F S1x1536x1024 .bf16)
    (f0 : Words (F := F) c T0) (f1 : Words (F := F) c T1) (hw : word f1 i = 1#32) :
    { L : List (View.Piece (Elt F) S512x1024 .f32) // Leaves c i a0 h0 a1 h1 a2 h2 x0 x1 f0 f1 L } := by
  have c1 : k0_cond1 (View.readAt (Elt F) T1.view (Rect.unit (s := S72) (k0_off1 i) S1.size (k0_off1_inb i)).toLoadRect f1 (Shape.Idx.first (numel1_S1.symm ▸ Nat.one_pos))) = 1#1 :=
    (congrArg k0_cond1 hw).trans (by decide)
  have c2 : ¬ k0_cond2 (View.readAt (Elt F) T1.view (Rect.unit (s := S72) (k0_off2 i) S1.size (k0_off2_inb i)).toLoadRect f1 (Shape.Idx.first (numel1_S1.symm ▸ Nat.one_pos))) = 1#1 :=
    fun h => absurd ((congrArg k0_cond2 hw).symm.trans h) (by decide)
  refine ⟨?_, fun E K => ?run⟩
  case run =>
    simp only [cc0_moe_down_eq_skeleton]; unfold cc0_moe_down_skel
    unfold owns
    iintro ⟨⟨%g0, %e0, H0⟩, ⟨%g1, %e1, H1⟩, ⟨%d2, %g2, -, H2⟩, HT0, HT1, Hk⟩
    obtain rfl := h0.eq_unread e0; obtain rfl := h1.eq_unread e1
    sl_exec! (disch := first | (guard_target = (k0_cond1 _ = _); exact c1) | (guard_target = ¬(k0_cond2 _ = _); exact c2))
    sl_step
    iapply Hk
    isplitl [H0]
    · iexists _; isplitr; · ipureintro; exact h0.read_unread _
      iexact H0
    isplitl [H1]
    · iexists _; isplitr; · ipureintro; exact h1.read_unread _
      iexact H1
    isplitl [H2]; · iexists _; iexact H2
    isplitl [HT0]; · iexact HT0
    iexact HT1

set_option maxHeartbeats 1000000 in
/-- When the tile is not in use the body stores zeros: the piece it writes, with the run. -/
def runIdle (c : Dev nD) (i : grid0.Coords) (a0 : Memref sig .tc .vmem S512x1536 .bf16) (h0 : a0.IsWhole) (a1 : Memref sig .tc .vmem S1x1536x1024 .bf16)
    (h1 : a1.IsWhole) (a2 : Memref sig .tc .vmem S512x1024 .f32) (h2 : a2.IsWhole) (x0 : Vec F S512x1536 .bf16) (x1 : Vec F S1x1536x1024 .bf16)
    (f0 : Words (F := F) c T0) (f1 : Words (F := F) c T1) (hw : word f1 i = 0#32) :
    { L : List (View.Piece (Elt F) S512x1024 .f32) // Leaves c i a0 h0 a1 h1 a2 h2 x0 x1 f0 f1 L } := by
  have c1 : ¬ k0_cond1 (View.readAt (Elt F) T1.view (Rect.unit (s := S72) (k0_off1 i) S1.size (k0_off1_inb i)).toLoadRect f1 (Shape.Idx.first (numel1_S1.symm ▸ Nat.one_pos))) = 1#1 :=
    fun h => absurd ((congrArg k0_cond1 hw).symm.trans h) (by decide)
  have c2 : k0_cond2 (View.readAt (Elt F) T1.view (Rect.unit (s := S72) (k0_off2 i) S1.size (k0_off2_inb i)).toLoadRect f1 (Shape.Idx.first (numel1_S1.symm ▸ Nat.one_pos))) = 1#1 :=
    (congrArg k0_cond2 hw).trans (by decide)
  refine ⟨?_, fun E K => ?run⟩
  case run =>
    simp only [cc0_moe_down_eq_skeleton]; unfold cc0_moe_down_skel
    unfold owns
    iintro ⟨⟨%g0, %e0, H0⟩, ⟨%g1, %e1, H1⟩, ⟨%d2, %g2, -, H2⟩, HT0, HT1, Hk⟩
    sl_exec! (disch := first | (guard_target = ¬(k0_cond1 _ = _); exact c1) | (guard_target = k0_cond2 _ = _; exact c2))
    sl_step
    iapply Hk
    isplitl [H0]
    · iexists _; isplitr; · ipureintro; exact e0
      iexact H0
    isplitl [H1]
    · iexists _; isplitr; · ipureintro; exact e1
      iexact H1
    isplitl [H2]; · iexists _; iexact H2
    isplitl [HT0]; · iexact HT0
    iexact HT1

/-! ## What the body leaves -/

/-- The pieces the body writes to the result's buffer, by the word it reads. -/
def pieces (c : Dev nD) (i : grid0.Coords) (a0 : Memref sig .tc .vmem S512x1536 .bf16) (h0 : a0.IsWhole) (a1 : Memref sig .tc .vmem S1x1536x1024 .bf16)
    (h1 : a1.IsWhole) (a2 : Memref sig .tc .vmem S512x1024 .f32) (h2 : a2.IsWhole) (x0 : Vec F S512x1536 .bf16) (x1 : Vec F S1x1536x1024 .bf16)
    (f0 : Words (F := F) c T0) (f1 : Words (F := F) c T1) : List (View.Piece (Elt F) S512x1024 .f32) :=
  if h : word f1 i = 1#32 then (runUsed c i a0 h0 a1 h1 a2 h2 x0 x1 f0 f1 h).1
  else if h : word f1 i = 0#32 then (runIdle c i a0 h0 a1 h1 a2 h2 x0 x1 f0 f1 h).1 else []

section
variable (c : Dev nD) (i : grid0.Coords) (a0 : Memref sig .tc .vmem S512x1536 .bf16) (h0 : a0.IsWhole) (a1 : Memref sig .tc .vmem S1x1536x1024 .bf16)
  (h1 : a1.IsWhole) (a2 : Memref sig .tc .vmem S512x1024 .f32) (h2 : a2.IsWhole) (x0 : Vec F S512x1536 .bf16) (x1 : Vec F S1x1536x1024 .bf16)
  (f0 : Words (F := F) c T0) (f1 : Words (F := F) c T1)

/-- The pieces when the tile is in use. -/
theorem pieces_used (h : word f1 i = 1#32) : pieces c i a0 h0 a1 h1 a2 h2 x0 x1 f0 f1 = (runUsed c i a0 h0 a1 h1 a2 h2 x0 x1 f0 f1 h).1 := dif_pos h

/-- The pieces when the tile is not in use. -/
theorem pieces_idle (h : word f1 i = 0#32) : pieces c i a0 h0 a1 h1 a2 h2 x0 x1 f0 f1 = (runIdle c i a0 h0 a1 h1 a2 h2 x0 x1 f0 f1 h).1 :=
  (dif_neg (by rw [h]; decide)).trans (dif_pos h)

/-- The body runs to those pieces. -/
theorem leaves (h : word f1 i = 1#32 ∨ word f1 i = 0#32) : Leaves c i a0 h0 a1 h1 a2 h2 x0 x1 f0 f1 (pieces c i a0 h0 a1 h1 a2 h2 x0 x1 f0 f1) := by
  rcases h with h | h
  · rw [pieces_used c i a0 h0 a1 h1 a2 h2 x0 x1 f0 f1 h]
    exact (runUsed c i a0 h0 a1 h1 a2 h2 x0 x1 f0 f1 h).2
  · rw [pieces_idle c i a0 h0 a1 h1 a2 h2 x0 x1 f0 f1 h]
    exact (runIdle c i a0 h0 a1 h1 a2 h2 x0 x1 f0 f1 h).2

/-- Those pieces fill the block. -/
theorem fills (h : word f1 i = 1#32 ∨ word f1 i = 0#32) (y : S512x1024.Idx) : ∃ pc ∈ pieces c i a0 h0 a1 h1 a2 h2 x0 x1 f0 f1, y ∈ pc.1.set := by
  rcases h with h | h
  · rw [pieces_used c i a0 h0 a1 h1 a2 h2 x0 x1 f0 f1 h]
    exact View.cover_of_tiledL (runUsed c i a0 h0 a1 h1 a2 h2 x0 x1 f0 f1 h).1 S512x1024.size (by sl_kernel_rfl) y
  · rw [pieces_idle c i a0 h0 a1 h1 a2 h2 x0 x1 f0 f1 h]
    exact View.cover_of_tiledL (runIdle c i a0 h0 a1 h1 a2 h2 x0 x1 f0 f1 h).1 S512x1024.size (by sl_kernel_rfl) y

end

/-- A staging buffer of the result, through which its contents are stated. -/
abbrev outView : View sig .tc .vmem S512x1024 .f32 := (Memref.whole cc0_stg2_0 : Memref sig .tc .vmem S512x1024 .f32).view

/-! ## The pipeline's data -/

/-- The block of window `w` at grid step `t`, as the call finds its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The rows' staging buffer at a grid step. -/
abbrev s0 (hO : Ok m) (t : Fin (cfgM m hO).N) : Memref sig .tc .vmem S512x1536 .bf16 := spec0_0.stage ((cfgM m hO).slots t 0)
/-- The weights' staging buffer at a grid step. -/
abbrev s1 (hO : Ok m) (t : Fin (cfgM m hO).N) : Memref sig .tc .vmem S1x1536x1024 .bf16 := spec0_1.stage ((cfgM m hO).slots t 1)
/-- The result's staging buffer at a grid step. -/
abbrev s2 (hO : Ok m) (t : Fin (cfgM m hO).N) : Memref sig .tc .vmem S512x1024 .f32 := spec0_2.stage ((cfgM m hO).slots t 2)
/-- The rows' staging buffer is whole. -/
theorem w0 (hO : Ok m) (t : Fin (cfgM m hO).N) : (s0 m hO t).IsWhole := hstage0_0 (((cfgM m hO).slots t 0).cast nbuf0_0)
/-- The weights' staging buffer is whole. -/
theorem w1 (hO : Ok m) (t : Fin (cfgM m hO).N) : (s1 m hO t).IsWhole := hstage0_1 (((cfgM m hO).slots t 1).cast nbuf0_1)
/-- The result's staging buffer is whole. -/
theorem w2 (hO : Ok m) (t : Fin (cfgM m hO).N) : (s2 m hO t).IsWhole := hstage0_2 (((cfgM m hO).slots t 2).cast nbuf0_2)

/-- The pieces the body writes at a grid step. -/
abbrev piecesAt (hO : Ok m) (c : Dev nD) (t : Fin (cfgM m hO).N) : List (View.Piece (Elt F) S512x1024 .f32) :=
  pieces c (grid0.coords t) (s0 m hO t) (w0 m hO t) (s1 m hO t) (w1 m hO t) (s2 m hO t) (w2 m hO t) (iblk m hO c 0 t) (iblk m hO c 1 t) (tbl m 0) (tbl m 1)

/-- What the result's buffer holds after a grid step. -/
def left (hO : Ok m) (c : Dev nD) (t : Fin (cfgM m hO).N) : Vec F S512x1024 .f32 :=
  outView.read (Elt F) (outView.writes (Elt F) outView.junk (piecesAt m hO c t))

/-- The pipeline's data: the arrays as found, the inputs' buffers at their blocks, the result's at what the body leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => left m hO c t
  Φ _ := iprop(Pipeline.ΦA spec0 c ∗ Pipeline.ΦT pre0 (tbl m) c)
  q _ := fullShare
  owed _ := 0

/-- The data's arrays are as found. -/
theorem A_eq (hO : Ok m) (c : Dev nD) (w : Fin (cfgM m hO).W) : (dats m hO 0 c).A w = V m c (Pipeline.arrRef spec0 w) := by
  dsimp only [dats]

/-- The result's buffer after a grid step. -/
theorem after2 (hO : Ok m) (c : Dev nD) (t : Fin (cfgM m hO).N) : (dats m hO 0 c).after 2 t = left m hO c t := by dsimp only [dats]; try rfl

/-- The rows' buffer holds its block before and after each step. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by dsimp only [dats]; unfold Dat.blockOf iblk; try rfl) t d).trans (by unfold Dat.fetched Dat.blockOf iblk; rw [A_eq]; try rfl)

/-- The weights' buffer holds its block before and after each step. -/
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by dsimp only [dats]; unfold Dat.blockOf iblk; try rfl) t d).trans (by unfold Dat.fetched Dat.blockOf iblk; rw [A_eq]; try rfl)

/-- The result's block is written back at every step. -/
theorem flush2 (a : (pcfg0 (F := F)).Adm) : ∀ t : Fin (cfg0 a).N, ((cfg0 a).win 2).flush t = true :=
  (fun t => (Pipeline.Window.flushOf_reads cc0_transform_2 reads0_2 hreads0_2 1 (by decide) (by decide)
    (Pipeline.Window.sep_of_coord cc0_transform_2 1 1 (fun _ => rfl) (by decide)) (P := 1) (m := 0) (by decide) rfl t).mpr (Nat.mod_one _) :
    ∀ t : Fin grid0.N, Pipeline.Window.flushOf grid0 true cc0_transform_2 t = true)

/-! ## The body's obligation -/

/-- The body as the pipeline calls it at a grid step. -/
abbrev bodyAt (hO : Ok m) (t : Fin (cfgM m hO).N) : Prog (TpuEff nD τ sig (Elt F) Λ₀ .tc) PUnit :=
  cc0_moe_down (grid0.coords t) T0 (Memref.isWhole_whole _) T1 (Memref.isWhole_whole _) (s0 m hO t) (w0 m hO t) (s1 m hO t) (w1 m hO t) (s2 m hO t) (w2 m hO t)

/-- The body at a grid step, from what the pipeline hands it to what it takes back. -/
theorem body_at (hO : Ok m) (hU : Used m) (c : Dev nD) (t : Fin (cfgM m hO).N) :
    iprop((dats m hO 0 c).Φ t.castSucc ∗ (dats m hO 0 c).owesAt () t.castSucc
      ∗ (∃ d, owns (c : Thread nD τ) (s0 m hO t) fullShare ((dats m hO 0 c).before 0 t d))
      ∗ (∃ d, owns (c : Thread nD τ) (s1 m hO t) fullShare ((dats m hO 0 c).before 1 t d))
      ∗ (∃ d, owns (c : Thread nD τ) (s2 m hO t) fullShare ((dats m hO 0 c).before 2 t d)))
    ⊢ wp frame (wpE (defs₀ (F := F)) Variants.none c none) Set.univ (bodyAt m hO t) (fun _ =>
      iprop((dats m hO 0 c).Φ t.succ ∗ (dats m hO 0 c).owesAt () t.succ
        ∗ owns (c : Thread nD τ) (s0 m hO t) fullShare (iblk m hO c 0 t)
        ∗ owns (c : Thread nD τ) (s1 m hO t) fullShare (iblk m hO c 1 t)
        ∗ owns (c : Thread nD τ) (s2 m hO t) fullShare (left m hO c t))) := by
  have hw : word (c := c) (tbl m 1) (grid0.coords t) = 1#32 ∨ word (c := c) (tbl m 1) (grid0.coords t) = 0#32 := by
    obtain rfl : c = 0 := Subsingleton.elim _ _
    exact hU _
  simp only [before0, before1]
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl, tables_eq]
  unfold left
  iintro ⟨⟨HΦ, ⟨HT0, HT1⟩⟩, Ho, ⟨%d0, H0⟩, ⟨%d1, H1⟩, ⟨%d2, H2⟩⟩
  iapply (leaves c (grid0.coords t) (s0 m hO t) (w0 m hO t) (s1 m hO t) (w1 m hO t) (s2 m hO t) (w2 m hO t) (iblk m hO c 0 t) (iblk m hO c 1 t)
    (tbl m 0) (tbl m 1) hw Set.univ _)
  isplitl [H0]; · iexact H0
  isplitl [H1]; · iexact H1
  isplitl [H2]; · iexists _; iexact H2
  isplitl [HT0]; · iexact HT0
  isplitl [HT1]; · iexact HT1
  iintro ⟨H0, H1, ⟨%e2, H2⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  unfold owns; iexists _; isplitr
  swap; · iexact H2
  ipureintro
  exact View.read_writes_of_cover _ _ _ _ _ (fills c _ _ _ _ _ _ _ _ _ _ _ hw)

/-- Where a window is written back, it is owed as the body leaves it, idle or not. -/
theorem settled (g f : Bool) (X R : sProp 𝕄) : f = true → (R ⊢ (match g with
      | true => match f with
        | false => X
        | true => R
      | false => R)) := by
  rintro rfl
  cases g <;> exact .rfl

/-- The library's obligation of the body, at every grid step: the result's block is written back at every step, so it
    is owed as left whether or not a step is called idle. -/
theorem body_obligation (hO : Ok m) (hU : Used m) (c : Dev nD) :
    BodyObligation (dats (F := F) m hO 0 c) (defs₀ (F := F)) Variants.none () Set.univ := fun t => by
  have row : defs₀ (F := F) .tc (cfgM m hO).body ((cfgM m hO).bodyArgs t ((cfgM m hO).slots t)) = bodyAt m hO t := by
    unfold defs₀; rw [Defs.onTc_tc]
  rw [bigSep_W0, bigSep_W0, row]
  refine triple_restated (body_at m hO hU c t) rfl .rfl fun _ => ?_
  exact sep_mono .rfl (sep_mono .rfl (sep_mono .rfl (sep_mono .rfl (settled ((cfgM m hO).idle 2 ((cfgM m hO).grid.coords t)) _
    (iprop(∃ d, owns (c : Thread nD τ) (s2 m hO t) fullShare ((dats m hO 0 c).before 2 t d))) (owns (c : Thread nD τ) (s2 m hO t) fullShare (left m hO c t))
    (flush2 (adm m hO) t)))))

/-! ## The run -/

/-- The program up to the call is the call. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

set_option backward.isDefEq.respectTransparency.types false in
/-- The run ends, the arrays as the pipeline's data say and the counters at zero. -/
theorem run (hO : Ok m) (hU : Used m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hU c).loose) (hshare := fun c => (dats m hO 0 c).share_full fun _ => rfl)
    (howed := fun _ _ => rfl) (V := V m) (hmain := hmain m Variants.none) (hA := A_eq m hO) (hpf := V_pre m)
    (hΦ := fun _ _ => rfl)

/-- The run ends with the result's array as the pipeline's data say, the arguments unchanged and the counters at zero. -/
theorem ends (hO : Ok m) (hU : Used m) : θ_run defs (onTc (τ := τ) (main (F := F))) ⟨m, fun _ => 0, ρ⟩ (fun r => (∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1 2,
      ((h.1 c).2 main_arg0 (by decide : main_arg0 ∈ Pipeline.restRefs sig spec0)),
      ((h.1 c).2 main_arg1 (by decide : main_arg1 ∈ Pipeline.restRefs sig spec0)),
      ((h.1 c).1 0).trans (((dats m hO 0 c).arrAt_in 0 rfl _).trans (A_eq m hO c 0)),
      ((h.1 c).1 1).trans (((dats m hO 0 c).arrAt_in 1 rfl _).trans (A_eq m hO c 1))⟩, h.2⟩) (run m ρ hO hU)

end Cert.KExpertsIdeal.Launched
-- ==== Proof.Dense.Prod.lean ====
/-
  The matrix product at a row and a column, and the two ways it is written: a kernel's product of two blocks onto a zero
  accumulator, and the host's product of two whole arrays.
-/
module

public import Idealize.ShloMosaic.Lib.MatmulPlain
public import Idealize.ShloMosaic.Lib.StackMember
public import Idealize.ShloMosaic.Lib.Pointwise
public import Idealize.ShloMosaic.Lib.IdealHost

@[expose] public section

noncomputable section

namespace Cert.Dense

open Idealize.ShloMosaic hiding ix0 ix1 ix2 ix3 ix4 ix5 maximumf_apply addf_apply mulf_apply subf_apply divf_apply
open Idealize.ShloMosaic.ValueIdx
open scoped BigOperators

/-- The product of two matrices of extended reals at row `i` and column `j`. -/
def prodAt {M K N : ℕ} (a : Shape.Idx ⟨2, ![M, K]⟩ → EReal) (w : Shape.Idx ⟨2, ![K, N]⟩ → EReal) (i : Fin M) (j : Fin N) : EReal :=
  ∑ k : Fin K, a (ix2 i k) * w (ix2 k j)

/-- Two products over the same inner extent agree where the row of one is the row of the other and the columns agree. -/
theorem prodAt_congr {M M' K N N' : ℕ} {a : Shape.Idx ⟨2, ![M, K]⟩ → EReal} {w : Shape.Idx ⟨2, ![K, N]⟩ → EReal}
    {a' : Shape.Idx ⟨2, ![M', K]⟩ → EReal} {w' : Shape.Idx ⟨2, ![K, N']⟩ → EReal} {i : Fin M} {j : Fin N} {i' : Fin M'} {j' : Fin N'}
    (ha : ∀ k, a (ix2 i k) = a' (ix2 i' k)) (hw : ∀ k, w (ix2 k j) = w' (ix2 k j')) : prodAt a w i j = prodAt a' w' i' j' :=
  Finset.sum_congr rfl fun k _ => congrArg₂ (· * ·) (ha k) (hw k)

/-- The product of two matrices as an array. -/
def prod {M K N : ℕ} (a : Shape.Idx ⟨2, ![M, K]⟩ → EReal) (w : Shape.Idx ⟨2, ![K, N]⟩ → EReal) : Shape.Idx ⟨2, ![M, N]⟩ → EReal :=
  fun j => prodAt a w (j 0) (j 1)

/-- A kernel's product onto zeros is the matrix product. -/
theorem kernel_prod {M K N : ℕ} {φ₁ φ₂ : FTy} (prec : Option ContractPrecision) (a : FVec Ideal ⟨2, ![M, K]⟩ φ₁) (w : FVec Ideal ⟨2, ![K, N]⟩ φ₂)
    (i : Fin M) (j : Fin N) :
    matmul (F := Ideal) (DotDims.plain M K N) prec a w (constant ⟨2, ![M, N]⟩ .f32 0x00000000#32) (ix2 i j) = prodAt a w i j := by
  refine (Ideal.matmul_plain_apply prec a w _ i j).trans ?_
  show Ideal.ofBits .f32 0x00000000#32 + _ = _
  rw [Ideal.ofBits_zero_f32, zero_add]
  rfl

/-- The host's product is the matrix product. -/
theorem host_prod {M K N : ℕ} {φ₁ φ₂ : FTy} (prec : Option ContractPrecision) (a : FVec Ideal ⟨2, ![M, K]⟩ φ₁) (w : FVec Ideal ⟨2, ![K, N]⟩ φ₂)
    (i : Fin M) (j : Fin N) :
    Host.dotGeneral (F := Ideal) (DotDims.plain M K N) prec a w (ix2 i j) = prodAt a w i j :=
  StackMember.dotGeneral_plain_apply prec a w i j

/-- Two arrays of 2048 columns side by side. -/
def beside {M : ℕ} (a b : Shape.Idx ⟨2, ![M, 2048]⟩ → EReal) : Shape.Idx ⟨2, ![M, 4096]⟩ → EReal :=
  fun j => if h : (j 1).val < 2048 then a (ix2 (j 0) (⟨(j 1).val, h⟩ : Fin 2048))
    else b (ix2 (j 0) (⟨(j 1).val - 2048, by have : (j 1).val < 4096 := (j 1).isLt; omega⟩ : Fin 2048))

/-- A product of two arrays side by side is the sum of the two halves' products. -/
theorem prodAt_beside {M N : ℕ} (a b : Shape.Idx ⟨2, ![M, 2048]⟩ → EReal) (w : Shape.Idx ⟨2, ![4096, N]⟩ → EReal) (i : Fin M) (j : Fin N) :
    prodAt (beside a b) w i j = (∑ k : Fin 2048, a (ix2 i k) * w (ix2 (⟨k.val, by omega⟩ : Fin 4096) j))
      + ∑ k : Fin 2048, b (ix2 i k) * w (ix2 (⟨2048 + k.val, by omega⟩ : Fin 4096) j) := by
  refine (Fin.sum_univ_add (a := 2048) (b := 2048) fun k => beside a b (ix2 i k) * w (ix2 k j)).trans ?_
  refine congrArg₂ (· + ·) (Finset.sum_congr rfl fun k _ => congrArg (· * _) ?_) (Finset.sum_congr rfl fun k _ => congrArg (· * _) ?_)
  · exact dif_pos k.isLt
  · refine (dif_neg (show ¬ 2048 + k.val < 2048 by omega)).trans (congrArg (fun z => b (ix2 i z)) (Fin.ext ?_))
    show 2048 + k.val - 2048 = k.val
    omega

/-! ## What the calls compute of their products -/

/-- The gated unit of two numbers: the first times its logistic, times the second. -/
def swiglu (g u : EReal) : EReal := g * Ideal.logistic g * u

/-- The exact Gaussian unit, one half and the reciprocal square root of two being the numbers of single precision written. -/
def gelu (z : EReal) : EReal :=
  Ideal.ofBits .f32 0x3F000000#32 * z * (1 + Ideal.erf (z * Ideal.ofBits .f32 0x3F3504F3#32))

/-- One over one plus the exponential of the negated number, the ones being literals, is the logistic function. -/
theorem host_logistic (x : EReal) :
    Ideal.div (Ideal.ofBits .f32 0x3F800000#32) (Ideal.ofBits .f32 0x3F800000#32 + Ideal.exp (-x)) = Ideal.logistic x := by
  rw [Ideal.ofBits_one_f32]
  rfl

/-- The Gaussian unit by the complementary error function of the negated number. -/
theorem host_gelu (z : EReal) :
    Ideal.ofBits .f32 0x3F000000#32 * z * Ideal.erfc (-z * Ideal.ofBits .f32 0x3F3504F3#32) = gelu z := by
  unfold gelu
  rw [EReal.neg_mul, Ideal.erfc_neg]

/-- The Gaussian unit with its one written as a literal. -/
theorem kernel_gelu (z : EReal) :
    Ideal.ofBits .f32 0x3F000000#32 * z * (Ideal.ofBits .f32 0x3F800000#32 + Ideal.erf (z * Ideal.ofBits .f32 0x3F3504F3#32)) = gelu z := by
  rw [Ideal.ofBits_one_f32]
  rfl

/-- The gated unit of two products, as an array. -/
def gated {M K N : ℕ} (a : Shape.Idx ⟨2, ![M, K]⟩ → EReal) (wg wu : Shape.Idx ⟨2, ![K, N]⟩ → EReal) : Shape.Idx ⟨2, ![M, N]⟩ → EReal :=
  fun j => swiglu (prodAt a wg (j 0) (j 1)) (prodAt a wu (j 0) (j 1))

/-- The Gaussian unit of a product, as an array. -/
def geluProd {M K N : ℕ} (a : Shape.Idx ⟨2, ![M, K]⟩ → EReal) (w : Shape.Idx ⟨2, ![K, N]⟩ → EReal) : Shape.Idx ⟨2, ![M, N]⟩ → EReal :=
  fun j => gelu (prodAt a w (j 0) (j 1))

/-- An array plus a product. -/
def addProd {M K N : ℕ} (h : Shape.Idx ⟨2, ![M, N]⟩ → EReal) (a : Shape.Idx ⟨2, ![M, K]⟩ → EReal) (w : Shape.Idx ⟨2, ![K, N]⟩ → EReal) :
    Shape.Idx ⟨2, ![M, N]⟩ → EReal :=
  fun j => h j + prodAt a w (j 0) (j 1)

/-- An array plus a product scaled by the logistic of another product. -/
def addGate {M K L N : ℕ} (h : Shape.Idx ⟨2, ![M, N]⟩ → EReal) (a : Shape.Idx ⟨2, ![M, K]⟩ → EReal) (wg : Shape.Idx ⟨2, ![K, N]⟩ → EReal)
    (p : Shape.Idx ⟨2, ![M, L]⟩ → EReal) (wp : Shape.Idx ⟨2, ![L, N]⟩ → EReal) : Shape.Idx ⟨2, ![M, N]⟩ → EReal :=
  fun j => h j + Ideal.logistic (prodAt a wg (j 0) (j 1)) * prodAt p wp (j 0) (j 1)

end Cert.Dense
-- ==== Proof.Experts.Spec.lean ====
/-
  THE EXPERTS' SECOND PRODUCT as a function of the four arguments: at each row the product of the row with the weights of
  the expert of the row's tile, and zero where the tile is not in use.
-/
module

public import proofs.«01_k».proof.Proof.Dense.Prod

@[expose] public section

noncomputable section

namespace Cert.Experts

open Cert.Dense
open Idealize.ShloMosaic hiding ix0 ix1 ix2 ix3 ix4 ix5
open Idealize.ShloMosaic.ValueIdx (ix1 ix2 ix3)

/-- One expert's weights. -/
def slab (w : Shape.Idx ⟨3, ![8, 1536, 4096]⟩ → EReal) (e : Fin 8) : Shape.Idx ⟨2, ![1536, 4096]⟩ → EReal := fun k => w (ix3 e (k 0) (k 1))

/-- A row's product with the weights of the expert a word names, zero if the word names none. -/
def pick (x : Shape.Idx ⟨2, ![36864, 1536]⟩ → EReal) (w : Shape.Idx ⟨3, ![8, 1536, 4096]⟩ → EReal) (b : BitVec 32) (r : Fin 36864) (d : Fin 4096) : EReal :=
  if h : b.toNat < 8 then prodAt x (slab w ⟨b.toNat, h⟩) r d else 0

/-- The tile of a row. -/
def tile (r : Fin 36864) : Fin 72 := ⟨r.val / 512, by omega⟩

/-- Each row's product with the weights of its tile's expert, zero where the tile is not in use. -/
def routed (e v : Shape.Idx ⟨1, ![72]⟩ → BitVec 32) (x : Shape.Idx ⟨2, ![36864, 1536]⟩ → EReal) (w : Shape.Idx ⟨3, ![8, 1536, 4096]⟩ → EReal) :
    Shape.Idx ⟨2, ![36864, 4096]⟩ → EReal :=
  fun j => if v (ix1 (tile (j 0))) = 1#32 then pick x w (e (ix1 (tile (j 0)))) (j 0) (j 1) else 0

end Cert.Experts
-- ==== Proof.Experts.Value.lean ====
/-
  THE EXPERTS' SECOND PRODUCT, as the kernel computes it: the result's array, assembled from its blocks, is at each row
  the product of the row with the weights of the expert of the row's tile, and zero where the tile is not in use.
-/
module

public import proofs.«01_k».proof.Proof.Experts.Frame
public import proofs.«01_k».proof.Proof.Experts.Spec
public import proofs.«01_k».proof.Pre_routed
public import Idealize.ShloMosaic.Lib.Pipeline.ValueKit
public import Idealize.ShloMosaic.Lib.ValueLayout

@[expose] public section

set_option maxRecDepth 16384

noncomputable section

namespace Cert.Pre_routed

open Idealize.ShloMosaic

/-- The predicate's own side conditions. -/
theorem facts : Facts where
  bcast_S_S72 := by decide

/-- A bit is one as the conjunction of two is one only if both are. -/
theorem both {a b : BitVec 1} (h : a &&& b = 1#1) : a = 1#1 ∧ b = 1#1 := by revert a b; decide

/-- The bit of a truth value is one only where it is true. -/
theorem bit {p : Bool} (h : BitVec.ofBool p = 1#1) : p = true := by revert h; cases p <;> decide

/-- A signed word at least zero and less than eight is less than eight unsigned. -/
theorem lt_eight (x : BitVec 32) (h : Scalar.cmpi .sge x 0#32 &&& Scalar.cmpi .slt x 8#32 = 1#1) : x.toNat < 8 := by
  obtain ⟨h0, h8⟩ := both h
  have h0' : BitVec.sle 0#32 x = true := bit h0
  have h8' : BitVec.slt x 8#32 = true := bit h8
  rw [BitVec.sle_iff_toInt_le] at h0'
  rw [BitVec.slt_iff_toInt_lt] at h8'
  have c0 : (0#32).toInt = 0 := by decide
  have c8 : (8#32).toInt = 8 := by decide
  rw [c0] at h0'
  rw [c8] at h8'
  rw [BitVec.toInt_eq_toNat_cond] at h0' h8'
  have := x.isLt
  split at h0' <;> omega

/-- A signed word at least zero and at most one is one or zero. -/
theorem zero_one (x : BitVec 32) (h : Scalar.cmpi .sge x 0#32 &&& Scalar.cmpi .sle x 1#32 = 1#1) : x = 1#32 ∨ x = 0#32 := by
  obtain ⟨h0, h1⟩ := both h
  have h0' : BitVec.sle 0#32 x = true := bit h0
  have h1' : BitVec.sle x 1#32 = true := bit h1
  rw [BitVec.sle_iff_toInt_le] at h0' h1'
  have c0 : (0#32).toInt = 0 := by decide
  have c1 : (1#32).toInt = 1 := by decide
  rw [c0] at h0'
  rw [c1] at h1'
  rw [BitVec.toInt_eq_toNat_cond] at h0' h1'
  have := x.isLt
  have hx : x.toNat = 1 ∨ x.toNat = 0 := by split at h0' <;> omega
  exact hx.imp (fun h => BitVec.eq_of_toNat_eq h) fun h => BitVec.eq_of_toNat_eq h

variable [Facts] {F : FTy → Type} [FloatOps F] (e v : IVec S72 32) (x : FVec F S36864x1536 .bf16) (w : FVec F S8x1536x4096 .bf16)

/-- Under the precondition every word of the first table names an expert. -/
theorem expert_lt (h : (fn e v x w).1 = fun _ => 1#1) (n : S72.Idx) : (e n).toNat < 8 := lt_eight _ (congrFun h n)

/-- Under the precondition every word of the second table is one or zero. -/
theorem used_or (h : (fn e v x w).2 = fun _ => 1#1) (n : S72.Idx) : v n = 1#32 ∨ v n = 0#32 := zero_one _ (congrFun h n)

end Cert.Pre_routed

namespace Cert.KExpertsIdeal.Launched

open Cert.KExpertsIdeal Cert.KExpertsIdeal.Gen
open Idealize.ShloMosaic hiding ix0 ix1 ix2 ix3 ix4 ix5
open Idealize.ShloMosaic.TcCoe Idealize.ShloMosaic.Tactic
open Idealize.ShloMosaic.ValueIdx
open Cert.Dense Cert.Experts

section
variable {F : FTy → Type} [FloatOps F] (m : (ℓ : Loc nD τ sig) → Buf (Elt F) ℓ)

/-- The index of a grid step's words in the tables. -/
theorem off_eq (i : grid0.Coords) : k0_off1 i = ![(i 0).val] := by
  have h : (i 0).val < 72 := (i 0).isLt
  have h' : (BitVec.ofNat 32 (i 0).val).toNat = (i 0).val := by
    rw [BitVec.toNat_ofNat]; omega
  exact congrArg (fun n : ℕ => (![n] : Fin 1 → ℕ)) h'

/-- The place of a grid step's words in the tables. -/
theorem place (i : grid0.Coords) : (Rect.unit (s := S72) (k0_off1 i) S1.size (k0_off1_inb i)).emb (Shape.Idx.first (numel1_S1.symm ▸ Nat.one_pos))
    = ix1 (⟨(i 0).val, (i 0).isLt⟩ : Fin 72) := by
  funext a
  fin_cases a
  apply Fin.ext
  exact (congrArg (· + 1 * 0) (congrFun (off_eq i) 0)).trans (by show (i 0).val + 1 * 0 = (i 0).val; omega)

/-- The second table's word at a grid step. -/
theorem word_eq {c : Dev nD} (f : Words (F := F) c T1) (i : grid0.Coords) : word f i = f (ix1 (⟨(i 0).val, (i 0).isLt⟩ : Fin 72)) :=
  congrArg f (place i)

/-- The block of the weights at a grid step. -/
theorem block_eq (i : grid0.Coords) : cc0_transform_1 k0_off1_inb numel1_S1 (tbl m) i
    = ![(tbl m 0 (ix1 (⟨(i 0).val, (i 0).isLt⟩ : Fin 72)) : BitVec 32).toNat, 0, (i 1).val] := by
  have h : (i 1).val < 4 := (i 1).isLt
  have h' : (BitVec.ofNat 32 (i 1).val).toNat = (i 1).val := by
    rw [BitVec.toNat_ofNat]; omega
  have hp : (tbl m).at 0 (Rect.unit (s := S72) (k0_off1 i) S1.size (k0_off1_inb i)) numel1_S1 = tbl m 0 (ix1 (⟨(i 0).val, (i 0).isLt⟩ : Fin 72)) :=
    congrArg (tbl m 0) (place i)
  exact congrArg₂ (fun (p : BitVec 32) (q : ℕ) => (![p.toNat, 0, q] : Fin 3 → ℕ)) hp h'

/-- The pipeline's condition of the first table, where every word names an expert. -/
theorem ok (h : ∀ n : S72.Idx, (tbl m 0 n : BitVec 32).toNat < 8) : Ok m := by
  intro i
  have h1 : (i 1).val < 4 := (i 1).isLt
  refine ⟨fun a => ?_, .inr (Affine.block_words_dvd (of_decide_eq_true rfl) (by decide))⟩
  rw [block_eq]
  have he := h (ix1 (⟨(i 0).val, (i 0).isLt⟩ : Fin 72))
  fin_cases a
  · show ((tbl m 0 _ : BitVec 32).toNat + 1) * 1 ≤ 8
    omega
  · show (0 + 1) * 1536 ≤ 1536
    omega
  · show ((i 1).val + 1) * 1024 ≤ 4096
    omega

/-- The body's condition of the second table, where every word is one or zero. -/
theorem used (h : ∀ n : S72.Idx, (tbl m 1 n : BitVec 32) = 1#32 ∨ (tbl m 1 n : BitVec 32) = 0#32) : Used m := fun i => by
  rw [show word (c := (0 : Dev nD)) (tbl m 1) i = _ from word_eq (tbl m 1) i]
  exact h _

end

section
variable (c : Dev nD) (i : grid0.Coords) (a0 : Memref sig .tc .vmem S512x1536 .bf16) (h0 : a0.IsWhole) (a1 : Memref sig .tc .vmem S1x1536x1024 .bf16)
  (h1 : a1.IsWhole) (a2 : Memref sig .tc .vmem S512x1024 .f32) (h2 : a2.IsWhole) (x0 : Vec Ideal S512x1536 .bf16) (x1 : Vec Ideal S1x1536x1024 .bf16)
  (f0 : Words (F := Ideal) c T0) (f1 : Words (F := Ideal) c T1)

/-- Where the tile is in use the block is the product of its rows with the fetched weights. -/
theorem block_used (h : word f1 i = 1#32) (r : Fin 512) (d : Fin 1024) :
    outView.read (Elt Ideal) (outView.writes (Elt Ideal) outView.junk (pieces c i a0 h0 a1 h1 a2 h2 x0 x1 f0 f1)) (ix2 r d)
      = prodAt x0 (fun k : Shape.Idx ⟨2, ![1536, 1024]⟩ => x1 (ix3 (0 : Fin 1) (k 0) (k 1))) r d := by
  rw [View.read_writes_eq_canon _ _ _ (fills c i a0 h0 a1 h1 a2 h2 x0 x1 f0 f1 (.inl h)), pieces_used c i a0 h0 a1 h1 a2 h2 x0 x1 f0 f1 h]
  unfold runUsed
  dsimp only
  unfold runUsed.sl.H2_1
  rw [View.canon_cons_unit_lit _ _ _ (by decide), View.readAt_eq_ld, View.readAt_eq_ld, h0.read_unread, h1.read_unread,
    View.ld_unit_lit _ _ (by decide), View.ld_unit_lit _ _ (by decide)]
  refine (kernel_prod (φ₁ := .bf16) (φ₂ := .bf16) none x0 (shapeCast S1536x1024 x1 shapeCasts_S1x1536x1024_S1536x1024) r d).trans ?_
  exact prodAt_congr (fun _ => rfl) fun k => shapeCast_1ab_ab_apply x1 _ k d

/-- Where the tile is not in use the block is zero. -/
theorem block_idle (h : word f1 i = 0#32) (r : Fin 512) (d : Fin 1024) :
    outView.read (Elt Ideal) (outView.writes (Elt Ideal) outView.junk (pieces c i a0 h0 a1 h1 a2 h2 x0 x1 f0 f1)) (ix2 r d) = (0 : EReal) := by
  rw [View.read_writes_eq_canon _ _ _ (fills c i a0 h0 a1 h1 a2 h2 x0 x1 f0 f1 (.inr h)), pieces_idle c i a0 h0 a1 h1 a2 h2 x0 x1 f0 f1 h]
  unfold runIdle
  dsimp only
  unfold runIdle.sl.H2_1
  rw [View.canon_cons_unit_lit _ _ _ (by decide)]
  exact Ideal.ofBits_zero_f32

end

/-! ## The array from its blocks -/

variable (m : (ℓ : Loc nD τ sig) → Buf (Elt Ideal) ℓ) (hO : Ok m)

/-- The tile of a grid step, as a number. -/
theorem coord0 (i : grid0.Coords) : (BitVec.ofNat 32 (i 0).val).toNat = (i 0).val := by
  have h : (i 0).val < 72 := (i 0).isLt
  rw [BitVec.toNat_ofNat]; omega

/-- The column block of a grid step, as a number. -/
theorem coord1 (i : grid0.Coords) : (BitVec.ofNat 32 (i 1).val).toNat = (i 1).val := by
  have h : (i 1).val < 4 := (i 1).isLt
  rw [BitVec.toNat_ofNat]; omega

/-- The block of the rows at a grid step. -/
theorem idx0 (t : Fin (cfgM m hO).N) : ((cfgM m hO).win 0).index t = ![(grid0.coords t 0).val, 0] :=
  congrArg (fun n : ℕ => (![n, 0] : Fin 2 → ℕ)) (coord0 (grid0.coords t))
/-- The block of the weights at a grid step. -/
theorem idx1 (t : Fin (cfgM m hO).N) : ((cfgM m hO).win 1).index t
    = ![(tbl m 0 (ix1 (⟨(grid0.coords t 0).val, (grid0.coords t 0).isLt⟩ : Fin 72)) : BitVec 32).toNat, 0, (grid0.coords t 1).val] :=
  block_eq m (grid0.coords t)
/-- The block of the result at a grid step. -/
theorem idx2 (t : Fin (cfgM m hO).N) : ((cfgM m hO).win 2).index t = ![(grid0.coords t 0).val, (grid0.coords t 1).val] :=
  congrArg₂ (fun n k : ℕ => (![n, k] : Fin 2 → ℕ)) (coord0 (grid0.coords t)) (coord1 (grid0.coords t))

/-- Every tile and column block is met by a grid step. -/
theorem met : ∀ (p : Fin 72) (q : Fin 4), ∃ t : Fin grid0.N, (grid0.coords t 0).val = p.val ∧ (grid0.coords t 1).val = q.val := by
  decide +kernel

/-- The result's blocks cover its array. -/
theorem covers : ((cfgM m hO).win 2).Covers := by
  refine ⟨fun a => ?_, fun β => ?_⟩
  · fin_cases a
    · exact (by decide : 0 < 512)
    · exact (by decide : 0 < 1024)
  · have b0 : ((β (0 : Fin 2)).val : ℕ) < 72 :=
      Nat.lt_of_lt_of_eq (β (0 : Fin 2)).isLt (show (36864 + 512 - 1) / 512 = 72 by decide)
    have b1 : ((β (1 : Fin 2)).val : ℕ) < 4 :=
      Nat.lt_of_lt_of_eq (β (1 : Fin 2)).isLt (show (4096 + 1024 - 1) / 1024 = 4 by decide)
    obtain ⟨t, e0, e1⟩ := met ⟨_, b0⟩ ⟨_, b1⟩
    refine ⟨t, flush2 (adm m hO) t, fun a => ⟨?_, .inl rfl⟩⟩
    rw [idx2]
    fin_cases a
    · exact e0
    · exact e1

/-- The tiles' experts, as the kernel finds them. -/
abbrev A0 (c : Dev nD) : S72.Idx → BitVec 32 := m ((c : Thread nD τ).loc main_arg0)
/-- Whether the tiles are in use, as the kernel finds it. -/
abbrev A1 (c : Dev nD) : S72.Idx → BitVec 32 := m ((c : Thread nD τ).loc main_arg1)
/-- The rows, as the kernel finds them. -/
abbrev A2 (c : Dev nD) : S36864x1536.Idx → EReal := m ((c : Thread nD τ).loc main_arg2)
/-- The experts' weights, as the kernel finds them. -/
abbrev A3 (c : Dev nD) : S8x1536x4096.Idx → EReal := m ((c : Thread nD τ).loc main_arg3)

set_option maxHeartbeats 1000000 in
/-- The array after the run is the routed product, where every word of the first table names an expert and every word of
    the second is one or zero. -/
theorem out_eq (c : Dev nD) (he : ∀ n : S72.Idx, (A0 m 0 n).toNat < 8) (hv : ∀ n : S72.Idx, A1 m 0 n = 1#32 ∨ A1 m 0 n = 0#32) :
    (dats m hO 0 c).arrAt 2 (cfgM m hO).N = routed (A0 m c) (A1 m c) (A2 m c) (A3 m c) := by
  obtain rfl : c = 0 := Subsingleton.elim _ _
  refine (dats m hO 0 0).arrAt_eq_of_covers 2 _ (covers m hO) fun t hf y => ?_
  blk_simp
  rw [after2]
  obtain ⟨r, d, rfl⟩ : ∃ (r : Fin 512) (d : Fin 1024), y = ix2 r d := ⟨y (0 : Fin 2), y (1 : Fin 2), ValueIdx.eq_ix2 y⟩
  have hi : (grid0.coords t 0).val < 72 := (grid0.coords t 0).isLt
  have hj : (grid0.coords t 1).val < 4 := (grid0.coords t 1).isLt
  have hemb : (((cfgM m hO).win 2).blk t).view.emb (ix2 r d)
      = ix2 (⟨(grid0.coords t 0).val * 512 + r.val, by omega⟩ : Fin 36864) (⟨(grid0.coords t 1).val * 1024 + d.val, by omega⟩ : Fin 4096) := by
    blk_ext [idx2]
    · exact congrArg (fun n : ℕ => n * 512 + r.val) (congrFun (idx2 m hO t) (0 : Fin 2))
    · exact congrArg (fun n : ℕ => n * 1024 + d.val) (congrFun (idx2 m hO t) (1 : Fin 2))
  refine Eq.trans ?_ (congrArg (routed (A0 m 0) (A1 m 0) (A2 m 0) (A3 m 0)) hemb).symm
  have htile : tile (⟨(grid0.coords t 0).val * 512 + r.val, by omega⟩ : Fin 36864) = ⟨(grid0.coords t 0).val, hi⟩ :=
    Fin.ext (show ((grid0.coords t 0).val * 512 + r.val) / 512 = (grid0.coords t 0).val by omega)
  have hword : word (c := (0 : Dev nD)) (tbl m 1) (grid0.coords t) = A1 m 0 (ix1 (⟨(grid0.coords t 0).val, hi⟩ : Fin 72)) := word_eq (tbl m 1) (grid0.coords t)
  show left m hO 0 t (ix2 r d) = if A1 m 0 (ix1 (tile _)) = 1#32 then pick (A2 m 0) (A3 m 0) (A0 m 0 (ix1 (tile _))) _ _ else 0
  rw [htile]
  unfold left
  rcases hv (ix1 (⟨(grid0.coords t 0).val, hi⟩ : Fin 72)) with h | h
  · rw [if_pos h]
    refine (block_used 0 (grid0.coords t) (s0 m hO t) (w0 m hO t) (s1 m hO t) (w1 m hO t) (s2 m hO t) (w2 m hO t) (iblk m hO 0 0 t) (iblk m hO 0 1 t)
      (tbl m 0) (tbl m 1) (hword.trans h) r d).trans ?_
    refine Eq.trans ?_ (dif_pos (he (ix1 (⟨(grid0.coords t 0).val, hi⟩ : Fin 72)))).symm
    refine prodAt_congr (fun k => ?_) fun k => ?_
    · show A2 m 0 ((((cfgM m hO).win 0).blk t).view.emb (ix2 r k)) = _
      refine congrArg (A2 m 0) ?_
      blk_ext [idx0]
      · exact congrArg (fun n : ℕ => n * 512 + r.val) (congrFun (idx0 m hO t) (0 : Fin 2))
      · exact (congrArg (fun n : ℕ => n * 1536 + k.val) (congrFun (idx0 m hO t) (1 : Fin 2))).trans (show 0 * 1536 + k.val = k.val by omega)
    · show A3 m 0 ((((cfgM m hO).win 1).blk t).view.emb (ix3 0 k d)) = A3 m 0 (ix3 _ k _)
      refine congrArg (A3 m 0) ?_
      blk_ext [idx1]
      · exact congrFun (idx1 m hO t) (0 : Fin 3)
      · exact (congrArg (fun n : ℕ => n * 1536 + k.val) (congrFun (idx1 m hO t) (1 : Fin 3))).trans (show 0 * 1536 + k.val = k.val by omega)
      · exact congrArg (fun n : ℕ => n * 1024 + d.val) (congrFun (idx1 m hO t) (2 : Fin 3))
  · rw [if_neg (by rw [h]; decide)]
    exact block_idle 0 (grid0.coords t) (s0 m hO t) (w0 m hO t) (s1 m hO t) (w1 m hO t) (s2 m hO t) (w2 m hO t) (iblk m hO 0 0 t) (iblk m hO 0 1 t)
      (tbl m 0) (tbl m 1) (hword.trans h) r d

end Cert.KExpertsIdeal.Launched
-- ==== Proof.Experts.Word.lean ====
/-
  THE EXPERTS' SECOND PRODUCT AT WORDS: the kernel at the words of the floats and the kernel over the extended reals are one
  program, so the launch proved at any values of the floats is the launch at words.
-/
module

public import proofs.«01_k».proof.Proof.Gen.KExperts.Launch
public import proofs.«01_k».proof.Proof.Gen.KExperts.Skeleton
public import proofs.«01_k».proof.Proof.Experts.Frame

@[expose] public section

set_option maxRecDepth 16384

noncomputable section

namespace Cert.KExperts.Launched

open Cert.KExperts Cert.KExperts.Gen
open Idealize.ShloMosaic Idealize.ShloMosaic.TcCoe
open Idealize.SL.Sem

variable {F : FTy → Type} [FloatOps F]

/-- The two programs' signatures are the same. -/
theorem same_sig : Cert.KExperts.sig = Cert.KExpertsIdeal.sig := rfl

/-- The two programs' main functions are the same. -/
theorem same_main (c : Dev nD) : main (F := F) c = Cert.KExpertsIdeal.main (F := F) c := rfl

/-- The two programs' kernels are the same. -/
theorem same_defs0 : defs₀ (F := F) = Cert.KExpertsIdeal.defs₀ (F := F) := by
  unfold defs₀ Cert.KExpertsIdeal.defs₀
  congr 1
  funext l a
  match l, a with
  | 0, (t, s) => rfl

/-- The two programs' definitions are the same. -/
theorem same_defs : defs (F := F) = Cert.KExpertsIdeal.defs (F := F) := congrArg (Pipeline.defs pcfgs) same_defs0

/-- The run ends with the arguments unchanged and the counters at zero. -/
theorem ends (m : (ℓ : Loc nD τ sig) → Buf (Elt F) ℓ) (ρ : Dev nD → PrngReg) (hO : Cert.KExpertsIdeal.Launched.Ok (F := F) m)
    (hU : Cert.KExpertsIdeal.Launched.Used (F := F) m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  rw [same_defs]
  exact (θ_run Cert.KExpertsIdeal.defs _ _).mono (fun _ h => ⟨fun c => (h.1 c).2, h.2⟩) (Cert.KExpertsIdeal.Launched.ends (F := F) m ρ hO hU)

end Cert.KExperts.Launched
-- ==== Proof.Experts.Ref.lean ====
/-
  THE EXPERTS' SECOND PRODUCT, as the reference computes it: the sum over the eight experts of the product of all the rows
  with the expert's weights, kept at the rows whose tile is the expert's and in use and zero elsewhere, is at each row the
  product with the weights of the tile's expert.
-/
module

public import proofs.«01_k».proof.Proof.Gen.RExpertsIdeal.Run
public import proofs.«01_k».proof.Proof.Experts.Spec
public import Idealize.ShloMosaic.Lib.ValueLayout

@[expose] public section

set_option maxRecDepth 16384

noncomputable section

namespace Cert.RExpertsIdeal.Experts

open Cert.RExpertsIdeal Cert.RExpertsIdeal.Gen Cert.Dense Cert.Experts
open Idealize.ShloMosaic hiding ix0 ix1 ix2 ix3 ix4 ix5 maximumf_apply addf_apply mulf_apply subf_apply divf_apply
open Idealize.ShloMosaic.ValueIdx

/-- The word of a row: its tile's expert where the tile is in use, and all ones where it is not. -/
def rowWord (e v : Shape.Idx ⟨1, ![72]⟩ → BitVec 32) (r : Fin 36864) : BitVec 32 :=
  if v (ix1 (tile r)) = 1#32 then e (ix1 (tile r)) else 4294967295#32

/-- The words of all the rows, as the reference spreads the tables. -/
abbrev rows (e v : IVec S72 32) : IVec S36864 32 :=
  shapeCast _ (broadcastInDim S72x512 ![0] bcast_S72_S72x512_0 (select (cmpi .eq v (broadcastInDim S72 ![] bcast_S_S72 (constantI S_ 32 1#32))) e
    (broadcastInDim S72 ![] bcast_S_S72 (id (constantI S_ 32 4294967295#32))))) shapeCasts_S72x512_S36864

/-- One of the eight experts' terms. -/
abbrev term (b : BitVec 32) (off : Fin 3 → ℕ) (hs : S8x1536x4096.Slices off S1x1536x4096) (e v : IVec S72 32) (x : FVec Ideal S36864x1536 .bf16)
    (w : FVec Ideal S8x1536x4096 .bf16) : FVec Ideal S36864x4096 .f32 :=
  select (broadcastInDim S36864x4096 ![0, 1] bcast_S36864x1_S36864x4096_0_1 (broadcastInDim S36864x1 ![0] bcast_S36864_S36864x1_0
      (cmpi .eq (rows e v) (broadcastInDim S36864 ![] bcast_S_S36864 (constantI S_ 32 b)))))
    (Host.dotGeneral dot_S36864x1536_S1536x4096_S36864x4096_1_0_0_1_n_n none (extf .f32 x bitsLt_bf16_f32)
      (extf .f32 (shapeCast _ (extractStridedSlice S1x1536x4096 off w hs) shapeCasts_S1x1536x4096_S1536x4096) bitsLt_bf16_f32))
    (broadcastInDim S36864x4096 ![] bcast_S_S36864x4096 (id (constant S_ .f32 0x00000000#32)))

/-- Choosing by the equality of two words. -/
theorem choose {α : Type} (a b : BitVec 32) (p q : α) : (if Scalar.cmpi .eq a b = 1#1 then p else q) = if a = b then p else q := by
  by_cases h : a = b
  · subst h
    rw [if_pos rfl, if_pos]
    show BitVec.ofBool (a == a) = 1#1
    rw [beq_self_eq_true]; rfl
  · rw [if_neg h, if_neg]
    show ¬ BitVec.ofBool (a == b) = 1#1
    rw [beq_eq_false_iff_ne.mpr h]; decide

/-- The words of all the rows, a row at a time. -/
theorem rows_apply (e v : IVec S72 32) (r : Fin 36864) : rows e v (ix1 r) = rowWord e v r := by
  have hr : r.val % 512 < 512 := Nat.mod_lt _ (by decide)
  refine (shapeCast_apply _ shapeCasts_S72x512_S36864 (ix1 r) (ix2 (tile r) (⟨r.val % 512, hr⟩ : Fin 512)) ?_).trans ?_
  · rw [Shape.rowMajor_val_one, Shape.rowMajor_val_two]
    show r.val / 512 * 512 + r.val % 512 = r.val
    omega
  · refine (broadcastInDim_apply _ bcast_S72_S72x512_0 _ _ (ix1 (tile r)) ?_).trans ?_
    · intro a; fin_cases a; rfl
    · exact choose _ _ _ _

/-- One expert's term, an element at a time. -/
theorem term_apply (n : Fin 8) (b : BitVec 32) (off : Fin 3 → ℕ) (hs : S8x1536x4096.Slices off S1x1536x4096) (ho : off = ![n.val, 0, 0]) (e v : IVec S72 32)
    (x : FVec Ideal S36864x1536 .bf16) (w : FVec Ideal S8x1536x4096 .bf16) (r : Fin 36864) (d : Fin 4096) :
    term b off hs e v x w (ix2 r d) = if rowWord e v r = b then prodAt x (slab w n) r d else 0 := by
  subst ho
  have hc : broadcastInDim S36864x4096 ![0, 1] bcast_S36864x1_S36864x4096_0_1 (broadcastInDim S36864x1 ![0] bcast_S36864_S36864x1_0
      (cmpi .eq (rows e v) (broadcastInDim S36864 ![] bcast_S_S36864 (constantI S_ 32 b)))) (ix2 r d) = Scalar.cmpi .eq (rowWord e v r) b := by
    refine (broadcastInDim_apply _ bcast_S36864x1_S36864x4096_0_1 _ _ (ix2 r (0 : Fin 1)) ?_).trans ?_
    · intro a; fin_cases a <;> rfl
    refine (broadcastInDim_apply _ bcast_S36864_S36864x1_0 _ _ (ix1 r) ?_).trans ?_
    · intro a; fin_cases a; rfl
    · exact congrArg (Scalar.cmpi .eq · b) (rows_apply e v r)
  have hp : Host.dotGeneral (F := Ideal) dot_S36864x1536_S1536x4096_S36864x4096_1_0_0_1_n_n none (extf .f32 x bitsLt_bf16_f32)
      (extf .f32 (shapeCast _ (extractStridedSlice S1x1536x4096 ![n.val, 0, 0] w hs) shapeCasts_S1x1536x4096_S1536x4096) bitsLt_bf16_f32) (ix2 r d)
      = prodAt x (slab w n) r d := by
    refine (host_prod none (extf .f32 x bitsLt_bf16_f32) _ r d).trans (prodAt_congr (fun _ => rfl) fun k => ?_)
    show shapeCast S1536x4096 (extractStridedSlice S1x1536x4096 ![n.val, 0, 0] w hs) shapeCasts_S1x1536x4096_S1536x4096 (ix2 k d) = w (ix3 n k d)
    refine (shapeCast_1ab_ab_apply _ _ k d).trans ?_
    refine extractStridedSlice_apply _ _ _ _ (ix3 n k d) ?_
    intro a; fin_cases a
    · show n.val = n.val + 0; omega
    · show k.val = 0 + k.val; omega
    · show d.val = 0 + d.val; omega
  refine (if_congr (by rw [hc]; exact Iff.rfl) hp ?_).trans (choose _ _ _ _)
  exact Ideal.ofBits_zero_f32

/-- Adding up, onto zero, numbers kept only where a word is their own place, gives the number the word names, and zero
    where it names none. -/
theorem pick_sum (b : BitVec 32) (P : Fin 8 → EReal) :
    (0 : EReal) + (if b = 0#32 then P 0 else 0) + (if b = 1#32 then P 1 else 0) + (if b = 2#32 then P 2 else 0) + (if b = 3#32 then P 3 else 0)
      + (if b = 4#32 then P 4 else 0) + (if b = 5#32 then P 5 else 0) + (if b = 6#32 then P 6 else 0) + (if b = 7#32 then P 7 else 0)
      = if h : b.toNat < 8 then P ⟨b.toNat, h⟩ else 0 := by
  by_cases h : b.toNat < 8
  · rw [dif_pos h]
    obtain ⟨n, hn⟩ : ∃ n : Fin 8, b = BitVec.ofNat 32 n.val := ⟨⟨b.toNat, h⟩, by simp⟩
    subst hn
    fin_cases n <;> simp
  · rw [dif_neg h]
    have ne (n : ℕ) (hn : n < 8) : b ≠ BitVec.ofNat 32 n := by
      rintro rfl
      exact h (by rw [BitVec.toNat_ofNat]; omega)
    rw [if_neg (ne 0 (by omega)), if_neg (ne 1 (by omega)), if_neg (ne 2 (by omega)), if_neg (ne 3 (by omega)), if_neg (ne 4 (by omega)),
      if_neg (ne 5 (by omega)), if_neg (ne 6 (by omega)), if_neg (ne 7 (by omega))]
    simp

/-- The number a row's word names is the product where the tile is in use and zero elsewhere. -/
theorem routed_apply (e v : IVec S72 32) (x : FVec Ideal S36864x1536 .bf16) (w : FVec Ideal S8x1536x4096 .bf16) (r : Fin 36864) (d : Fin 4096) :
    pick x w (rowWord e v r) r d = routed e v x w (ix2 r d) := by
  show pick x w (rowWord e v r) r d = if v (ix1 (tile r)) = 1#32 then pick x w (e (ix1 (tile r))) r d else 0
  unfold rowWord
  by_cases h : v (ix1 (tile r)) = 1#32
  · rw [if_pos h, if_pos h]
  · rw [if_neg h, if_neg h]
    exact dif_neg (by decide)

/-- The sum of the eight terms is the routed product. -/
theorem terms_eq (e v : IVec S72 32) (x : FVec Ideal S36864x1536 .bf16) (w : FVec Ideal S8x1536x4096 .bf16) :
    addf (F := Ideal) (addf (addf (addf (addf (addf (addf (addf (broadcastInDim S36864x4096 ![] bcast_S_S36864x4096 (constant S_ .f32 0x00000000#32))
      (term 0#32 ![0, 0, 0] slices_S8x1536x4096_S1x1536x4096_0_0_0 e v x w)) (term 1#32 ![1, 0, 0] slices_S8x1536x4096_S1x1536x4096_1_0_0 e v x w))
      (term 2#32 ![2, 0, 0] slices_S8x1536x4096_S1x1536x4096_2_0_0 e v x w)) (term 3#32 ![3, 0, 0] slices_S8x1536x4096_S1x1536x4096_3_0_0 e v x w))
      (term 4#32 ![4, 0, 0] slices_S8x1536x4096_S1x1536x4096_4_0_0 e v x w)) (term 5#32 ![5, 0, 0] slices_S8x1536x4096_S1x1536x4096_5_0_0 e v x w))
      (term 6#32 ![6, 0, 0] slices_S8x1536x4096_S1x1536x4096_6_0_0 e v x w)) (term 7#32 ![7, 0, 0] slices_S8x1536x4096_S1x1536x4096_7_0_0 e v x w)
      = routed e v x w := by
  funext y
  obtain ⟨r, d, rfl⟩ : ∃ (r : Fin 36864) (d : Fin 4096), y = ix2 r d := ⟨y (0 : Fin 2), y (1 : Fin 2), ValueIdx.eq_ix2 y⟩
  have t (n : Fin 8) (b : BitVec 32) (off) (hs) (ho) := term_apply n b off hs ho e v x w r d
  refine Eq.trans ?_ ((pick_sum (rowWord e v r) fun n => prodAt x (slab w n) r d).trans (routed_apply e v x w r d))
  exact congrArg₂ (· + ·) (congrArg₂ (· + ·) (congrArg₂ (· + ·) (congrArg₂ (· + ·) (congrArg₂ (· + ·) (congrArg₂ (· + ·) (congrArg₂ (· + ·)
    (congrArg₂ (· + ·) Ideal.ofBits_zero_f32 (t 0 _ _ _ rfl)) (t 1 _ _ _ rfl)) (t 2 _ _ _ rfl)) (t 3 _ _ _ rfl)) (t 4 _ _ _ rfl)) (t 5 _ _ _ rfl))
    (t 6 _ _ _ rfl)) (t 7 _ _ _ rfl)

/-- The reference's result is the routed product of its arguments. -/
theorem ref_eq (m : (ℓ : Loc nD τ sig) → Buf (Elt Ideal) ℓ) (c : Dev nD) : Value.res_out0 m c
    = routed (m ((c.tc : Thread nD τ).loc main_arg0)) (m ((c.tc : Thread nD τ).loc main_arg1)) (m ((c.tc : Thread nD τ).loc main_arg2))
      (m ((c.tc : Thread nD τ).loc main_arg3)) :=
  terms_eq _ _ _ _

end Cert.RExpertsIdeal.Experts
-- ==== Proof.Dense.Ple.lean ====
/-
  The per-layer embedding's projection: the kernel's result, assembled from its blocks, is the residual plus the gate's logistic times the projected embedding, and so is the reference's.
-/
module

public import proofs.«01_k».proof.Proof.Gen.KPleIdeal.Value
public import proofs.«01_k».proof.Proof.Gen.RPleIdeal.Run
public import proofs.«01_k».proof.Proof.Dense.Prod
public import Idealize.ShloMosaic.Lib.Pipeline.ValueKit

@[expose] public section

set_option maxRecDepth 16384

noncomputable section

namespace Cert.KPleIdeal.Dense

open Cert.KPleIdeal Cert.KPleIdeal.Gen Cert.Dense
open Idealize.ShloMosaic hiding ix0 ix1 ix2 ix3 ix4 ix5 maximumf_apply addf_apply mulf_apply subf_apply divf_apply
open Idealize.ShloMosaic.ValueIdx
open Idealize.ShloMosaic.TcCoe Idealize.ShloMosaic.Tactic

variable (m : (ℓ : Loc nD τ sig) → Buf (Elt Ideal) ℓ)

/-- The block of the rows at a grid step. -/
theorem idx0 : ∀ t : Fin cfg0.N, win0_0.index t = ![(grid0.coords t 0).val, 0] := (by decide +kernel : ∀ t : Fin grid0.N, _)
/-- The block of the gate's weights at a grid step. -/
theorem idx1 : ∀ t : Fin cfg0.N, win0_1.index t = ![0, (grid0.coords t 1).val] := (by decide +kernel : ∀ t : Fin grid0.N, _)
/-- The block of the embedding at a grid step. -/
theorem idx2 : ∀ t : Fin cfg0.N, win0_2.index t = ![(grid0.coords t 0).val, 0] := (by decide +kernel : ∀ t : Fin grid0.N, _)
/-- The block of the projection's weights at a grid step. -/
theorem idx3 : ∀ t : Fin cfg0.N, win0_3.index t = ![0, (grid0.coords t 1).val] := (by decide +kernel : ∀ t : Fin grid0.N, _)
/-- The block of the residual at a grid step. -/
theorem idx4 : ∀ t : Fin cfg0.N, win0_4.index t = ![(grid0.coords t 0).val, (grid0.coords t 1).val] := (by decide +kernel : ∀ t : Fin grid0.N, _)
/-- The block of the result at a grid step. -/
theorem idx5 : ∀ t : Fin cfg0.N, win0_5.index t = ![(grid0.coords t 0).val, (grid0.coords t 1).val] := (by decide +kernel : ∀ t : Fin grid0.N, _)

/-- The rows, as the kernel finds them. -/
abbrev A0 (c : Dev nD) : S16384x4096.Idx → EReal := m ((c : Thread nD τ).loc main_arg0)
/-- The gate's weights, as the kernel finds them. -/
abbrev A1 (c : Dev nD) : S4096x4096.Idx → EReal := m ((c : Thread nD τ).loc main_arg1)
/-- The embedding, as the kernel finds it. -/
abbrev A2 (c : Dev nD) : S16384x256.Idx → EReal := m ((c : Thread nD τ).loc main_arg2)
/-- The projection's weights, as the kernel finds them. -/
abbrev A3 (c : Dev nD) : S256x4096.Idx → EReal := m ((c : Thread nD τ).loc main_arg3)
/-- The residual, as the kernel finds it. -/
abbrev A4 (c : Dev nD) : S16384x4096.Idx → EReal := m ((c : Thread nD τ).loc main_arg4)

/-- What the kernel stores at a grid step, an element at a time. -/
theorem out_apply (x : Vec Ideal S1024x4096 .bf16) (wg : Vec Ideal S4096x512 .bf16) (p : Vec Ideal S1024x256 .bf16) (wp : Vec Ideal S256x512 .bf16)
    (h : Vec Ideal S1024x512 .f32) (r : Fin 1024) (d : Fin 512) :
    out0_5 x wg p wp h (ix2 r d) = h (ix2 r d) + Ideal.logistic (prodAt x wg r d) * prodAt p wp r d := by
  unfold out0_5
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide)]
  exact congrArg (h (ix2 r d) + ·) (congrArg₂ (fun g u => Ideal.logistic g * u) (kernel_prod (φ₁ := .bf16) (φ₂ := .bf16) none x wg r d)
    (kernel_prod (φ₁ := .bf16) (φ₂ := .bf16) none p wp r d))

/-- The array after the run is the residual plus the gated projection. -/
theorem out_eq (c : Dev nD) : (dats m 0 c).arrAt 5 cfg0.N = addGate (A4 m c) (A0 m c) (A1 m c) (A2 m c) (A3 m c) := by
  refine (dats m 0 c).arrAt_eq_of_covers 5 _ (by decide +kernel) fun t hf y => ?_
  blk_simp
  rw [after0_5]
  obtain ⟨r, d, rfl⟩ : ∃ (r : Fin 1024) (d : Fin 512), y = ix2 r d := ⟨y (0 : Fin 2), y (1 : Fin 2), ValueIdx.eq_ix2 y⟩
  refine (out_apply _ _ _ _ _ r d).trans ?_
  have hi : (grid0.coords t 0).val < 16 := (grid0.coords t 0).isLt
  have hj : (grid0.coords t 1).val < 8 := (grid0.coords t 1).isLt
  have he : (win0_5.blk t).view.emb (ix2 r d)
      = ix2 (⟨(grid0.coords t 0).val * 1024 + r.val, by omega⟩ : Fin 16384) (⟨(grid0.coords t 1).val * 512 + d.val, by omega⟩ : Fin 4096) := by
    blk_ext [idx5]
  refine Eq.trans ?_ (congrArg (addGate (A4 m c) (A0 m c) (A1 m c) (A2 m c) (A3 m c)) he).symm
  refine congrArg₂ (· + ·) ?_ (congrArg₂ (fun g u => Ideal.logistic g * u) (prodAt_congr (fun k => ?_) (fun k => ?_)) (prodAt_congr (fun k => ?_) (fun k => ?_)))
  · show A4 m c ((win0_4.blk t).view.emb (ix2 r d)) = _
    refine congrArg (A4 m c) ?_
    blk_ext [idx4]
  · show A0 m c ((win0_0.blk t).view.emb (ix2 r k)) = _
    refine congrArg (A0 m c) ?_
    blk_ext [idx0]
  · show A1 m c ((win0_1.blk t).view.emb (ix2 k d)) = _
    refine congrArg (A1 m c) ?_
    blk_ext [idx1]
  · show A2 m c ((win0_2.blk t).view.emb (ix2 r k)) = _
    refine congrArg (A2 m c) ?_
    blk_ext [idx2]
  · show A3 m c ((win0_3.blk t).view.emb (ix2 k d)) = _
    refine congrArg (A3 m c) ?_
    blk_ext [idx3]

end Cert.KPleIdeal.Dense

namespace Cert.RPleIdeal.Dense

open Cert.RPleIdeal Cert.RPleIdeal.Gen Cert.Dense
open Idealize.ShloMosaic hiding ix0 ix1 ix2 ix3 ix4 ix5 maximumf_apply addf_apply mulf_apply subf_apply divf_apply
open Idealize.ShloMosaic.ValueIdx

/-- The reference's term is the residual plus the gated projection. -/
theorem ref_eq (a : FVec Ideal S16384x4096 .bf16) (wg : FVec Ideal S4096x4096 .bf16) (p : FVec Ideal S16384x256 .bf16) (wp : FVec Ideal S256x4096 .bf16)
    (h : FVec Ideal S16384x4096 .f32) :
    addf (F := Ideal) h (mulf (Host.divf (broadcastInDim S16384x4096 ![] bcast_S_S16384x4096 (constant S_ .f32 0x3F800000#32))
      (addf (broadcastInDim S16384x4096 ![] bcast_S_S16384x4096 (constant S_ .f32 0x3F800000#32))
        (Host.exp (Host.negf (Host.dotGeneral dot_S16384x4096_S4096x4096_S16384x4096_1_0_0_1_n_n none (extf .f32 a bitsLt_bf16_f32) (extf .f32 wg bitsLt_bf16_f32))))))
      (Host.dotGeneral dot_S16384x256_S256x4096_S16384x4096_1_0_0_1_n_n none (extf .f32 p bitsLt_bf16_f32) (extf .f32 wp bitsLt_bf16_f32)))
      = addGate h a wg p wp := by
  funext y
  obtain ⟨r, d, rfl⟩ : ∃ (r : Fin 16384) (d : Fin 4096), y = ix2 r d := ⟨y (0 : Fin 2), y (1 : Fin 2), ValueIdx.eq_ix2 y⟩
  have hg := host_prod none (extf .f32 a bitsLt_bf16_f32) (extf .f32 wg bitsLt_bf16_f32) r d
  have hp := host_prod none (extf .f32 p bitsLt_bf16_f32) (extf .f32 wp bitsLt_bf16_f32) r d
  refine congrArg (h (ix2 r d) + ·) (Eq.trans ?_ (congrArg₂ (fun g u => Ideal.logistic g * u) hg hp))
  exact congrArg (· * _) (host_logistic _)

end Cert.RPleIdeal.Dense
-- ==== Proof.Dense.Mix.lean ====
/-
  The mixer's output projection: the kernel's result, assembled from its blocks, is the residual plus the product of the two
  halves side by side, and so is the reference's.
-/
module

public import proofs.«01_k».proof.Proof.Gen.KMixIdeal.Value
public import proofs.«01_k».proof.Proof.Gen.RMixIdeal.Run
public import proofs.«01_k».proof.Proof.Dense.Prod
public import Idealize.ShloMosaic.Lib.Pipeline.ValueKit

@[expose] public section

set_option maxRecDepth 16384

noncomputable section

namespace Cert.KMixIdeal.Dense

open Cert.KMixIdeal Cert.KMixIdeal.Gen Cert.Dense
open Idealize.ShloMosaic hiding ix0 ix1 ix2 ix3 ix4 ix5 maximumf_apply addf_apply mulf_apply subf_apply divf_apply
open Idealize.ShloMosaic.ValueIdx
open Idealize.ShloMosaic.TcCoe Idealize.ShloMosaic.Tactic

variable (m : (ℓ : Loc nD τ sig) → Buf (Elt Ideal) ℓ)

/-- The block of the first half's rows at a grid step. -/
theorem idx0 : ∀ t : Fin cfg0.N, win0_0.index t = ![(grid0.coords t 0).val, 0] := (by decide +kernel : ∀ t : Fin grid0.N, _)
/-- The block of the second half's rows at a grid step. -/
theorem idx1 : ∀ t : Fin cfg0.N, win0_1.index t = ![(grid0.coords t 0).val, 0] := (by decide +kernel : ∀ t : Fin grid0.N, _)
/-- The block of the weights' upper half at a grid step. -/
theorem idx2 : ∀ t : Fin cfg0.N, win0_2.index t = ![0, (grid0.coords t 1).val] := (by decide +kernel : ∀ t : Fin grid0.N, _)
/-- The block of the weights' lower half at a grid step. -/
theorem idx3 : ∀ t : Fin cfg0.N, win0_3.index t = ![1, (grid0.coords t 1).val] := (by decide +kernel : ∀ t : Fin grid0.N, _)
/-- The block of the residual at a grid step. -/
theorem idx4 : ∀ t : Fin cfg0.N, win0_4.index t = ![(grid0.coords t 0).val, (grid0.coords t 1).val] := (by decide +kernel : ∀ t : Fin grid0.N, _)
/-- The block of the result at a grid step. -/
theorem idx5 : ∀ t : Fin cfg0.N, win0_5.index t = ![(grid0.coords t 0).val, (grid0.coords t 1).val] := (by decide +kernel : ∀ t : Fin grid0.N, _)

/-- The first half of the rows, as the kernel finds it. -/
abbrev A0 (c : Dev nD) : S16384x2048.Idx → EReal := m ((c : Thread nD τ).loc main_arg0)
/-- The second half of the rows, as the kernel finds it. -/
abbrev A1 (c : Dev nD) : S16384x2048.Idx → EReal := m ((c : Thread nD τ).loc main_arg1)
/-- The weights, as the kernel finds them. -/
abbrev A2 (c : Dev nD) : S4096x4096.Idx → EReal := m ((c : Thread nD τ).loc main_arg2)
/-- The residual, as the kernel finds it. -/
abbrev A3 (c : Dev nD) : S16384x4096.Idx → EReal := m ((c : Thread nD τ).loc main_arg3)

/-- What the kernel stores at a grid step, an element at a time. -/
theorem out_apply (x y : Vec Ideal S1024x2048 .bf16) (w v : Vec Ideal S2048x512 .bf16) (h : Vec Ideal S1024x512 .f32) (r : Fin 1024) (d : Fin 512) :
    out0_5 x y w v h (ix2 r d) = h (ix2 r d) + prodAt x w r d + prodAt y v r d := by
  unfold out0_5
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide)]
  exact congrArg₂ (fun p q => h (ix2 r d) + p + q) (kernel_prod (φ₁ := .bf16) (φ₂ := .bf16) none x w r d)
    (kernel_prod (φ₁ := .bf16) (φ₂ := .bf16) none y v r d)

/-- The array after the run is the residual plus the product of the two halves side by side. -/
theorem out_eq (c : Dev nD) : (dats m 0 c).arrAt 5 cfg0.N = addProd (A3 m c) (beside (A0 m c) (A1 m c)) (A2 m c) := by
  refine (dats m 0 c).arrAt_eq_of_covers 5 _ (by decide +kernel) fun t hf y => ?_
  blk_simp
  rw [after0_5]
  obtain ⟨r, d, rfl⟩ : ∃ (r : Fin 1024) (d : Fin 512), y = ix2 r d := ⟨y (0 : Fin 2), y (1 : Fin 2), ValueIdx.eq_ix2 y⟩
  refine (out_apply _ _ _ _ _ r d).trans ?_
  have hi : (grid0.coords t 0).val < 16 := (grid0.coords t 0).isLt
  have hj : (grid0.coords t 1).val < 8 := (grid0.coords t 1).isLt
  have he : (win0_5.blk t).view.emb (ix2 r d)
      = ix2 (⟨(grid0.coords t 0).val * 1024 + r.val, by omega⟩ : Fin 16384) (⟨(grid0.coords t 1).val * 512 + d.val, by omega⟩ : Fin 4096) := by
    blk_ext [idx5]
  refine Eq.trans ?_ (congrArg (addProd (A3 m c) (beside (A0 m c) (A1 m c)) (A2 m c)) he).symm
  refine Eq.trans ?_ (congrArg (A3 m c _ + ·) (prodAt_beside (A0 m c) (A1 m c) (A2 m c) _ _)).symm
  rw [add_assoc]
  refine congrArg₂ (· + ·) ?_ (congrArg₂ (· + ·) (Finset.sum_congr rfl fun k _ => congrArg₂ (· * ·) ?_ ?_)
    (Finset.sum_congr rfl fun k _ => congrArg₂ (· * ·) ?_ ?_))
  · show A3 m c ((win0_4.blk t).view.emb (ix2 r d)) = _
    refine congrArg (A3 m c) ?_
    blk_ext [idx4]
  · show A0 m c ((win0_0.blk t).view.emb (ix2 r k)) = _
    refine congrArg (A0 m c) ?_
    blk_ext [idx0]
  · show A2 m c ((win0_2.blk t).view.emb (ix2 k d)) = _
    refine congrArg (A2 m c) ?_
    blk_ext [idx2]
  · show A1 m c ((win0_1.blk t).view.emb (ix2 r k)) = _
    refine congrArg (A1 m c) ?_
    blk_ext [idx1]
  · show A2 m c ((win0_3.blk t).view.emb (ix2 k d)) = _
    refine congrArg (A2 m c) ?_
    blk_ext [idx3]
end Cert.KMixIdeal.Dense

namespace Cert.RMixIdeal.Dense

open Cert.RMixIdeal Cert.RMixIdeal.Gen Cert.Dense
open Idealize.ShloMosaic hiding ix0 ix1 ix2 ix3 ix4 ix5 maximumf_apply addf_apply mulf_apply subf_apply divf_apply
open Idealize.ShloMosaic.ValueIdx

/-- The two halves concatenated, an element at a time. -/
theorem cat_apply (a b : FVec Ideal S16384x2048 .bf16) (r : Fin 16384) (k : Fin 4096) :
    concatenate (α := EReal) S16384x4096 1 [⟨S16384x2048, extf (F := Ideal) .f32 a bitsLt_bf16_f32⟩, ⟨S16384x2048, extf (F := Ideal) .f32 b bitsLt_bf16_f32⟩]
      concatenates_S16384x2048_S16384x2048_S16384x4096_d1 (ix2 r k) = beside a b (ix2 r k) := by
  pointwise [beside]
  exact dite_congr rfl (fun _ => congrArg a (ix2_eq_valueIdx _ _)) (fun _ => congrArg b (ix2_eq_valueIdx _ _))

/-- The reference's term is the residual plus the product of the two halves side by side. -/
theorem ref_eq (a b : FVec Ideal S16384x2048 .bf16) (w : FVec Ideal S4096x4096 .bf16) (h : FVec Ideal S16384x4096 .f32) :
    addf (F := Ideal) h (Host.dotGeneral dot_S16384x4096_S4096x4096_S16384x4096_1_0_0_1_n_n none
      (concatenate S16384x4096 1 [⟨S16384x2048, (extf .f32 a bitsLt_bf16_f32)⟩, ⟨S16384x2048, (extf .f32 b bitsLt_bf16_f32)⟩]
        concatenates_S16384x2048_S16384x2048_S16384x4096_d1) (extf .f32 w bitsLt_bf16_f32))
      = addProd h (beside a b) w := by
  funext y
  obtain ⟨r, d, rfl⟩ : ∃ (r : Fin 16384) (d : Fin 4096), y = ix2 r d := ⟨y (0 : Fin 2), y (1 : Fin 2), ValueIdx.eq_ix2 y⟩
  refine congrArg (h (ix2 r d) + ·) ((host_prod none _ (extf .f32 w bitsLt_bf16_f32) r d).trans ?_)
  exact prodAt_congr (fun k => cat_apply a b r k) fun k => rfl

end Cert.RMixIdeal.Dense
-- ==== Proof.Dense.SgOut.lean ====
/-
  The spatial gate's output projection: the kernel's result, assembled from its blocks, is the residual plus the product, and so is the reference's.
-/
module

public import proofs.«01_k».proof.Proof.Gen.KSgOutIdeal.Value
public import proofs.«01_k».proof.Proof.Gen.RSgOutIdeal.Run
public import proofs.«01_k».proof.Proof.Dense.Prod
public import Idealize.ShloMosaic.Lib.Pipeline.ValueKit

@[expose] public section

set_option maxRecDepth 16384

noncomputable section

namespace Cert.KSgOutIdeal.Dense

open Cert.KSgOutIdeal Cert.KSgOutIdeal.Gen Cert.Dense
open Idealize.ShloMosaic hiding ix0 ix1 ix2 ix3 ix4 ix5 maximumf_apply addf_apply mulf_apply subf_apply divf_apply
open Idealize.ShloMosaic.ValueIdx
open Idealize.ShloMosaic.TcCoe Idealize.ShloMosaic.Tactic

variable (m : (ℓ : Loc nD τ sig) → Buf (Elt Ideal) ℓ)

/-- The block of the rows at a grid step. -/
theorem idx0 : ∀ t : Fin cfg0.N, win0_0.index t = ![(grid0.coords t 0).val, 0] := (by decide +kernel : ∀ t : Fin grid0.N, _)
/-- The block of the weights at a grid step. -/
theorem idx1 : ∀ t : Fin cfg0.N, win0_1.index t = ![0, (grid0.coords t 1).val] := (by decide +kernel : ∀ t : Fin grid0.N, _)
/-- The block of the residual at a grid step. -/
theorem idx2 : ∀ t : Fin cfg0.N, win0_2.index t = ![(grid0.coords t 0).val, (grid0.coords t 1).val] := (by decide +kernel : ∀ t : Fin grid0.N, _)
/-- The block of the result at a grid step. -/
theorem idx3 : ∀ t : Fin cfg0.N, win0_3.index t = ![(grid0.coords t 0).val, (grid0.coords t 1).val] := (by decide +kernel : ∀ t : Fin grid0.N, _)

/-- The rows, as the kernel finds them. -/
abbrev A0 (c : Dev nD) : S16384x4096.Idx → EReal := m ((c : Thread nD τ).loc main_arg0)
/-- The weights, as the kernel finds them. -/
abbrev A1 (c : Dev nD) : S4096x4096.Idx → EReal := m ((c : Thread nD τ).loc main_arg1)
/-- The residual, as the kernel finds it. -/
abbrev A2 (c : Dev nD) : S16384x4096.Idx → EReal := m ((c : Thread nD τ).loc main_arg2)

/-- What the kernel stores at a grid step, an element at a time. -/
theorem out_apply (x : Vec Ideal S1024x4096 .bf16) (w : Vec Ideal S4096x512 .bf16) (h : Vec Ideal S1024x512 .f32) (r : Fin 1024) (d : Fin 512) :
    out0_3 x w h (ix2 r d) = h (ix2 r d) + prodAt x w r d := by
  unfold out0_3
  rw [View.canon_cons_unit_lit _ _ _ (by decide), View.ld_unit_lit _ _ (by decide), View.ld_unit_lit _ _ (by decide), View.ld_unit_lit _ _ (by decide)]
  exact congrArg (h (ix2 r d) + ·) (kernel_prod (φ₁ := .bf16) (φ₂ := .bf16) none x w r d)

/-- The array after the run is the residual plus the product. -/
theorem out_eq (c : Dev nD) : (dats m 0 c).arrAt 3 cfg0.N = addProd (A2 m c) (A0 m c) (A1 m c) := by
  refine (dats m 0 c).arrAt_eq_of_covers 3 _ (by decide +kernel) fun t hf y => ?_
  blk_simp
  rw [after0_3]
  obtain ⟨r, d, rfl⟩ : ∃ (r : Fin 1024) (d : Fin 512), y = ix2 r d := ⟨y (0 : Fin 2), y (1 : Fin 2), ValueIdx.eq_ix2 y⟩
  refine (out_apply _ _ _ r d).trans ?_
  have hi : (grid0.coords t 0).val < 16 := (grid0.coords t 0).isLt
  have hj : (grid0.coords t 1).val < 8 := (grid0.coords t 1).isLt
  have he : (win0_3.blk t).view.emb (ix2 r d)
      = ix2 (⟨(grid0.coords t 0).val * 1024 + r.val, by omega⟩ : Fin 16384) (⟨(grid0.coords t 1).val * 512 + d.val, by omega⟩ : Fin 4096) := by
    blk_ext [idx3]
  refine Eq.trans ?_ (congrArg (addProd (A2 m c) (A0 m c) (A1 m c)) he).symm
  refine congrArg₂ (· + ·) ?_ (prodAt_congr (fun k => ?_) (fun k => ?_))
  · show A2 m c ((win0_2.blk t).view.emb (ix2 r d)) = _
    refine congrArg (A2 m c) ?_
    blk_ext [idx2]
  · show A0 m c ((win0_0.blk t).view.emb (ix2 r k)) = _
    refine congrArg (A0 m c) ?_
    blk_ext [idx0]
  · show A1 m c ((win0_1.blk t).view.emb (ix2 k d)) = _
    refine congrArg (A1 m c) ?_
    blk_ext [idx1]

end Cert.KSgOutIdeal.Dense

namespace Cert.RSgOutIdeal.Dense

open Cert.RSgOutIdeal Cert.RSgOutIdeal.Gen Cert.Dense
open Idealize.ShloMosaic hiding ix0 ix1 ix2 ix3 ix4 ix5 maximumf_apply addf_apply mulf_apply subf_apply divf_apply
open Idealize.ShloMosaic.ValueIdx

/-- The reference's term is the residual plus the product. -/
theorem ref_eq (a : FVec Ideal S16384x4096 .bf16) (w : FVec Ideal S4096x4096 .bf16) (h : FVec Ideal S16384x4096 .f32) :
    addf (F := Ideal) h (Host.dotGeneral dot_S16384x4096_S4096x4096_S16384x4096_1_0_0_1_n_n none (extf .f32 a bitsLt_bf16_f32) (extf .f32 w bitsLt_bf16_f32))
      = addProd h a w := by
  funext y
  obtain ⟨r, d, rfl⟩ : ∃ (r : Fin 16384) (d : Fin 4096), y = ix2 r d := ⟨y (0 : Fin 2), y (1 : Fin 2), ValueIdx.eq_ix2 y⟩
  exact congrArg (h (ix2 r d) + ·) (host_prod none (extf .f32 a bitsLt_bf16_f32) (extf .f32 w bitsLt_bf16_f32) r d)

end Cert.RSgOutIdeal.Dense
-- ==== Proof.Dense.SgIn.lean ====
/-
  The spatial gate's input projection: the kernel's result, assembled from its blocks, is the Gaussian unit of the product, and so is the reference's.
-/
module

public import proofs.«01_k».proof.Proof.Gen.KSgInIdeal.Value
public import proofs.«01_k».proof.Proof.Gen.RSgInIdeal.Run
public import proofs.«01_k».proof.Proof.Dense.Prod
public import Idealize.ShloMosaic.Lib.Pipeline.ValueKit

@[expose] public section

set_option maxRecDepth 16384

noncomputable section

namespace Cert.KSgInIdeal.Dense

open Cert.KSgInIdeal Cert.KSgInIdeal.Gen Cert.Dense
open Idealize.ShloMosaic hiding ix0 ix1 ix2 ix3 ix4 ix5 maximumf_apply addf_apply mulf_apply subf_apply divf_apply
open Idealize.ShloMosaic.ValueIdx
open Idealize.ShloMosaic.TcCoe Idealize.ShloMosaic.Tactic

variable (m : (ℓ : Loc nD τ sig) → Buf (Elt Ideal) ℓ)

/-- The block of the rows at a grid step. -/
theorem idx0 : ∀ t : Fin cfg0.N, win0_0.index t = ![(grid0.coords t 0).val, 0] := (by decide +kernel : ∀ t : Fin grid0.N, _)
/-- The block of the weights at a grid step. -/
theorem idx1 : ∀ t : Fin cfg0.N, win0_1.index t = ![0, (grid0.coords t 1).val] := (by decide +kernel : ∀ t : Fin grid0.N, _)
/-- The block of the result at a grid step. -/
theorem idx2 : ∀ t : Fin cfg0.N, win0_2.index t = ![(grid0.coords t 0).val, (grid0.coords t 1).val] := (by decide +kernel : ∀ t : Fin grid0.N, _)

/-- The rows, as the kernel finds them. -/
abbrev A0 (c : Dev nD) : S16384x4096.Idx → EReal := m ((c : Thread nD τ).loc main_arg0)
/-- The weights, as the kernel finds them. -/
abbrev A1 (c : Dev nD) : S4096x8192.Idx → EReal := m ((c : Thread nD τ).loc main_arg1)

/-- What the kernel stores at a grid step, an element at a time. -/
theorem out_apply (x : Vec Ideal S1024x4096 .bf16) (w : Vec Ideal S4096x512 .bf16) (r : Fin 1024) (d : Fin 512) :
    out0_2 x w (ix2 r d) = gelu (prodAt x w r d) := by
  unfold out0_2
  rw [View.canon_cons_unit_lit _ _ _ (by decide), View.ld_unit_lit _ _ (by decide), View.ld_unit_lit _ _ (by decide)]
  refine Eq.trans ?_ (congrArg gelu (kernel_prod (φ₁ := .bf16) (φ₂ := .bf16) none x w r d))
  exact kernel_gelu _

/-- The array after the run is the Gaussian unit of the product. -/
theorem out_eq (c : Dev nD) : (dats m 0 c).arrAt 2 cfg0.N = geluProd (A0 m c) (A1 m c) := by
  refine (dats m 0 c).arrAt_eq_of_covers 2 _ (by decide +kernel) fun t hf y => ?_
  blk_simp
  rw [after0_2]
  obtain ⟨r, d, rfl⟩ : ∃ (r : Fin 1024) (d : Fin 512), y = ix2 r d := ⟨y (0 : Fin 2), y (1 : Fin 2), ValueIdx.eq_ix2 y⟩
  refine (out_apply _ _ r d).trans ?_
  have hi : (grid0.coords t 0).val < 16 := (grid0.coords t 0).isLt
  have hj : (grid0.coords t 1).val < 16 := (grid0.coords t 1).isLt
  have he : (win0_2.blk t).view.emb (ix2 r d)
      = ix2 (⟨(grid0.coords t 0).val * 1024 + r.val, by omega⟩ : Fin 16384) (⟨(grid0.coords t 1).val * 512 + d.val, by omega⟩ : Fin 8192) := by
    blk_ext [idx2]
  refine Eq.trans ?_ (congrArg (geluProd (A0 m c) (A1 m c)) he).symm
  refine congrArg gelu (prodAt_congr (fun k => ?_) (fun k => ?_))
  · show A0 m c ((win0_0.blk t).view.emb (ix2 r k)) = _
    refine congrArg (A0 m c) ?_
    blk_ext [idx0]
  · show A1 m c ((win0_1.blk t).view.emb (ix2 k d)) = _
    refine congrArg (A1 m c) ?_
    blk_ext [idx1]

end Cert.KSgInIdeal.Dense

namespace Cert.RSgInIdeal.Dense

open Cert.RSgInIdeal Cert.RSgInIdeal.Gen Cert.Dense
open Idealize.ShloMosaic hiding ix0 ix1 ix2 ix3 ix4 ix5 maximumf_apply addf_apply mulf_apply subf_apply divf_apply
open Idealize.ShloMosaic.ValueIdx

/-- The reference's term is the Gaussian unit of the product. -/
theorem ref_eq (a : FVec Ideal S16384x4096 .bf16) (w : FVec Ideal S4096x8192 .bf16) :
    truncf (F := Ideal) .bf16 (mulf (mulf (broadcastInDim S16384x8192 ![] bcast_S_S16384x8192 (constant S_ .f32 0x3F000000#32))
      (Host.dotGeneral dot_S16384x4096_S4096x8192_S16384x8192_1_0_0_1_n_n none (extf .f32 a bitsLt_bf16_f32) (extf .f32 w bitsLt_bf16_f32)))
      (Host.erfc (mulf (Host.negf (Host.dotGeneral dot_S16384x4096_S4096x8192_S16384x8192_1_0_0_1_n_n none (extf .f32 a bitsLt_bf16_f32) (extf .f32 w bitsLt_bf16_f32)))
        (broadcastInDim S16384x8192 ![] bcast_S_S16384x8192 (constant S_ .f32 0x3F3504F3#32))))) bitsLt_bf16_f32
      = geluProd a w := by
  funext y
  obtain ⟨r, d, rfl⟩ : ∃ (r : Fin 16384) (d : Fin 8192), y = ix2 r d := ⟨y (0 : Fin 2), y (1 : Fin 2), ValueIdx.eq_ix2 y⟩
  refine Eq.trans ?_ (congrArg gelu (host_prod none (extf .f32 a bitsLt_bf16_f32) (extf .f32 w bitsLt_bf16_f32) r d))
  exact host_gelu _

end Cert.RSgInIdeal.Dense
-- ==== Proof.Dense.In.lean ====
/-
  The input projection: the kernel's result, assembled from its blocks, is the product of its two arguments, and so is the
  reference's.
-/
module

public import proofs.«01_k».proof.Proof.Gen.KInIdeal.Value
public import proofs.«01_k».proof.Proof.Gen.RInIdeal.Run
public import proofs.«01_k».proof.Proof.Dense.Prod
public import Idealize.ShloMosaic.Lib.Pipeline.ValueKit

@[expose] public section

set_option maxRecDepth 16384

noncomputable section

namespace Cert.KInIdeal.Dense

open Cert.KInIdeal Cert.KInIdeal.Gen Cert.Dense
open Idealize.ShloMosaic hiding ix0 ix1 ix2 ix3 ix4 ix5 maximumf_apply addf_apply mulf_apply subf_apply divf_apply
open Idealize.ShloMosaic.ValueIdx
open Idealize.ShloMosaic.TcCoe Idealize.ShloMosaic.Tactic

variable (m : (ℓ : Loc nD τ sig) → Buf (Elt Ideal) ℓ)

/-- The block of the rows at a grid step. -/
theorem idx0 : ∀ t : Fin cfg0.N, win0_0.index t = ![(grid0.coords t 0).val, 0] := (by decide +kernel : ∀ t : Fin grid0.N, _)
/-- The block of the weights at a grid step. -/
theorem idx1 : ∀ t : Fin cfg0.N, win0_1.index t = ![0, (grid0.coords t 1).val] := (by decide +kernel : ∀ t : Fin grid0.N, _)
/-- The block of the result at a grid step. -/
theorem idx2 : ∀ t : Fin cfg0.N, win0_2.index t = ![(grid0.coords t 0).val, (grid0.coords t 1).val] := (by decide +kernel : ∀ t : Fin grid0.N, _)

/-- The rows, as the kernel finds them. -/
abbrev A0 (c : Dev nD) : S16384x4096.Idx → EReal := m ((c : Thread nD τ).loc main_arg0)
/-- The weights, as the kernel finds them. -/
abbrev A1 (c : Dev nD) : S4096x8704.Idx → EReal := m ((c : Thread nD τ).loc main_arg1)

/-- What the kernel stores at a grid step, an element at a time. -/
theorem out_apply (x : Vec Ideal S1024x4096 .bf16) (w : Vec Ideal S4096x512 .bf16) (r : Fin 1024) (d : Fin 512) :
    out0_2 x w (ix2 r d) = prodAt x w r d := by
  unfold out0_2
  rw [View.canon_cons_unit_lit _ _ _ (by decide), View.ld_unit_lit _ _ (by decide), View.ld_unit_lit _ _ (by decide)]
  exact kernel_prod (φ₁ := .bf16) (φ₂ := .bf16) none x w r d

/-- The array after the run is the product of the arguments. -/
theorem out_eq (c : Dev nD) : (dats m 0 c).arrAt 2 cfg0.N = prod (A0 m c) (A1 m c) := by
  refine (dats m 0 c).arrAt_eq_of_covers 2 _ (by decide +kernel) fun t hf y => ?_
  blk_simp
  rw [after0_2]
  obtain ⟨r, d, rfl⟩ : ∃ (r : Fin 1024) (d : Fin 512), y = ix2 r d := ⟨y (0 : Fin 2), y (1 : Fin 2), ValueIdx.eq_ix2 y⟩
  refine (out_apply _ _ r d).trans ?_
  have hi : (grid0.coords t 0).val < 16 := (grid0.coords t 0).isLt
  have hj : (grid0.coords t 1).val < 17 := (grid0.coords t 1).isLt
  have he : (win0_2.blk t).view.emb (ix2 r d)
      = ix2 (⟨(grid0.coords t 0).val * 1024 + r.val, by omega⟩ : Fin 16384) (⟨(grid0.coords t 1).val * 512 + d.val, by omega⟩ : Fin 8704) := by
    blk_ext [idx2]
  refine Eq.trans ?_ (congrArg (prod (A0 m c) (A1 m c)) he).symm
  refine prodAt_congr (fun k => ?_) (fun k => ?_)
  · show A0 m c ((win0_0.blk t).view.emb (ix2 r k)) = _
    refine congrArg (A0 m c) ?_
    blk_ext [idx0]
  · show A1 m c ((win0_1.blk t).view.emb (ix2 k d)) = _
    refine congrArg (A1 m c) ?_
    blk_ext [idx1]

end Cert.KInIdeal.Dense

namespace Cert.RInIdeal.Dense

open Cert.RInIdeal Cert.RInIdeal.Gen Cert.Dense
open Idealize.ShloMosaic hiding ix0 ix1 ix2 ix3 ix4 ix5 maximumf_apply addf_apply mulf_apply subf_apply divf_apply
open Idealize.ShloMosaic.ValueIdx

/-- The reference's term is the product of the arguments. -/
theorem ref_eq (a : FVec Ideal S16384x4096 .bf16) (w : FVec Ideal S4096x8704 .bf16) :
    truncf (F := Ideal) .bf16 (Host.dotGeneral dot_S16384x4096_S4096x8704_S16384x8704_1_0_0_1_n_n none (extf .f32 a bitsLt_bf16_f32)
      (extf .f32 w bitsLt_bf16_f32)) bitsLt_bf16_f32 = prod a w := by
  funext y
  obtain ⟨r, d, rfl⟩ : ∃ (r : Fin 16384) (d : Fin 8704), y = ix2 r d := ⟨y (0 : Fin 2), y (1 : Fin 2), ValueIdx.eq_ix2 y⟩
  exact host_prod none (extf .f32 a bitsLt_bf16_f32) (extf .f32 w bitsLt_bf16_f32) r d

end Cert.RInIdeal.Dense
-- ==== Proof.Dense.Down.lean ====
/-
  The feed-forward block's down projection: the kernel adds up the product in four parts and then the residual; its result is
  the residual plus the whole product, and so is the reference's.
-/
module

public import proofs.«01_k».proof.Proof.Gen.KDownIdeal.Value
public import proofs.«01_k».proof.Proof.Gen.RDownIdeal.Run
public import proofs.«01_k».proof.Proof.Dense.Prod
public import Idealize.ShloMosaic.Lib.Pipeline.ValueKit

@[expose] public section

set_option maxRecDepth 16384

noncomputable section

namespace Cert.KDownIdeal.Dense

open Cert.KDownIdeal Cert.KDownIdeal.Gen Cert.Dense
open Idealize.ShloMosaic hiding ix0 ix1 ix2 ix3 ix4 ix5 maximumf_apply addf_apply mulf_apply subf_apply divf_apply
open Idealize.ShloMosaic.ValueIdx
open Idealize.ShloMosaic.TcCoe Idealize.ShloMosaic.Tactic

variable (m : (ℓ : Loc nD τ sig) → Buf (Elt Ideal) ℓ)

/-- The block of the rows at a grid step. -/
theorem idx0 : ∀ t : Fin cfg0.N, win0_0.index t = ![t.val / 16, t.val % 4] := (by decide +kernel : ∀ t : Fin grid0.N, _)
/-- The block of the weights at a grid step. -/
theorem idx1 : ∀ t : Fin cfg0.N, win0_1.index t = ![t.val % 4, t.val / 4 % 4] := (by decide +kernel : ∀ t : Fin grid0.N, _)
/-- The block of the residual at a grid step. -/
theorem idx2 : ∀ t : Fin cfg0.N, win0_2.index t = ![t.val / 16, t.val / 4 % 4] := (by decide +kernel : ∀ t : Fin grid0.N, _)
/-- The block of the result at a grid step. -/
theorem idx3 : ∀ t : Fin cfg0.N, win0_3.index t = ![t.val / 16, t.val / 4 % 4] := (by decide +kernel : ∀ t : Fin grid0.N, _)

/-- The rows, as the kernel finds them. -/
abbrev A0 (c : Dev nD) : S16384x11264.Idx → EReal := m ((c : Thread nD τ).loc main_arg0)
/-- The weights, as the kernel finds them. -/
abbrev A1 (c : Dev nD) : S11264x4096.Idx → EReal := m ((c : Thread nD τ).loc main_arg1)
/-- The residual, as the kernel finds it. -/
abbrev A2 (c : Dev nD) : S16384x4096.Idx → EReal := m ((c : Thread nD τ).loc main_arg2)

/-- The sum's start. -/
theorem pay1_apply (r d : Fin 1024) : k0_pay1 (F := Ideal) (ix2 r d) = 0 := by
  pointwise [k0_pay1]

/-- A part of the product, added to the sum so far. -/
theorem pay2_apply (x : Vec Ideal S1024x2816 .bf16) (acc : Vec Ideal S1024x1024 .f32) (w : Vec Ideal S2816x1024 .bf16) (r d : Fin 1024) :
    k0_pay2 x acc w (ix2 r d) = acc (ix2 r d) + prodAt x w r d := by
  have h := kernel_prod (φ₁ := .bf16) (φ₂ := .bf16) none x w r d
  unfold k0_pay2
  rw [shapeCast_self]
  exact congrArg (acc (ix2 r d) + ·) h

/-- The first of four steps leaves the first part. -/
theorem step_first (c : Dev nD) (t : Fin cfg0.N) (h : t.val % 4 = 0) : (outsAt0 m c t.val t.isLt).2 = k0_pay2 (iblk m c 0 t) (k0_pay1 (F := Ideal)) (iblk m c 1 t) := by
  rw [outsAt0_A m c t h (by omega)]
  frame_out

/-- A later step adds its part. -/
theorem step_next (c : Dev nD) (t : Fin cfg0.N) (h : ¬t.val % 4 = 0) : (outsAt0 m c t.val t.isLt).2
    = k0_pay2 (iblk m c 0 t) (outsAt0 m c (t.val - 1) (Nat.lt_of_le_of_lt (Nat.sub_le _ _) t.isLt)).2 (iblk m c 1 t) := by
  by_cases h3 : t.val % 4 = 3
  · rw [outsAt0_C m c t h h3]
    frame_out
    exact congrArg (fun z => k0_pay2 _ z _) (Memref.IsWhole.read_unread _ _)
  · rw [outsAt0_B m c t h h3]
    frame_out
    exact congrArg (fun z => k0_pay2 _ z _) (Memref.IsWhole.read_unread _ _)

/-- The last of four steps stores the sum and the residual. -/
theorem step_last (c : Dev nD) (t : Fin cfg0.N) (h : t.val % 4 = 3) : (outsAt0 m c t.val t.isLt).1 = k0_pay3 (outsAt0 m c t.val t.isLt).2 (iblk m c 2 t) := by
  rw [step_next m c t (by omega), outsAt0_C m c t (by omega) h]
  frame_out
  exact congrArg (fun z => k0_pay3 (k0_pay2 _ z _) _) (Memref.IsWhole.read_unread _ _)

/-- An element of the rows' block in its array. -/
theorem iblk0 (c : Dev nD) (t : Fin cfg0.N) (r : Fin 1024) (k : Fin 2816) : (iblk m c 0 t : Vec Ideal S1024x2816 .bf16) (ix2 r k)
    = A0 m c (ix2 (⟨t.val / 16 * 1024 + r.val, by have := lt_of_lt_of_eq t.isLt (show cfg0.N = 256 from N_0); omega⟩ : Fin 16384)
      (⟨t.val % 4 * 2816 + k.val, by omega⟩ : Fin 11264)) := by
  show A0 m c ((win0_0.blk t).view.emb (ix2 r k)) = _
  refine congrArg (A0 m c) ?_
  blk_ext [idx0]

/-- An element of the weights' block in its array. -/
theorem iblk1 (c : Dev nD) (t : Fin cfg0.N) (k : Fin 2816) (d : Fin 1024) : (iblk m c 1 t : Vec Ideal S2816x1024 .bf16) (ix2 k d)
    = A1 m c (ix2 (⟨t.val % 4 * 2816 + k.val, by omega⟩ : Fin 11264) (⟨t.val / 4 % 4 * 1024 + d.val, by omega⟩ : Fin 4096)) := by
  show A1 m c ((win0_1.blk t).view.emb (ix2 k d)) = _
  refine congrArg (A1 m c) ?_
  blk_ext [idx1]

/-- The array after the run is the residual plus the product. -/
theorem out_eq (c : Dev nD) : (dats m 0 c).arrAt 3 cfg0.N = addProd (A2 m c) (A0 m c) (A1 m c) := by
  refine (dats m 0 c).arrAt_eq_of_covers 3 _ (by decide +kernel) fun t hf y => ?_
  have ht : t.val % 4 = 3 := (flush0_3 t).mp hf
  have hN : t.val < 256 := lt_of_lt_of_eq t.isLt (show cfg0.N = 256 from N_0)
  blk_simp
  rw [after0_3, step_last m c t ht]
  obtain ⟨r, d, rfl⟩ : ∃ (r : Fin 1024) (d : Fin 1024), y = ix2 r d := ⟨y (0 : Fin 2), y (1 : Fin 2), ValueIdx.eq_ix2 y⟩
  have hs := Pipeline.eq_sum_fin_of_reset_step_apply_of_flush (fun n h (i : Fin 1024 × Fin 1024) => (outsAt0 m c n h).2 (ix2 i.1 i.2)) 4 (fun _ => (0 : EReal))
    (fun t i => prodAt (iblk m c 0 t : Vec Ideal S1024x2816 .bf16) (iblk m c 1 t : Vec Ideal S2816x1024 .bf16) i.1 i.2)
    (fun t h i => by
      rw [step_first m c t h]
      refine (pay2_apply _ _ _ _ _).trans ?_
      rw [pay1_apply])
    (fun t h i => by
      rw [step_next m c t h]
      exact pay2_apply _ _ _ _ _) t ht (r, d)
  rw [zero_add] at hs
  have he : (win0_3.blk t).view.emb (ix2 r d)
      = ix2 (⟨t.val / 16 * 1024 + r.val, by omega⟩ : Fin 16384) (⟨t.val / 4 % 4 * 1024 + d.val, by omega⟩ : Fin 4096) := by
    blk_ext [idx3]
  refine Eq.trans ?_ (congrArg (addProd (A2 m c) (A0 m c) (A1 m c)) he).symm
  refine congrArg₂ (· + ·) ?_ (hs.trans ?_)
  · show A2 m c ((win0_2.blk t).view.emb (ix2 r d)) = _
    refine congrArg (A2 m c) ?_
    blk_ext [idx2]
  · refine Fin.sum_mul_add_congr fun s k hl => congrArg₂ (· * ·) ?_ ?_
    · refine (iblk0 m c _ r k).trans (congrArg (A0 m c) (congrArg₂ ix2 (Fin.ext ?_) (Fin.ext ?_)))
      · show (4 * (t.val / 4) + s.val) / 16 * 1024 + r.val = t.val / 16 * 1024 + r.val
        omega
      · show (4 * (t.val / 4) + s.val) % 4 * 2816 + k.val = s.val * 2816 + k.val
        omega
    · refine (iblk1 m c _ k d).trans (congrArg (A1 m c) (congrArg₂ ix2 (Fin.ext ?_) (Fin.ext ?_)))
      · show (4 * (t.val / 4) + s.val) % 4 * 2816 + k.val = s.val * 2816 + k.val
        omega
      · show (4 * (t.val / 4) + s.val) / 4 % 4 * 1024 + d.val = t.val / 4 % 4 * 1024 + d.val
        omega

end Cert.KDownIdeal.Dense

namespace Cert.RDownIdeal.Dense

open Cert.RDownIdeal Cert.RDownIdeal.Gen Cert.Dense
open Idealize.ShloMosaic hiding ix0 ix1 ix2 ix3 ix4 ix5 maximumf_apply addf_apply mulf_apply subf_apply divf_apply
open Idealize.ShloMosaic.ValueIdx

/-- The reference's term is the residual plus the product. -/
theorem ref_eq (a : FVec Ideal S16384x11264 .bf16) (w : FVec Ideal S11264x4096 .bf16) (h : FVec Ideal S16384x4096 .f32) :
    addf (F := Ideal) h (Host.dotGeneral dot_S16384x11264_S11264x4096_S16384x4096_1_0_0_1_n_n none (extf .f32 a bitsLt_bf16_f32) (extf .f32 w bitsLt_bf16_f32))
      = addProd h a w := by
  funext y
  obtain ⟨r, d, rfl⟩ : ∃ (r : Fin 16384) (d : Fin 4096), y = ix2 r d := ⟨y (0 : Fin 2), y (1 : Fin 2), ValueIdx.eq_ix2 y⟩
  exact congrArg (h (ix2 r d) + ·) (host_prod none (extf .f32 a bitsLt_bf16_f32) (extf .f32 w bitsLt_bf16_f32) r d)

end Cert.RDownIdeal.Dense
-- ==== Proof.Dense.Up.lean ====
/-
  The feed-forward block's gated projections: the kernel's result, assembled from its blocks, is the gated unit of the two products, and so is the reference's.
-/
module

public import proofs.«01_k».proof.Proof.Gen.KUpIdeal.Value
public import proofs.«01_k».proof.Proof.Gen.RUpIdeal.Run
public import proofs.«01_k».proof.Proof.Dense.Prod
public import Idealize.ShloMosaic.Lib.Pipeline.ValueKit

@[expose] public section

set_option maxRecDepth 16384

noncomputable section

namespace Cert.KUpIdeal.Dense

open Cert.KUpIdeal Cert.KUpIdeal.Gen Cert.Dense
open Idealize.ShloMosaic hiding ix0 ix1 ix2 ix3 ix4 ix5 maximumf_apply addf_apply mulf_apply subf_apply divf_apply
open Idealize.ShloMosaic.ValueIdx
open Idealize.ShloMosaic.TcCoe Idealize.ShloMosaic.Tactic

variable (m : (ℓ : Loc nD τ sig) → Buf (Elt Ideal) ℓ)

/-- The block of the rows at a grid step. -/
theorem idx0 : ∀ t : Fin cfg0.N, win0_0.index t = ![(grid0.coords t 0).val, 0] := (by decide +kernel : ∀ t : Fin grid0.N, _)
/-- The block of the gate's weights at a grid step. -/
theorem idx1 : ∀ t : Fin cfg0.N, win0_1.index t = ![0, (grid0.coords t 1).val] := (by decide +kernel : ∀ t : Fin grid0.N, _)
/-- The block of the other weights at a grid step. -/
theorem idx2 : ∀ t : Fin cfg0.N, win0_2.index t = ![0, (grid0.coords t 1).val] := (by decide +kernel : ∀ t : Fin grid0.N, _)
/-- The block of the result at a grid step. -/
theorem idx3 : ∀ t : Fin cfg0.N, win0_3.index t = ![(grid0.coords t 0).val, (grid0.coords t 1).val] := (by decide +kernel : ∀ t : Fin grid0.N, _)

/-- The rows, as the kernel finds them. -/
abbrev A0 (c : Dev nD) : S16384x4096.Idx → EReal := m ((c : Thread nD τ).loc main_arg0)
/-- The gate's weights, as the kernel finds them. -/
abbrev A1 (c : Dev nD) : S4096x11264.Idx → EReal := m ((c : Thread nD τ).loc main_arg1)
/-- The other weights, as the kernel finds them. -/
abbrev A2 (c : Dev nD) : S4096x11264.Idx → EReal := m ((c : Thread nD τ).loc main_arg2)

/-- What the kernel stores at a grid step, an element at a time. -/
theorem out_apply (x : Vec Ideal S1024x4096 .bf16) (wg wu : Vec Ideal S4096x512 .bf16) (r : Fin 1024) (d : Fin 512) :
    out0_3 x wg wu (ix2 r d) = swiglu (prodAt x wg r d) (prodAt x wu r d) := by
  unfold out0_3
  rw [View.canon_cons_unit_lit _ _ _ (by decide), View.ld_unit_lit _ _ (by decide), View.ld_unit_lit _ _ (by decide), View.ld_unit_lit _ _ (by decide)]
  exact congrArg₂ swiglu (kernel_prod (φ₁ := .bf16) (φ₂ := .bf16) none x wg r d) (kernel_prod (φ₁ := .bf16) (φ₂ := .bf16) none x wu r d)

/-- The array after the run is the gated unit of the two products. -/
theorem out_eq (c : Dev nD) : (dats m 0 c).arrAt 3 cfg0.N = gated (A0 m c) (A1 m c) (A2 m c) := by
  refine (dats m 0 c).arrAt_eq_of_covers 3 _ (by decide +kernel) fun t hf y => ?_
  blk_simp
  rw [after0_3]
  obtain ⟨r, d, rfl⟩ : ∃ (r : Fin 1024) (d : Fin 512), y = ix2 r d := ⟨y (0 : Fin 2), y (1 : Fin 2), ValueIdx.eq_ix2 y⟩
  refine (out_apply _ _ _ r d).trans ?_
  have hi : (grid0.coords t 0).val < 16 := (grid0.coords t 0).isLt
  have hj : (grid0.coords t 1).val < 22 := (grid0.coords t 1).isLt
  have he : (win0_3.blk t).view.emb (ix2 r d)
      = ix2 (⟨(grid0.coords t 0).val * 1024 + r.val, by omega⟩ : Fin 16384) (⟨(grid0.coords t 1).val * 512 + d.val, by omega⟩ : Fin 11264) := by
    blk_ext [idx3]
  refine Eq.trans ?_ (congrArg (gated (A0 m c) (A1 m c) (A2 m c)) he).symm
  have hx : ∀ k : Fin 4096, (iblk m c 0 t : Vec Ideal S1024x4096 .bf16) (ix2 r k)
      = A0 m c (ix2 (⟨(grid0.coords t 0).val * 1024 + r.val, by omega⟩ : Fin 16384) k) := fun k => by
    show A0 m c ((win0_0.blk t).view.emb (ix2 r k)) = _
    refine congrArg (A0 m c) ?_
    blk_ext [idx0]
  refine congrArg₂ swiglu (prodAt_congr hx fun k => ?_) (prodAt_congr hx fun k => ?_)
  · show A1 m c ((win0_1.blk t).view.emb (ix2 k d)) = _
    refine congrArg (A1 m c) ?_
    blk_ext [idx1]
  · show A2 m c ((win0_2.blk t).view.emb (ix2 k d)) = _
    refine congrArg (A2 m c) ?_
    blk_ext [idx2]

end Cert.KUpIdeal.Dense

namespace Cert.RUpIdeal.Dense

open Cert.RUpIdeal Cert.RUpIdeal.Gen Cert.Dense
open Idealize.ShloMosaic hiding ix0 ix1 ix2 ix3 ix4 ix5 maximumf_apply addf_apply mulf_apply subf_apply divf_apply
open Idealize.ShloMosaic.ValueIdx

/-- The reference's term is the gated unit of the two products. -/
theorem ref_eq (a : FVec Ideal S16384x4096 .bf16) (wg wu : FVec Ideal S4096x11264 .bf16) :
    truncf (F := Ideal) .bf16 (mulf (mulf (Host.dotGeneral dot_S16384x4096_S4096x11264_S16384x11264_1_0_0_1_n_n none (extf .f32 a bitsLt_bf16_f32) (extf .f32 wg bitsLt_bf16_f32))
      (Host.divf (broadcastInDim S16384x11264 ![] bcast_S_S16384x11264 (constant S_ .f32 0x3F800000#32))
        (addf (broadcastInDim S16384x11264 ![] bcast_S_S16384x11264 (constant S_ .f32 0x3F800000#32))
          (Host.exp (Host.negf (Host.dotGeneral dot_S16384x4096_S4096x11264_S16384x11264_1_0_0_1_n_n none (extf .f32 a bitsLt_bf16_f32) (extf .f32 wg bitsLt_bf16_f32)))))))
      (Host.dotGeneral dot_S16384x4096_S4096x11264_S16384x11264_1_0_0_1_n_n none (extf .f32 a bitsLt_bf16_f32) (extf .f32 wu bitsLt_bf16_f32))) bitsLt_bf16_f32
      = gated a wg wu := by
  funext y
  obtain ⟨r, d, rfl⟩ : ∃ (r : Fin 16384) (d : Fin 11264), y = ix2 r d := ⟨y (0 : Fin 2), y (1 : Fin 2), ValueIdx.eq_ix2 y⟩
  have hg := host_prod none (extf .f32 a bitsLt_bf16_f32) (extf .f32 wg bitsLt_bf16_f32) r d
  have hu := host_prod none (extf .f32 a bitsLt_bf16_f32) (extf .f32 wu bitsLt_bf16_f32) r d
  refine Eq.trans ?_ (congrArg₂ swiglu hg hu)
  exact congrArg₂ (· * ·) (congrArg (_ * ·) (host_logistic _)) rfl

end Cert.RUpIdeal.Dense
-- ==== Proof.Dense.Qn.lean ====
/-
  The first part of the queries from the latent ones: the kernel's result, assembled from its blocks, is the product of its
  two arguments times the scale of the scores, and so is the reference's.
-/
module

public import proofs.«01_k».proof.Proof.Gen.KQnIdeal.Value
public import proofs.«01_k».proof.Proof.Gen.RQnIdeal.Run
public import proofs.«01_k».proof.Proof.Dense.Prod
public import Idealize.ShloMosaic.Lib.Pipeline.ValueKit

@[expose] public section

set_option maxRecDepth 16384

noncomputable section

namespace Cert.Dense

open Idealize.ShloMosaic

/-- The scale of the scores times the logarithm of e to the base 2, as a number of single precision. -/
def scale : EReal := Ideal.ofBits .f32 0x3DD53B95#32

/-- A product times the scale of the scores, as an array. -/
def scaledProd {M K N : ℕ} (a : Shape.Idx ⟨2, ![M, K]⟩ → EReal) (w : Shape.Idx ⟨2, ![K, N]⟩ → EReal) : Shape.Idx ⟨2, ![M, N]⟩ → EReal :=
  fun j => prodAt a w (j 0) (j 1) * scale

end Cert.Dense

namespace Cert.KQnIdeal.Dense

open Cert.KQnIdeal Cert.KQnIdeal.Gen Cert.Dense
open Idealize.ShloMosaic hiding ix0 ix1 ix2 ix3 ix4 ix5 maximumf_apply addf_apply mulf_apply subf_apply divf_apply
open Idealize.ShloMosaic.ValueIdx
open Idealize.ShloMosaic.TcCoe Idealize.ShloMosaic.Tactic

variable (m : (ℓ : Loc nD τ sig) → Buf (Elt Ideal) ℓ)

/-- The block of the latent rows at a grid step. -/
theorem idx0 : ∀ t : Fin cfg0.N, win0_0.index t = ![(grid0.coords t 0).val, 0] := (by decide +kernel : ∀ t : Fin grid0.N, _)
/-- The block of the weights at a grid step. -/
theorem idx1 : ∀ t : Fin cfg0.N, win0_1.index t = ![0, (grid0.coords t 1).val] := (by decide +kernel : ∀ t : Fin grid0.N, _)
/-- The block of the queries at a grid step. -/
theorem idx2 : ∀ t : Fin cfg0.N, win0_2.index t = ![(grid0.coords t 0).val, (grid0.coords t 1).val] := (by decide +kernel : ∀ t : Fin grid0.N, _)

/-- The latent rows, as the kernel finds them. -/
abbrev A0 (c : Dev nD) : S16384x1536.Idx → EReal := m ((c : Thread nD τ).loc main_arg0)
/-- The weights, as the kernel finds them. -/
abbrev A1 (c : Dev nD) : S1536x2048.Idx → EReal := m ((c : Thread nD τ).loc main_arg1)

/-- What the kernel stores at a grid step, an element at a time. -/
theorem out_apply (x : Vec Ideal S1024x1536 .bf16) (w : Vec Ideal S1536x512 .bf16) (r : Fin 1024) (d : Fin 512) :
    out0_2 x w (ix2 r d) = prodAt x w r d * scale := by
  unfold out0_2
  rw [View.canon_cons_unit_lit _ _ _ (by decide), View.ld_unit_lit _ _ (by decide), View.ld_unit_lit _ _ (by decide)]
  exact congrArg (· * scale) (kernel_prod (φ₁ := .bf16) (φ₂ := .bf16) none x w r d)

/-- The array after the run is the scaled product of the arguments. -/
theorem out_eq (c : Dev nD) : (dats m 0 c).arrAt 2 cfg0.N = scaledProd (A0 m c) (A1 m c) := by
  refine (dats m 0 c).arrAt_eq_of_covers 2 _ (by decide +kernel) fun t hf y => ?_
  blk_simp
  rw [after0_2]
  obtain ⟨r, d, rfl⟩ : ∃ (r : Fin 1024) (d : Fin 512), y = ix2 r d := ⟨y (0 : Fin 2), y (1 : Fin 2), ValueIdx.eq_ix2 y⟩
  refine (out_apply _ _ r d).trans ?_
  have hi : (grid0.coords t 0).val < 16 := (grid0.coords t 0).isLt
  have hj : (grid0.coords t 1).val < 4 := (grid0.coords t 1).isLt
  have he : (win0_2.blk t).view.emb (ix2 r d)
      = ix2 (⟨(grid0.coords t 0).val * 1024 + r.val, by omega⟩ : Fin 16384) (⟨(grid0.coords t 1).val * 512 + d.val, by omega⟩ : Fin 2048) := by
    blk_ext [idx2]
  refine Eq.trans ?_ (congrArg (scaledProd (A0 m c) (A1 m c)) he).symm
  refine congrArg (· * scale) (prodAt_congr (fun k => ?_) (fun k => ?_))
  · show A0 m c ((win0_0.blk t).view.emb (ix2 r k)) = _
    refine congrArg (A0 m c) ?_
    blk_ext [idx0]
  · show A1 m c ((win0_1.blk t).view.emb (ix2 k d)) = _
    refine congrArg (A1 m c) ?_
    blk_ext [idx1]

end Cert.KQnIdeal.Dense

namespace Cert.RQnIdeal.Dense

open Cert.RQnIdeal Cert.RQnIdeal.Gen Cert.Dense
open Idealize.ShloMosaic hiding ix0 ix1 ix2 ix3 ix4 ix5 maximumf_apply addf_apply mulf_apply subf_apply divf_apply
open Idealize.ShloMosaic.ValueIdx

/-- The reference's term is the scaled product of the arguments. -/
theorem ref_eq (a : FVec Ideal S16384x1536 .bf16) (w : FVec Ideal S1536x2048 .bf16) :
    truncf (F := Ideal) .bf16 (mulf (Host.dotGeneral dot_S16384x1536_S1536x2048_S16384x2048_1_0_0_1_n_n none (extf .f32 a bitsLt_bf16_f32)
      (extf .f32 w bitsLt_bf16_f32)) (broadcastInDim S16384x2048 ![] bcast_S_S16384x2048 (constant S_ .f32 0x3DD53B95#32))) bitsLt_bf16_f32
      = scaledProd a w := by
  funext y
  obtain ⟨r, d, rfl⟩ : ∃ (r : Fin 16384) (d : Fin 2048), y = ix2 r d := ⟨y (0 : Fin 2), y (1 : Fin 2), ValueIdx.eq_ix2 y⟩
  exact congrArg (· * scale) (host_prod none (extf .f32 a bitsLt_bf16_f32) (extf .f32 w bitsLt_bf16_f32) r d)

end Cert.RQnIdeal.Dense
-- ==== Proof.Dense.Kv.lean ====
/-
  The keys and values from the latent ones: the kernel's result, assembled from its blocks, is the product of its two
  arguments, and so is the reference's.
-/
module

public import proofs.«01_k».proof.Proof.Gen.KKvIdeal.Value
public import proofs.«01_k».proof.Proof.Gen.RKvIdeal.Run
public import proofs.«01_k».proof.Proof.Dense.Prod
public import Idealize.ShloMosaic.Lib.Pipeline.ValueKit

@[expose] public section

set_option maxRecDepth 16384

noncomputable section

namespace Cert.KKvIdeal.Dense

open Cert.KKvIdeal Cert.KKvIdeal.Gen Cert.Dense
open Idealize.ShloMosaic hiding ix0 ix1 ix2 ix3 ix4 ix5 maximumf_apply addf_apply mulf_apply subf_apply divf_apply
open Idealize.ShloMosaic.ValueIdx
open Idealize.ShloMosaic.TcCoe Idealize.ShloMosaic.Tactic

variable (m : (ℓ : Loc nD τ sig) → Buf (Elt Ideal) ℓ)

/-- The block of the latent rows at a grid step. -/
theorem idx0 : ∀ t : Fin cfg0.N, win0_0.index t = ![(grid0.coords t 0).val, 0] := (by decide +kernel : ∀ t : Fin grid0.N, _)
/-- The block of the weights at a grid step. -/
theorem idx1 : ∀ t : Fin cfg0.N, win0_1.index t = ![0, (grid0.coords t 1).val] := (by decide +kernel : ∀ t : Fin grid0.N, _)
/-- The block of the result at a grid step. -/
theorem idx2 : ∀ t : Fin cfg0.N, win0_2.index t = ![(grid0.coords t 0).val, (grid0.coords t 1).val] := (by decide +kernel : ∀ t : Fin grid0.N, _)

/-- The latent rows, as the kernel finds them. -/
abbrev A0 (c : Dev nD) : S16384x512.Idx → EReal := m ((c : Thread nD τ).loc main_arg0)
/-- The weights, as the kernel finds them. -/
abbrev A1 (c : Dev nD) : S512x4096.Idx → EReal := m ((c : Thread nD τ).loc main_arg1)

/-- What the kernel stores at a grid step, an element at a time. -/
theorem out_apply (x : Vec Ideal S1024x512 .bf16) (w : Vec Ideal S512x512 .bf16) (r : Fin 1024) (d : Fin 512) :
    out0_2 x w (ix2 r d) = prodAt x w r d := by
  unfold out0_2
  rw [View.canon_cons_unit_lit _ _ _ (by decide), View.ld_unit_lit _ _ (by decide), View.ld_unit_lit _ _ (by decide)]
  exact kernel_prod (φ₁ := .bf16) (φ₂ := .bf16) none x w r d

/-- The array after the run is the product of the arguments. -/
theorem out_eq (c : Dev nD) : (dats m 0 c).arrAt 2 cfg0.N = prod (A0 m c) (A1 m c) := by
  refine (dats m 0 c).arrAt_eq_of_covers 2 _ (by decide +kernel) fun t hf y => ?_
  blk_simp
  rw [after0_2]
  obtain ⟨r, d, rfl⟩ : ∃ (r : Fin 1024) (d : Fin 512), y = ix2 r d := ⟨y (0 : Fin 2), y (1 : Fin 2), ValueIdx.eq_ix2 y⟩
  refine (out_apply _ _ r d).trans ?_
  have hi : (grid0.coords t 0).val < 16 := (grid0.coords t 0).isLt
  have hj : (grid0.coords t 1).val < 8 := (grid0.coords t 1).isLt
  have he : (win0_2.blk t).view.emb (ix2 r d)
      = ix2 (⟨(grid0.coords t 0).val * 1024 + r.val, by omega⟩ : Fin 16384) (⟨(grid0.coords t 1).val * 512 + d.val, by omega⟩ : Fin 4096) := by
    blk_ext [idx2]
  refine Eq.trans ?_ (congrArg (prod (A0 m c) (A1 m c)) he).symm
  refine prodAt_congr (fun k => ?_) (fun k => ?_)
  · show A0 m c ((win0_0.blk t).view.emb (ix2 r k)) = _
    refine congrArg (A0 m c) ?_
    blk_ext [idx0]
  · show A1 m c ((win0_1.blk t).view.emb (ix2 k d)) = _
    refine congrArg (A1 m c) ?_
    blk_ext [idx1]

end Cert.KKvIdeal.Dense

namespace Cert.RKvIdeal.Dense

open Cert.RKvIdeal Cert.RKvIdeal.Gen Cert.Dense
open Idealize.ShloMosaic hiding ix0 ix1 ix2 ix3 ix4 ix5 maximumf_apply addf_apply mulf_apply subf_apply divf_apply
open Idealize.ShloMosaic.ValueIdx

/-- The reference's term is the product of the arguments. -/
theorem ref_eq (a : FVec Ideal S16384x512 .bf16) (w : FVec Ideal S512x4096 .bf16) :
    truncf (F := Ideal) .bf16 (Host.dotGeneral dot_S16384x512_S512x4096_S16384x4096_1_0_0_1_n_n none (extf .f32 a bitsLt_bf16_f32)
      (extf .f32 w bitsLt_bf16_f32)) bitsLt_bf16_f32 = prod a w := by
  funext y
  obtain ⟨r, d, rfl⟩ : ∃ (r : Fin 16384) (d : Fin 4096), y = ix2 r d := ⟨y (0 : Fin 2), y (1 : Fin 2), ValueIdx.eq_ix2 y⟩
  exact host_prod none (extf .f32 a bitsLt_bf16_f32) (extf .f32 w bitsLt_bf16_f32) r d

end Cert.RKvIdeal.Dense
-- ==== Proof.Mixing.Spec.lean ====
/-
  The mixing over positions of the spatial gating: within each chunk of 128 positions and each group of 128 columns, a position
  takes the weighted sum of the chunk's positions up to its own, adds a bias and multiplies the other half of the columns.
-/
module

public import proofs.«01_k».proof.Proof.Dense.Prod
public import Idealize.ShloMosaic.Lib.WordCmp

@[expose] public section

noncomputable section

namespace Cert.Mixing

open Idealize.ShloMosaic hiding ix0 ix1 ix2 ix3 ix4 ix5 maximumf_apply addf_apply mulf_apply subf_apply divf_apply
open Idealize.ShloMosaic.ValueIdx
open scoped BigOperators

/-- One gated entry: the sum of the column's entries up to position `t`, weighted, plus the bias, times the other half's entry. -/
def gateAt (t : Fin 128) (w v : Fin 128 → EReal) (b u : EReal) : EReal :=
  u * ((∑ s : Fin 128, (if s.val ≤ t.val then w s else 0) * v s) + b)

/-- Two gated entries agree where their parts do. -/
theorem gateAt_congr {t t' : Fin 128} {w w' v v' : Fin 128 → EReal} {b b' u u' : EReal} (ht : t = t') (hw : ∀ s, w s = w' s)
    (hv : ∀ s, v s = v' s) (hb : b = b') (hu : u = u') : gateAt t w v b u = gateAt t' w' v' b' u' := by
  rw [ht, funext hw, funext hv, hb, hu]

/-- The mixing of all the positions and columns. -/
def mixed (w b : Shape.Idx ⟨3, ![32, 128, 128]⟩ → EReal) (v : Shape.Idx ⟨2, ![16384, 4096]⟩ → EReal) (z : Shape.Idx ⟨2, ![16384, 8192]⟩ → EReal) :
    Shape.Idx ⟨2, ![16384, 4096]⟩ → EReal := fun j =>
  have hp : (j 0).val < 16384 := (j 0).isLt
  have hq : (j 1).val < 4096 := (j 1).isLt
  let g : Fin 32 := ⟨(j 1).val / 128, by omega⟩
  let t : Fin 128 := ⟨(j 0).val % 128, by omega⟩
  gateAt t (fun s => w (ix3 g t s)) (fun s => v (ix2 (⟨(j 0).val / 128 * 128 + s.val, by omega⟩ : Fin 16384) (j 1)))
    (b (ix3 g t (⟨(j 1).val % 128, by omega⟩ : Fin 128))) (z (ix2 (j 0) (⟨(j 1).val, by omega⟩ : Fin 8192)))

/-- A choice by the comparison of two position words is the choice by the positions. -/
theorem select_le {α : Type} (a b : Fin 128) (x y : α) :
    Scalar.select (IntOp.cmpi .sle (BitVec.ofNat 32 a.val) (BitVec.ofNat 32 b.val)) x y = if a.val ≤ b.val then x else y := by
  rw [WordCmp.cmpi_sle_ofNat (by have := a.isLt; omega) (by have := b.isLt; omega)]
  by_cases h : a.val ≤ b.val
  · rw [if_pos h, decide_eq_true h]; rfl
  · rw [if_neg h, decide_eq_false h]; rfl

end Cert.Mixing
-- ==== Proof.Mixing.Value.lean ====
/-
  The kernel of the mixing over positions: what it stores in a block, sixteen chunks one by one, and its result assembled from
  the blocks.
-/
module

public import proofs.«01_k».proof.Proof.Gen.KSpatialIdeal.Value
public import proofs.«01_k».proof.Proof.Mixing.Spec
public import Idealize.ShloMosaic.Lib.Pipeline.ValueKit
public import Idealize.ShloMosaic.Lib.ValueLayout

@[expose] public section

set_option maxRecDepth 16384

noncomputable section

namespace Cert.KSpatialIdeal.Mixing

open Cert.KSpatialIdeal Cert.KSpatialIdeal.Gen Cert.Dense Cert.Mixing
open Idealize.ShloMosaic hiding ix0 ix1 ix2 ix3 ix4 ix5 maximumf_apply addf_apply mulf_apply subf_apply divf_apply
open Idealize.ShloMosaic.ValueIdx
open Idealize.ShloMosaic.TcCoe Idealize.ShloMosaic.Tactic

variable (m : (ℓ : Loc nD τ sig) → Buf (Elt Ideal) ℓ)

/-- The group's weights at a grid step. -/
theorem idx0 : ∀ t : Fin cfg0.N, win0_0.index t = ![(grid0.coords t 0).val, 0, 0] := (by decide +kernel : ∀ t : Fin grid0.N, _)
/-- The group's bias at a grid step. -/
theorem idx1 : ∀ t : Fin cfg0.N, win0_1.index t = ![(grid0.coords t 0).val, 0, 0] := (by decide +kernel : ∀ t : Fin grid0.N, _)
/-- The block of the mixed half at a grid step. -/
theorem idx2 : ∀ t : Fin cfg0.N, win0_2.index t = ![(grid0.coords t 1).val, (grid0.coords t 0).val] := (by decide +kernel : ∀ t : Fin grid0.N, _)
/-- The block of the other half at a grid step. -/
theorem idx3 : ∀ t : Fin cfg0.N, win0_3.index t = ![(grid0.coords t 1).val, (grid0.coords t 0).val] := (by decide +kernel : ∀ t : Fin grid0.N, _)
/-- The block of the result at a grid step. -/
theorem idx4 : ∀ t : Fin cfg0.N, win0_4.index t = ![(grid0.coords t 1).val, (grid0.coords t 0).val] := (by decide +kernel : ∀ t : Fin grid0.N, _)

/-- The weights, as the kernel finds them. -/
abbrev A0 (c : Dev nD) : S32x128x128.Idx → EReal := m ((c : Thread nD τ).loc main_arg0)
/-- The bias, as the kernel finds it. -/
abbrev A1 (c : Dev nD) : S32x128x128.Idx → EReal := m ((c : Thread nD τ).loc main_arg1)
/-- The mixed half, as the kernel finds it. -/
abbrev A2 (c : Dev nD) : S16384x4096.Idx → EReal := m ((c : Thread nD τ).loc main_arg2)
/-- The array whose first columns are the other half, as the kernel finds it. -/
abbrev A3 (c : Dev nD) : S16384x8192.Idx → EReal := m ((c : Thread nD τ).loc main_arg3)

/-- A weight that the kernel multiplies with: the weight given where the position read is not past the one written, else zero. -/
theorem weight_apply (w : Vec Ideal S1x128x128 .f32) (t s : Fin 128) :
    k0_pay3 w (ix2 t s) = if s.val ≤ t.val then w (ix3 (0 : Fin 1) t s) else 0 := by
  refine Eq.trans ?_ (select_le s t _ _)
  refine congr (congrArg₂ Scalar.select ?_ ?_) Ideal.ofBits_zero_f32
  · refine congrArg₂ (IntOp.cmpi .sle) ?_ ?_
    · refine (Idealize.ShloMosaic.WordCmp.iota_at _ _ _ _).trans ?_
      simp only [List.foldl_cons, List.foldl_nil, Nat.zero_mul, Nat.zero_add]
    · refine (Idealize.ShloMosaic.WordCmp.iota_at _ _ _ _).trans ?_
      simp only [List.foldl_cons, List.foldl_nil, Nat.zero_mul, Nat.zero_add]
  · exact shapeCast_1ab_ab_apply w _ t s

/-- One entry of what the kernel stores for a chunk. -/
theorem chunk_apply (w b : Vec Ideal S1x128x128 .f32) (v u : Vec Ideal S128x128 .bf16) (t d : Fin 128) :
    k0_pay2 (k0_pay3 w) (k0_pay4 b) v u (ix2 t d)
      = gateAt t (fun s => w (ix3 (0 : Fin 1) t s)) (fun s => v (ix2 s d)) (b (ix3 (0 : Fin 1) t d)) (u (ix2 t d)) := by
  refine congrArg (u (ix2 t d) * ·) (congrArg₂ (· + ·) ?_ ?_)
  · refine (kernel_prod (φ₁ := .bf16) (φ₂ := .bf16) none (k0_pay3 w) v t d).trans ?_
    exact Finset.sum_congr rfl fun s _ => congrArg (· * _) (weight_apply w t s)
  · exact shapeCast_1ab_ab_apply b _ t d

/-- What the kernel leaves in a block of sixteen chunks. -/
def blockOut (w b : Vec Ideal S1x128x128 .f32) (v u : Vec Ideal S2048x128 .bf16) : S2048x128.Idx → EReal := fun y =>
  have hp : (y 0).val < 2048 := (y 0).isLt
  let t : Fin 128 := ⟨(y 0).val % 128, by omega⟩
  gateAt t (fun s => w (ix3 (0 : Fin 1) t s)) (fun s => v (ix2 (⟨(y 0).val / 128 * 128 + s.val, by omega⟩ : Fin 2048) (y 1)))
    (b (ix3 (0 : Fin 1) t (y 1))) (u y)

/-- The piece stored for the chunk that begins at row `o` is that part of the block. -/
theorem piece (w b : Vec Ideal S1x128x128 .f32) (v u : Vec Ideal S2048x128 .bf16) (o : ℕ) (ho : o % 128 = 0)
    (inb : ∀ a, (![o, 0] : Fin 2 → ℕ) a + S128x128.size a ≤ S2048x128.size a) (x : S128x128.Idx) :
    k0_pay2 (k0_pay3 (View.ld w r0_0)) (k0_pay4 (View.ld b r0_0)) (View.ld v (Rect.unit (s := S2048x128) ![o, 0] S128x128.size inb))
        (View.ld u (Rect.unit (s := S2048x128) ![o, 0] S128x128.size inb)) x
      = blockOut w b v u ((Rect.unit (s := S2048x128) ![o, 0] S128x128.size inb).emb x) := by
  obtain ⟨t, d, rfl⟩ : ∃ (t d : Fin 128), x = ix2 t d := ⟨x (0 : Fin 2), x (1 : Fin 2), ValueIdx.eq_ix2 x⟩
  have hb : o + 128 ≤ 2048 := inb 0
  have he : ∀ s : Fin 128, (Rect.unit (s := S2048x128) ![o, 0] S128x128.size inb).emb (ix2 s d) = ix2 (⟨o + s.val, by omega⟩ : Fin 2048) d := by
    intro s
    refine funext fun a => Fin.ext ?_
    match a with
    | ⟨0, _⟩ => show o + 1 * s.val = o + s.val; omega
    | ⟨1, _⟩ => show 0 + 1 * d.val = d.val; omega
  refine (chunk_apply _ _ _ _ t d).trans ?_
  rw [View.ld_unit_lit _ _ (by decide), View.ld_unit_lit _ _ (by decide)]
  refine Eq.trans ?_ (congrArg (blockOut w b v u) (he t)).symm
  have ht : t = (⟨(o + t.val) % 128, by omega⟩ : Fin 128) := Fin.ext (by show t.val = (o + t.val) % 128; omega)
  refine gateAt_congr ht (fun s => congrArg (fun t => w (ix3 (0 : Fin 1) t s)) ht) (fun s => ?_) (congrArg (fun t => b (ix3 (0 : Fin 1) t d)) ht)
    (congrArg u (he t))
  refine congrArg v ((he s).trans (congrArg (fun r => ix2 r d) (Fin.ext ?_)))
  show o + s.val = (o + t.val) / 128 * 128 + s.val
  omega

/-- What the kernel stores at a grid step. -/
theorem out_apply (w b : Vec Ideal S1x128x128 .f32) (v u : Vec Ideal S2048x128 .bf16) (y : S2048x128.Idx) :
    out0_4 w b v u y = blockOut w b v u y := by
  unfold out0_4
  refine View.canon_apply_of_pieces (Val := Elt Ideal) (blockOut w b v u) _ ?_ y (cover0_4 _ _ _ _ _ _ _ _ _ _ _ _ _ _ _ _ y)
  repeat refine List.forall_mem_cons.2 ⟨fun x => piece w b v u _ (by decide) _ x, ?_⟩
  exact fun p hp => absurd hp List.not_mem_nil

/-- The array after the run is the mixing of the arguments. -/
theorem out_eq (c : Dev nD) : (dats m 0 c).arrAt 4 cfg0.N = mixed (A0 m c) (A1 m c) (A2 m c) (A3 m c) := by
  refine (dats m 0 c).arrAt_eq_of_covers 4 _ (by decide +kernel) fun t hf y => ?_
  blk_simp
  rw [after0_4]
  obtain ⟨r, d, rfl⟩ : ∃ (r : Fin 2048) (d : Fin 128), y = ix2 r d := ⟨y (0 : Fin 2), y (1 : Fin 2), ValueIdx.eq_ix2 y⟩
  refine (out_apply _ _ _ _ _).trans ?_
  have hg : (grid0.coords t 0).val < 32 := (grid0.coords t 0).isLt
  have hc : (grid0.coords t 1).val < 8 := (grid0.coords t 1).isLt
  have he : (win0_4.blk t).view.emb (ix2 r d)
      = ix2 (⟨(grid0.coords t 1).val * 2048 + r.val, by omega⟩ : Fin 16384) (⟨(grid0.coords t 0).val * 128 + d.val, by omega⟩ : Fin 4096) := by
    blk_ext [idx4]
  refine Eq.trans ?_ (congrArg (mixed (A0 m c) (A1 m c) (A2 m c) (A3 m c)) he).symm
  have hgrp : ((grid0.coords t 0).val * 128 + d.val) / 128 = (grid0.coords t 0).val := by omega
  have hpos : ((grid0.coords t 1).val * 2048 + r.val) % 128 = r.val % 128 := by omega
  have hcol : ((grid0.coords t 0).val * 128 + d.val) % 128 = d.val := by omega
  have hrow : ((grid0.coords t 1).val * 2048 + r.val) / 128 * 128 = (grid0.coords t 1).val * 2048 + r.val / 128 * 128 := by omega
  refine gateAt_congr (Fin.ext hpos.symm) (fun s => ?_) (fun s => ?_) ?_ ?_
  · show A0 m c ((win0_0.blk t).view.emb (ix3 (0 : Fin 1) (⟨r.val % 128, by omega⟩ : Fin 128) s)) = _
    refine congrArg (A0 m c) ?_
    blk_ext [idx0]
  · show A2 m c ((win0_2.blk t).view.emb (ix2 (⟨r.val / 128 * 128 + s.val, by omega⟩ : Fin 2048) d)) = _
    refine congrArg (A2 m c) ?_
    blk_ext [idx2]
  · show A1 m c ((win0_1.blk t).view.emb (ix3 (0 : Fin 1) (⟨r.val % 128, by omega⟩ : Fin 128) d)) = _
    refine congrArg (A1 m c) ?_
    blk_ext [idx1]
    exact hcol.symm
  · show A3 m c ((win0_3.blk t).view.emb (ix2 r d)) = _
    refine congrArg (A3 m c) ?_
    blk_ext [idx3]

end Cert.KSpatialIdeal.Mixing
-- ==== Proof.Mixing.Ref.lean ====
/-
  The reference of the mixing over positions: the chunks and groups as axes of one array, the product over the positions of a
  chunk, the bias, and the other half's columns.
-/
module

public import proofs.«01_k».proof.Proof.Gen.RSpatialIdeal.Run
public import proofs.«01_k».proof.Proof.Mixing.Spec
public import Idealize.ShloMosaic.Lib.Pointwise

@[expose] public section

set_option maxRecDepth 16384

noncomputable section

namespace Cert.RSpatialIdeal.Mixing

open Cert.RSpatialIdeal Cert.RSpatialIdeal.Gen Cert.Mixing
open Idealize.ShloMosaic hiding ix0 ix1 ix2 ix3 ix4 ix5 maximumf_apply addf_apply mulf_apply subf_apply divf_apply
open Idealize.ShloMosaic.ValueIdx

/-- The weights up to the position written, zero past it. -/
def weights (w : FVec Ideal S32x128x128 .f32) : FVec Ideal S32x128x128 .f32 :=
  select (broadcastInDim S32x128x128 ![0, 1, 2] bcast_S1x128x128_S32x128x128_0_1_2
    (cmpi .sle (broadcastInDim S1x128x128 ![0, 1, 2] bcast_S1x1x128_S1x128x128_0_1_2 (broadcastInDim S1x1x128 ![2] bcast_S128_S1x1x128_2 (iotaInDim S128 32 0)))
      (broadcastInDim S1x128x128 ![0, 1, 2] bcast_S1x128x1_S1x128x128_0_1_2 (broadcastInDim S1x128x1 ![1] bcast_S128_S1x128x1_1 (iotaInDim S128 32 0)))))
    w (broadcastInDim S32x128x128 ![] bcast_S_S32x128x128 (id (constant S_ .f32 0x00000000#32)))

/-- The weighted sums of the chunks' positions, by group, position written, chunk and column. -/
def sums (w : FVec Ideal S32x128x128 .f32) (v : FVec Ideal S16384x4096 .bf16) : FVec Ideal S32x128x128x128 .f32 :=
  Host.dotGeneral dot_S128x128x32x128_S32x128x128_S32x128x128x128_1_2_03_1_2_0 none
    (shapeCast _ (extf .f32 v bitsLt_bf16_f32) shapeCasts_S16384x4096_S128x128x32x128) w

/-- A weight of the reference. -/
theorem weights_apply (w : FVec Ideal S32x128x128 .f32) (g : Fin 32) (t s : Fin 128) :
    weights w (ix3 g t s) = if s.val ≤ t.val then w (ix3 g t s) else 0 := by
  refine Eq.trans ?_ ((select_le s t _ _).trans (congrArg (fun x => if s.val ≤ t.val then w (ix3 g t s) else x) Ideal.ofBits_zero_f32))
  rfl

/-- A weighted sum of the reference. -/
theorem sums_apply (w : FVec Ideal S32x128x128 .f32) (v : FVec Ideal S16384x4096 .bf16) (g : Fin 32) (n d t : Fin 128) :
    sums w v (ix4 g n d t) = ∑ s : Fin 128, w (ix3 g t s)
      * v (ix2 (⟨n.val * 128 + s.val, by omega⟩ : Fin 16384) (⟨g.val * 128 + d.val, by omega⟩ : Fin 4096)) := by
  pointwise [sums]

  refine Finset.sum_congr rfl fun s _ => (mul_comm _ _).trans ?_
  rw [ix3_eq_valueIdx, ix2_eq_valueIdx]

/-- The mixing at a position and a column, from sums whose terms are the masked weights times the chunk's entries. -/
theorem mixed_of (w b : FVec Ideal S32x128x128 .f32) (v : FVec Ideal S16384x4096 .bf16) (z : FVec Ideal S16384x8192 .bf16) (p : Fin 16384) (q : Fin 4096)
    (W : Fin 128 → EReal)
    (hW : ∀ s : Fin 128, W s = if s.val ≤ p.val % 128 then w (ix3 (⟨q.val / 128, by omega⟩ : Fin 32) (⟨p.val % 128, by omega⟩ : Fin 128) s) else 0) :
    z (ix2 p (⟨q.val, by omega⟩ : Fin 8192)) * ((∑ s : Fin 128, W s * v (ix2 (⟨p.val / 128 * 128 + s.val, by omega⟩ : Fin 16384)
        (⟨q.val / 128 * 128 + q.val % 128, by omega⟩ : Fin 4096)))
      + b (ix3 (⟨q.val / 128, by omega⟩ : Fin 32) (⟨p.val % 128, by omega⟩ : Fin 128) (⟨q.val % 128, by omega⟩ : Fin 128)))
      = mixed w b v z (ix2 p q) := by
  have hq : (⟨q.val / 128 * 128 + q.val % 128, by omega⟩ : Fin 4096) = q := Fin.ext (by show q.val / 128 * 128 + q.val % 128 = q.val; omega)
  rw [hq, funext hW]
  rfl

/-- The reference's term is the mixing of the arguments. -/
theorem ref_eq (w b : FVec Ideal S32x128x128 .f32) (v : FVec Ideal S16384x4096 .bf16) (z : FVec Ideal S16384x8192 .bf16) :
    truncf (F := Ideal) .bf16 (mulf (extf .f32 (extractStridedSlice S16384x4096 ![0, 0] z slices_S16384x8192_S16384x4096_0_0) bitsLt_bf16_f32)
      (shapeCast _ (addf (transpose S128x128x32x128 [1, 3, 0, 2] (sums (weights w) v) transposes_S32x128x128x128_S128x128x32x128_1_3_0_2)
        (broadcastInDim S128x128x32x128 ![0, 1, 2, 3] bcast_S1x128x32x128_S128x128x32x128_0_1_2_3
          (broadcastInDim S1x128x32x128 ![1, 2, 3] bcast_S128x32x128_S1x128x32x128_1_2_3
            (transpose S128x32x128 [1, 0, 2] b transposes_S32x128x128_S128x32x128_1_0_2)))) shapeCasts_S128x128x32x128_S16384x4096)) bitsLt_bf16_f32
      = mixed w b v z := by
  funext y
  obtain ⟨p, q, rfl⟩ : ∃ (p : Fin 16384) (q : Fin 4096), y = ix2 p q := ⟨y (0 : Fin 2), y (1 : Fin 2), ValueIdx.eq_ix2 y⟩
  pointwise []

  refine (congrArg₂ (· * ·) (congrArg z (ix2_eq_valueIdx _ _)) (congrArg₂ (· + ·) ((congrArg (sums (weights w) v) (ix4_eq_valueIdx _ _ _ _)).trans
    (sums_apply _ v _ _ _ _)) (congrArg b (ix3_eq_valueIdx _ _ _)))).trans ?_
  exact mixed_of w b v z p q _ (fun s => weights_apply w _ _ s)

end Cert.RSpatialIdeal.Mixing
-- ==== Proof.RefStage.lean ====
module

public import proofs.«01_k».proof.Proof.Gen.ReferenceIdeal.Run
public import proofs.«01_k».proof.Proof.Spec
public import Idealize.ShloMosaic.Lib.Pointwise
public import Idealize.ShloMosaic.Lib.WordCmp

@[expose] public section

set_option maxRecDepth 16384

noncomputable section

namespace Cert.ReferenceIdeal.Flash

open Cert.ReferenceIdeal Cert.ReferenceIdeal.Gen Cert.Flash
open Idealize.ShloMosaic hiding ix0 ix1 ix2 ix3 ix4 ix5 maximumf_apply addf_apply mulf_apply subf_apply divf_apply
open Idealize.ShloMosaic.ValueIdx

/-! ## The reference's stages -/

/-- The queries, their two parts one after the other, one row of 256 per head. -/
def qcat (a0 a1 : FVec Ideal S16384x2048 .bf16) : FVec Ideal S16384x16x256 .f32 :=
  concatenate S16384x16x256 2 [⟨S16384x16x128, (shapeCast _ (extf .f32 a0 bitsLt_bf16_f32) shapeCasts_S16384x2048_S16384x16x128)⟩, ⟨S16384x16x128, (shapeCast _ (extf .f32 a1 bitsLt_bf16_f32) shapeCasts_S16384x2048_S16384x16x128)⟩] concatenates_S16384x16x128_S16384x16x128_S16384x16x256_d2

/-- The keys, their two parts one after the other, the second shared by all heads. -/
def kcat (a2 : FVec Ideal S16384x4096 .bf16) (a3 : FVec Ideal S16384x128 .bf16) : FVec Ideal S16384x16x256 .f32 :=
  concatenate S16384x16x256 2 [⟨S16384x16x128, (shapeCast _ (extf .f32 (extractStridedSlice S16384x2048 ![0, 0] a2 slices_S16384x4096_S16384x2048_0_0) bitsLt_bf16_f32) shapeCasts_S16384x2048_S16384x16x128)⟩, ⟨S16384x16x128, (broadcastInDim S16384x16x128 ![0, 1, 2] bcast_S16384x1x128_S16384x16x128_0_1_2 (broadcastInDim S16384x1x128 ![0, 2] bcast_S16384x128_S16384x1x128_0_2 (extf .f32 a3 bitsLt_bf16_f32)))⟩] concatenates_S16384x16x128_S16384x16x128_S16384x16x256_d2

/-- The values, one row of 128 per head. -/
def vals (a2 : FVec Ideal S16384x4096 .bf16) : FVec Ideal S16384x16x128 .f32 :=
  shapeCast _ (extf .f32 (extractStridedSlice S16384x2048 ![0, 2048] a2 slices_S16384x4096_S16384x2048_0_2048) bitsLt_bf16_f32) shapeCasts_S16384x2048_S16384x16x128

/-- Where a key is not after its query. -/
def causal : IVec S16x16384x16384 1 :=
  broadcastInDim S16x16384x16384 ![0, 1, 2] bcast_S1x16384x16384_S16x16384x16384_0_1_2 (cmpi .sle (broadcastInDim S1x16384x16384 ![0, 1, 2] bcast_S1x1x16384_S1x16384x16384_0_1_2 (broadcastInDim S1x1x16384 ![2] bcast_S16384_S1x1x16384_2 (iotaInDim S16384 32 0))) (broadcastInDim S1x16384x16384 ![0, 1, 2] bcast_S1x16384x1_S1x16384x16384_0_1_2 (broadcastInDim S1x16384x1 ![1] bcast_S16384_S1x16384x1_1 (iotaInDim S16384 32 0))))

/-- The masked scores. -/
def scores (a0 a1 : FVec Ideal S16384x2048 .bf16) (a2 : FVec Ideal S16384x4096 .bf16) (a3 : FVec Ideal S16384x128 .bf16) : FVec Ideal S16x16384x16384 .f32 :=
  select causal (Host.dotGeneral dot_S16384x16x256_S16384x16x256_S16x16384x16384_2_2_0_0_1_1 none (mulf (qcat a0 a1) (broadcastInDim S16384x16x256 ![] bcast_S_S16384x16x256 (Host.log (constant S_ .f32 0x40000000#32)))) (kcat a2 a3)) (broadcastInDim S16x16384x16384 ![] bcast_S_S16x16384x16384 (id (constant S_ .f32 0xFF800000#32)))

/-- The exponentials of scores against their row's maximum. -/
def expo (sc : FVec Ideal S16x16384x16384 .f32) : FVec Ideal S16x16384x16384 .f32 :=
  Host.exp (subf sc (broadcastInDim S16x16384x16384 ![0, 1, 2] bcast_S16x16384x1_S16x16384x16384_0_1_2 (broadcastInDim S16x16384x1 ![0, 1] bcast_S16x16384_S16x16384x1_0_1 (maximumf (broadcastInDim S16x16384 ![] bcast_S_S16x16384 (constant S_ .f32 0xFF800000#32)) (Host.reduce FloatOps.maximumf sc (constant S_ .f32 0xFF800000#32) reducesTo_S16x16384x16384_S16x16384_d2 h_S_)))))

/-- The probabilities. -/
def probs (e : FVec Ideal S16x16384x16384 .f32) : FVec Ideal S16x16384x16384 .f32 :=
  Host.divf e (broadcastInDim S16x16384x16384 ![0, 1, 2] bcast_S16x16384x1_S16x16384x16384_0_1_2 (broadcastInDim S16x16384x1 ![0, 1] bcast_S16x16384_S16x16384x1_0_1 (Host.reduceAdd e (constant S_ .f32 0x00000000#32) reducesTo_S16x16384x16384_S16x16384_d2 h_S_)))

/-- The weighted values, rows first. -/
def result (v : FVec Ideal S16384x16x128 .f32) (p : FVec Ideal S16x16384x16384 .f32) : FVec Ideal S16384x2048 .bf16 :=
  truncf .bf16 (shapeCast _ (transpose S16384x16x128 [2, 0, 1] (Host.dotGeneral dot_S16384x16x128_S16x16384x16384_S16x128x16384_0_2_2_1_1_0 none v p) transposes_S16x128x16384_S16384x16x128_2_0_1) shapeCasts_S16384x16x128_S16384x2048) bitsLt_bf16_f32

end Cert.ReferenceIdeal.Flash
-- ==== Proof.RefVal.lean ====
module

public import proofs.«01_k».proof.Proof.Gen.ReferenceIdeal.Run
public import proofs.«01_k».proof.Proof.Spec
public import Idealize.ShloMosaic.Lib.Pointwise
public import proofs.«01_k».proof.Proof.RefStage
public import Idealize.ShloMosaic.Lib.WordCmp

@[expose] public section

set_option maxRecDepth 16384

noncomputable section

namespace Cert.ReferenceIdeal.Flash

open Cert.ReferenceIdeal Cert.ReferenceIdeal.Gen Cert.Flash
open Idealize.ShloMosaic hiding ix0 ix1 ix2 ix3 ix4 ix5 maximumf_apply addf_apply mulf_apply subf_apply divf_apply
open Idealize.ShloMosaic.ValueIdx

variable (m : (ℓ : Loc nD τ sig) → Buf (Elt Ideal) ℓ)

open Idealize.ShloMosaic.TcCoe in
/-- The reference's result by its stages. -/
theorem res_eq (c : Dev nD) : Cert.ReferenceIdeal.Value.res_main_v40 m c
    = result (vals (m ((c : Thread nD τ).loc main_arg2))) (probs (expo (scores (m ((c : Thread nD τ).loc main_arg0)) (m ((c : Thread nD τ).loc main_arg1)) (m ((c : Thread nD τ).loc main_arg2)) (m ((c : Thread nD τ).loc main_arg3))))) := by
  unfold Cert.ReferenceIdeal.Value.res_main_v40
  rfl

/-- The queries' elements. -/
theorem qcat_apply (a0 a1 : FVec Ideal S16384x2048 .bf16) (g : Fin 16384) (h : Fin 16) (d : Fin 256) :
    qcat a0 a1 (ix3 g h d) = qe a0 a1 g h d := by
  pointwise [qcat, qe]

  exact dite_congr rfl (fun _ => congrArg a0 (ix2_eq_valueIdx _ _)) (fun _ => congrArg a1 (ix2_eq_valueIdx _ _))

/-- The keys' elements. -/
theorem kcat_apply (a2 : FVec Ideal S16384x4096 .bf16) (a3 : FVec Ideal S16384x128 .bf16) (g : Fin 16384) (h : Fin 16) (d : Fin 256) :
    kcat a2 a3 (ix3 g h d) = ke a2 a3 h g.val d := by
  pointwise [kcat, ke]

  have hg : g = ⟨g.val % 16384, Nat.mod_lt _ (by decide)⟩ := Fin.ext (Nat.mod_eq_of_lt g.isLt).symm
  exact dite_congr rfl (fun _ => congrArg a2 ((ix2_eq_valueIdx _ _).trans (congrArg (ix2 · _) hg)))
    (fun _ => congrArg a3 ((ix2_eq_valueIdx _ _).trans (congrArg (ix2 · _) hg)))

/-- The values' elements. -/
theorem vals_apply (a2 : FVec Ideal S16384x4096 .bf16) (g : Fin 16384) (h : Fin 16) (d : Fin 128) :
    vals a2 (ix3 g h d) = ve a2 h d g.val := by
  pointwise [vals, ve]

  rw [ix2_eq_valueIdx]
  refine congrArg a2 (funext fun a => Fin.ext ?_)
  match a with
  | ⟨0, _⟩ => exact (Nat.mod_eq_of_lt g.isLt).symm
  | ⟨1, _⟩ => exact (Nat.add_assoc _ _ _).symm

/-- An element of the result is the weighted sum of a column of the values. -/
theorem result_apply (v : FVec Ideal S16384x16x128 .f32) (p : FVec Ideal S16x16384x16384 .f32) (g : Fin 16384) (h : Fin 16) (c : Fin 128) :
    result v p (ix2 g (⟨h.val * 128 + c.val, by omega⟩ : Fin 2048)) = ∑ k : Fin 16384, v (ix3 k h c) * p (ix3 h g k) := by
  pointwise [result]

  refine Finset.sum_congr rfl fun k _ => ?_
  have e1 : (⟨(h.val * 128 + c.val) / 128, by omega⟩ : Fin 16) = h := Fin.ext (by show (h.val * 128 + c.val) / 128 = h.val; omega)
  have e2 : (⟨(h.val * 128 + c.val) % 128, by omega⟩ : Fin 128) = c := Fin.ext (by show (h.val * 128 + c.val) % 128 = c.val; omega)
  rw [e1, e2, ix3_eq_valueIdx, ix3_eq_valueIdx]

/-- A probability is an exponential over its row's sum. -/
theorem probs_apply (e : FVec Ideal S16x16384x16384 .f32) (h : Fin 16) (g k : Fin 16384) :
    probs e (ix3 h g k) = Ideal.div (e (ix3 h g k)) (∑ k' : Fin 16384, e (ix3 h g k')) := by
  pointwise [probs]

  refine congrArg (Ideal.div _) (Finset.sum_congr rfl fun k _ => ?_)
  rw [ix3_eq_valueIdx]

/-- The exponentials, given each row's maximum. -/
theorem exp_rows (sc : FVec Ideal S16x16384x16384 .f32) (R : FVec Ideal S16x16384 .f32) (h : Fin 16) (g k : Fin 16384) :
    Host.exp (subf sc (broadcastInDim S16x16384x16384 ![0, 1, 2] bcast_S16x16384x1_S16x16384x16384_0_1_2 (broadcastInDim S16x16384x1 ![0, 1] bcast_S16x16384_S16x16384x1_0_1 R))) (ix3 h g k)
      = Ideal.exp (sc (ix3 h g k) - R (ix2 h g)) := by
  pointwise
  rw [ix2_eq_valueIdx]

/-- Each row's maximum. -/
theorem row_max (sc : FVec Ideal S16x16384x16384 .f32) (h : Fin 16) (g : Fin 16384) :
    Host.reduce FloatOps.maximumf sc (constant S_ .f32 0xFF800000#32) reducesTo_S16x16384x16384_S16x16384_d2 h_S_ (ix2 h g)
      = (Finset.univ.fold max (⊥ : EReal) fun k' : Fin 16384 => sc (ix3 h g k')) := by
  pointwise
  have hb : Ideal.ofBits .f32 4286578688#32 = (⊥ : EReal) := by
    simp [Ideal.ofBits, Ideal.ieee]
  rw [hb]
  exact Finset.fold_congr fun k _ => congrArg sc (ix3_eq_valueIdx _ _ _)

/-- The maximum the exponentials are taken against. -/
theorem row_max' (R : FVec Ideal S16x16384 .f32) (h : Fin 16) (g : Fin 16384) :
    maximumf (broadcastInDim S16x16384 ![] bcast_S_S16x16384 (constant S_ .f32 0xFF800000#32)) R (ix2 h g) = R (ix2 h g) := by
  pointwise
  have hb : Ideal.ofBits .f32 4286578688#32 = (⊥ : EReal) := by
    simp [Ideal.ofBits, Ideal.ieee]
  rw [hb]
  exact max_eq_right bot_le

/-- An exponential, against its row's maximum. -/
theorem expo_apply (sc : FVec Ideal S16x16384x16384 .f32) (h : Fin 16) (g k : Fin 16384) :
    expo sc (ix3 h g k) = Ideal.exp (sc (ix3 h g k) - (Finset.univ.fold max (⊥ : EReal) fun k' : Fin 16384 => sc (ix3 h g k'))) := by
  unfold expo
  rw [exp_rows, row_max', row_max]

/-- A masked score. -/
theorem scores_apply (a0 a1 : FVec Ideal S16384x2048 .bf16) (a2 : FVec Ideal S16384x4096 .bf16) (a3 : FVec Ideal S16384x128 .bf16) (h : Fin 16) (g k : Fin 16384) :
    scores a0 a1 a2 a3 (ix3 h g k) = if k.val ≤ g.val then ∑ d : Fin 256, (qcat a0 a1 (ix3 g h d) * (Real.log 2 : ℝ)) * kcat a2 a3 (ix3 k h d) else ⊥ := by
  pointwise [scores, causal]

  rw [show IntOp.cmpi CmpIPredicate.sle (BitVec.ofNat 32 (ix3 h g k 2).val) (BitVec.ofNat 32 (ix3 h g k 1).val) = BitVec.ofBool (decide (k.val ≤ g.val)) from
    WordCmp.cmpi_sle_ofNat (by have := k.isLt; show k.val < 2147483648; omega) (by have := g.isLt; show g.val < 2147483648; omega)]
  have hl : Ideal.log (Ideal.ofBits .f32 1073741824#32) = ((Real.log 2 : ℝ) : EReal) := by
    have : Ideal.ofBits .f32 1073741824#32 = ((2 : ℝ) : EReal) := by
      simp [Ideal.ofBits, Ideal.ieee]
      rw [← EReal.coe_mul]; norm_num
    rw [this]
    show (if (2 : ℝ) ≤ 0 then (⊥ : EReal) else ((Real.log 2 : ℝ) : EReal)) = _
    rw [if_neg (by norm_num)]
  have hb : (constant S_ .f32 0xFF800000#32 : FVec Ideal S_ .f32) Idealize.ShloMosaic.ix0 = (⊥ : EReal) := by
    show Ideal.ofBits .f32 0xFF800000#32 = ⊥
    simp [Ideal.ofBits, Ideal.ieee]
  rw [hl]
  have hs : ∀ (b : Bool) (x y : EReal), Scalar.select (BitVec.ofBool b) x y = if b = true then x else y := by
    intro b x y; cases b <;> rfl
  refine (hs _ _ _).trans ?_
  by_cases hk : k.val ≤ g.val
  · rw [if_pos hk, if_pos (decide_eq_true hk)]
    refine Finset.sum_congr rfl fun d _ => ?_
    rw [ix3_eq_valueIdx, ix3_eq_valueIdx]
  · rw [if_neg hk, if_neg (by simp [hk])]
    exact hb

/-- The probabilities of a row whose scores are `s`. -/
theorem probs_of (sc : FVec Ideal S16x16384x16384 .f32) (h : Fin 16) (g : Fin 16384) (s : Fin 16384 → EReal) (hs : ∀ k, sc (ix3 h g k) = s k) (k : Fin 16384) :
    probs (expo sc) (ix3 h g k) = Ideal.div (Ideal.exp (s k - Finset.univ.fold max (⊥ : EReal) s)) (∑ k' : Fin 16384, Ideal.exp (s k' - Finset.univ.fold max (⊥ : EReal) s)) := by
  obtain rfl : (fun k => sc (ix3 h g k)) = s := funext hs
  have hE : (fun k' : Fin 16384 => expo sc (ix3 h g k')) = fun k' => Ideal.exp (sc (ix3 h g k') - Finset.univ.fold max (⊥ : EReal) fun k => sc (ix3 h g k)) :=
    funext fun k' => expo_apply sc h g k'
  refine (probs_apply (expo sc) h g k).trans ?_
  exact congrArg₂ Ideal.div (congrFun hE k) (congrArg (fun f : Fin 16384 → EReal => ∑ k', f k') hE)

/-- The whole reference is causal attention, when queries and keys are finite. -/
theorem res_attn (a0 a1 : FVec Ideal S16384x2048 .bf16) (a2 : FVec Ideal S16384x4096 .bf16) (a3 : FVec Ideal S16384x128 .bf16)
    (hq : ∀ g h d, ∃ r : ℝ, qe a0 a1 g h d = (r : EReal)) (hk : ∀ h n d, ∃ r : ℝ, ke a2 a3 h n d = (r : EReal)) :
    result (vals a2) (probs (expo (scores a0 a1 a2 a3))) = attn a0 a1 a2 a3 := by
  funext j
  obtain ⟨g, h, c, rfl⟩ : ∃ (g : Fin 16384) (h : Fin 16) (c : Fin 128), j = ix2 g (⟨h.val * 128 + c.val, by omega⟩ : Fin 2048) := by
    have hj : (j (1 : Fin 2)).val < 2048 := (j (1 : Fin 2)).isLt
    refine ⟨j (0 : Fin 2), ⟨(j (1 : Fin 2)).val / 128, by omega⟩, ⟨(j (1 : Fin 2)).val % 128, Nat.mod_lt _ (by decide)⟩, (ValueIdx.eq_ix2 j).trans ?_⟩
    refine congrArg (ix2 _) (Fin.ext ?_)
    show (j (1 : Fin 2)).val = (j (1 : Fin 2)).val / 128 * 128 + (j (1 : Fin 2)).val % 128
    omega
  refine (result_apply _ _ g h c).trans ((?_ : _ = attnAt a0 a1 a2 a3 g h c).trans (attn_apply a0 a1 a2 a3 g h c).symm)
  have hS : ∀ k : Fin 16384, scores a0 a1 a2 a3 (ix3 h g k) = ((Real.log 2 : ℝ) : EReal) * te a0 a1 a2 a3 h g k.val := by
    intro k
    refine (scores_apply a0 a1 a2 a3 h g k).trans ((if_congr Iff.rfl (Finset.sum_congr rfl fun d _ => ?_) rfl).trans (log2_te a0 a1 a2 a3 h g k.val).symm)
    rw [qcat_apply, kcat_apply]
  refine Eq.trans (congrArg (fun f : Fin 16384 → EReal => ∑ k, f k) (funext fun k => ?_)) (softmax_te a0 a1 a2 a3 hq hk g h c)
  exact congrArg₂ (· * ·) (vals_apply a2 k h c) (probs_of _ h g (fun k => ((Real.log 2 : ℝ) : EReal) * te a0 a1 a2 a3 h g k.val) hS k)

end Cert.ReferenceIdeal.Flash
-- ==== Proof.PreVal.lean ====
module

public import proofs.«01_k».proof.Pre_finite_scores
public import proofs.«01_k».proof.Proof.Spec

@[expose] public section

set_option maxRecDepth 16384

noncomputable section

namespace Cert.Pre_finite_scores

open Idealize.ShloMosaic Cert.Flash
open Idealize.ShloMosaic.ValueIdx

/-! ## What the precondition says -/

/-- The predicate's own side conditions. -/
theorem facts : Facts where
  slices_S16384x4096_S16384x2048_0_0 := by decide
  bitsLt_bf16_f32 := by decide
  bcast_S_S16384x2048 := by decide
  bcast_S_S16384x128 := by decide

/-- An extended real whose absolute value is below infinity is a real. -/
theorem real_of_abs (x : EReal) (h : Ideal.cmp .olt (max x (-x)) (Ideal.ofBits .f32 0x7F800000#32) = 1#1) : ∃ r : ℝ, x = (r : EReal) := by
  have ht : Ideal.ofBits .f32 0x7F800000#32 = (⊤ : EReal) := by
    simp [Ideal.ofBits, Ideal.ieee]
  rw [ht] at h
  have hlt : max x (-x) < ⊤ := by
    by_contra hn
    have e : Ideal.cmp .olt (max x (-x)) ⊤ = BitVec.ofBool (decide (max x (-x) < ⊤)) := rfl
    rw [e, decide_eq_false hn] at h
    exact absurd h (by decide)
  induction x using EReal.rec with
  | bot => rw [EReal.neg_bot] at hlt; exact absurd (lt_of_le_of_lt (le_max_right _ _) hlt) (lt_irrefl _)
  | top => exact absurd (lt_of_le_of_lt (le_max_left _ _) hlt) (lt_irrefl _)
  | coe r => exact ⟨r, rfl⟩

variable [Facts] (a0 a1 : FVec Ideal S16384x2048 .bf16) (a2 : FVec Ideal S16384x4096 .bf16) (a3 : FVec Ideal S16384x128 .bf16)

/-- Under the precondition every query element is a real. -/
theorem qe_real (h0 : (fn a0 a1 a2 a3).1 = fun _ => 1#1) (h1 : (fn a0 a1 a2 a3).2.1 = fun _ => 1#1) (g : Fin 16384) (h : Fin 16) (d : Fin 256) :
    ∃ r : ℝ, qe a0 a1 g h d = (r : EReal) := by
  unfold qe
  by_cases hd : d.val < 128
  · rw [dif_pos hd]; exact real_of_abs _ (congrFun h0 _)
  · rw [dif_neg hd]; exact real_of_abs _ (congrFun h1 _)

/-- Under the precondition every key element is a real. -/
theorem ke_real (h2 : (fn a0 a1 a2 a3).2.2.1 = fun _ => 1#1) (h3 : (fn a0 a1 a2 a3).2.2.2 = fun _ => 1#1) (h : Fin 16) (n : ℕ) (d : Fin 256) :
    ∃ r : ℝ, ke a2 a3 h n d = (r : EReal) := by
  unfold ke
  by_cases hd : d.val < 128
  · rw [dif_pos hd]
    have e := congrFun h2 (ix2 (⟨n % 16384, Nat.mod_lt _ (by decide)⟩ : Fin 16384) (⟨h.val * 128 + d.val, by omega⟩ : Fin 2048))
    have hi : Ideal.cmp .olt (max (extractStridedSlice S16384x2048 ![0, 0] a2 Facts.slices_S16384x4096_S16384x2048_0_0 (ix2 (⟨n % 16384, Nat.mod_lt _ (by decide)⟩ : Fin 16384) (⟨h.val * 128 + d.val, by omega⟩ : Fin 2048))) (-(extractStridedSlice S16384x2048 ![0, 0] a2 Facts.slices_S16384x4096_S16384x2048_0_0 (ix2 (⟨n % 16384, Nat.mod_lt _ (by decide)⟩ : Fin 16384) (⟨h.val * 128 + d.val, by omega⟩ : Fin 2048))))) (Ideal.ofBits .f32 0x7F800000#32) = 1#1 := e
    have hs : extractStridedSlice S16384x2048 ![0, 0] a2 Facts.slices_S16384x4096_S16384x2048_0_0 (ix2 (⟨n % 16384, Nat.mod_lt _ (by decide)⟩ : Fin 16384) (⟨h.val * 128 + d.val, by omega⟩ : Fin 2048))
        = a2 (ix2 (⟨n % 16384, Nat.mod_lt _ (by decide)⟩ : Fin 16384) (⟨h.val * 128 + d.val, by omega⟩ : Fin 4096)) :=
      congrArg a2 (funext fun a => Fin.ext (match a with | ⟨0, _⟩ => Nat.zero_add _ | ⟨1, _⟩ => Nat.zero_add _))
    rw [hs] at hi
    exact real_of_abs _ hi
  · rw [dif_neg hd]; exact real_of_abs _ (congrFun h3 _)

end Cert.Pre_finite_scores
-- ==== Proof.lean ====
module

public import proofs.«01_k».proof.Proof.Gen.KExperts.Launch
public import proofs.«01_k».proof.Proof.Gen.KExperts.Skeleton
public import proofs.«01_k».proof.Proof.Gen.KExpertsIdeal.Launch
public import proofs.«01_k».proof.Proof.Gen.KExpertsIdeal.Skeleton
public import proofs.«01_k».proof.Proof.Gen.RExpertsIdeal.Run
public import proofs.«01_k».proof.Proof.Gen.KUp
public import proofs.«01_k».proof.Proof.Gen.KUp.Frame
public import proofs.«01_k».proof.Proof.Gen.KUpIdeal
public import proofs.«01_k».proof.Proof.Gen.KUpIdeal.Value
public import proofs.«01_k».proof.Proof.Gen.RUpIdeal
public import proofs.«01_k».proof.Proof.Gen.RUpIdeal.Run
public import proofs.«01_k».proof.Proof.Gen.KDown
public import proofs.«01_k».proof.Proof.Gen.KDown.Frame
public import proofs.«01_k».proof.Proof.Gen.KDownIdeal
public import proofs.«01_k».proof.Proof.Gen.KDownIdeal.Value
public import proofs.«01_k».proof.Proof.Gen.RDownIdeal
public import proofs.«01_k».proof.Proof.Gen.RDownIdeal.Run
public import proofs.«01_k».proof.Proof.Gen.KIn
public import proofs.«01_k».proof.Proof.Gen.KIn.Frame
public import proofs.«01_k».proof.Proof.Gen.KInIdeal
public import proofs.«01_k».proof.Proof.Gen.KInIdeal.Value
public import proofs.«01_k».proof.Proof.Gen.RInIdeal
public import proofs.«01_k».proof.Proof.Gen.RInIdeal.Run
public import proofs.«01_k».proof.Proof.Gen.KSgIn
public import proofs.«01_k».proof.Proof.Gen.KSgIn.Frame
public import proofs.«01_k».proof.Proof.Gen.KSgInIdeal
public import proofs.«01_k».proof.Proof.Gen.KSgInIdeal.Value
public import proofs.«01_k».proof.Proof.Gen.RSgInIdeal
public import proofs.«01_k».proof.Proof.Gen.RSgInIdeal.Run
public import proofs.«01_k».proof.Proof.Gen.KSgOut
public import proofs.«01_k».proof.Proof.Gen.KSgOut.Frame
public import proofs.«01_k».proof.Proof.Gen.KSgOutIdeal
public import proofs.«01_k».proof.Proof.Gen.KSgOutIdeal.Value
public import proofs.«01_k».proof.Proof.Gen.RSgOutIdeal
public import proofs.«01_k».proof.Proof.Gen.RSgOutIdeal.Run
public import proofs.«01_k».proof.Proof.Gen.KMix
public import proofs.«01_k».proof.Proof.Gen.KMix.Frame
public import proofs.«01_k».proof.Proof.Gen.KMixIdeal
public import proofs.«01_k».proof.Proof.Gen.KMixIdeal.Value
public import proofs.«01_k».proof.Proof.Gen.RMixIdeal
public import proofs.«01_k».proof.Proof.Gen.RMixIdeal.Run
public import proofs.«01_k».proof.Proof.Gen.KPle
public import proofs.«01_k».proof.Proof.Gen.KPle.Frame
public import proofs.«01_k».proof.Proof.Gen.KPleIdeal
public import proofs.«01_k».proof.Proof.Gen.KPleIdeal.Value
public import proofs.«01_k».proof.Proof.Gen.RPleIdeal
public import proofs.«01_k».proof.Proof.Gen.RPleIdeal.Run
public import proofs.«01_k».proof.Proof.Gen.KQn
public import proofs.«01_k».proof.Proof.Gen.KQn.Frame
public import proofs.«01_k».proof.Proof.Gen.KQnIdeal
public import proofs.«01_k».proof.Proof.Gen.KQnIdeal.Value
public import proofs.«01_k».proof.Proof.Gen.RQnIdeal
public import proofs.«01_k».proof.Proof.Gen.RQnIdeal.Run
public import proofs.«01_k».proof.Proof.Gen.KKv
public import proofs.«01_k».proof.Proof.Gen.KKv.Frame
public import proofs.«01_k».proof.Proof.Gen.KKvIdeal
public import proofs.«01_k».proof.Proof.Gen.KKvIdeal.Value
public import proofs.«01_k».proof.Proof.Gen.RKvIdeal
public import proofs.«01_k».proof.Proof.Gen.RKvIdeal.Run
public import proofs.«01_k».proof.Proof.Gen.KSpatial
public import proofs.«01_k».proof.Proof.Gen.KSpatial.Frame
public import proofs.«01_k».proof.Proof.Gen.KSpatialIdeal
public import proofs.«01_k».proof.Proof.Gen.KSpatialIdeal.Value
public import proofs.«01_k».proof.Proof.Gen.RSpatialIdeal
public import proofs.«01_k».proof.Proof.Gen.RSpatialIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Word.Run
public import proofs.«01_k».proof.Proof.KVal
public import proofs.«01_k».proof.Proof.Experts.Value
public import proofs.«01_k».proof.Proof.Experts.Word
public import proofs.«01_k».proof.Proof.Experts.Ref
public import proofs.«01_k».proof.Proof.Dense.Ple
public import proofs.«01_k».proof.Proof.Dense.Mix
public import proofs.«01_k».proof.Proof.Dense.SgOut
public import proofs.«01_k».proof.Proof.Dense.SgIn
public import proofs.«01_k».proof.Proof.Dense.In
public import proofs.«01_k».proof.Proof.Dense.Down
public import proofs.«01_k».proof.Proof.Dense.Up
public import proofs.«01_k».proof.Proof.Dense.Qn
public import proofs.«01_k».proof.Proof.Dense.Kv
public import proofs.«01_k».proof.Proof.Mixing.Value
public import proofs.«01_k».proof.Proof.Mixing.Ref
public import proofs.«01_k».proof.Proof.RefVal
public import proofs.«01_k».proof.Proof.PreVal
public import Idealize.ShloMosaic.Lib.Pipeline.Quiescent
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, leaves its arguments unchanged and every semaphore counter at zero. -/
theorem frame_P : Cert.quiescent_Kernel := fun m ρ _ =>
  θ_run_with_sems (Cert.Kernel.Gen.frame_of m ρ (Cert.Kernel.Flash.dats m) fun _ _ => rfl) (Cert.Kernel.Flash.run_main (F := Bits) m ρ)

/-- So does the kernel over the extended reals. -/
theorem frame_PI : Cert.quiescent_KernelIdeal := fun m ρ _ =>
  θ_run_with_sems (Cert.KernelIdeal.Gen.frame_of m ρ (Cert.KernelIdeal.Flash.dats m) fun _ _ => rfl) (Cert.KernelIdeal.Flash.run_main (F := Ideal) m ρ)

/-- The reference runs and leaves its arguments unchanged; it declares no semaphore. -/
theorem frame_RI : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- The mask's literal, the one constant that is named, is read as minus infinity. -/
theorem preserves : Cert.preserves_Kernel_KernelIdeal :=
  IdealRules.named_const.statement _ _ _ _ _ rfl

/-- Over the extended reals, queries and keys finite, the kernel's result is the reference's. -/
theorem algebraic : Cert.algebraic_KernelIdeal_ReferenceIdeal_pre_finite_scores (hPre_finite_scores := Cert.Pre_finite_scores.facts) := by
  intro m ρ m' ρ' hpre harg
  refine ⟨fun c => Cert.Flash.attn (Cert.KernelIdeal.Flash.A0 m c) (Cert.KernelIdeal.Flash.A1 m c) (Cert.KernelIdeal.Flash.A2 m c) (Cert.KernelIdeal.Flash.A3 m c), ?_, ?_⟩
  · refine (θ_run Cert.KernelIdeal.defs _ _).mono (fun r h c => ?_) (Cert.KernelIdeal.Flash.run_main (F := Ideal) m ρ)
    exact ⟨((h.1 c).1 5).trans (Cert.KernelIdeal.Flash.out_eq m c),
      ((h.1 c).1 0).trans (((Cert.KernelIdeal.Flash.dats m 0 c).arrAt_in 0 rfl _).trans rfl),
      ((h.1 c).1 1).trans (((Cert.KernelIdeal.Flash.dats m 0 c).arrAt_in 1 rfl _).trans rfl),
      ((h.1 c).1 4).trans (((Cert.KernelIdeal.Flash.dats m 0 c).arrAt_in 4 rfl _).trans rfl),
      ((h.1 c).1 3).trans (((Cert.KernelIdeal.Flash.dats m 0 c).arrAt_in 3 rfl _).trans rfl)⟩
  · refine (θ_run Cert.ReferenceIdeal.defs _ _).mono (fun r h c => ⟨(h c).1.trans ?_, (h c).2⟩) (Cert.ReferenceIdeal.Value.run (F := Ideal) m' ρ')
    obtain ⟨e0, e1, e2, e3⟩ := harg c
    obtain ⟨p0, p1, p2, p3⟩ := hpre c
    refine (Cert.ReferenceIdeal.Flash.res_eq m' c).trans ?_
    rw [e0, e1, e2, e3]
    exact Cert.ReferenceIdeal.Flash.res_attn _ _ _ _
      (@Cert.Pre_finite_scores.qe_real Cert.Pre_finite_scores.facts _ _ _ _ p0 p1) (@Cert.Pre_finite_scores.ke_real Cert.Pre_finite_scores.facts _ _ _ _ p2 p3)

/-! ## The feed-forward block's gated projections -/

/-- The kernel of the feed-forward block's gated projections runs, leaves its arguments unchanged and every semaphore counter at zero. -/
theorem frame_KUp : Cert.quiescent_KUp := fun m ρ _ => Cert.KUp.Gen.frame m ρ

/-- So does it over the extended reals. -/
theorem frame_KUpIdeal : Cert.quiescent_KUpIdeal := fun m ρ _ => Cert.KUpIdeal.Gen.frame m ρ

/-- So does its reference. -/
theorem frame_RUpIdeal : Cert.quiescent_RUpIdeal := fun m ρ _ =>
  (θ_run Cert.RUpIdeal.defs _ _).mono (fun r h => ⟨fun c => (h c).2,
    Idealize.ShloMosaic.sem_eq_zero_of_no_sems (by decide) r.2⟩) (Cert.RUpIdeal.Value.run (F := Ideal) m ρ)

/-- Over the extended reals the kernel's result is the reference's. -/
theorem algebraic_Up : Cert.algebraic_KUpIdeal_RUpIdeal := by
  intro m ρ m' ρ' _ harg
  refine ⟨fun c => Cert.Dense.gated (Cert.KUpIdeal.Dense.A0 m c) (Cert.KUpIdeal.Dense.A1 m c) (Cert.KUpIdeal.Dense.A2 m c), ?_, ?_⟩
  · exact (θ_run Cert.KUpIdeal.defs _ _).mono (fun r h c => ⟨(h c).1.trans (Cert.KUpIdeal.Dense.out_eq m c), (h c).2⟩)
      (Cert.KUpIdeal.Value.run_blocks (F := Ideal) m ρ)
  · refine (θ_run Cert.RUpIdeal.defs _ _).mono (fun r h c => ⟨(h c).1.trans ?_, (h c).2⟩) (Cert.RUpIdeal.Value.run (F := Ideal) m' ρ')
    obtain ⟨e0, e1, e2⟩ := harg c
    rw [e0, e1, e2]
    exact Cert.RUpIdeal.Dense.ref_eq _ _ _

/-! ## The feed-forward block's down projection -/

/-- The kernel of the feed-forward block's down projection runs, leaves its arguments unchanged and every semaphore counter at zero. -/
theorem frame_KDown : Cert.quiescent_KDown := fun m ρ _ => Cert.KDown.Gen.frame m ρ

/-- So does it over the extended reals. -/
theorem frame_KDownIdeal : Cert.quiescent_KDownIdeal := fun m ρ _ => Cert.KDownIdeal.Gen.frame m ρ

/-- So does its reference. -/
theorem frame_RDownIdeal : Cert.quiescent_RDownIdeal := fun m ρ _ =>
  (θ_run Cert.RDownIdeal.defs _ _).mono (fun r h => ⟨fun c => (h c).2,
    Idealize.ShloMosaic.sem_eq_zero_of_no_sems (by decide) r.2⟩) (Cert.RDownIdeal.Value.run (F := Ideal) m ρ)

/-- Over the extended reals the kernel's result is the reference's. -/
theorem algebraic_Down : Cert.algebraic_KDownIdeal_RDownIdeal := by
  intro m ρ m' ρ' _ harg
  refine ⟨fun c => Cert.Dense.addProd (Cert.KDownIdeal.Dense.A2 m c) (Cert.KDownIdeal.Dense.A0 m c) (Cert.KDownIdeal.Dense.A1 m c), ?_, ?_⟩
  · exact (θ_run Cert.KDownIdeal.defs _ _).mono (fun r h c => ⟨(h c).1.trans (Cert.KDownIdeal.Dense.out_eq m c), (h c).2⟩)
      (Cert.KDownIdeal.Value.run_blocks (F := Ideal) m ρ)
  · refine (θ_run Cert.RDownIdeal.defs _ _).mono (fun r h c => ⟨(h c).1.trans ?_, (h c).2⟩) (Cert.RDownIdeal.Value.run (F := Ideal) m' ρ')
    obtain ⟨e0, e1, e2⟩ := harg c
    rw [e0, e1, e2]
    exact Cert.RDownIdeal.Dense.ref_eq _ _ _

/-! ## The input projection -/

/-- The kernel of the input projection runs, leaves its arguments unchanged and every semaphore counter at zero. -/
theorem frame_KIn : Cert.quiescent_KIn := fun m ρ _ => Cert.KIn.Gen.frame m ρ

/-- So does it over the extended reals. -/
theorem frame_KInIdeal : Cert.quiescent_KInIdeal := fun m ρ _ => Cert.KInIdeal.Gen.frame m ρ

/-- So does its reference. -/
theorem frame_RInIdeal : Cert.quiescent_RInIdeal := fun m ρ _ =>
  (θ_run Cert.RInIdeal.defs _ _).mono (fun r h => ⟨fun c => (h c).2,
    Idealize.ShloMosaic.sem_eq_zero_of_no_sems (by decide) r.2⟩) (Cert.RInIdeal.Value.run (F := Ideal) m ρ)

/-- Over the extended reals the kernel's result is the reference's. -/
theorem algebraic_In : Cert.algebraic_KInIdeal_RInIdeal := by
  intro m ρ m' ρ' _ harg
  refine ⟨fun c => Cert.Dense.prod (Cert.KInIdeal.Dense.A0 m c) (Cert.KInIdeal.Dense.A1 m c), ?_, ?_⟩
  · exact (θ_run Cert.KInIdeal.defs _ _).mono (fun r h c => ⟨(h c).1.trans (Cert.KInIdeal.Dense.out_eq m c), (h c).2⟩)
      (Cert.KInIdeal.Value.run_blocks (F := Ideal) m ρ)
  · refine (θ_run Cert.RInIdeal.defs _ _).mono (fun r h c => ⟨(h c).1.trans ?_, (h c).2⟩) (Cert.RInIdeal.Value.run (F := Ideal) m' ρ')
    obtain ⟨e0, e1⟩ := harg c
    rw [e0, e1]
    exact Cert.RInIdeal.Dense.ref_eq _ _

/-! ## The spatial gate's input projection -/

/-- The kernel of the spatial gate's input projection runs, leaves its arguments unchanged and every semaphore counter at zero. -/
theorem frame_KSgIn : Cert.quiescent_KSgIn := fun m ρ _ => Cert.KSgIn.Gen.frame m ρ

/-- So does it over the extended reals. -/
theorem frame_KSgInIdeal : Cert.quiescent_KSgInIdeal := fun m ρ _ => Cert.KSgInIdeal.Gen.frame m ρ

/-- So does its reference. -/
theorem frame_RSgInIdeal : Cert.quiescent_RSgInIdeal := fun m ρ _ =>
  (θ_run Cert.RSgInIdeal.defs _ _).mono (fun r h => ⟨fun c => (h c).2,
    Idealize.ShloMosaic.sem_eq_zero_of_no_sems (by decide) r.2⟩) (Cert.RSgInIdeal.Value.run (F := Ideal) m ρ)

/-- Over the extended reals the kernel's result is the reference's. -/
theorem algebraic_SgIn : Cert.algebraic_KSgInIdeal_RSgInIdeal := by
  intro m ρ m' ρ' _ harg
  refine ⟨fun c => Cert.Dense.geluProd (Cert.KSgInIdeal.Dense.A0 m c) (Cert.KSgInIdeal.Dense.A1 m c), ?_, ?_⟩
  · exact (θ_run Cert.KSgInIdeal.defs _ _).mono (fun r h c => ⟨(h c).1.trans (Cert.KSgInIdeal.Dense.out_eq m c), (h c).2⟩)
      (Cert.KSgInIdeal.Value.run_blocks (F := Ideal) m ρ)
  · refine (θ_run Cert.RSgInIdeal.defs _ _).mono (fun r h c => ⟨(h c).1.trans ?_, (h c).2⟩) (Cert.RSgInIdeal.Value.run (F := Ideal) m' ρ')
    obtain ⟨e0, e1⟩ := harg c
    rw [e0, e1]
    exact Cert.RSgInIdeal.Dense.ref_eq _ _

/-! ## The spatial gate's output projection -/

/-- The kernel of the spatial gate's output projection runs, leaves its arguments unchanged and every semaphore counter at zero. -/
theorem frame_KSgOut : Cert.quiescent_KSgOut := fun m ρ _ => Cert.KSgOut.Gen.frame m ρ

/-- So does it over the extended reals. -/
theorem frame_KSgOutIdeal : Cert.quiescent_KSgOutIdeal := fun m ρ _ => Cert.KSgOutIdeal.Gen.frame m ρ

/-- So does its reference. -/
theorem frame_RSgOutIdeal : Cert.quiescent_RSgOutIdeal := fun m ρ _ =>
  (θ_run Cert.RSgOutIdeal.defs _ _).mono (fun r h => ⟨fun c => (h c).2,
    Idealize.ShloMosaic.sem_eq_zero_of_no_sems (by decide) r.2⟩) (Cert.RSgOutIdeal.Value.run (F := Ideal) m ρ)

/-- Over the extended reals the kernel's result is the reference's. -/
theorem algebraic_SgOut : Cert.algebraic_KSgOutIdeal_RSgOutIdeal := by
  intro m ρ m' ρ' _ harg
  refine ⟨fun c => Cert.Dense.addProd (Cert.KSgOutIdeal.Dense.A2 m c) (Cert.KSgOutIdeal.Dense.A0 m c) (Cert.KSgOutIdeal.Dense.A1 m c), ?_, ?_⟩
  · exact (θ_run Cert.KSgOutIdeal.defs _ _).mono (fun r h c => ⟨(h c).1.trans (Cert.KSgOutIdeal.Dense.out_eq m c), (h c).2⟩)
      (Cert.KSgOutIdeal.Value.run_blocks (F := Ideal) m ρ)
  · refine (θ_run Cert.RSgOutIdeal.defs _ _).mono (fun r h c => ⟨(h c).1.trans ?_, (h c).2⟩) (Cert.RSgOutIdeal.Value.run (F := Ideal) m' ρ')
    obtain ⟨e0, e1, e2⟩ := harg c
    rw [e0, e1, e2]
    exact Cert.RSgOutIdeal.Dense.ref_eq _ _ _

/-! ## The mixer's output projection -/

/-- The kernel of the mixer's output projection runs, leaves its arguments unchanged and every semaphore counter at zero. -/
theorem frame_KMix : Cert.quiescent_KMix := fun m ρ _ => Cert.KMix.Gen.frame m ρ

/-- So does it over the extended reals. -/
theorem frame_KMixIdeal : Cert.quiescent_KMixIdeal := fun m ρ _ => Cert.KMixIdeal.Gen.frame m ρ

/-- So does its reference. -/
theorem frame_RMixIdeal : Cert.quiescent_RMixIdeal := fun m ρ _ =>
  (θ_run Cert.RMixIdeal.defs _ _).mono (fun r h => ⟨fun c => (h c).2,
    Idealize.ShloMosaic.sem_eq_zero_of_no_sems (by decide) r.2⟩) (Cert.RMixIdeal.Value.run (F := Ideal) m ρ)

/-- Over the extended reals the kernel's result is the reference's. -/
theorem algebraic_Mix : Cert.algebraic_KMixIdeal_RMixIdeal := by
  intro m ρ m' ρ' _ harg
  refine ⟨fun c => Cert.Dense.addProd (Cert.KMixIdeal.Dense.A3 m c) (Cert.Dense.beside (Cert.KMixIdeal.Dense.A0 m c) (Cert.KMixIdeal.Dense.A1 m c)) (Cert.KMixIdeal.Dense.A2 m c), ?_, ?_⟩
  · exact (θ_run Cert.KMixIdeal.defs _ _).mono (fun r h c => ⟨(h c).1.trans (Cert.KMixIdeal.Dense.out_eq m c), (h c).2⟩)
      (Cert.KMixIdeal.Value.run_blocks (F := Ideal) m ρ)
  · refine (θ_run Cert.RMixIdeal.defs _ _).mono (fun r h c => ⟨(h c).1.trans ?_, (h c).2⟩) (Cert.RMixIdeal.Value.run (F := Ideal) m' ρ')
    obtain ⟨e0, e1, e2, e3⟩ := harg c
    rw [e0, e1, e2, e3]
    exact Cert.RMixIdeal.Dense.ref_eq _ _ _ _

/-! ## The per-layer embedding's projection -/

/-- The kernel of the per-layer embedding's projection runs, leaves its arguments unchanged and every semaphore counter at zero. -/
theorem frame_KPle : Cert.quiescent_KPle := fun m ρ _ => Cert.KPle.Gen.frame m ρ

/-- So does it over the extended reals. -/
theorem frame_KPleIdeal : Cert.quiescent_KPleIdeal := fun m ρ _ => Cert.KPleIdeal.Gen.frame m ρ

/-- So does its reference. -/
theorem frame_RPleIdeal : Cert.quiescent_RPleIdeal := fun m ρ _ =>
  (θ_run Cert.RPleIdeal.defs _ _).mono (fun r h => ⟨fun c => (h c).2,
    Idealize.ShloMosaic.sem_eq_zero_of_no_sems (by decide) r.2⟩) (Cert.RPleIdeal.Value.run (F := Ideal) m ρ)

/-- Over the extended reals the kernel's result is the reference's. -/
theorem algebraic_Ple : Cert.algebraic_KPleIdeal_RPleIdeal := by
  intro m ρ m' ρ' _ harg
  refine ⟨fun c => Cert.Dense.addGate (Cert.KPleIdeal.Dense.A4 m c) (Cert.KPleIdeal.Dense.A0 m c) (Cert.KPleIdeal.Dense.A1 m c) (Cert.KPleIdeal.Dense.A2 m c) (Cert.KPleIdeal.Dense.A3 m c), ?_, ?_⟩
  · exact (θ_run Cert.KPleIdeal.defs _ _).mono (fun r h c => ⟨(h c).1.trans (Cert.KPleIdeal.Dense.out_eq m c), (h c).2⟩)
      (Cert.KPleIdeal.Value.run_blocks (F := Ideal) m ρ)
  · refine (θ_run Cert.RPleIdeal.defs _ _).mono (fun r h c => ⟨(h c).1.trans ?_, (h c).2⟩) (Cert.RPleIdeal.Value.run (F := Ideal) m' ρ')
    obtain ⟨e0, e1, e2, e3, e4⟩ := harg c
    rw [e0, e1, e2, e3, e4]
    exact Cert.RPleIdeal.Dense.ref_eq _ _ _ _ _

/-! ## The experts' second product -/

/-- The kernel of the experts' second product runs, leaves its arguments unchanged and every semaphore counter at zero, where
    every word of the first table names an expert and every word of the second is one or zero. -/
theorem frame_KExperts : Cert.quiescent_KExperts (hPre_routed := Cert.Pre_routed.facts) := fun m ρ hpre =>
  Cert.KExperts.Launched.ends (F := Bits) m ρ
    (Cert.KExpertsIdeal.Launched.ok (F := Bits) m (@Cert.Pre_routed.expert_lt Cert.Pre_routed.facts Bits _ _ _ _ _ (hpre 0).1))
    (Cert.KExpertsIdeal.Launched.used (F := Bits) m (@Cert.Pre_routed.used_or Cert.Pre_routed.facts Bits _ _ _ _ _ (hpre 0).2))

/-- So does it over the extended reals, ending with the routed product. -/
theorem run_KExpertsIdeal (m ρ) (hpre : Cert.Pre_KExpertsIdeal (hPre_routed := Cert.Pre_routed.facts) m) :
    θ_run (Cert.KExpertsIdeal.defs (F := Ideal)) (onTc (τ := Cert.KExpertsIdeal.τ) (Cert.KExpertsIdeal.main (F := Ideal))) ⟨m, fun _ => 0, ρ⟩
      (fun r => (∀ c : Dev Cert.KExpertsIdeal.nD,
        r.2.mem ((c.tc : Thread Cert.KExpertsIdeal.nD Cert.KExpertsIdeal.τ).loc Cert.KExpertsIdeal.main_v0)
          = Cert.Experts.routed (Cert.KExpertsIdeal.Launched.A0 m c) (Cert.KExpertsIdeal.Launched.A1 m c) (Cert.KExpertsIdeal.Launched.A2 m c)
            (Cert.KExpertsIdeal.Launched.A3 m c)
        ∧ r.2.mem ((c.tc : Thread Cert.KExpertsIdeal.nD Cert.KExpertsIdeal.τ).loc Cert.KExpertsIdeal.main_arg0)
          = m ((c.tc : Thread Cert.KExpertsIdeal.nD Cert.KExpertsIdeal.τ).loc Cert.KExpertsIdeal.main_arg0)
        ∧ r.2.mem ((c.tc : Thread Cert.KExpertsIdeal.nD Cert.KExpertsIdeal.τ).loc Cert.KExpertsIdeal.main_arg1)
          = m ((c.tc : Thread Cert.KExpertsIdeal.nD Cert.KExpertsIdeal.τ).loc Cert.KExpertsIdeal.main_arg1)
        ∧ r.2.mem ((c.tc : Thread Cert.KExpertsIdeal.nD Cert.KExpertsIdeal.τ).loc Cert.KExpertsIdeal.main_arg2)
          = m ((c.tc : Thread Cert.KExpertsIdeal.nD Cert.KExpertsIdeal.τ).loc Cert.KExpertsIdeal.main_arg2)
        ∧ r.2.mem ((c.tc : Thread Cert.KExpertsIdeal.nD Cert.KExpertsIdeal.τ).loc Cert.KExpertsIdeal.main_arg3)
          = m ((c.tc : Thread Cert.KExpertsIdeal.nD Cert.KExpertsIdeal.τ).loc Cert.KExpertsIdeal.main_arg3)) ∧ r.2.sem = fun _ => 0) := by
  have he := @Cert.Pre_routed.expert_lt Cert.Pre_routed.facts Ideal _ _ _ _ _ (hpre 0).1
  have hv := @Cert.Pre_routed.used_or Cert.Pre_routed.facts Ideal _ _ _ _ _ (hpre 0).2
  have hO := Cert.KExpertsIdeal.Launched.ok (F := Ideal) m he
  exact (θ_run Cert.KExpertsIdeal.defs _ _).mono
    (fun r h => ⟨fun c => ⟨(h.1 c).1.trans (Cert.KExpertsIdeal.Launched.out_eq m hO c he hv), (h.1 c).2⟩, h.2⟩)
    (Cert.KExpertsIdeal.Launched.ends (F := Ideal) m ρ hO (Cert.KExpertsIdeal.Launched.used (F := Ideal) m hv))

/-- So does it over the extended reals. -/
theorem frame_KExpertsIdeal : Cert.quiescent_KExpertsIdeal (hPre_routed := Cert.Pre_routed.facts) := fun m ρ hpre =>
  (θ_run Cert.KExpertsIdeal.defs _ _).mono (fun r h => ⟨fun c => (h.1 c).2, h.2⟩) (run_KExpertsIdeal m ρ hpre)

/-- So does its reference, at any tables. -/
theorem frame_RExpertsIdeal : Cert.quiescent_RExpertsIdeal := fun m ρ _ =>
  (θ_run Cert.RExpertsIdeal.defs _ _).mono (fun r h => ⟨fun c => (h c).2,
    Idealize.ShloMosaic.sem_eq_zero_of_no_sems (by decide) r.2⟩) (Cert.RExpertsIdeal.Value.run (F := Ideal) m ρ)

/-- Over the extended reals the kernel's result is the reference's, where every word of the first table names an expert and
    every word of the second is one or zero. -/
theorem algebraic_Experts : Cert.algebraic_KExpertsIdeal_RExpertsIdeal (hPre_routed := Cert.Pre_routed.facts) := by
  intro m ρ m' ρ' hpre harg
  refine ⟨fun c => Cert.Experts.routed (Cert.KExpertsIdeal.Launched.A0 m c) (Cert.KExpertsIdeal.Launched.A1 m c) (Cert.KExpertsIdeal.Launched.A2 m c)
    (Cert.KExpertsIdeal.Launched.A3 m c), ?_, ?_⟩
  · exact (θ_run Cert.KExpertsIdeal.defs _ _).mono (fun r h c => h.1 c) (run_KExpertsIdeal m ρ hpre)
  · refine (θ_run Cert.RExpertsIdeal.defs _ _).mono (fun r h c => ⟨(h c).1.trans ?_, (h c).2⟩) (Cert.RExpertsIdeal.Value.run (F := Ideal) m' ρ')
    obtain ⟨e0, e1, e2, e3⟩ := harg c
    refine (Cert.RExpertsIdeal.Experts.ref_eq m' c).trans ?_
    rw [e0, e1, e2, e3]

/-! ## The first part of the queries -/

/-- The kernel of the first part of the queries runs, leaves its arguments unchanged and every semaphore counter at zero. -/
theorem frame_KQn : Cert.quiescent_KQn := fun m ρ _ => Cert.KQn.Gen.frame m ρ

/-- So does it over the extended reals. -/
theorem frame_KQnIdeal : Cert.quiescent_KQnIdeal := fun m ρ _ => Cert.KQnIdeal.Gen.frame m ρ

/-- So does its reference. -/
theorem frame_RQnIdeal : Cert.quiescent_RQnIdeal := fun m ρ _ =>
  (θ_run Cert.RQnIdeal.defs _ _).mono (fun r h => ⟨fun c => (h c).2,
    Idealize.ShloMosaic.sem_eq_zero_of_no_sems (by decide) r.2⟩) (Cert.RQnIdeal.Value.run (F := Ideal) m ρ)

/-- Over the extended reals the kernel's result is the reference's. -/
theorem algebraic_Qn : Cert.algebraic_KQnIdeal_RQnIdeal := by
  intro m ρ m' ρ' _ harg
  refine ⟨fun c => Cert.Dense.scaledProd (Cert.KQnIdeal.Dense.A0 m c) (Cert.KQnIdeal.Dense.A1 m c), ?_, ?_⟩
  · exact (θ_run Cert.KQnIdeal.defs _ _).mono (fun r h c => ⟨(h c).1.trans (Cert.KQnIdeal.Dense.out_eq m c), (h c).2⟩)
      (Cert.KQnIdeal.Value.run_blocks (F := Ideal) m ρ)
  · refine (θ_run Cert.RQnIdeal.defs _ _).mono (fun r h c => ⟨(h c).1.trans ?_, (h c).2⟩) (Cert.RQnIdeal.Value.run (F := Ideal) m' ρ')
    obtain ⟨e0, e1⟩ := harg c
    rw [e0, e1]
    exact Cert.RQnIdeal.Dense.ref_eq _ _

/-! ## The keys and values -/

/-- The kernel of the keys and values runs, leaves its arguments unchanged and every semaphore counter at zero. -/
theorem frame_KKv : Cert.quiescent_KKv := fun m ρ _ => Cert.KKv.Gen.frame m ρ

/-- So does it over the extended reals. -/
theorem frame_KKvIdeal : Cert.quiescent_KKvIdeal := fun m ρ _ => Cert.KKvIdeal.Gen.frame m ρ

/-- So does its reference. -/
theorem frame_RKvIdeal : Cert.quiescent_RKvIdeal := fun m ρ _ =>
  (θ_run Cert.RKvIdeal.defs _ _).mono (fun r h => ⟨fun c => (h c).2,
    Idealize.ShloMosaic.sem_eq_zero_of_no_sems (by decide) r.2⟩) (Cert.RKvIdeal.Value.run (F := Ideal) m ρ)

/-- Over the extended reals the kernel's result is the reference's. -/
theorem algebraic_Kv : Cert.algebraic_KKvIdeal_RKvIdeal := by
  intro m ρ m' ρ' _ harg
  refine ⟨fun c => Cert.Dense.prod (Cert.KKvIdeal.Dense.A0 m c) (Cert.KKvIdeal.Dense.A1 m c), ?_, ?_⟩
  · exact (θ_run Cert.KKvIdeal.defs _ _).mono (fun r h c => ⟨(h c).1.trans (Cert.KKvIdeal.Dense.out_eq m c), (h c).2⟩)
      (Cert.KKvIdeal.Value.run_blocks (F := Ideal) m ρ)
  · refine (θ_run Cert.RKvIdeal.defs _ _).mono (fun r h c => ⟨(h c).1.trans ?_, (h c).2⟩) (Cert.RKvIdeal.Value.run (F := Ideal) m' ρ')
    obtain ⟨e0, e1⟩ := harg c
    rw [e0, e1]
    exact Cert.RKvIdeal.Dense.ref_eq _ _

/-! ## The mixing over positions -/

/-- The kernel of the mixing over positions runs, leaves its arguments unchanged and every semaphore counter at zero. -/
theorem frame_KSpatial : Cert.quiescent_KSpatial := fun m ρ _ => Cert.KSpatial.Gen.frame m ρ

/-- So does it over the extended reals. -/
theorem frame_KSpatialIdeal : Cert.quiescent_KSpatialIdeal := fun m ρ _ => Cert.KSpatialIdeal.Gen.frame m ρ

/-- So does its reference. -/
theorem frame_RSpatialIdeal : Cert.quiescent_RSpatialIdeal := fun m ρ _ =>
  (θ_run Cert.RSpatialIdeal.defs _ _).mono (fun r h => ⟨fun c => (h c).2,
    Idealize.ShloMosaic.sem_eq_zero_of_no_sems (by decide) r.2⟩) (Cert.RSpatialIdeal.Value.run (F := Ideal) m ρ)

/-- Over the extended reals the kernel's result is the reference's. -/
theorem algebraic_Spatial : Cert.algebraic_KSpatialIdeal_RSpatialIdeal := by
  intro m ρ m' ρ' _ harg
  refine ⟨fun c => Cert.Mixing.mixed (Cert.KSpatialIdeal.Mixing.A0 m c) (Cert.KSpatialIdeal.Mixing.A1 m c) (Cert.KSpatialIdeal.Mixing.A2 m c) (Cert.KSpatialIdeal.Mixing.A3 m c), ?_, ?_⟩
  · exact (θ_run Cert.KSpatialIdeal.defs _ _).mono (fun r h c => ⟨(h c).1.trans (Cert.KSpatialIdeal.Mixing.out_eq m c), (h c).2⟩)
      (Cert.KSpatialIdeal.Value.run_blocks (F := Ideal) m ρ)
  · refine (θ_run Cert.RSpatialIdeal.defs _ _).mono (fun r h c => ⟨(h c).1.trans ?_, (h c).2⟩) (Cert.RSpatialIdeal.Value.run (F := Ideal) m' ρ')
    obtain ⟨e0, e1, e2, e3⟩ := harg c
    rw [e0, e1, e2, e3]
    exact Cert.RSpatialIdeal.Mixing.ref_eq _ _ _ _

/-- Everything claimed. -/
theorem claim : Cert.Claim := ⟨Cert.Kernel.Gen.facts, Cert.KernelIdeal.Gen.facts, Cert.ReferenceIdeal.Gen.facts,
  Cert.KUp.Gen.facts, Cert.KUpIdeal.Gen.facts, Cert.RUpIdeal.Gen.facts, Cert.KDown.Gen.facts, Cert.KDownIdeal.Gen.facts, Cert.RDownIdeal.Gen.facts, Cert.KIn.Gen.facts, Cert.KInIdeal.Gen.facts, Cert.RInIdeal.Gen.facts, Cert.KSgIn.Gen.facts, Cert.KSgInIdeal.Gen.facts, Cert.RSgInIdeal.Gen.facts, Cert.KSgOut.Gen.facts, Cert.KSgOutIdeal.Gen.facts, Cert.RSgOutIdeal.Gen.facts, Cert.KMix.Gen.facts, Cert.KMixIdeal.Gen.facts, Cert.RMixIdeal.Gen.facts, Cert.KPle.Gen.facts, Cert.KPleIdeal.Gen.facts, Cert.RPleIdeal.Gen.facts,
  Cert.KExperts.Gen.facts, Cert.KExpertsIdeal.Gen.facts, Cert.RExpertsIdeal.Gen.facts,
  Cert.KQn.Gen.facts, Cert.KQnIdeal.Gen.facts, Cert.RQnIdeal.Gen.facts, Cert.KKv.Gen.facts, Cert.KKvIdeal.Gen.facts, Cert.RKvIdeal.Gen.facts, Cert.KSpatial.Gen.facts, Cert.KSpatialIdeal.Gen.facts, Cert.RSpatialIdeal.Gen.facts,
  Cert.Pre_finite_scores.facts, Cert.Pre_routed.facts,
  frame_P, frame_PI, fun m ρ _ => frame_PI m ρ trivial, frame_RI, fun m ρ _ => frame_RI m ρ trivial,
  frame_KUp, frame_KUpIdeal, frame_RUpIdeal, frame_KDown, frame_KDownIdeal, frame_RDownIdeal, frame_KIn, frame_KInIdeal, frame_RInIdeal, frame_KSgIn, frame_KSgInIdeal, frame_RSgInIdeal, frame_KSgOut, frame_KSgOutIdeal, frame_RSgOutIdeal, frame_KMix, frame_KMixIdeal, frame_RMixIdeal, frame_KPle, frame_KPleIdeal, frame_RPleIdeal,
  frame_KExperts, frame_KExpertsIdeal, frame_RExpertsIdeal, fun m ρ _ => frame_RExpertsIdeal m ρ trivial,
  frame_KQn, frame_KQnIdeal, frame_RQnIdeal, frame_KKv, frame_KKvIdeal, frame_RKvIdeal, frame_KSpatial, frame_KSpatialIdeal, frame_RSpatialIdeal,
  preserves, algebraic,
  trivial, algebraic_Up, trivial, algebraic_Down, trivial, algebraic_In, trivial, algebraic_SgIn, trivial, algebraic_SgOut, trivial, algebraic_Mix, trivial, algebraic_Ple, trivial, algebraic_Experts,
  trivial, algebraic_Qn, trivial, algebraic_Kv, trivial, algebraic_Spatial⟩

end Cert.Proof

end
